-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v3_3)) (v3 : (c : Dev Cert.KernelIdeal.nD) → Buf (Elt Ideal) ((c.tc : Thread Cert.KernelIdeal.nD Cert.KernelIdeal.τ).loc Cert.KernelIdeal.main_v3_1)) (v4 : (c : Dev Cert.KernelIdeal.nD) → Buf (Elt Ideal) ((c.tc : Thread Cert.KernelIdeal.nD Cert.KernelIdeal.τ).loc Cert.KernelIdeal.main_v3_2)) (v5 : (c : Dev Cert.KernelIdeal.nD) → Buf (Elt Ideal) ((c.tc : Thread Cert.KernelIdeal.nD Cert.KernelIdeal.τ).loc Cert.KernelIdeal.main_v3_4)) (v6 : (c : Dev Cert.KernelIdeal.nD) → Buf (Elt Ideal) ((c.tc : Thread Cert.KernelIdeal.nD Cert.KernelIdeal.τ).loc Cert.KernelIdeal.main_v3_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v3_3) = v2 c
          ∧ r.2.mem ((c.tc : Thread Cert.KernelIdeal.nD Cert.KernelIdeal.τ).loc Cert.KernelIdeal.main_v3_1) = v3 c
          ∧ r.2.mem ((c.tc : Thread Cert.KernelIdeal.nD Cert.KernelIdeal.τ).loc Cert.KernelIdeal.main_v3_2) = v4 c
          ∧ r.2.mem ((c.tc : Thread Cert.KernelIdeal.nD Cert.KernelIdeal.τ).loc Cert.KernelIdeal.main_v3_4) = v5 c
          ∧ r.2.mem ((c.tc : Thread Cert.KernelIdeal.nD Cert.KernelIdeal.τ).loc Cert.KernelIdeal.main_v3_5) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_v37) = v4 c
          ∧ r.2.mem ((c.tc : Thread Cert.ReferenceIdeal.nD Cert.ReferenceIdeal.τ).loc Cert.ReferenceIdeal.main_v27_10) = v5 c
          ∧ r.2.mem ((c.tc : Thread Cert.ReferenceIdeal.nD Cert.ReferenceIdeal.τ).loc Cert.ReferenceIdeal.main_v39) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v4_1)) (v1 : (c : Dev Cert.Kernel3Ideal.nD) → Buf (Elt Ideal) ((c.tc : Thread Cert.Kernel3Ideal.nD Cert.Kernel3Ideal.τ).loc Cert.Kernel3Ideal.main_v4_0)) (v2 : (c : Dev Cert.Kernel3Ideal.nD) → Buf (Elt Ideal) ((c.tc : Thread Cert.Kernel3Ideal.nD Cert.Kernel3Ideal.τ).loc Cert.Kernel3Ideal.main_v4_2)) (v3 : (c : Dev Cert.Kernel3Ideal.nD) → Buf (Elt Ideal) ((c.tc : Thread Cert.Kernel3Ideal.nD Cert.Kernel3Ideal.τ).loc Cert.Kernel3Ideal.main_v4_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_1) = v0 c
          ∧ r.2.mem ((c.tc : Thread Cert.Kernel3Ideal.nD Cert.Kernel3Ideal.τ).loc Cert.Kernel3Ideal.main_v4_0) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_v4_6) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_v18) = v1 c
          ∧ r.2.mem ((c.tc : Thread Cert.Reference3Ideal.nD Cert.Reference3Ideal.τ).loc Cert.Reference3Ideal.main_v20) = v2 c
          ∧ r.2.mem ((c.tc : Thread Cert.Reference3Ideal.nD Cert.Reference3Ideal.τ).loc Cert.Reference3Ideal.main_v28) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v5_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_1)) (v1 : (c : Dev Cert.Kernel5Ideal.nD) → Buf (Elt Ideal) ((c.tc : Thread Cert.Kernel5Ideal.nD Cert.Kernel5Ideal.τ).loc Cert.Kernel5Ideal.main_v0_2)) (v2 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_1) = v0 c
          ∧ r.2.mem ((c.tc : Thread Cert.Kernel5Ideal.nD Cert.Kernel5Ideal.τ).loc Cert.Kernel5Ideal.main_v0_2) = v1 c
          ∧ r.2.mem ((c.tc : Thread Cert.Kernel5Ideal.nD Cert.Kernel5Ideal.τ).loc Cert.Kernel5Ideal.main_v0_3) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v4) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S4096x512 : Shape := ⟨2, ![4096, 512]⟩
abbrev S64x4x64x64 : Shape := ⟨4, ![64, 4, 64, 64]⟩
abbrev S64x4 : Shape := ⟨2, ![64, 4]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  bcast_S_S64x4x64x64 : S_.BroadcastsInDim S64x4x64x64 (![] : Fin 0 → Fin S64x4x64x64.rank)
  bcast_S_S64x4 : S_.BroadcastsInDim S64x4 (![] : Fin 0 → Fin S64x4.rank)

variable [Facts]

def fn_part1 {F : FTy → Type} [FloatOps F] (main_arg6 : FVec F S4096x512 .f32) (main_v5 : IVec S4096x512 1) (main_v8 : IVec S4096x512 1) (main_v11 : IVec S4096x512 1) (main_v14 : IVec S4096x512 1) (main_v17 : IVec S64x4x64x64 1) (main_v18 : FVec F S64x4 .f32) : IVec S4096x512 1 × IVec S4096x512 1 × IVec S4096x512 1 × IVec S4096x512 1 × IVec S64x4x64x64 1 × IVec S64x4 1 × IVec S4096x512 1 :=
  let main_cst_4 : FVec F S_ .f32 := constant S_ .f32 0x00000000#32
  let main_v19 : FVec F S64x4 .f32 := broadcastInDim S64x4 ![] bcast_S_S64x4 main_cst_4
  let main_v20 : IVec S64x4 1 := cmpf .oeq main_v18 main_v19
  let main_v21 : FVec F S4096x512 .f32 := subf main_arg6 main_arg6
  let main_cst_5 : FVec F S_ .f32 := constant S_ .f32 0x00000000#32
  let main_v22 : FVec F S4096x512 .f32 := broadcastInDim S4096x512 ![] bcast_S_S4096x512 main_cst_5
  let main_v23 : IVec S4096x512 1 := cmpf .oeq main_v21 main_v22
  (main_v5, main_v8, main_v11, main_v14, main_v17, main_v20, main_v23)

def fn {F : FTy → Type} [FloatOps F] (main_arg0 : FVec F S4096x512 .f32) (main_arg1 : FVec F S4096x512 .bf16) (main_arg2 : FVec F S4096x512 .bf16) (main_arg3 : FVec F S4096x512 .bf16) (main_arg4 : FVec F S64x4x64x64 .f32) (main_arg5 : FVec F S64x4 .f32) (main_arg6 : FVec F S4096x512 .f32) : IVec S4096x512 1 × IVec S4096x512 1 × IVec S4096x512 1 × IVec S4096x512 1 × IVec S64x4x64x64 1 × IVec S64x4 1 × IVec S4096x512 1 :=
  let main_v0 : FVec F S4096x512 .f32 := (extf .f32 · bitsLt_bf16_f32) main_arg1
  let main_v1 : FVec F S4096x512 .f32 := (extf .f32 · bitsLt_bf16_f32) main_arg2
  let main_v2 : FVec F S4096x512 .f32 := (extf .f32 · bitsLt_bf16_f32) main_arg3
  let main_v3 : FVec F S4096x512 .f32 := subf main_arg0 main_arg0
  let main_cst : FVec F S_ .f32 := constant S_ .f32 0x00000000#32
  let main_v4 : FVec F S4096x512 .f32 := broadcastInDim S4096x512 ![] bcast_S_S4096x512 main_cst
  let main_v5 : IVec S4096x512 1 := cmpf .oeq main_v3 main_v4
  let main_v6 : FVec F S4096x512 .f32 := subf main_v0 main_v0
  let main_cst_0 : FVec F S_ .f32 := constant S_ .f32 0x00000000#32
  let main_v7 : FVec F S4096x512 .f32 := broadcastInDim S4096x512 ![] bcast_S_S4096x512 main_cst_0
  let main_v8 : IVec S4096x512 1 := cmpf .oeq main_v6 main_v7
  let main_v9 : FVec F S4096x512 .f32 := subf main_v1 main_v1
  let main_cst_1 : FVec F S_ .f32 := constant S_ .f32 0x00000000#32
  let main_v10 : FVec F S4096x512 .f32 := broadcastInDim S4096x512 ![] bcast_S_S4096x512 main_cst_1
  let main_v11 : IVec S4096x512 1 := cmpf .oeq main_v9 main_v10
  let main_v12 : FVec F S4096x512 .f32 := subf main_v2 main_v2
  let main_cst_2 : FVec F S_ .f32 := constant S_ .f32 0x00000000#32
  let main_v13 : FVec F S4096x512 .f32 := broadcastInDim S4096x512 ![] bcast_S_S4096x512 main_cst_2
  let main_v14 : IVec S4096x512 1 := cmpf .oeq main_v12 main_v13
  let main_v15 : FVec F S64x4x64x64 .f32 := subf main_arg4 main_arg4
  let main_cst_3 : FVec F S_ .f32 := constant S_ .f32 0x00000000#32
  let main_v16 : FVec F S64x4x64x64 .f32 := broadcastInDim S64x4x64x64 ![] bcast_S_S64x4x64x64 main_cst_3
  let main_v17 : IVec S64x4x64x64 1 := cmpf .oeq main_v15 main_v16
  let main_v18 : FVec F S64x4 .f32 := subf main_arg5 main_arg5
  fn_part1 (F := F) main_arg6 main_v5 main_v8 main_v11 main_v14 main_v17 main_v18
-- ==== Kernel.lean ====
abbrev S4096x512 : Shape := ⟨2, ![4096, 512]⟩
abbrev S64x4x64x64 : Shape := ⟨4, ![64, 4, 64, 64]⟩
abbrev S64x4 : Shape := ⟨2, ![64, 4]⟩
abbrev S64x4x1x1 : Shape := ⟨4, ![64, 4, 1, 1]⟩
abbrev S64x4x1x128 : Shape := ⟨4, ![64, 4, 1, 128]⟩
abbrev S64x4x128x128 : Shape := ⟨4, ![64, 4, 128, 128]⟩
abbrev S1024x512 : Shape := ⟨2, ![1024, 512]⟩
abbrev S16x4x64x64 : Shape := ⟨4, ![16, 4, 64, 64]⟩
abbrev S16x4x1x128 : Shape := ⟨4, ![16, 4, 1, 128]⟩
abbrev S16x4x128x128 : Shape := ⟨4, ![16, 4, 128, 128]⟩
abbrev S4x128x128 : Shape := ⟨3, ![4, 128, 128]⟩
abbrev S1x128x128 : Shape := ⟨3, ![1, 128, 128]⟩
abbrev S128x128 : Shape := ⟨2, ![128, 128]⟩
abbrev S1x1x128x128 : Shape := ⟨4, ![1, 1, 128, 128]⟩
abbrev S64x128 : Shape := ⟨2, ![64, 128]⟩
abbrev S1x1x64x64 : Shape := ⟨4, ![1, 1, 64, 64]⟩
abbrev S64x64 : Shape := ⟨2, ![64, 64]⟩
abbrev S1x1x1x128 : Shape := ⟨4, ![1, 1, 1, 128]⟩
abbrev S1x128 : Shape := ⟨2, ![1, 128]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 18
  | .vmem => 48
  | .smem => 0
  | _ => 0

abbrev bufTy : (tb : Table) → Fin (tcTables nBuf tb) → BufTy
  | .hbm, ⟨0, _⟩ => ⟨S4096x512, .f32⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S64x4x64x64, .f32⟩
  | .hbm, ⟨5, _⟩ => ⟨S64x4, .f32⟩
  | .hbm, ⟨6, _⟩ => ⟨S4096x512, .f32⟩
  | .hbm, ⟨7, _⟩ => ⟨S64x4x1x1, .f32⟩
  | .hbm, ⟨8, _⟩ => ⟨S64x4x1x128, .f32⟩
  | .hbm, ⟨9, _⟩ => ⟨S4096x512, .f32⟩
  | .hbm, ⟨10, _⟩ => ⟨S4096x512, .bf16⟩
  | .hbm, ⟨11, _⟩ => ⟨S64x4x128x128, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S64x4x64x64, .f32⟩
  | .hbm, ⟨17, _⟩ => ⟨S64x4x1x128, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S16x4x64x64, .f32⟩
  | .local _ .vmem, ⟨9, _⟩ => ⟨S16x4x64x64, .f32⟩
  | .local _ .vmem, ⟨10, _⟩ => ⟨S16x4x1x128, .f32⟩
  | .local _ .vmem, ⟨11, _⟩ => ⟨S16x4x1x128, .f32⟩
  | .local _ .vmem, ⟨12, _⟩ => ⟨S1024x512, .f32⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | .local _ .vmem, ⟨16, _⟩ => ⟨S16x4x128x128, .f32⟩
  | .local _ .vmem, ⟨17, _⟩ => ⟨S16x4x128x128, .f32⟩
  | .local _ .vmem, ⟨18, _⟩ => ⟨S4x128x128, .f32⟩
  | .local _ .vmem, ⟨19, _⟩ => ⟨S1024x512, .f32⟩
  | .local _ .vmem, ⟨20, _⟩ => ⟨S1024x512, .f32⟩
  | .local _ .vmem, ⟨21, _⟩ => ⟨S16x4x128x128, .f32⟩
  | .local _ .vmem, ⟨22, _⟩ => ⟨S16x4x128x128, .f32⟩
  | .local _ .vmem, ⟨23, _⟩ => ⟨S1024x512, .bf16⟩
  | .local _ .vmem, ⟨24, _⟩ => ⟨S1024x512, .bf16⟩
  | .local _ .vmem, ⟨25, _⟩ => ⟨S1024x512, .bf16⟩
  | .local _ .vmem, ⟨26, _⟩ => ⟨S1024x512, .bf16⟩
  | .local _ .vmem, ⟨27, _⟩ => ⟨S1024x512, .bf16⟩
  | .local _ .vmem, ⟨28, _⟩ => ⟨S1024x512, .bf16⟩
  | .local _ .vmem, ⟨29, _⟩ => ⟨S1024x512, .bf16⟩
  | .local _ .vmem, ⟨30, _⟩ => ⟨S1024x512, .bf16⟩
  | .local _ .vmem, ⟨31, _⟩ => ⟨S16x4x64x64, .f32⟩
  | .local _ .vmem, ⟨32, _⟩ => ⟨S16x4x64x64, .f32⟩
  | .local _ .vmem, ⟨33, _⟩ => ⟨S16x4x1x128, .f32⟩
  | .local _ .vmem, ⟨34, _⟩ => ⟨S16x4x1x128, .f32⟩
  | .local _ .vmem, ⟨35, _⟩ => ⟨S1024x512, .f32⟩
  | .local _ .vmem, ⟨36, _⟩ => ⟨S1024x512, .f32⟩
  | .local _ .vmem, ⟨37, _⟩ => ⟨S1024x512, .f32⟩
  | .local _ .vmem, ⟨38, _⟩ => ⟨S1024x512, .f32⟩
  | .local _ .vmem, ⟨39, _⟩ => ⟨S1024x512, .f32⟩
  | .local _ .vmem, ⟨40, _⟩ => ⟨S1024x512, .f32⟩
  | .local _ .vmem, ⟨41, _⟩ => ⟨S1024x512, .f32⟩
  | .local _ .vmem, ⟨42, _⟩ => ⟨S1024x512, .f32⟩
  | .local _ .vmem, ⟨43, _⟩ => ⟨S16x4x64x64, .f32⟩
  | .local _ .vmem, ⟨44, _⟩ => ⟨S16x4x64x64, .f32⟩
  | .local _ .vmem, ⟨45, _⟩ => ⟨S16x4x1x128, .f32⟩
  | .local _ .vmem, ⟨46, _⟩ => ⟨S16x4x1x128, .f32⟩
  | .local _ .vmem, ⟨47, _⟩ => ⟨S4x128x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev main_v3_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_stg10_0 : Ref sig .tc := ⟨.vmem, 39, rfl⟩
abbrev cc1_stg10_1 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc1_stg12_1 : Ref sig .tc := ⟨.vmem, 44, rfl⟩
abbrev cc1_stg13_0 : Ref sig .tc := ⟨.vmem, 45, rfl⟩
abbrev cc1_stg13_1 : Ref sig .tc := ⟨.vmem, 46, rfl⟩
abbrev cc1_scratch0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc1_sem12_1 : DmaSem sig := 43
abbrev cc1_sem13_0 : DmaSem sig := 44
abbrev cc1_sem13_1 : DmaSem sig := 45

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x4x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x4x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc1_transform_1 (i : grid1.Coords) : Fin 4 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_2 (i : grid1.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc1_transform_6 (i : grid1.Coords) : Fin 4 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_7 (i : grid1.Coords) : Fin 4 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_8 (i : grid1.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc1_transform_12 (i : grid1.Coords) : Fin 4 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_13 (i : grid1.Coords) : Fin 4 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x4x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S16x4x64x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S16x4x1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1024x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1024x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1024x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1024x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S16x4x64x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S16x4x1x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== ReferenceIdeal.lean ====
abbrev S4096x512 : Shape := ⟨2, ![4096, 512]⟩
abbrev S64x4x64x64 : Shape := ⟨4, ![64, 4, 64, 64]⟩
abbrev S64x4 : Shape := ⟨2, ![64, 4]⟩
abbrev S64x64x4x128 : Shape := ⟨4, ![64, 64, 4, 128]⟩
abbrev S64x4x64x128 : Shape := ⟨4, ![64, 4, 64, 128]⟩
abbrev S_ : Shape := ⟨0, ![]⟩
abbrev S4x128x128 : Shape := ⟨3, ![4, 128, 128]⟩
abbrev S64x4x128x128 : Shape := ⟨4, ![64, 4, 128, 128]⟩
abbrev S64x4x1x1 : Shape := ⟨4, ![64, 4, 1, 1]⟩
abbrev S1x4x64x64 : Shape := ⟨4, ![1, 4, 64, 64]⟩
abbrev S4x64x64 : Shape := ⟨3, ![4, 64, 64]⟩
abbrev S1x4x64x128 : Shape := ⟨4, ![1, 4, 64, 128]⟩
abbrev S4x64x128 : Shape := ⟨3, ![4, 64, 128]⟩
abbrev S1x4 : Shape := ⟨2, ![1, 4]⟩
abbrev S4 : Shape := ⟨1, ![4]⟩
abbrev S4x1x1 : Shape := ⟨3, ![4, 1, 1]⟩
abbrev S1x4x128x128 : Shape := ⟨4, ![1, 4, 128, 128]⟩
abbrev S1x4x1x1 : Shape := ⟨4, ![1, 4, 1, 1]⟩
abbrev S4x128x64 : Shape := ⟨3, ![4, 128, 64]⟩
abbrev S64x4x1x128 : Shape := ⟨4, ![64, 4, 1, 128]⟩

abbrev nBuf : Space → Nat
  | .hbm => 251
  | .vmem => 0
  | .smem => 0
  | _ => 0

abbrev hbmTy0_0 (i : Nat) : BufTy := match i % 128 with
  | 0 => ⟨S4096x512, .f32⟩
  | 1 => ⟨S4096x512, .bf16⟩
  | 2 => ⟨S4096x512, .bf16⟩
  | 3 => ⟨S4096x512, .bf16⟩
  | 4 => ⟨S64x4x64x64, .f32⟩
  | 5 => ⟨S64x4, .f32⟩
  | 6 => ⟨S4096x512, .f32⟩
  | 7 => ⟨S4096x512, .f32⟩
  | 8 => ⟨S64x64x4x128, .f32⟩
  | 9 => ⟨S64x4x64x128, .f32⟩
  | 10 => ⟨S4096x512, .f32⟩
  | 11 => ⟨S64x64x4x128, .f32⟩
  | 12 => ⟨S64x4x64x128, .f32⟩
  | 13 => ⟨S64x64x4x128, .f32⟩
  | 14 => ⟨S64x4x64x128, .f32⟩
  | 15 => ⟨S4096x512, .f32⟩
  | 16 => ⟨S64x64x4x128, .f32⟩
  | 17 => ⟨S64x4x64x128, .f32⟩
  | 18 => ⟨S_, .f32⟩
  | 19 => ⟨S4x128x128, .f32⟩
  | 20 => ⟨S_, .f32⟩
  | 21 => ⟨S64x4x64x128, .f32⟩
  | 22 => ⟨S_, .f32⟩
  | 23 => ⟨S64x4x128x128, .f32⟩
  | 24 => ⟨S_, .f32⟩
  | 25 => ⟨S64x4x64x128, .f32⟩
  | 26 => ⟨S_, .f32⟩
  | 27 => ⟨S64x4x1x1, .f32⟩
  | 28 => ⟨S_, .i32⟩
  | 29 => ⟨S64x4x64x64, .f32⟩
  | 30 => ⟨S64x4x64x128, .f32⟩
  | 31 => ⟨S64x4x64x128, .f32⟩
  | 32 => ⟨S64x4x64x128, .f32⟩
  | 33 => ⟨S64x4x64x128, .f32⟩
  | 34 => ⟨S64x4, .f32⟩
  | 35 => ⟨S_, .i32⟩
  | 36 => ⟨S4x128x128, .f32⟩
  | 37 => ⟨S64x4x64x128, .f32⟩
  | 38 => ⟨S64x4x128x128, .f32⟩
  | 39 => ⟨S64x4x64x128, .f32⟩
  | 40 => ⟨S64x4x1x1, .f32⟩
  | 41 => ⟨S_, .i32⟩
  | 42 => ⟨S_, .i1⟩
  | 43 => ⟨S_, .i32⟩
  | 44 => ⟨S_, .i32⟩
  | 45 => ⟨S_, .i32⟩
  | 46 => ⟨S1x4x64x64, .f32⟩
  | 47 => ⟨S4x64x64, .f32⟩
  | 48 => ⟨S_, .i32⟩
  | 49 => ⟨S_, .i32⟩
  | 50 => ⟨S_, .i32⟩
  | 51 => ⟨S1x4x64x128, .f32⟩
  | 52 => ⟨S4x64x128, .f32⟩
  | 53 => ⟨S_, .i32⟩
  | 54 => ⟨S_, .i32⟩
  | 55 => ⟨S_, .i32⟩
  | 56 => ⟨S1x4x64x128, .f32⟩
  | 57 => ⟨S4x64x128, .f32⟩
  | 58 => ⟨S_, .i32⟩
  | 59 => ⟨S_, .i32⟩
  | 60 => ⟨S_, .i32⟩
  | 61 => ⟨S1x4x64x128, .f32⟩
  | 62 => ⟨S4x64x128, .f32⟩
  | 63 => ⟨S_, .i32⟩
  | 64 => ⟨S_, .i32⟩
  | 65 => ⟨S_, .i32⟩
  | 66 => ⟨S1x4x64x128, .f32⟩
  | 67 => ⟨S4x64x128, .f32⟩
  | 68 => ⟨S_, .i32⟩
  | 69 => ⟨S1x4, .f32⟩
  | 70 => ⟨S4, .f32⟩
  | 71 => ⟨S4x64x128, .f32⟩
  | 72 => ⟨S4x64x128, .f32⟩
  | 73 => ⟨S4x64x128, .f32⟩
  | 74 => ⟨S4x64x128, .f32⟩
  | 75 => ⟨S4x64x128, .f32⟩
  | 76 => ⟨S4x1x1, .f32⟩
  | 77 => ⟨S4x128x128, .f32⟩
  | 78 => ⟨S4x128x128, .f32⟩
  | 79 => ⟨S4x128x128, .f32⟩
  | 80 => ⟨S4x128x128, .f32⟩
  | 81 => ⟨S1x4x64x128, .f32⟩
  | 82 => ⟨S_, .i32⟩
  | 83 => ⟨S_, .i32⟩
  | 84 => ⟨S_, .i32⟩
  | 85 => ⟨S64x4x64x128, .f32⟩
  | 86 => ⟨S1x4x128x128, .f32⟩
  | 87 => ⟨S_, .i32⟩
  | 88 => ⟨S_, .i32⟩
  | 89 => ⟨S_, .i32⟩
  | 90 => ⟨S64x4x128x128, .f32⟩
  | 91 => ⟨S1x4x64x128, .f32⟩
  | 92 => ⟨S_, .i32⟩
  | 93 => ⟨S_, .i32⟩
  | 94 => ⟨S_, .i32⟩
  | 95 => ⟨S64x4x64x128, .f32⟩
  | 96 => ⟨S1x4x1x1, .f32⟩
  | 97 => ⟨S_, .i32⟩
  | 98 => ⟨S_, .i32⟩
  | 99 => ⟨S_, .i32⟩
  | 100 => ⟨S64x4x1x1, .f32⟩
  | 101 => ⟨S_, .i32⟩
  | 102 => ⟨S_, .i32⟩
  | 103 => ⟨S64x64x4x128, .f32⟩
  | 104 => ⟨S64x4x64x128, .f32⟩
  | 105 => ⟨S_, .f32⟩
  | 106 => ⟨S4x128x128, .f32⟩
  | 107 => ⟨S_, .f32⟩
  | 108 => ⟨S4x128x128, .f32⟩
  | 109 => ⟨S_, .f32⟩
  | 110 => ⟨S64x4x64x64, .f32⟩
  | 111 => ⟨S_, .f32⟩
  | 112 => ⟨S64x4x64x128, .f32⟩
  | 113 => ⟨S_, .f32⟩
  | 114 => ⟨S64x4x64x128, .f32⟩
  | 115 => ⟨S_, .f32⟩
  | 116 => ⟨S64x4x64x128, .f32⟩
  | 117 => ⟨S_, .f32⟩
  | 118 => ⟨S64x4x64x128, .f32⟩
  | 119 => ⟨S_, .f32⟩
  | 120 => ⟨S64x4, .f32⟩
  | 121 => ⟨S_, .i32⟩
  | 122 => ⟨S64x4x64x128, .f32⟩
  | 123 => ⟨S64x4x128x128, .f32⟩
  | 124 => ⟨S64x4x64x128, .f32⟩
  | 125 => ⟨S64x4x64x128, .f32⟩
  | 126 => ⟨S64x4x64x128, .f32⟩
  | 127 => ⟨S64x4x64x64, .f32⟩
  | _ => ⟨S4096x512, .f32⟩

abbrev hbmTy0_1 (i : Nat) : BufTy := match i % 128 with
  | 0 => ⟨S64x4x1x1, .f32⟩
  | 1 => ⟨S64x4x64x128, .f32⟩
  | 2 => ⟨S_, .i32⟩
  | 3 => ⟨S4x128x128, .f32⟩
  | 4 => ⟨S64x4x64x64, .f32⟩
  | 5 => ⟨S64x4x64x128, .f32⟩
  | 6 => ⟨S64x4x64x128, .f32⟩
  | 7 => ⟨S64x4x64x128, .f32⟩
  | 8 => ⟨S64x4x64x128, .f32⟩
  | 9 => ⟨S64x4, .f32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S1x4x64x128, .f32⟩
  | 20 => ⟨S4x64x128, .f32⟩
  | 21 => ⟨S_, .i32⟩
  | 22 => ⟨S_, .i32⟩
  | 23 => ⟨S_, .i32⟩
  | 24 => ⟨S1x4x128x128, .f32⟩
  | 25 => ⟨S4x128x128, .f32⟩
  | 26 => ⟨S_, .i32⟩
  | 27 => ⟨S_, .i32⟩
  | 28 => ⟨S_, .i32⟩
  | 29 => ⟨S1x4x64x128, .f32⟩
  | 30 => ⟨S4x64x128, .f32⟩
  | 31 => ⟨S_, .i32⟩
  | 32 => ⟨S_, .i32⟩
  | 33 => ⟨S_, .i32⟩
  | 34 => ⟨S1x4x64x128, .f32⟩
  | 35 => ⟨S4x64x128, .f32⟩
  | 36 => ⟨S_, .i32⟩
  | 37 => ⟨S_, .i32⟩
  | 38 => ⟨S_, .i32⟩
  | 39 => ⟨S1x4x64x128, .f32⟩
  | 40 => ⟨S4x64x128, .f32⟩
  | 41 => ⟨S_, .i32⟩
  | 42 => ⟨S_, .i32⟩
  | 43 => ⟨S_, .i32⟩
  | 44 => ⟨S1x4x64x64, .f32⟩
  | 45 => ⟨S4x64x64, .f32⟩
  | 46 => ⟨S_, .i32⟩
  | 47 => ⟨S_, .i32⟩
  | 48 => ⟨S_, .i32⟩
  | 49 => ⟨S1x4x1x1, .f32⟩
  | 50 => ⟨S4x1x1, .f32⟩
  | 51 => ⟨S_, .i32⟩
  | 52 => ⟨S_, .i32⟩
  | 53 => ⟨S_, .i32⟩
  | 54 => ⟨S1x4x64x128, .f32⟩
  | 55 => ⟨S4x64x128, .f32⟩
  | 56 => ⟨S4x128x64, .f32⟩
  | 57 => ⟨S4x64x128, .f32⟩
  | 58 => ⟨S4x128x64, .f32⟩
  | 59 => ⟨S4x64x128, .f32⟩
  | 60 => ⟨S4x128x128, .f32⟩
  | 61 => ⟨S_, .f32⟩
  | 62 => ⟨S4, .f32⟩
  | 63 => ⟨S4x1x1, .f32⟩
  | 64 => ⟨S4x128x128, .f32⟩
  | 65 => ⟨S4x128x128, .f32⟩
  | 66 => ⟨S_, .f32⟩
  | 67 => ⟨S4, .f32⟩
  | 68 => ⟨S4x128x64, .f32⟩
  | 69 => ⟨S4x64x128, .f32⟩
  | 70 => ⟨S4x64x128, .f32⟩
  | 71 => ⟨S4x64x64, .f32⟩
  | 72 => ⟨S4x128x128, .f32⟩
  | 73 => ⟨S4x128x128, .f32⟩
  | 74 => ⟨S4x128x128, .f32⟩
  | 75 => ⟨S4x64x128, .f32⟩
  | 76 => ⟨S4x64x128, .f32⟩
  | 77 => ⟨S4x128x128, .f32⟩
  | 78 => ⟨S4x128x128, .f32⟩
  | 79 => ⟨S4x128x128, .f32⟩
  | 80 => ⟨S4x64x128, .f32⟩
  | 81 => ⟨S1x4x64x64, .f32⟩
  | 82 => ⟨S_, .i32⟩
  | 83 => ⟨S_, .i32⟩
  | 84 => ⟨S_, .i32⟩
  | 85 => ⟨S64x4x64x64, .f32⟩
  | 86 => ⟨S1x4x64x128, .f32⟩
  | 87 => ⟨S_, .i32⟩
  | 88 => ⟨S_, .i32⟩
  | 89 => ⟨S_, .i32⟩
  | 90 => ⟨S64x4x64x128, .f32⟩
  | 91 => ⟨S1x4x64x128, .f32⟩
  | 92 => ⟨S_, .i32⟩
  | 93 => ⟨S_, .i32⟩
  | 94 => ⟨S_, .i32⟩
  | 95 => ⟨S64x4x64x128, .f32⟩
  | 96 => ⟨S1x4x64x128, .f32⟩
  | 97 => ⟨S_, .i32⟩
  | 98 => ⟨S_, .i32⟩
  | 99 => ⟨S_, .i32⟩
  | 100 => ⟨S64x4x64x128, .f32⟩
  | 101 => ⟨S1x4x64x128, .f32⟩
  | 102 => ⟨S_, .i32⟩
  | 103 => ⟨S_, .i32⟩
  | 104 => ⟨S_, .i32⟩
  | 105 => ⟨S64x4x64x128, .f32⟩
  | 106 => ⟨S1x4, .f32⟩
  | 107 => ⟨S_, .i32⟩
  | 108 => ⟨S64x4, .f32⟩
  | 109 => ⟨S_, .i32⟩
  | 110 => ⟨S_, .i32⟩
  | 111 => ⟨S64x64x4x128, .f32⟩
  | 112 => ⟨S4096x512, .f32⟩
  | 113 => ⟨S64x64x4x128, .f32⟩
  | 114 => ⟨S4096x512, .f32⟩
  | 115 => ⟨S64x64x4x128, .f32⟩
  | 116 => ⟨S4096x512, .f32⟩
  | 117 => ⟨S64x64x4x128, .f32⟩
  | 118 => ⟨S4096x512, .f32⟩
  | 119 => ⟨S64x64x4x128, .f32⟩
  | 120 => ⟨S4096x512, .f32⟩
  | 121 => ⟨S64x4x1x1, .f32⟩
  | 122 => ⟨S64x4x1x128, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_c : Ref sig .tc := ⟨.hbm, 28, rfl⟩
abbrev main_v16_0 : Ref sig .tc := ⟨.hbm, 29, rfl⟩
abbrev main_v16_1 : Ref sig .tc := ⟨.hbm, 30, rfl⟩
abbrev main_v16_2 : Ref sig .tc := ⟨.hbm, 31, rfl⟩
abbrev main_v16_3 : Ref sig .tc := ⟨.hbm, 32, rfl⟩
abbrev main_v16_4 : Ref sig .tc := ⟨.hbm, 33, rfl⟩
abbrev main_v16_5 : Ref sig .tc := ⟨.hbm, 34, rfl⟩
abbrev main_v16_6 : Ref sig .tc := ⟨.hbm, 35, rfl⟩
abbrev main_v16_7 : Ref sig .tc := ⟨.hbm, 36, rfl⟩
abbrev main_v16_8 : Ref sig .tc := ⟨.hbm, 37, rfl⟩
abbrev main_v16_9 : Ref sig .tc := ⟨.hbm, 38, rfl⟩
abbrev main_v16_10 : Ref sig .tc := ⟨.hbm, 39, rfl⟩
abbrev main_v16_11 : Ref sig .tc := ⟨.hbm, 40, rfl⟩
abbrev main_while0c_c_24 : Ref sig .tc := ⟨.hbm, 41, rfl⟩
abbrev main_while0c_v40 : Ref sig .tc := ⟨.hbm, 42, rfl⟩
abbrev main_while0b_call0_c : Ref sig .tc := ⟨.hbm, 43, rfl⟩
abbrev main_while0b_call0_c_0 : Ref sig .tc := ⟨.hbm, 44, rfl⟩
abbrev main_while0b_call0_c_1 : Ref sig .tc := ⟨.hbm, 45, rfl⟩
abbrev main_while0b_call0_v0 : Ref sig .tc := ⟨.hbm, 46, rfl⟩
abbrev main_while0b_v40 : Ref sig .tc := ⟨.hbm, 47, rfl⟩
abbrev main_while0b_call1_c : Ref sig .tc := ⟨.hbm, 48, rfl⟩
abbrev main_while0b_call1_c_0 : Ref sig .tc := ⟨.hbm, 49, rfl⟩
abbrev main_while0b_call1_c_1 : Ref sig .tc := ⟨.hbm, 50, rfl⟩
abbrev main_while0b_call1_v0 : Ref sig .tc := ⟨.hbm, 51, rfl⟩
abbrev main_while0b_v41 : Ref sig .tc := ⟨.hbm, 52, rfl⟩
abbrev main_while0b_call2_c : Ref sig .tc := ⟨.hbm, 53, rfl⟩
abbrev main_while0b_call2_c_0 : Ref sig .tc := ⟨.hbm, 54, rfl⟩
abbrev main_while0b_call2_c_1 : Ref sig .tc := ⟨.hbm, 55, rfl⟩
abbrev main_while0b_call2_v0 : Ref sig .tc := ⟨.hbm, 56, rfl⟩
abbrev main_while0b_v42 : Ref sig .tc := ⟨.hbm, 57, rfl⟩
abbrev main_while0b_call3_c : Ref sig .tc := ⟨.hbm, 58, rfl⟩
abbrev main_while0b_call3_c_0 : Ref sig .tc := ⟨.hbm, 59, rfl⟩
abbrev main_while0b_call3_c_1 : Ref sig .tc := ⟨.hbm, 60, rfl⟩
abbrev main_while0b_call3_v0 : Ref sig .tc := ⟨.hbm, 61, rfl⟩
abbrev main_while0b_v43 : Ref sig .tc := ⟨.hbm, 62, rfl⟩
abbrev main_while0b_call4_c : Ref sig .tc := ⟨.hbm, 63, rfl⟩
abbrev main_while0b_call4_c_0 : Ref sig .tc := ⟨.hbm, 64, rfl⟩
abbrev main_while0b_call4_c_1 : Ref sig .tc := ⟨.hbm, 65, rfl⟩
abbrev main_while0b_call4_v0 : Ref sig .tc := ⟨.hbm, 66, rfl⟩
abbrev main_while0b_v44 : Ref sig .tc := ⟨.hbm, 67, rfl⟩
abbrev main_while0b_call5_c : Ref sig .tc := ⟨.hbm, 68, rfl⟩
abbrev main_while0b_call5_v0 : Ref sig .tc := ⟨.hbm, 69, rfl⟩
abbrev main_while0b_v45 : Ref sig .tc := ⟨.hbm, 70, rfl⟩
abbrev main_while0b_v46 : Ref sig .tc := ⟨.hbm, 71, rfl⟩
abbrev main_while0b_v47 : Ref sig .tc := ⟨.hbm, 72, rfl⟩
abbrev main_while0b_v48 : Ref sig .tc := ⟨.hbm, 73, rfl⟩
abbrev main_while0b_v49 : Ref sig .tc := ⟨.hbm, 74, rfl⟩
abbrev main_while0b_v50 : Ref sig .tc := ⟨.hbm, 75, rfl⟩
abbrev main_while0b_v51 : Ref sig .tc := ⟨.hbm, 76, rfl⟩
abbrev main_while0b_v52 : Ref sig .tc := ⟨.hbm, 77, rfl⟩
abbrev main_while0b_v53 : Ref sig .tc := ⟨.hbm, 78, rfl⟩
abbrev main_while0b_v54 : Ref sig .tc := ⟨.hbm, 79, rfl⟩
abbrev main_while0b_v55 : Ref sig .tc := ⟨.hbm, 80, rfl⟩
abbrev main_while0b_call6_v0 : Ref sig .tc := ⟨.hbm, 81, rfl⟩
abbrev main_while0b_call6_c : Ref sig .tc := ⟨.hbm, 82, rfl⟩
abbrev main_while0b_call6_c_0 : Ref sig .tc := ⟨.hbm, 83, rfl⟩
abbrev main_while0b_call6_c_1 : Ref sig .tc := ⟨.hbm, 84, rfl⟩
abbrev main_while0b_v56 : Ref sig .tc := ⟨.hbm, 85, rfl⟩
abbrev main_while0b_call7_v0 : Ref sig .tc := ⟨.hbm, 86, rfl⟩
abbrev main_while0b_call7_c : Ref sig .tc := ⟨.hbm, 87, rfl⟩
abbrev main_while0b_call7_c_0 : Ref sig .tc := ⟨.hbm, 88, rfl⟩
abbrev main_while0b_call7_c_1 : Ref sig .tc := ⟨.hbm, 89, rfl⟩
abbrev main_while0b_v57 : Ref sig .tc := ⟨.hbm, 90, rfl⟩
abbrev main_while0b_call8_v0 : Ref sig .tc := ⟨.hbm, 91, rfl⟩
abbrev main_while0b_call8_c : Ref sig .tc := ⟨.hbm, 92, rfl⟩
abbrev main_while0b_call8_c_0 : Ref sig .tc := ⟨.hbm, 93, rfl⟩
abbrev main_while0b_call8_c_1 : Ref sig .tc := ⟨.hbm, 94, rfl⟩
abbrev main_while0b_v58 : Ref sig .tc := ⟨.hbm, 95, rfl⟩
abbrev main_while0b_call9_v0 : Ref sig .tc := ⟨.hbm, 96, rfl⟩
abbrev main_while0b_call9_c : Ref sig .tc := ⟨.hbm, 97, rfl⟩
abbrev main_while0b_call9_c_0 : Ref sig .tc := ⟨.hbm, 98, rfl⟩
abbrev main_while0b_call9_c_1 : Ref sig .tc := ⟨.hbm, 99, rfl⟩
abbrev main_while0b_v59 : Ref sig .tc := ⟨.hbm, 100, rfl⟩
abbrev main_while0b_c_24 : Ref sig .tc := ⟨.hbm, 101, rfl⟩
abbrev main_while0b_v60 : Ref sig .tc := ⟨.hbm, 102, rfl⟩
abbrev main_v17 : Ref sig .tc := ⟨.hbm, 103, rfl⟩
abbrev main_v18 : Ref sig .tc := ⟨.hbm, 104, rfl⟩
abbrev main_cst_4 : Ref sig .tc := ⟨.hbm, 105, rfl⟩
abbrev main_v19 : Ref sig .tc := ⟨.hbm, 106, rfl⟩
abbrev main_cst_5 : Ref sig .tc := ⟨.hbm, 107, rfl⟩
abbrev main_v20 : Ref sig .tc := ⟨.hbm, 108, rfl⟩
abbrev main_cst_6 : Ref sig .tc := ⟨.hbm, 109, rfl⟩
abbrev main_v21 : Ref sig .tc := ⟨.hbm, 110, rfl⟩
abbrev main_cst_7 : Ref sig .tc := ⟨.hbm, 111, rfl⟩
abbrev main_v22 : Ref sig .tc := ⟨.hbm, 112, rfl⟩
abbrev main_cst_8 : Ref sig .tc := ⟨.hbm, 113, rfl⟩
abbrev main_v23 : Ref sig .tc := ⟨.hbm, 114, rfl⟩
abbrev main_cst_9 : Ref sig .tc := ⟨.hbm, 115, rfl⟩
abbrev main_v24 : Ref sig .tc := ⟨.hbm, 116, rfl⟩
abbrev main_cst_10 : Ref sig .tc := ⟨.hbm, 117, rfl⟩
abbrev main_v25 : Ref sig .tc := ⟨.hbm, 118, rfl⟩
abbrev main_cst_11 : Ref sig .tc := ⟨.hbm, 119, rfl⟩
abbrev main_v26 : Ref sig .tc := ⟨.hbm, 120, rfl⟩
abbrev main_c_12 : Ref sig .tc := ⟨.hbm, 121, rfl⟩
abbrev main_v27_0 : Ref sig .tc := ⟨.hbm, 122, rfl⟩
abbrev main_v27_1 : Ref sig .tc := ⟨.hbm, 123, rfl⟩
abbrev main_v27_2 : Ref sig .tc := ⟨.hbm, 124, rfl⟩
abbrev main_v27_3 : Ref sig .tc := ⟨.hbm, 125, rfl⟩
abbrev main_v27_4 : Ref sig .tc := ⟨.hbm, 126, rfl⟩
abbrev main_v27_5 : Ref sig .tc := ⟨.hbm, 127, rfl⟩
abbrev main_v27_6 : Ref sig .tc := ⟨.hbm, 128, rfl⟩
abbrev main_v27_7 : Ref sig .tc := ⟨.hbm, 129, rfl⟩
abbrev main_v27_8 : Ref sig .tc := ⟨.hbm, 130, rfl⟩
abbrev main_v27_9 : Ref sig .tc := ⟨.hbm, 131, rfl⟩
abbrev main_v27_10 : Ref sig .tc := ⟨.hbm, 132, rfl⟩
abbrev main_v27_11 : Ref sig .tc := ⟨.hbm, 133, rfl⟩
abbrev main_v27_12 : Ref sig .tc := ⟨.hbm, 134, rfl⟩
abbrev main_v27_13 : Ref sig .tc := ⟨.hbm, 135, rfl⟩
abbrev main_v27_14 : Ref sig .tc := ⟨.hbm, 136, rfl⟩
abbrev main_v27_15 : Ref sig .tc := ⟨.hbm, 137, rfl⟩
abbrev main_while1c_c_28 : Ref sig .tc := ⟨.hbm, 138, rfl⟩
abbrev main_while1c_v40 : Ref sig .tc := ⟨.hbm, 139, rfl⟩
abbrev main_while1b_c_28 : Ref sig .tc := ⟨.hbm, 140, rfl⟩
abbrev main_while1b_v40 : Ref sig .tc := ⟨.hbm, 141, rfl⟩
abbrev main_while1b_c_29 : Ref sig .tc := ⟨.hbm, 142, rfl⟩
abbrev main_while1b_v41 : Ref sig .tc := ⟨.hbm, 143, rfl⟩
abbrev main_while1b_call10_c : Ref sig .tc := ⟨.hbm, 144, rfl⟩
abbrev main_while1b_call10_c_0 : Ref sig .tc := ⟨.hbm, 145, rfl⟩
abbrev main_while1b_call10_c_1 : Ref sig .tc := ⟨.hbm, 146, rfl⟩
abbrev main_while1b_call10_v0 : Ref sig .tc := ⟨.hbm, 147, rfl⟩
abbrev main_while1b_v42 : Ref sig .tc := ⟨.hbm, 148, rfl⟩
abbrev main_while1b_call11_c : Ref sig .tc := ⟨.hbm, 149, rfl⟩
abbrev main_while1b_call11_c_0 : Ref sig .tc := ⟨.hbm, 150, rfl⟩
abbrev main_while1b_call11_c_1 : Ref sig .tc := ⟨.hbm, 151, rfl⟩
abbrev main_while1b_call11_v0 : Ref sig .tc := ⟨.hbm, 152, rfl⟩
abbrev main_while1b_v43 : Ref sig .tc := ⟨.hbm, 153, rfl⟩
abbrev main_while1b_call12_c : Ref sig .tc := ⟨.hbm, 154, rfl⟩
abbrev main_while1b_call12_c_0 : Ref sig .tc := ⟨.hbm, 155, rfl⟩
abbrev main_while1b_call12_c_1 : Ref sig .tc := ⟨.hbm, 156, rfl⟩
abbrev main_while1b_call12_v0 : Ref sig .tc := ⟨.hbm, 157, rfl⟩
abbrev main_while1b_v44 : Ref sig .tc := ⟨.hbm, 158, rfl⟩
abbrev main_while1b_call13_c : Ref sig .tc := ⟨.hbm, 159, rfl⟩
abbrev main_while1b_call13_c_0 : Ref sig .tc := ⟨.hbm, 160, rfl⟩
abbrev main_while1b_call13_c_1 : Ref sig .tc := ⟨.hbm, 161, rfl⟩
abbrev main_while1b_call13_v0 : Ref sig .tc := ⟨.hbm, 162, rfl⟩
abbrev main_while1b_v45 : Ref sig .tc := ⟨.hbm, 163, rfl⟩
abbrev main_while1b_call14_c : Ref sig .tc := ⟨.hbm, 164, rfl⟩
abbrev main_while1b_call14_c_0 : Ref sig .tc := ⟨.hbm, 165, rfl⟩
abbrev main_while1b_call14_c_1 : Ref sig .tc := ⟨.hbm, 166, rfl⟩
abbrev main_while1b_call14_v0 : Ref sig .tc := ⟨.hbm, 167, rfl⟩
abbrev main_while1b_v46 : Ref sig .tc := ⟨.hbm, 168, rfl⟩
abbrev main_while1b_call15_c : Ref sig .tc := ⟨.hbm, 169, rfl⟩
abbrev main_while1b_call15_c_0 : Ref sig .tc := ⟨.hbm, 170, rfl⟩
abbrev main_while1b_call15_c_1 : Ref sig .tc := ⟨.hbm, 171, rfl⟩
abbrev main_while1b_call15_v0 : Ref sig .tc := ⟨.hbm, 172, rfl⟩
abbrev main_while1b_v47 : Ref sig .tc := ⟨.hbm, 173, rfl⟩
abbrev main_while1b_call16_c : Ref sig .tc := ⟨.hbm, 174, rfl⟩
abbrev main_while1b_call16_c_0 : Ref sig .tc := ⟨.hbm, 175, rfl⟩
abbrev main_while1b_call16_c_1 : Ref sig .tc := ⟨.hbm, 176, rfl⟩
abbrev main_while1b_call16_v0 : Ref sig .tc := ⟨.hbm, 177, rfl⟩
abbrev main_while1b_v48 : Ref sig .tc := ⟨.hbm, 178, rfl⟩
abbrev main_while1b_call17_c : Ref sig .tc := ⟨.hbm, 179, rfl⟩
abbrev main_while1b_call17_c_0 : Ref sig .tc := ⟨.hbm, 180, rfl⟩
abbrev main_while1b_call17_c_1 : Ref sig .tc := ⟨.hbm, 181, rfl⟩
abbrev main_while1b_call17_v0 : Ref sig .tc := ⟨.hbm, 182, rfl⟩
abbrev main_while1b_v49 : Ref sig .tc := ⟨.hbm, 183, rfl⟩
abbrev main_while1b_v50 : Ref sig .tc := ⟨.hbm, 184, rfl⟩
abbrev main_while1b_v51 : Ref sig .tc := ⟨.hbm, 185, rfl⟩
abbrev main_while1b_v52 : Ref sig .tc := ⟨.hbm, 186, rfl⟩
abbrev main_while1b_v53 : Ref sig .tc := ⟨.hbm, 187, rfl⟩
abbrev main_while1b_v54 : Ref sig .tc := ⟨.hbm, 188, rfl⟩
abbrev main_while1b_cst_30 : Ref sig .tc := ⟨.hbm, 189, rfl⟩
abbrev main_while1b_v55 : Ref sig .tc := ⟨.hbm, 190, rfl⟩
abbrev main_while1b_v56 : Ref sig .tc := ⟨.hbm, 191, rfl⟩
abbrev main_while1b_v57 : Ref sig .tc := ⟨.hbm, 192, rfl⟩
abbrev main_while1b_v58 : Ref sig .tc := ⟨.hbm, 193, rfl⟩
abbrev main_while1b_cst_31 : Ref sig .tc := ⟨.hbm, 194, rfl⟩
abbrev main_while1b_v59 : Ref sig .tc := ⟨.hbm, 195, rfl⟩
abbrev main_while1b_v60 : Ref sig .tc := ⟨.hbm, 196, rfl⟩
abbrev main_while1b_v61 : Ref sig .tc := ⟨.hbm, 197, rfl⟩
abbrev main_while1b_v62 : Ref sig .tc := ⟨.hbm, 198, rfl⟩
abbrev main_while1b_v63 : Ref sig .tc := ⟨.hbm, 199, rfl⟩
abbrev main_while1b_v64 : Ref sig .tc := ⟨.hbm, 200, rfl⟩
abbrev main_while1b_v65 : Ref sig .tc := ⟨.hbm, 201, rfl⟩
abbrev main_while1b_v66 : Ref sig .tc := ⟨.hbm, 202, rfl⟩
abbrev main_while1b_v67 : Ref sig .tc := ⟨.hbm, 203, rfl⟩
abbrev main_while1b_v68 : Ref sig .tc := ⟨.hbm, 204, rfl⟩
abbrev main_while1b_v69 : Ref sig .tc := ⟨.hbm, 205, rfl⟩
abbrev main_while1b_v70 : Ref sig .tc := ⟨.hbm, 206, rfl⟩
abbrev main_while1b_v71 : Ref sig .tc := ⟨.hbm, 207, rfl⟩
abbrev main_while1b_v72 : Ref sig .tc := ⟨.hbm, 208, rfl⟩
abbrev main_while1b_call18_v0 : Ref sig .tc := ⟨.hbm, 209, rfl⟩
abbrev main_while1b_call18_c : Ref sig .tc := ⟨.hbm, 210, rfl⟩
abbrev main_while1b_call18_c_0 : Ref sig .tc := ⟨.hbm, 211, rfl⟩
abbrev main_while1b_call18_c_1 : Ref sig .tc := ⟨.hbm, 212, rfl⟩
abbrev main_while1b_v73 : Ref sig .tc := ⟨.hbm, 213, rfl⟩
abbrev main_while1b_call19_v0 : Ref sig .tc := ⟨.hbm, 214, rfl⟩
abbrev main_while1b_call19_c : Ref sig .tc := ⟨.hbm, 215, rfl⟩
abbrev main_while1b_call19_c_0 : Ref sig .tc := ⟨.hbm, 216, rfl⟩
abbrev main_while1b_call19_c_1 : Ref sig .tc := ⟨.hbm, 217, rfl⟩
abbrev main_while1b_v74 : Ref sig .tc := ⟨.hbm, 218, rfl⟩
abbrev main_while1b_call20_v0 : Ref sig .tc := ⟨.hbm, 219, rfl⟩
abbrev main_while1b_call20_c : Ref sig .tc := ⟨.hbm, 220, rfl⟩
abbrev main_while1b_call20_c_0 : Ref sig .tc := ⟨.hbm, 221, rfl⟩
abbrev main_while1b_call20_c_1 : Ref sig .tc := ⟨.hbm, 222, rfl⟩
abbrev main_while1b_v75 : Ref sig .tc := ⟨.hbm, 223, rfl⟩
abbrev main_while1b_call21_v0 : Ref sig .tc := ⟨.hbm, 224, rfl⟩
abbrev main_while1b_call21_c : Ref sig .tc := ⟨.hbm, 225, rfl⟩
abbrev main_while1b_call21_c_0 : Ref sig .tc := ⟨.hbm, 226, rfl⟩
abbrev main_while1b_call21_c_1 : Ref sig .tc := ⟨.hbm, 227, rfl⟩
abbrev main_while1b_v76 : Ref sig .tc := ⟨.hbm, 228, rfl⟩
abbrev main_while1b_call22_v0 : Ref sig .tc := ⟨.hbm, 229, rfl⟩
abbrev main_while1b_call22_c : Ref sig .tc := ⟨.hbm, 230, rfl⟩
abbrev main_while1b_call22_c_0 : Ref sig .tc := ⟨.hbm, 231, rfl⟩
abbrev main_while1b_call22_c_1 : Ref sig .tc := ⟨.hbm, 232, rfl⟩
abbrev main_while1b_v77 : Ref sig .tc := ⟨.hbm, 233, rfl⟩
abbrev main_while1b_call23_v0 : Ref sig .tc := ⟨.hbm, 234, rfl⟩
abbrev main_while1b_call23_c : Ref sig .tc := ⟨.hbm, 235, rfl⟩
abbrev main_while1b_v78 : Ref sig .tc := ⟨.hbm, 236, rfl⟩
abbrev main_while1b_c_32 : Ref sig .tc := ⟨.hbm, 237, rfl⟩
abbrev main_while1b_v79 : Ref sig .tc := ⟨.hbm, 238, rfl⟩
abbrev main_v28 : Ref sig .tc := ⟨.hbm, 239, rfl⟩
abbrev main_v29 : Ref sig .tc := ⟨.hbm, 240, rfl⟩
abbrev main_v30 : Ref sig .tc := ⟨.hbm, 241, rfl⟩
abbrev main_v31 : Ref sig .tc := ⟨.hbm, 242, rfl⟩
abbrev main_v32 : Ref sig .tc := ⟨.hbm, 243, rfl⟩
abbrev main_v33 : Ref sig .tc := ⟨.hbm, 244, rfl⟩
abbrev main_v34 : Ref sig .tc := ⟨.hbm, 245, rfl⟩
abbrev main_v35 : Ref sig .tc := ⟨.hbm, 246, rfl⟩
abbrev main_v36 : Ref sig .tc := ⟨.hbm, 247, rfl⟩
abbrev main_v37 : Ref sig .tc := ⟨.hbm, 248, rfl⟩
abbrev main_v38 : Ref sig .tc := ⟨.hbm, 249, rfl⟩
abbrev main_v39 : Ref sig .tc := ⟨.hbm, 250, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== Kernel2.lean ====
abbrev S4096x1536 : Shape := ⟨2, ![4096, 1536]⟩
abbrev S4096x512 : Shape := ⟨2, ![4096, 512]⟩
abbrev S4096x128 : Shape := ⟨2, ![4096, 128]⟩
abbrev S4096x1024 : Shape := ⟨2, ![4096, 1024]⟩
abbrev S1x1024 : Shape := ⟨2, ![1, 1024]⟩
abbrev S4224x1024 : Shape := ⟨2, ![4224, 1024]⟩
abbrev S512x1536 : Shape := ⟨2, ![512, 1536]⟩
abbrev S512x512 : Shape := ⟨2, ![512, 512]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S1536x1024 : Shape := ⟨2, ![1536, 1024]⟩
abbrev S128x1024 : Shape := ⟨2, ![128, 1024]⟩

abbrev nBuf : Space → Nat
  | .hbm => 10
  | .vmem => 18
  | .smem => 0
  | _ => 0

abbrev bufTy : (tb : Table) → Fin (tcTables nBuf tb) → BufTy
  | .hbm, ⟨0, _⟩ => ⟨S4096x1536, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x128, .bf16⟩
  | .hbm, ⟨7, _⟩ => ⟨S4096x1024, .f32⟩
  | .hbm, ⟨8, _⟩ => ⟨S1x1024, .f32⟩
  | .hbm, ⟨9, _⟩ => ⟨S4224x1024, .f32⟩
  | .local _ .vmem, ⟨0, _⟩ => ⟨S512x1536, .bf16⟩
  | .local _ .vmem, ⟨1, _⟩ => ⟨S512x1536, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x128, .bf16⟩
  | .local _ .vmem, ⟨13, _⟩ => ⟨S512x128, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S4224x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4224x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S4096x1536 : Shape := ⟨2, ![4096, 1536]⟩
abbrev S4096x512 : Shape := ⟨2, ![4096, 512]⟩
abbrev S4096x128 : Shape := ⟨2, ![4096, 128]⟩
abbrev S4096x1024 : Shape := ⟨2, ![4096, 1024]⟩
abbrev S1x1024 : Shape := ⟨2, ![1, 1024]⟩
abbrev S4096x4224 : Shape := ⟨2, ![4096, 4224]⟩
abbrev S_ : Shape := ⟨0, ![]⟩
abbrev S1024x4224 : Shape := ⟨2, ![1024, 4224]⟩
abbrev S1024 : Shape := ⟨1, ![1024]⟩
abbrev S4096 : Shape := ⟨1, ![4096]⟩
abbrev S4096x1 : Shape := ⟨2, ![4096, 1]⟩
abbrev S4224x1024 : Shape := ⟨2, ![4224, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x128, .bf16⟩
  | .hbm, ⟨7, _⟩ => ⟨S4096x1024, .f32⟩
  | .hbm, ⟨8, _⟩ => ⟨S1x1024, .f32⟩
  | .hbm, ⟨9, _⟩ => ⟨S4096x1536, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x128, .f32⟩
  | .hbm, ⟨16, _⟩ => ⟨S4096x4224, .f32⟩
  | .hbm, ⟨17, _⟩ => ⟨S_, .f32⟩
  | .hbm, ⟨18, _⟩ => ⟨S1024x4224, .f32⟩
  | .hbm, ⟨19, _⟩ => ⟨S1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x4224, .f32⟩
  | .hbm, ⟨37, _⟩ => ⟨S4224x1024, .f32⟩
  | .hbm, ⟨38, _⟩ => ⟨S1024x4224, .f32⟩
  | .hbm, ⟨39, _⟩ => ⟨S4224x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel3.lean ====
abbrev S4096x1024 : Shape := ⟨2, ![4096, 1024]⟩
abbrev S1024x1024 : Shape := ⟨2, ![1024, 1024]⟩
abbrev S4096x512 : Shape := ⟨2, ![4096, 512]⟩
abbrev S4096x4224 : Shape := ⟨2, ![4096, 4224]⟩
abbrev S128 : Shape := ⟨1, ![128]⟩
abbrev S512x128 : Shape := ⟨2, ![512, 128]⟩
abbrev S1x128 : Shape := ⟨2, ![1, 128]⟩
abbrev S1x1x1x128 : Shape := ⟨4, ![1, 1, 1, 128]⟩
abbrev S1x1x4x128 : Shape := ⟨4, ![1, 1, 4, 128]⟩
abbrev S1x512 : Shape := ⟨2, ![1, 512]⟩
abbrev S8x128 : Shape := ⟨2, ![8, 128]⟩
abbrev S4x1024x512 : Shape := ⟨3, ![4, 1024, 512]⟩
abbrev S16x256x512 : Shape := ⟨3, ![16, 256, 512]⟩
abbrev S4096x128 : Shape := ⟨2, ![4096, 128]⟩
abbrev S4x1024x128 : Shape := ⟨3, ![4, 1024, 128]⟩
abbrev S16x256x128 : Shape := ⟨3, ![16, 256, 128]⟩
abbrev S512x1024 : Shape := ⟨2, ![512, 1024]⟩
abbrev S512x512 : Shape := ⟨2, ![512, 512]⟩
abbrev S4x128x512 : Shape := ⟨3, ![4, 128, 512]⟩
abbrev S16x32x512 : Shape := ⟨3, ![16, 32, 512]⟩
abbrev S4x128x128 : Shape := ⟨3, ![4, 128, 128]⟩
abbrev S16x32x128 : Shape := ⟨3, ![16, 32, 128]⟩
abbrev S4x512x128 : Shape := ⟨3, ![4, 512, 128]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x512x128 : Shape := ⟨3, ![1, 512, 128]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩

abbrev nBuf : Space → Nat
  | .hbm => 27
  | .vmem => 42
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S4096x1024, .f32⟩
  | .hbm, ⟨4, _⟩ => ⟨S4096x512, .f32⟩
  | .hbm, ⟨5, _⟩ => ⟨S4096x4224, .f32⟩
  | .hbm, ⟨6, _⟩ => ⟨S4096x512, .f32⟩
  | .hbm, ⟨7, _⟩ => ⟨S128, .f32⟩
  | .hbm, ⟨8, _⟩ => ⟨S512x128, .bf16⟩
  | .hbm, ⟨9, _⟩ => ⟨S512x128, .bf16⟩
  | .hbm, ⟨10, _⟩ => ⟨S1x128, .f32⟩
  | .hbm, ⟨11, _⟩ => ⟨S1x1x1x128, .f32⟩
  | .hbm, ⟨12, _⟩ => ⟨S1x1x4x128, .f32⟩
  | .hbm, ⟨13, _⟩ => ⟨S1x512, .f32⟩
  | .hbm, ⟨14, _⟩ => ⟨S4096x1024, .f32⟩
  | .hbm, ⟨15, _⟩ => ⟨S8x128, .f32⟩
  | .hbm, ⟨16, _⟩ => ⟨S1024x1024, .f32⟩
  | .hbm, ⟨17, _⟩ => ⟨S4096x512, .f32⟩
  | .hbm, ⟨18, _⟩ => ⟨S4096x512, .bf16⟩
  | .hbm, ⟨19, _⟩ => ⟨S4096x512, .bf16⟩
  | .hbm, ⟨20, _⟩ => ⟨S4096x512, .bf16⟩
  | .hbm, ⟨21, _⟩ => ⟨S4x1024x512, .bf16⟩
  | .hbm, ⟨22, _⟩ => ⟨S16x256x512, .bf16⟩
  | .hbm, ⟨23, _⟩ => ⟨S4096x128, .f32⟩
  | .hbm, ⟨24, _⟩ => ⟨S4x1024x128, .f32⟩
  | .hbm, ⟨25, _⟩ => ⟨S16x256x128, .f32⟩
  | .hbm, ⟨26, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S1x512, .f32⟩
  | .local _ .vmem, ⟨16, _⟩ => ⟨S512x128, .bf16⟩
  | .local _ .vmem, ⟨17, _⟩ => ⟨S512x128, .bf16⟩
  | .local _ .vmem, ⟨18, _⟩ => ⟨S512x1024, .f32⟩
  | .local _ .vmem, ⟨19, _⟩ => ⟨S512x1024, .f32⟩
  | .local _ .vmem, ⟨20, _⟩ => ⟨S8x128, .f32⟩
  | .local _ .vmem, ⟨21, _⟩ => ⟨S1024x1024, .f32⟩
  | .local _ .vmem, ⟨22, _⟩ => ⟨S512x512, .f32⟩
  | .local _ .vmem, ⟨23, _⟩ => ⟨S512x512, .f32⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S4x128x512, .bf16⟩
  | .local _ .vmem, ⟨31, _⟩ => ⟨S4x128x512, .bf16⟩
  | .local _ .vmem, ⟨32, _⟩ => ⟨S16x32x512, .bf16⟩
  | .local _ .vmem, ⟨33, _⟩ => ⟨S16x32x512, .bf16⟩
  | .local _ .vmem, ⟨34, _⟩ => ⟨S512x128, .f32⟩
  | .local _ .vmem, ⟨35, _⟩ => ⟨S512x128, .f32⟩
  | .local _ .vmem, ⟨36, _⟩ => ⟨S4x128x128, .f32⟩
  | .local _ .vmem, ⟨37, _⟩ => ⟨S4x128x128, .f32⟩
  | .local _ .vmem, ⟨38, _⟩ => ⟨S16x32x128, .f32⟩
  | .local _ .vmem, ⟨39, _⟩ => ⟨S16x32x128, .f32⟩
  | .local _ .vmem, ⟨40, _⟩ => ⟨S8x128, .f32⟩
  | .local _ .vmem, ⟨41, _⟩ => ⟨S4x512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev main_v4_6 : Ref sig .tc := ⟨.hbm, 20, rfl⟩
abbrev main_v4_7 : Ref sig .tc := ⟨.hbm, 21, rfl⟩
abbrev main_v4_8 : Ref sig .tc := ⟨.hbm, 22, rfl⟩
abbrev main_v4_9 : Ref sig .tc := ⟨.hbm, 23, rfl⟩
abbrev main_v4_10 : Ref sig .tc := ⟨.hbm, 24, rfl⟩
abbrev main_v4_11 : Ref sig .tc := ⟨.hbm, 25, rfl⟩
abbrev main_v4_12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x128x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16x32x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S4x128x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S16x32x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S8x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== Reference3Ideal.lean ====
abbrev S4096x1024 : Shape := ⟨2, ![4096, 1024]⟩
abbrev S1024x1024 : Shape := ⟨2, ![1024, 1024]⟩
abbrev S4096x512 : Shape := ⟨2, ![4096, 512]⟩
abbrev S4096x4224 : Shape := ⟨2, ![4096, 4224]⟩
abbrev S128 : Shape := ⟨1, ![128]⟩
abbrev S_ : Shape := ⟨0, ![]⟩
abbrev S4096 : Shape := ⟨1, ![4096]⟩
abbrev S8x128 : Shape := ⟨2, ![8, 128]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S4096x1024, .f32⟩
  | .hbm, ⟨4, _⟩ => ⟨S4096x512, .f32⟩
  | .hbm, ⟨5, _⟩ => ⟨S4096x4224, .f32⟩
  | .hbm, ⟨6, _⟩ => ⟨S4096x512, .f32⟩
  | .hbm, ⟨7, _⟩ => ⟨S128, .f32⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096x1024, .f32⟩
  | .hbm, ⟨34, _⟩ => ⟨S4096x1024, .f32⟩
  | .hbm, ⟨35, _⟩ => ⟨S1024x1024, .f32⟩
  | .hbm, ⟨36, _⟩ => ⟨S1024x1024, .f32⟩
  | .hbm, ⟨37, _⟩ => ⟨S4096x1024, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S_, .f32⟩
  | .hbm, ⟨42, _⟩ => ⟨S4096x512, .f32⟩
  | .hbm, ⟨43, _⟩ => ⟨S4096x512, .f32⟩
  | .hbm, ⟨44, _⟩ => ⟨S_, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S8x128, .f32⟩
  | .hbm, ⟨52, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_cst_4 : Ref sig .tc := ⟨.hbm, 26, rfl⟩
abbrev main_cst_5 : Ref sig .tc := ⟨.hbm, 27, rfl⟩
abbrev main_v13 : Ref sig .tc := ⟨.hbm, 28, rfl⟩
abbrev main_v14 : Ref sig .tc := ⟨.hbm, 29, rfl⟩
abbrev main_cst_6 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S4224x1024 : Shape := ⟨2, ![4224, 1024]⟩
abbrev S4x1536 : Shape := ⟨2, ![4, 1536]⟩
abbrev S4 : Shape := ⟨1, ![4]⟩
abbrev S_ : Shape := ⟨0, ![]⟩
abbrev S8x1536 : Shape := ⟨2, ![8, 1536]⟩
abbrev S1x4 : Shape := ⟨2, ![1, 4]⟩
abbrev S1x128 : Shape := ⟨2, ![1, 128]⟩
abbrev S4096x4224 : Shape := ⟨2, ![4096, 4224]⟩
abbrev S4096x512 : Shape := ⟨2, ![4096, 512]⟩
abbrev S4096x128 : Shape := ⟨2, ![4096, 128]⟩
abbrev S512x1024 : Shape := ⟨2, ![512, 1024]⟩
abbrev S512x4224 : Shape := ⟨2, ![512, 4224]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S8x128 : Shape := ⟨2, ![8, 128]⟩
abbrev S520x128 : Shape := ⟨2, ![520, 128]⟩

abbrev nBuf : Space → Nat
  | .hbm => 22
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4224x1024, .bf16⟩
  | .hbm, ⟨3, _⟩ => ⟨S4x1536, .f32⟩
  | .hbm, ⟨4, _⟩ => ⟨S4, .f32⟩
  | .hbm, ⟨5, _⟩ => ⟨S4, .f32⟩
  | .hbm, ⟨6, _⟩ => ⟨S_, .i32⟩
  | .hbm, ⟨7, _⟩ => ⟨S_, .f32⟩
  | .hbm, ⟨8, _⟩ => ⟨S8x1536, .f32⟩
  | .hbm, ⟨9, _⟩ => ⟨S1x4, .f32⟩
  | .hbm, ⟨10, _⟩ => ⟨S_, .i32⟩
  | .hbm, ⟨11, _⟩ => ⟨S_, .f32⟩
  | .hbm, ⟨12, _⟩ => ⟨S1x128, .f32⟩
  | .hbm, ⟨13, _⟩ => ⟨S1x4, .f32⟩
  | .hbm, ⟨14, _⟩ => ⟨S_, .i32⟩
  | .hbm, ⟨15, _⟩ => ⟨S_, .f32⟩
  | .hbm, ⟨16, _⟩ => ⟨S1x128, .f32⟩
  | .hbm, ⟨17, _⟩ => ⟨S4096x4224, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4224x1024, .bf16⟩
  | .local _ .vmem, ⟨4, _⟩ => ⟨S8x1536, .f32⟩
  | .local _ .vmem, ⟨5, _⟩ => ⟨S1x128, .f32⟩
  | .local _ .vmem, ⟨6, _⟩ => ⟨S1x128, .f32⟩
  | .local _ .vmem, ⟨7, _⟩ => ⟨S512x4224, .f32⟩
  | .local _ .vmem, ⟨8, _⟩ => ⟨S512x4224, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x128, .f32⟩
  | .local _ .vmem, ⟨16, _⟩ => ⟨S512x128, .f32⟩
  | .local _ .vmem, ⟨17, _⟩ => ⟨S8x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_call2_v0 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v5_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4224x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4224 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S4096x1024 : Shape := ⟨2, ![4096, 1024]⟩
abbrev S1x1024 : Shape := ⟨2, ![1, 1024]⟩
abbrev S4224x1024 : Shape := ⟨2, ![4224, 1024]⟩
abbrev S4x1536 : Shape := ⟨2, ![4, 1536]⟩
abbrev S4 : Shape := ⟨1, ![4]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x4224 : Shape := ⟨2, ![1024, 4224]⟩
abbrev S4096x4224 : Shape := ⟨2, ![4096, 4224]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4224x1024, .bf16⟩
  | .hbm, ⟨3, _⟩ => ⟨S4x1536, .f32⟩
  | .hbm, ⟨4, _⟩ => ⟨S4, .f32⟩
  | .hbm, ⟨5, _⟩ => ⟨S4, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4224x1024, .f32⟩
  | .hbm, ⟨24, _⟩ => ⟨S1024x4224, .f32⟩
  | .hbm, ⟨25, _⟩ => ⟨S4096x4224, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel5.lean ====
abbrev S256x1024 : Shape := ⟨2, ![256, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel6.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference6Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel7.lean ====
abbrev S4x384 : Shape := ⟨2, ![4, 384]⟩

abbrev nBuf : Space → Nat
  | .hbm => 7
  | .vmem => 7
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference7Ideal.lean ====
abbrev S4x384 : Shape := ⟨2, ![4, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S_, .f32⟩
  | .hbm, ⟨5, _⟩ => ⟨S4x384, .f32⟩
  | .hbm, ⟨6, _⟩ => ⟨S4x384, .f32⟩
  | .hbm, ⟨7, _⟩ => ⟨S_, .f32⟩
  | .hbm, ⟨8, _⟩ => ⟨S4x384, .f32⟩
  | .hbm, ⟨9, _⟩ => ⟨S4x384, .f32⟩
  | .hbm, ⟨10, _⟩ => ⟨S4x384, .f32⟩
  | .hbm, ⟨11, _⟩ => ⟨S_, .f32⟩
  | .hbm, ⟨12, _⟩ => ⟨S4x384, .f32⟩
  | .hbm, ⟨13, _⟩ => ⟨S4x384, .f32⟩
  | .hbm, ⟨14, _⟩ => ⟨S4x384, .f32⟩
  | .hbm, ⟨15, _⟩ => ⟨S_, .f32⟩
  | .hbm, ⟨16, _⟩ => ⟨S4x384, .f32⟩
  | .hbm, ⟨17, _⟩ => ⟨S4x384, .f32⟩
  | .hbm, ⟨18, _⟩ => ⟨S4x384, .f32⟩
  | .hbm, ⟨19, _⟩ => ⟨S_, .f32⟩
  | .hbm, ⟨20, _⟩ => ⟨S4x384, .f32⟩
  | .hbm, ⟨21, _⟩ => ⟨S4x384, .f32⟩
  | .hbm, ⟨22, _⟩ => ⟨S_, .f32⟩
  | .hbm, ⟨23, _⟩ => ⟨S4x384, .f32⟩
  | .hbm, ⟨24, _⟩ => ⟨S4x384, .f32⟩
  | .hbm, ⟨25, _⟩ => ⟨S4x384, .f32⟩
  | .hbm, ⟨26, _⟩ => ⟨S_, .f32⟩
  | .hbm, ⟨27, _⟩ => ⟨S4x384, .f32⟩
  | .hbm, ⟨28, _⟩ => ⟨S4x384, .f32⟩
  | .hbm, ⟨29, _⟩ => ⟨S4x384, .f32⟩
  | .hbm, ⟨30, _⟩ => ⟨S_, .f32⟩
  | .hbm, ⟨31, _⟩ => ⟨S4x384, .f32⟩
  | .hbm, ⟨32, _⟩ => ⟨S4x384, .f32⟩
  | .hbm, ⟨33, _⟩ => ⟨S4x384, .f32⟩
  | .hbm, ⟨34, _⟩ => ⟨S_, .f32⟩
  | .hbm, ⟨35, _⟩ => ⟨S4x384, .f32⟩
  | .hbm, ⟨36, _⟩ => ⟨S4x384, .f32⟩
  | _, _ => ⟨S4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel8.lean ====
abbrev S1x4 : Shape := ⟨2, ![1, 4]⟩

abbrev nBuf : Space → Nat
  | .hbm => 7
  | .vmem => 7
  | .smem => 0
  | _ => 0

abbrev bufTy : (tb : Table) → Fin (tcTables nBuf tb) → BufTy
  | .hbm, ⟨0, _⟩ => ⟨S1x4, .f32⟩
  | .hbm, ⟨1, _⟩ => ⟨S1x4, .f32⟩
  | .hbm, ⟨2, _⟩ => ⟨S1x4, .f32⟩
  | .hbm, ⟨3, _⟩ => ⟨S1x4, .f32⟩
  | .hbm, ⟨4, _⟩ => ⟨S1x4, .f32⟩
  | .hbm, ⟨5, _⟩ => ⟨S1x4, .f32⟩
  | .hbm, ⟨6, _⟩ => ⟨S1x4, .f32⟩
  | .local _ .vmem, ⟨0, _⟩ => ⟨S1x4, .f32⟩
  | .local _ .vmem, ⟨1, _⟩ => ⟨S1x4, .f32⟩
  | .local _ .vmem, ⟨2, _⟩ => ⟨S1x4, .f32⟩
  | .local _ .vmem, ⟨3, _⟩ => ⟨S1x4, .f32⟩
  | .local _ .vmem, ⟨4, _⟩ => ⟨S1x4, .f32⟩
  | .local _ .vmem, ⟨5, _⟩ => ⟨S1x4, .f32⟩
  | .local _ .vmem, ⟨6, _⟩ => ⟨S1x4, .f32⟩
  | _, _ => ⟨S1x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference8Ideal.lean ====
abbrev S1x4 : Shape := ⟨2, ![1, 4]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4, .f32⟩
  | .hbm, ⟨1, _⟩ => ⟨S1x4, .f32⟩
  | .hbm, ⟨2, _⟩ => ⟨S1x4, .f32⟩
  | .hbm, ⟨3, _⟩ => ⟨S1x4, .f32⟩
  | .hbm, ⟨4, _⟩ => ⟨S_, .f32⟩
  | .hbm, ⟨5, _⟩ => ⟨S1x4, .f32⟩
  | .hbm, ⟨6, _⟩ => ⟨S1x4, .f32⟩
  | .hbm, ⟨7, _⟩ => ⟨S_, .f32⟩
  | .hbm, ⟨8, _⟩ => ⟨S1x4, .f32⟩
  | .hbm, ⟨9, _⟩ => ⟨S1x4, .f32⟩
  | .hbm, ⟨10, _⟩ => ⟨S1x4, .f32⟩
  | .hbm, ⟨11, _⟩ => ⟨S_, .f32⟩
  | .hbm, ⟨12, _⟩ => ⟨S1x4, .f32⟩
  | .hbm, ⟨13, _⟩ => ⟨S1x4, .f32⟩
  | .hbm, ⟨14, _⟩ => ⟨S1x4, .f32⟩
  | .hbm, ⟨15, _⟩ => ⟨S_, .f32⟩
  | .hbm, ⟨16, _⟩ => ⟨S1x4, .f32⟩
  | .hbm, ⟨17, _⟩ => ⟨S1x4, .f32⟩
  | .hbm, ⟨18, _⟩ => ⟨S1x4, .f32⟩
  | .hbm, ⟨19, _⟩ => ⟨S_, .f32⟩
  | .hbm, ⟨20, _⟩ => ⟨S1x4, .f32⟩
  | .hbm, ⟨21, _⟩ => ⟨S1x4, .f32⟩
  | .hbm, ⟨22, _⟩ => ⟨S_, .f32⟩
  | .hbm, ⟨23, _⟩ => ⟨S1x4, .f32⟩
  | .hbm, ⟨24, _⟩ => ⟨S1x4, .f32⟩
  | .hbm, ⟨25, _⟩ => ⟨S1x4, .f32⟩
  | .hbm, ⟨26, _⟩ => ⟨S_, .f32⟩
  | .hbm, ⟨27, _⟩ => ⟨S1x4, .f32⟩
  | .hbm, ⟨28, _⟩ => ⟨S1x4, .f32⟩
  | .hbm, ⟨29, _⟩ => ⟨S1x4, .f32⟩
  | .hbm, ⟨30, _⟩ => ⟨S_, .f32⟩
  | .hbm, ⟨31, _⟩ => ⟨S1x4, .f32⟩
  | .hbm, ⟨32, _⟩ => ⟨S1x4, .f32⟩
  | .hbm, ⟨33, _⟩ => ⟨S1x4, .f32⟩
  | .hbm, ⟨34, _⟩ => ⟨S_, .f32⟩
  | .hbm, ⟨35, _⟩ => ⟨S1x4, .f32⟩
  | .hbm, ⟨36, _⟩ => ⟨S1x4, .f32⟩
  | _, _ => ⟨S1x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference9Ideal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S1x64 : Shape := ⟨2, ![1, 64]⟩

abbrev nBuf : Space → Nat
  | .hbm => 7
  | .vmem => 7
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference10Ideal.lean ====
abbrev S1x64 : Shape := ⟨2, ![1, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S_, .f32⟩
  | .hbm, ⟨5, _⟩ => ⟨S1x64, .f32⟩
  | .hbm, ⟨6, _⟩ => ⟨S1x64, .f32⟩
  | .hbm, ⟨7, _⟩ => ⟨S_, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S_, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S_, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S_, .f32⟩
  | .hbm, ⟨20, _⟩ => ⟨S1x64, .f32⟩
  | .hbm, ⟨21, _⟩ => ⟨S1x64, .f32⟩
  | .hbm, ⟨22, _⟩ => ⟨S_, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S_, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S_, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S_, .f32⟩
  | .hbm, ⟨35, _⟩ => ⟨S1x64, .f32⟩
  | .hbm, ⟨36, _⟩ => ⟨S1x64, .f32⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S8x32 : Shape := ⟨2, ![8, 32]⟩

abbrev nBuf : Space → Nat
  | .hbm => 7
  | .vmem => 7
  | .smem => 0
  | _ => 0

abbrev bufTy : (tb : Table) → Fin (tcTables nBuf tb) → BufTy
  | .hbm, ⟨0, _⟩ => ⟨S8x32, .f32⟩
  | .hbm, ⟨1, _⟩ => ⟨S8x32, .f32⟩
  | .hbm, ⟨2, _⟩ => ⟨S8x32, .f32⟩
  | .hbm, ⟨3, _⟩ => ⟨S8x32, .f32⟩
  | .hbm, ⟨4, _⟩ => ⟨S8x32, .f32⟩
  | .hbm, ⟨5, _⟩ => ⟨S8x32, .f32⟩
  | .hbm, ⟨6, _⟩ => ⟨S8x32, .f32⟩
  | .local _ .vmem, ⟨0, _⟩ => ⟨S8x32, .f32⟩
  | .local _ .vmem, ⟨1, _⟩ => ⟨S8x32, .f32⟩
  | .local _ .vmem, ⟨2, _⟩ => ⟨S8x32, .f32⟩
  | .local _ .vmem, ⟨3, _⟩ => ⟨S8x32, .f32⟩
  | .local _ .vmem, ⟨4, _⟩ => ⟨S8x32, .f32⟩
  | .local _ .vmem, ⟨5, _⟩ => ⟨S8x32, .f32⟩
  | .local _ .vmem, ⟨6, _⟩ => ⟨S8x32, .f32⟩
  | _, _ => ⟨S8x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference11Ideal.lean ====
abbrev S8x32 : Shape := ⟨2, ![8, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x32, .f32⟩
  | .hbm, ⟨1, _⟩ => ⟨S8x32, .f32⟩
  | .hbm, ⟨2, _⟩ => ⟨S8x32, .f32⟩
  | .hbm, ⟨3, _⟩ => ⟨S8x32, .f32⟩
  | .hbm, ⟨4, _⟩ => ⟨S_, .f32⟩
  | .hbm, ⟨5, _⟩ => ⟨S8x32, .f32⟩
  | .hbm, ⟨6, _⟩ => ⟨S8x32, .f32⟩
  | .hbm, ⟨7, _⟩ => ⟨S_, .f32⟩
  | .hbm, ⟨8, _⟩ => ⟨S8x32, .f32⟩
  | .hbm, ⟨9, _⟩ => ⟨S8x32, .f32⟩
  | .hbm, ⟨10, _⟩ => ⟨S8x32, .f32⟩
  | .hbm, ⟨11, _⟩ => ⟨S_, .f32⟩
  | .hbm, ⟨12, _⟩ => ⟨S8x32, .f32⟩
  | .hbm, ⟨13, _⟩ => ⟨S8x32, .f32⟩
  | .hbm, ⟨14, _⟩ => ⟨S8x32, .f32⟩
  | .hbm, ⟨15, _⟩ => ⟨S_, .f32⟩
  | .hbm, ⟨16, _⟩ => ⟨S8x32, .f32⟩
  | .hbm, ⟨17, _⟩ => ⟨S8x32, .f32⟩
  | .hbm, ⟨18, _⟩ => ⟨S8x32, .f32⟩
  | .hbm, ⟨19, _⟩ => ⟨S_, .f32⟩
  | .hbm, ⟨20, _⟩ => ⟨S8x32, .f32⟩
  | .hbm, ⟨21, _⟩ => ⟨S8x32, .f32⟩
  | .hbm, ⟨22, _⟩ => ⟨S_, .f32⟩
  | .hbm, ⟨23, _⟩ => ⟨S8x32, .f32⟩
  | .hbm, ⟨24, _⟩ => ⟨S8x32, .f32⟩
  | .hbm, ⟨25, _⟩ => ⟨S8x32, .f32⟩
  | .hbm, ⟨26, _⟩ => ⟨S_, .f32⟩
  | .hbm, ⟨27, _⟩ => ⟨S8x32, .f32⟩
  | .hbm, ⟨28, _⟩ => ⟨S8x32, .f32⟩
  | .hbm, ⟨29, _⟩ => ⟨S8x32, .f32⟩
  | .hbm, ⟨30, _⟩ => ⟨S_, .f32⟩
  | .hbm, ⟨31, _⟩ => ⟨S8x32, .f32⟩
  | .hbm, ⟨32, _⟩ => ⟨S8x32, .f32⟩
  | .hbm, ⟨33, _⟩ => ⟨S8x32, .f32⟩
  | .hbm, ⟨34, _⟩ => ⟨S_, .f32⟩
  | .hbm, ⟨35, _⟩ => ⟨S8x32, .f32⟩
  | .hbm, ⟨36, _⟩ => ⟨S8x32, .f32⟩
  | _, _ => ⟨S8x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.DwPure.lean ====
/- The weight gradient of the input projection, read at an index: the scalar formulas both programs come down to,
   and the reference's result in that form. -/
module

public import proofs.«01_k».proof.Proof.Gen.Reference2Ideal.Read
public import proofs.«01_k».proof.Proof.Gen.Kernel2Ideal.Skeleton
public import Idealize.ShloMosaic.Lib.Pointwise

@[expose] public section

set_option maxRecDepth 16384

noncomputable section

open Idealize.ShloMosaic Idealize.ShloMosaic.TcCoe Idealize.SL.Sem
open scoped BigOperators

namespace Cert.DwValue

/-- One entry of the normalised row `x`: the entry over the row's root mean square, times the entry's weight. -/
def normAt (x w : Fin 1024 → EReal) (d : Fin 1024) : EReal :=
  x d * Ideal.rsqrt (Ideal.div (∑ l : Fin 1024, x l * x l) (Ideal.ofBits .f32 0x44800000#32) + Ideal.ofBits .f32 0x358637BD#32) * w d

/-- The entry at column `a` of a row laid out as seven pieces side by side. -/
def catAt (p0 : Fin 1536 → EReal) (p1 p2 p3 p4 p5 : Fin 512 → EReal) (p6 : Fin 128 → EReal) (a : Fin 4224) : EReal :=
  if h0 : (a : ℕ) < 1536 then p0 ⟨a, h0⟩
  else if h1 : (a : ℕ) - 1536 < 512 then p1 ⟨(a : ℕ) - 1536, h1⟩
  else if h2 : (a : ℕ) - 1536 - 512 < 512 then p2 ⟨(a : ℕ) - 1536 - 512, h2⟩
  else if h3 : (a : ℕ) - 1536 - 512 - 512 < 512 then p3 ⟨(a : ℕ) - 1536 - 512 - 512, h3⟩
  else if h4 : (a : ℕ) - 1536 - 512 - 512 - 512 < 512 then p4 ⟨(a : ℕ) - 1536 - 512 - 512 - 512, h4⟩
  else if h5 : (a : ℕ) - 1536 - 512 - 512 - 512 - 512 < 512 then p5 ⟨(a : ℕ) - 1536 - 512 - 512 - 512 - 512, h5⟩
  else p6 ⟨(a : ℕ) - 1536 - 512 - 512 - 512 - 512 - 512, by omega⟩

theorem catAt_0 (p0 p1 p2 p3 p4 p5 p6) (a : Fin 4224) (b : Fin 1536) (h : (a : ℕ) = b) :
    catAt p0 p1 p2 p3 p4 p5 p6 a = p0 b := by
  have hb := b.isLt
  unfold catAt; rw [dif_pos (by omega)]; exact congrArg p0 (Fin.ext h)
theorem catAt_1 (p0 p1 p2 p3 p4 p5 p6) (a : Fin 4224) (b : Fin 512) (h : (a : ℕ) = 1536 + b) :
    catAt p0 p1 p2 p3 p4 p5 p6 a = p1 b := by
  have hb := b.isLt
  unfold catAt; rw [dif_neg (by omega), dif_pos (by omega)]; exact congrArg p1 (Fin.ext (by dsimp only; omega))
theorem catAt_2 (p0 p1 p2 p3 p4 p5 p6) (a : Fin 4224) (b : Fin 512) (h : (a : ℕ) = 2048 + b) :
    catAt p0 p1 p2 p3 p4 p5 p6 a = p2 b := by
  have hb := b.isLt
  unfold catAt; rw [dif_neg (by omega), dif_neg (by omega), dif_pos (by omega)]; exact congrArg p2 (Fin.ext (by dsimp only; omega))
theorem catAt_3 (p0 p1 p2 p3 p4 p5 p6) (a : Fin 4224) (b : Fin 512) (h : (a : ℕ) = 2560 + b) :
    catAt p0 p1 p2 p3 p4 p5 p6 a = p3 b := by
  have hb := b.isLt
  unfold catAt; rw [dif_neg (by omega), dif_neg (by omega), dif_neg (by omega), dif_pos (by omega)]; exact congrArg p3 (Fin.ext (by dsimp only; omega))
theorem catAt_4 (p0 p1 p2 p3 p4 p5 p6) (a : Fin 4224) (b : Fin 512) (h : (a : ℕ) = 3072 + b) :
    catAt p0 p1 p2 p3 p4 p5 p6 a = p4 b := by
  have hb := b.isLt
  unfold catAt; rw [dif_neg (by omega), dif_neg (by omega), dif_neg (by omega), dif_neg (by omega), dif_pos (by omega)]; exact congrArg p4 (Fin.ext (by dsimp only; omega))
theorem catAt_5 (p0 p1 p2 p3 p4 p5 p6) (a : Fin 4224) (b : Fin 512) (h : (a : ℕ) = 3584 + b) :
    catAt p0 p1 p2 p3 p4 p5 p6 a = p5 b := by
  have hb := b.isLt
  unfold catAt; rw [dif_neg (by omega), dif_neg (by omega), dif_neg (by omega), dif_neg (by omega), dif_neg (by omega), dif_pos (by omega)]; exact congrArg p5 (Fin.ext (by dsimp only; omega))
theorem catAt_6 (p0 p1 p2 p3 p4 p5 p6) (a : Fin 4224) (b : Fin 128) (h : (a : ℕ) = 4096 + b) :
    catAt p0 p1 p2 p3 p4 p5 p6 a = p6 b := by
  have hb := b.isLt
  unfold catAt; rw [dif_neg (by omega), dif_neg (by omega), dif_neg (by omega), dif_neg (by omega), dif_neg (by omega), dif_neg (by omega)]; exact congrArg p6 (Fin.ext (by dsimp only; omega))

section Reference
open Cert.Reference2Ideal Cert.Reference2Ideal.Read

/-- The reference's weight gradient at row `a`, column `d`: over all tokens, the seven pieces' column times the normalised row. -/
theorem reference_at (x0 : FVec Ideal S4096x1536 .bf16) (x1 x2 x3 x4 x5 : FVec Ideal S4096x512 .bf16) (x6 : FVec Ideal S4096x128 .bf16)
    (x7 : FVec Ideal S4096x1024 .f32) (x8 : FVec Ideal S1x1024 .f32) (a : Fin 4224) (d : Fin 1024) :
    val_main_v26 (F := Ideal) x0 x1 x2 x3 x4 x5 x6 x7 x8 (ix2 a d)
      = ∑ k : Fin 4096, catAt (fun b => x0 (ix2 k b)) (fun b => x1 (ix2 k b)) (fun b => x2 (ix2 k b)) (fun b => x3 (ix2 k b))
          (fun b => x4 (ix2 k b)) (fun b => x5 (ix2 k b)) (fun b => x6 (ix2 k b)) a
        * normAt (fun b => x7 (ix2 k b)) (fun b => x8 (ix2 0 b)) d := by
  pointwise [val_main_v26, val_main_v25, val_main_v24, val_main_v7, val_main_v0, val_main_v1, val_main_v2, val_main_v3, val_main_v4, val_main_v5, val_main_v6,
    val_main_v22, val_main_v21, val_main_v20, val_main_v9, val_main_v19, val_main_v18, val_main_v17, val_main_v16, val_main_v15, val_main_cst_2,
    val_main_v14, val_main_v13, val_main_cst_1, val_main_v12, val_main_v11, val_main_cst_0, val_main_v10]
  rfl
end Reference

section Kernel
open Cert.Kernel2Ideal Cert.Kernel2Ideal.Gen

theorem norm_at (x : FVec Ideal S512x1024 .f32) (w : FVec Ideal S1x1024 .f32) (k : Fin 512) (d : Fin 1024) :
    k0_pay3 (F := Ideal) x w (ix2 k d) = normAt (fun b => x (ix2 k b)) (fun b => w (ix2 0 b)) d := by
  unfold normAt
  pointwise [k0_pay3]

theorem pay4_at (x : FVec Ideal S512x1024 .f32) (w : FVec Ideal S1x1024 .f32) (acc : FVec Ideal S1536x1024 .f32) (p : FVec Ideal S512x1536 .bf16)
    (a : Fin 1536) (d : Fin 1024) :
    k0_pay4 (F := Ideal) x w acc p (ix2 a d)
      = acc (ix2 a d) + ∑ k : Fin 512, p (ix2 k a) * normAt (fun b => x (ix2 k b)) (fun b => w (ix2 0 b)) d := by
  pointwise [k0_pay4, norm_at]

theorem pay5_at (x : FVec Ideal S512x1024 .f32) (w : FVec Ideal S1x1024 .f32) (acc : FVec Ideal S512x1024 .f32) (p : FVec Ideal S512x512 .bf16)
    (a : Fin 512) (d : Fin 1024) :
    k0_pay5 (F := Ideal) x w acc p (ix2 a d)
      = acc (ix2 a d) + ∑ k : Fin 512, p (ix2 k a) * normAt (fun b => x (ix2 k b)) (fun b => w (ix2 0 b)) d := by
  pointwise [k0_pay5, norm_at]

theorem pay6_at (h : FVec Ideal S512x1024 .bf16) (acc : FVec Ideal S512x1024 .f32) (p : FVec Ideal S512x512 .bf16) (a : Fin 512) (d : Fin 1024) :
    k0_pay6 (F := Ideal) h acc p (ix2 a d) = acc (ix2 a d) + ∑ k : Fin 512, p (ix2 k a) * h (ix2 k d) := by
  pointwise [k0_pay6]

theorem pay7_at (h : FVec Ideal S512x1024 .bf16) (acc : FVec Ideal S512x1024 .f32) (p : FVec Ideal S512x512 .bf16) (a : Fin 512) (d : Fin 1024) :
    k0_pay7 (F := Ideal) h acc p (ix2 a d) = acc (ix2 a d) + ∑ k : Fin 512, p (ix2 k a) * h (ix2 k d) := by
  pointwise [k0_pay7]

theorem pay8_at (h : FVec Ideal S512x1024 .bf16) (acc : FVec Ideal S512x1024 .f32) (p : FVec Ideal S512x512 .bf16) (a : Fin 512) (d : Fin 1024) :
    k0_pay8 (F := Ideal) h acc p (ix2 a d) = acc (ix2 a d) + ∑ k : Fin 512, p (ix2 k a) * h (ix2 k d) := by
  pointwise [k0_pay8]

theorem pay9_at (h : FVec Ideal S512x1024 .bf16) (acc : FVec Ideal S512x1024 .f32) (p : FVec Ideal S512x512 .bf16) (a : Fin 512) (d : Fin 1024) :
    k0_pay9 (F := Ideal) h acc p (ix2 a d) = acc (ix2 a d) + ∑ k : Fin 512, p (ix2 k a) * h (ix2 k d) := by
  pointwise [k0_pay9]

theorem pay1_at (h : FVec Ideal S512x1024 .bf16) (acc : FVec Ideal S128x1024 .f32) (p : FVec Ideal S512x128 .bf16) (a : Fin 128) (d : Fin 1024) :
    k0_pay1 (F := Ideal) h (k0_pay10 (F := Ideal) acc) p (ix2 a d) = acc (ix2 a d) + ∑ k : Fin 512, p (ix2 k a) * h (ix2 k d) := by
  pointwise [k0_pay1, k0_pay10]

theorem zero_at (j : S4224x1024.Idx) : k0_pay2 (F := Ideal) j = 0 := by
  pointwise [k0_pay2]
end Kernel

end Cert.DwValue

end
-- ==== Proof.DwValue.lean ====
/- The weight gradient of the input projection: what the kernel's grid leaves is the reference's product over all tokens. -/
module

public import proofs.«01_k».proof.Proof.Gen.Kernel2Ideal.Value
public import proofs.«01_k».proof.Proof.DwPure
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.DwValue

open Cert.Kernel2Ideal Cert.Kernel2Ideal.Gen

variable (m : (ℓ : Loc nD τ sig) → Buf (Elt Ideal) ℓ)

/-- Every window's block index at every grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![0, 0]
    ∧ win0_9.index t = ![0, 0] :=
  (by decide +kernel : ∀ t : Fin grid0.N, _)

/-- What one tile of 512 tokens adds at row `a`, column `d`. -/
def tileAt (x0 : FVec Ideal S512x1536 .bf16) (x1 x2 x3 x4 x5 : FVec Ideal S512x512 .bf16) (x6 : FVec Ideal S512x128 .bf16)
    (x7 : FVec Ideal S512x1024 .f32) (x8 : FVec Ideal S1x1024 .f32) (a : Fin 4224) (d : Fin 1024) : EReal :=
  ∑ k : Fin 512, catAt (fun b => x0 (ix2 k b)) (fun b => x1 (ix2 k b)) (fun b => x2 (ix2 k b)) (fun b => x3 (ix2 k b))
          (fun b => x4 (ix2 k b)) (fun b => x5 (ix2 k b)) (fun b => x6 (ix2 k b)) a
        * normAt (fun b => x7 (ix2 k b)) (fun b => x8 (ix2 0 b)) d

/-- Piece 0's rows: what the buffer held there, and the tile's product. -/
theorem piece0 (x0 : FVec Ideal S512x1536 .bf16) (x1 x2 x3 x4 x5 : FVec Ideal S512x512 .bf16) (x6 : FVec Ideal S512x128 .bf16)
    (x7 : FVec Ideal S512x1024 .f32) (x8 : FVec Ideal S1x1024 .f32)
    (acc : FVec Ideal S1536x1024 .f32) (x : S1536x1024.Idx) (j : S4224x1024.Idx) (z : EReal)
    (h0 : (j 0 : ℕ) = (x 0 : ℕ)) (h1 : (j 1 : ℕ) = (x 1 : ℕ)) (hz : acc x = z) :
    k0_pay4 (F := Ideal) x7 x8 acc x0 x = z + tileAt x0 x1 x2 x3 x4 x5 x6 x7 x8 (j 0) (j 1) := by
  obtain ⟨a, d, rfl⟩ : ∃ (a : Fin 1536) (d : Fin 1024), x = ix2 a d := ⟨x 0, x 1, eq_ix2 x⟩
  have e1 : (j 1 : Fin 1024) = d := Fin.ext h1
  rw [pay4_at x7 x8 acc x0 a d, hz]
  unfold tileAt
  refine congrArg (z + ·) (Finset.sum_congr rfl fun k _ => ?_)
  rw [catAt_0 _ _ _ _ _ _ _ (j 0) a h0, e1]

/-- Piece 1's rows: what the buffer held there, and the tile's product. -/
theorem piece1 (x0 : FVec Ideal S512x1536 .bf16) (x1 x2 x3 x4 x5 : FVec Ideal S512x512 .bf16) (x6 : FVec Ideal S512x128 .bf16)
    (x7 : FVec Ideal S512x1024 .f32) (x8 : FVec Ideal S1x1024 .f32)
    (acc : FVec Ideal S512x1024 .f32) (x : S512x1024.Idx) (j : S4224x1024.Idx) (z : EReal)
    (h0 : (j 0 : ℕ) = 1536 + (x 0 : ℕ)) (h1 : (j 1 : ℕ) = (x 1 : ℕ)) (hz : acc x = z) :
    k0_pay5 (F := Ideal) x7 x8 acc x1 x = z + tileAt x0 x1 x2 x3 x4 x5 x6 x7 x8 (j 0) (j 1) := by
  obtain ⟨a, d, rfl⟩ : ∃ (a : Fin 512) (d : Fin 1024), x = ix2 a d := ⟨x 0, x 1, eq_ix2 x⟩
  have e1 : (j 1 : Fin 1024) = d := Fin.ext h1
  rw [pay5_at x7 x8 acc x1 a d, hz]
  unfold tileAt
  refine congrArg (z + ·) (Finset.sum_congr rfl fun k _ => ?_)
  rw [catAt_1 _ _ _ _ _ _ _ (j 0) a h0, e1]

/-- Piece 2's rows: what the buffer held there, and the tile's product. -/
theorem piece2 (x0 : FVec Ideal S512x1536 .bf16) (x1 x2 x3 x4 x5 : FVec Ideal S512x512 .bf16) (x6 : FVec Ideal S512x128 .bf16)
    (x7 : FVec Ideal S512x1024 .f32) (x8 : FVec Ideal S1x1024 .f32)
    (acc : FVec Ideal S512x1024 .f32) (x : S512x1024.Idx) (j : S4224x1024.Idx) (z : EReal)
    (h0 : (j 0 : ℕ) = 2048 + (x 0 : ℕ)) (h1 : (j 1 : ℕ) = (x 1 : ℕ)) (hz : acc x = z) :
    k0_pay6 (F := Ideal) (k0_pay3 (F := Ideal) x7 x8) acc x2 x = z + tileAt x0 x1 x2 x3 x4 x5 x6 x7 x8 (j 0) (j 1) := by
  obtain ⟨a, d, rfl⟩ : ∃ (a : Fin 512) (d : Fin 1024), x = ix2 a d := ⟨x 0, x 1, eq_ix2 x⟩
  have e1 : (j 1 : Fin 1024) = d := Fin.ext h1
  rw [pay6_at (k0_pay3 x7 x8) acc x2 a d, hz]
  unfold tileAt
  refine congrArg (z + ·) (Finset.sum_congr rfl fun k _ => ?_)
  rw [catAt_2 _ _ _ _ _ _ _ (j 0) a h0, e1, norm_at]

/-- Piece 3's rows: what the buffer held there, and the tile's product. -/
theorem piece3 (x0 : FVec Ideal S512x1536 .bf16) (x1 x2 x3 x4 x5 : FVec Ideal S512x512 .bf16) (x6 : FVec Ideal S512x128 .bf16)
    (x7 : FVec Ideal S512x1024 .f32) (x8 : FVec Ideal S1x1024 .f32)
    (acc : FVec Ideal S512x1024 .f32) (x : S512x1024.Idx) (j : S4224x1024.Idx) (z : EReal)
    (h0 : (j 0 : ℕ) = 2560 + (x 0 : ℕ)) (h1 : (j 1 : ℕ) = (x 1 : ℕ)) (hz : acc x = z) :
    k0_pay7 (F := Ideal) (k0_pay3 (F := Ideal) x7 x8) acc x3 x = z + tileAt x0 x1 x2 x3 x4 x5 x6 x7 x8 (j 0) (j 1) := by
  obtain ⟨a, d, rfl⟩ : ∃ (a : Fin 512) (d : Fin 1024), x = ix2 a d := ⟨x 0, x 1, eq_ix2 x⟩
  have e1 : (j 1 : Fin 1024) = d := Fin.ext h1
  rw [pay7_at (k0_pay3 x7 x8) acc x3 a d, hz]
  unfold tileAt
  refine congrArg (z + ·) (Finset.sum_congr rfl fun k _ => ?_)
  rw [catAt_3 _ _ _ _ _ _ _ (j 0) a h0, e1, norm_at]

/-- Piece 4's rows: what the buffer held there, and the tile's product. -/
theorem piece4 (x0 : FVec Ideal S512x1536 .bf16) (x1 x2 x3 x4 x5 : FVec Ideal S512x512 .bf16) (x6 : FVec Ideal S512x128 .bf16)
    (x7 : FVec Ideal S512x1024 .f32) (x8 : FVec Ideal S1x1024 .f32)
    (acc : FVec Ideal S512x1024 .f32) (x : S512x1024.Idx) (j : S4224x1024.Idx) (z : EReal)
    (h0 : (j 0 : ℕ) = 3072 + (x 0 : ℕ)) (h1 : (j 1 : ℕ) = (x 1 : ℕ)) (hz : acc x = z) :
    k0_pay8 (F := Ideal) (k0_pay3 (F := Ideal) x7 x8) acc x4 x = z + tileAt x0 x1 x2 x3 x4 x5 x6 x7 x8 (j 0) (j 1) := by
  obtain ⟨a, d, rfl⟩ : ∃ (a : Fin 512) (d : Fin 1024), x = ix2 a d := ⟨x 0, x 1, eq_ix2 x⟩
  have e1 : (j 1 : Fin 1024) = d := Fin.ext h1
  rw [pay8_at (k0_pay3 x7 x8) acc x4 a d, hz]
  unfold tileAt
  refine congrArg (z + ·) (Finset.sum_congr rfl fun k _ => ?_)
  rw [catAt_4 _ _ _ _ _ _ _ (j 0) a h0, e1, norm_at]

/-- Piece 5's rows: what the buffer held there, and the tile's product. -/
theorem piece5 (x0 : FVec Ideal S512x1536 .bf16) (x1 x2 x3 x4 x5 : FVec Ideal S512x512 .bf16) (x6 : FVec Ideal S512x128 .bf16)
    (x7 : FVec Ideal S512x1024 .f32) (x8 : FVec Ideal S1x1024 .f32)
    (acc : FVec Ideal S512x1024 .f32) (x : S512x1024.Idx) (j : S4224x1024.Idx) (z : EReal)
    (h0 : (j 0 : ℕ) = 3584 + (x 0 : ℕ)) (h1 : (j 1 : ℕ) = (x 1 : ℕ)) (hz : acc x = z) :
    k0_pay9 (F := Ideal) (k0_pay3 (F := Ideal) x7 x8) acc x5 x = z + tileAt x0 x1 x2 x3 x4 x5 x6 x7 x8 (j 0) (j 1) := by
  obtain ⟨a, d, rfl⟩ : ∃ (a : Fin 512) (d : Fin 1024), x = ix2 a d := ⟨x 0, x 1, eq_ix2 x⟩
  have e1 : (j 1 : Fin 1024) = d := Fin.ext h1
  rw [pay9_at (k0_pay3 x7 x8) acc x5 a d, hz]
  unfold tileAt
  refine congrArg (z + ·) (Finset.sum_congr rfl fun k _ => ?_)
  rw [catAt_5 _ _ _ _ _ _ _ (j 0) a h0, e1, norm_at]

/-- Piece 6's rows: what the buffer held there, and the tile's product. -/
theorem piece6 (x0 : FVec Ideal S512x1536 .bf16) (x1 x2 x3 x4 x5 : FVec Ideal S512x512 .bf16) (x6 : FVec Ideal S512x128 .bf16)
    (x7 : FVec Ideal S512x1024 .f32) (x8 : FVec Ideal S1x1024 .f32)
    (acc : FVec Ideal S128x1024 .f32) (x : S128x1024.Idx) (j : S4224x1024.Idx) (z : EReal)
    (h0 : (j 0 : ℕ) = 4096 + (x 0 : ℕ)) (h1 : (j 1 : ℕ) = (x 1 : ℕ)) (hz : acc x = z) :
    k0_pay1 (F := Ideal) (k0_pay3 (F := Ideal) x7 x8) (k0_pay10 (F := Ideal) acc) x6 x = z + tileAt x0 x1 x2 x3 x4 x5 x6 x7 x8 (j 0) (j 1) := by
  obtain ⟨a, d, rfl⟩ : ∃ (a : Fin 128) (d : Fin 1024), x = ix2 a d := ⟨x 0, x 1, eq_ix2 x⟩
  have e1 : (j 1 : Fin 1024) = d := Fin.ext h1
  rw [pay1_at (k0_pay3 x7 x8) acc x6 a d, hz]
  unfold tileAt
  refine congrArg (z + ·) (Finset.sum_congr rfl fun k _ => ?_)
  rw [catAt_6 _ _ _ _ _ _ _ (j 0) a h0, e1, norm_at]

theorem split7 {α : Type} (p1 p2 p3 p4 p5 p6 p7 : α) : [p1, p2, p3, p4, p5, p6, p7] = [p1, p2, p3, p4, p5, p6, p7] ++ [] := rfl
theorem split8 {α : Type} (p1 p2 p3 p4 p5 p6 p7 p8 : α) : [p1, p2, p3, p4, p5, p6, p7, p8] = [p1, p2, p3, p4, p5, p6, p7] ++ [p8] := rfl

/-- A later point adds its tile. -/
theorem step (c : Dev nD) (t : Fin cfg0.N) (h : ¬t.val % 8 = 0) (j : S4224x1024.Idx) :
    outsAt0 m c t.val t.isLt j = outsAt0 m c (t.val - 1) (Nat.lt_of_le_of_lt (Nat.sub_le _ _) t.isLt) j + tileAt (iblk m c 0 t) (iblk m c 1 t) (iblk m c 2 t) (iblk m c 3 t) (iblk m c 4 t) (iblk m c 5 t) (iblk m c 6 t) (iblk m c 7 t) (iblk m c 8 t) (j 0) (j 1) := by
  rw [outsAt0_B m c t h]
  frame_open
  simp (disch := decide) only [↓ View.readCov_skip, ↓ View.readCov_cons_toLoadRect, ↓ View.readCov_fill]
  frame_out
  rw [split7]
  refine View.canon_append_of_piecesOf (Val := Elt Ideal) (e := .f32) (s := S4224x1024) (fun j => outsAt0 m c (t.val - 1) (Nat.lt_of_le_of_lt (Nat.sub_le _ _) t.isLt) j + tileAt (iblk m c 0 t) (iblk m c 1 t) (iblk m c 2 t) (iblk m c 3 t) (iblk m c 4 t) (iblk m c 5 t) (iblk m c 6 t) (iblk m c 7 t) (iblk m c 8 t) (j 0) (j 1)) _ _
    ?_ j (View.cover_of_tiledBy _ ![128, 1024] (by sl_kernel_rfl) j)
  refine (show _ ∧ _ ∧ _ ∧ _ ∧ _ ∧ _ ∧ _ ∧ True from ⟨fun x => ?_, fun x => ?_, fun x => ?_, fun x => ?_, fun x => ?_, fun x => ?_, fun x => ?_, trivial⟩)
  · refine piece6 (iblk m c 0 t) (iblk m c 1 t) (iblk m c 2 t) (iblk m c 3 t) (iblk m c 4 t) (iblk m c 5 t) (iblk m c 6 t) (iblk m c 7 t) (iblk m c 8 t) _ x _ _ ?_ ?_ (rfl)
    · (show _ + 1 * _ = _; rw [one_mul]; first | rfl | exact Nat.zero_add _)
    · (show _ + 1 * _ = _; rw [one_mul]; first | rfl | exact Nat.zero_add _)
  · refine piece5 (iblk m c 0 t) (iblk m c 1 t) (iblk m c 2 t) (iblk m c 3 t) (iblk m c 4 t) (iblk m c 5 t) (iblk m c 6 t) (iblk m c 7 t) (iblk m c 8 t) _ x _ _ ?_ ?_ (rfl)
    · (show _ + 1 * _ = _; rw [one_mul]; first | rfl | exact Nat.zero_add _)
    · (show _ + 1 * _ = _; rw [one_mul]; first | rfl | exact Nat.zero_add _)
  · refine piece4 (iblk m c 0 t) (iblk m c 1 t) (iblk m c 2 t) (iblk m c 3 t) (iblk m c 4 t) (iblk m c 5 t) (iblk m c 6 t) (iblk m c 7 t) (iblk m c 8 t) _ x _ _ ?_ ?_ (rfl)
    · (show _ + 1 * _ = _; rw [one_mul]; first | rfl | exact Nat.zero_add _)
    · (show _ + 1 * _ = _; rw [one_mul]; first | rfl | exact Nat.zero_add _)
  · refine piece3 (iblk m c 0 t) (iblk m c 1 t) (iblk m c 2 t) (iblk m c 3 t) (iblk m c 4 t) (iblk m c 5 t) (iblk m c 6 t) (iblk m c 7 t) (iblk m c 8 t) _ x _ _ ?_ ?_ (rfl)
    · (show _ + 1 * _ = _; rw [one_mul]; first | rfl | exact Nat.zero_add _)
    · (show _ + 1 * _ = _; rw [one_mul]; first | rfl | exact Nat.zero_add _)
  · refine piece2 (iblk m c 0 t) (iblk m c 1 t) (iblk m c 2 t) (iblk m c 3 t) (iblk m c 4 t) (iblk m c 5 t) (iblk m c 6 t) (iblk m c 7 t) (iblk m c 8 t) _ x _ _ ?_ ?_ (rfl)
    · (show _ + 1 * _ = _; rw [one_mul]; first | rfl | exact Nat.zero_add _)
    · (show _ + 1 * _ = _; rw [one_mul]; first | rfl | exact Nat.zero_add _)
  · refine piece1 (iblk m c 0 t) (iblk m c 1 t) (iblk m c 2 t) (iblk m c 3 t) (iblk m c 4 t) (iblk m c 5 t) (iblk m c 6 t) (iblk m c 7 t) (iblk m c 8 t) _ x _ _ ?_ ?_ (rfl)
    · (show _ + 1 * _ = _; rw [one_mul]; first | rfl | exact Nat.zero_add _)
    · (show _ + 1 * _ = _; rw [one_mul]; first | rfl | exact Nat.zero_add _)
  · refine piece0 (iblk m c 0 t) (iblk m c 1 t) (iblk m c 2 t) (iblk m c 3 t) (iblk m c 4 t) (iblk m c 5 t) (iblk m c 6 t) (iblk m c 7 t) (iblk m c 8 t) _ x _ _ ?_ ?_ (rfl)
    · (show _ + 1 * _ = _; rw [one_mul]; first | rfl | exact Nat.zero_add _)
    · (show _ + 1 * _ = _; rw [one_mul]; first | rfl | exact Nat.zero_add _)

/-- The first point starts from zero. -/
theorem start (c : Dev nD) (t : Fin cfg0.N) (h : t.val % 8 = 0) (j : S4224x1024.Idx) :
    outsAt0 m c t.val t.isLt j = (0 : EReal) + tileAt (iblk m c 0 t) (iblk m c 1 t) (iblk m c 2 t) (iblk m c 3 t) (iblk m c 4 t) (iblk m c 5 t) (iblk m c 6 t) (iblk m c 7 t) (iblk m c 8 t) (j 0) (j 1) := by
  rw [outsAt0_A m c t h]
  frame_open
  simp (disch := decide) only [↓ View.readCov_skip, ↓ View.readCov_cons_toLoadRect, ↓ View.readCov_fill]
  frame_out
  rw [split8]
  refine View.canon_append_of_piecesOf (Val := Elt Ideal) (e := .f32) (s := S4224x1024) (fun j => (0 : EReal) + tileAt (iblk m c 0 t) (iblk m c 1 t) (iblk m c 2 t) (iblk m c 3 t) (iblk m c 4 t) (iblk m c 5 t) (iblk m c 6 t) (iblk m c 7 t) (iblk m c 8 t) (j 0) (j 1)) _ _
    ?_ j (View.cover_of_tiledBy _ ![128, 1024] (by sl_kernel_rfl) j)
  refine (show _ ∧ _ ∧ _ ∧ _ ∧ _ ∧ _ ∧ _ ∧ True from ⟨fun x => ?_, fun x => ?_, fun x => ?_, fun x => ?_, fun x => ?_, fun x => ?_, fun x => ?_, trivial⟩)
  · refine piece6 (iblk m c 0 t) (iblk m c 1 t) (iblk m c 2 t) (iblk m c 3 t) (iblk m c 4 t) (iblk m c 5 t) (iblk m c 6 t) (iblk m c 7 t) (iblk m c 8 t) _ x _ _ ?_ ?_ (zero_at _)
    · (show _ + 1 * _ = _; rw [one_mul]; first | rfl | exact Nat.zero_add _)
    · (show _ + 1 * _ = _; rw [one_mul]; first | rfl | exact Nat.zero_add _)
  · refine piece5 (iblk m c 0 t) (iblk m c 1 t) (iblk m c 2 t) (iblk m c 3 t) (iblk m c 4 t) (iblk m c 5 t) (iblk m c 6 t) (iblk m c 7 t) (iblk m c 8 t) _ x _ _ ?_ ?_ (zero_at _)
    · (show _ + 1 * _ = _; rw [one_mul]; first | rfl | exact Nat.zero_add _)
    · (show _ + 1 * _ = _; rw [one_mul]; first | rfl | exact Nat.zero_add _)
  · refine piece4 (iblk m c 0 t) (iblk m c 1 t) (iblk m c 2 t) (iblk m c 3 t) (iblk m c 4 t) (iblk m c 5 t) (iblk m c 6 t) (iblk m c 7 t) (iblk m c 8 t) _ x _ _ ?_ ?_ (zero_at _)
    · (show _ + 1 * _ = _; rw [one_mul]; first | rfl | exact Nat.zero_add _)
    · (show _ + 1 * _ = _; rw [one_mul]; first | rfl | exact Nat.zero_add _)
  · refine piece3 (iblk m c 0 t) (iblk m c 1 t) (iblk m c 2 t) (iblk m c 3 t) (iblk m c 4 t) (iblk m c 5 t) (iblk m c 6 t) (iblk m c 7 t) (iblk m c 8 t) _ x _ _ ?_ ?_ (zero_at _)
    · (show _ + 1 * _ = _; rw [one_mul]; first | rfl | exact Nat.zero_add _)
    · (show _ + 1 * _ = _; rw [one_mul]; first | rfl | exact Nat.zero_add _)
  · refine piece2 (iblk m c 0 t) (iblk m c 1 t) (iblk m c 2 t) (iblk m c 3 t) (iblk m c 4 t) (iblk m c 5 t) (iblk m c 6 t) (iblk m c 7 t) (iblk m c 8 t) _ x _ _ ?_ ?_ (zero_at _)
    · (show _ + 1 * _ = _; rw [one_mul]; first | rfl | exact Nat.zero_add _)
    · (show _ + 1 * _ = _; rw [one_mul]; first | rfl | exact Nat.zero_add _)
  · refine piece1 (iblk m c 0 t) (iblk m c 1 t) (iblk m c 2 t) (iblk m c 3 t) (iblk m c 4 t) (iblk m c 5 t) (iblk m c 6 t) (iblk m c 7 t) (iblk m c 8 t) _ x _ _ ?_ ?_ (zero_at _)
    · (show _ + 1 * _ = _; rw [one_mul]; first | rfl | exact Nat.zero_add _)
    · (show _ + 1 * _ = _; rw [one_mul]; first | rfl | exact Nat.zero_add _)
  · refine piece0 (iblk m c 0 t) (iblk m c 1 t) (iblk m c 2 t) (iblk m c 3 t) (iblk m c 4 t) (iblk m c 5 t) (iblk m c 6 t) (iblk m c 7 t) (iblk m c 8 t) _ x _ _ ?_ ?_ (zero_at _)
    · (show _ + 1 * _ = _; rw [one_mul]; first | rfl | exact Nat.zero_add _)
    · (show _ + 1 * _ = _; rw [one_mul]; first | rfl | exact Nat.zero_add _)

/-- The result array after the grid: the reference's weight gradient. -/
theorem final (c : Dev nD) : (dats m 0 c).arrAt 9 (cfgs 0).N
    = Cert.Reference2Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_after_last 9 t0_7 (by decide +kernel) _ fun j => ?_
  blk_simp
  rw [after0_9, Pipeline.eq_sum_fin_of_reset_step_apply_last (fun n h => (outsAt0 m c n h)) 8 (fun _ => 0)
      (fun t j => tileAt (iblk m c 0 t) (iblk m c 1 t) (iblk m c 2 t) (iblk m c 3 t) (iblk m c 4 t) (iblk m c 5 t) (iblk m c 6 t) (iblk m c 7 t) (iblk m c 8 t) (j 0) (j 1))
    (fun t h j => start m c t h j)
    (fun t h j => step m c t h j)
    (le_of_eq N_0) t0_7 rfl j, zero_add]
  obtain ⟨a, d, rfl⟩ : ∃ (a : Fin 4224) (d : Fin 1024), j = ix2 a d := ⟨j 0, j 1, eq_ix2 j⟩
  rw [reference_at]
  unfold tileAt
  refine Fin.sum_mul_add_congr fun s k hl => ?_
  have e0 : ∀ b : Fin 1536, iblk m c 0 s (ix2 k b) = m ((c : Thread nD τ).loc main_arg0) (ix2 ⟨s.val * 512 + k.val, hl⟩ b) := fun b => by
    blk_point [iblk, V, idx_val s]
  have e1 : ∀ b : Fin 512, iblk m c 1 s (ix2 k b) = m ((c : Thread nD τ).loc main_arg1) (ix2 ⟨s.val * 512 + k.val, hl⟩ b) := fun b => by
    blk_point [iblk, V, idx_val s]
  have e2 : ∀ b : Fin 512, iblk m c 2 s (ix2 k b) = m ((c : Thread nD τ).loc main_arg2) (ix2 ⟨s.val * 512 + k.val, hl⟩ b) := fun b => by
    blk_point [iblk, V, idx_val s]
  have e3 : ∀ b : Fin 512, iblk m c 3 s (ix2 k b) = m ((c : Thread nD τ).loc main_arg3) (ix2 ⟨s.val * 512 + k.val, hl⟩ b) := fun b => by
    blk_point [iblk, V, idx_val s]
  have e4 : ∀ b : Fin 512, iblk m c 4 s (ix2 k b) = m ((c : Thread nD τ).loc main_arg4) (ix2 ⟨s.val * 512 + k.val, hl⟩ b) := fun b => by
    blk_point [iblk, V, idx_val s]
  have e5 : ∀ b : Fin 512, iblk m c 5 s (ix2 k b) = m ((c : Thread nD τ).loc main_arg5) (ix2 ⟨s.val * 512 + k.val, hl⟩ b) := fun b => by
    blk_point [iblk, V, idx_val s]
  have e6 : ∀ b : Fin 128, iblk m c 6 s (ix2 k b) = m ((c : Thread nD τ).loc main_arg6) (ix2 ⟨s.val * 512 + k.val, hl⟩ b) := fun b => by
    blk_point [iblk, V, idx_val s]
  have e7 : ∀ b : Fin 1024, iblk m c 7 s (ix2 k b) = m ((c : Thread nD τ).loc main_arg7) (ix2 ⟨s.val * 512 + k.val, hl⟩ b) := fun b => by
    blk_point [iblk, V, idx_val s]
  have e8 : ∀ b : Fin 1024, iblk m c 8 s (ix2 0 b) = m ((c : Thread nD τ).loc main_arg8) (ix2 0 b) := fun b => by
    blk_point [iblk, V, idx_val s]
  simp only [e0, e1, e2, e3, e4, e5, e6, e7, e8]
  rfl

end Cert.DwValue

end
-- ==== Proof.OutPure.lean ====
/- The output projection with the loss and its gradient, read at an index: the scalar formulas both programs come down to. -/
module

public import proofs.«01_k».proof.Proof.Gen.Reference3Ideal.Read
public import proofs.«01_k».proof.Proof.Gen.Kernel3Ideal.Skeleton
public import Idealize.ShloMosaic.Lib.Pointwise

@[expose] public section

set_option maxRecDepth 16384

noncomputable section

open Idealize.ShloMosaic Idealize.ShloMosaic.TcCoe Idealize.SL.Sem
open scoped BigOperators

namespace Cert.OutValue

/-- One entry of the error: the residual stream plus the projected row, less the target. -/
def errAt (x : EReal) (m w : Fin 1024 → EReal) (t : EReal) : EReal := x + (∑ a : Fin 1024, m a * w a) - t

/-- The gate's value at an entry. -/
def siluAt (g : EReal) : EReal := g * Ideal.div (Ideal.ofBits .f32 0x3F800000#32) (Ideal.ofBits .f32 0x3F800000#32 + Ideal.exp (-g))

theorem half_at : Ideal.ofBits .f32 0x3F000000#32 = ((1 / 2 : ℝ) : EReal) := by
  simp [Ideal.ofBits, Ideal.ieee, -EReal.coe_mul]; norm_num
theorem two_at : Ideal.ofBits .f32 0x40000000#32 = ((2 : ℝ) : EReal) := by
  simp [Ideal.ofBits, Ideal.ieee, -EReal.coe_mul]; norm_num
theorem kilo_at : Ideal.ofBits .f32 0x44800000#32 = ((1024 : ℝ) : EReal) := by
  simp [Ideal.ofBits, Ideal.ieee, -EReal.coe_mul]; norm_num
theorem milli_at : Ideal.ofBits .f32 0x3A800000#32 = ((1 / 1024 : ℝ) : EReal) := by
  simp [Ideal.ofBits, Ideal.ieee, -EReal.coe_mul]; norm_num

/-- Half the mean's share, times twice the error, is the error over the row's length. -/
theorem scale_at (e : EReal) : Ideal.div (Ideal.ofBits .f32 0x3F000000#32) (Ideal.ofBits .f32 0x44800000#32) * (Ideal.ofBits .f32 0x40000000#32 * e)
    = e * Ideal.ofBits .f32 0x3A800000#32 := by
  rw [half_at, two_at, kilo_at, milli_at, Ideal.div_coe (by norm_num), ← mul_assoc, ← EReal.coe_mul, ← EReal.coe_mul, mul_comm]
  norm_num

/-- A half moves into a sum. -/
theorem half_sum {n : ℕ} (f : Fin n → EReal) :
    Ideal.ofBits .f32 0x3F000000#32 * ∑ k : Fin n, f k = ∑ k : Fin n, Ideal.ofBits .f32 0x3F000000#32 * f k := by
  rw [half_at]
  induction n with
  | zero => simp
  | succ n ih =>
    rw [Fin.sum_univ_succ, Fin.sum_univ_succ, EReal.left_distrib_of_nonneg_of_ne_top (by exact_mod_cast (by norm_num : (0 : ℝ) ≤ 1 / 2)) (EReal.coe_ne_top _), ih]

/-- One token's share of the loss. -/
def rowLoss (e : Fin 1024 → EReal) : EReal :=
  Ideal.ofBits .f32 0x3F000000#32 * Ideal.div (∑ d : Fin 1024, e d * e d) (Ideal.ofBits .f32 0x44800000#32)

section Reference
open Cert.Reference3Ideal Cert.Reference3Ideal.Read

theorem ref_err (x : FVec Ideal S4096x1024 .f32) (mx : FVec Ideal S4096x1024 .bf16) (w : FVec Ideal S1024x1024 .bf16)
    (t : FVec Ideal S4096x1024 .f32) (k : Fin 4096) (d : Fin 1024) :
    val_main_v4 (F := Ideal) x mx w t (ix2 k d) = errAt (x (ix2 k d)) (fun a => mx (ix2 k a)) (fun a => w (ix2 a d)) (t (ix2 k d)) := by
  unfold errAt
  pointwise [val_main_v4, val_main_v3, val_main_v2, val_main_v1, val_main_v0]

theorem ref_dy (x : FVec Ideal S4096x1024 .f32) (mx : FVec Ideal S4096x1024 .bf16) (w : FVec Ideal S1024x1024 .bf16)
    (t : FVec Ideal S4096x1024 .f32) (k : Fin 4096) (d : Fin 1024) :
    val_main_v18 (F := Ideal) x mx w t (ix2 k d) = errAt (x (ix2 k d)) (fun a => mx (ix2 k a)) (fun a => w (ix2 a d)) (t (ix2 k d)) * Ideal.ofBits .f32 0x3A800000#32 := by
  pointwise [val_main_v18, val_main_v17, val_main_v16, val_main_v15, val_main_v14, val_main_v13, val_main_v7, val_main_v6, val_main_cst,
    val_main_cst_4, val_main_cst_5, val_main_cst_6, ref_err]
  exact scale_at _

theorem ref_loss (x : FVec Ideal S4096x1024 .f32) (mx : FVec Ideal S4096x1024 .bf16) (w : FVec Ideal S1024x1024 .bf16)
    (t : FVec Ideal S4096x1024 .f32) (k : Fin 8) (d : Fin 128) :
    val_main_v27 (F := Ideal) x mx w t (ix2 k d)
      = ∑ n : Fin 4096, rowLoss (fun d => errAt (x (ix2 n d)) (fun a => mx (ix2 n a)) (fun a => w (ix2 a d)) (t (ix2 n d))) := by
  pointwise [val_main_v27, val_main_v12, val_main_v11, val_main_v10, val_main_v9, val_main_v8, val_main_v5, val_main_cst_0,
    val_main_cst_1, val_main_cst_2, val_main_cst_3, ref_err]
  exact half_sum _

theorem ref_dw (x : FVec Ideal S4096x1024 .f32) (mx : FVec Ideal S4096x1024 .bf16) (w : FVec Ideal S1024x1024 .bf16)
    (t : FVec Ideal S4096x1024 .f32) (a d : Fin 1024) :
    val_main_v20 (F := Ideal) x mx w t (ix2 a d) = ∑ k : Fin 4096, val_main_v18 (F := Ideal) x mx w t (ix2 k d) * mx (ix2 k a) := by
  pointwise [val_main_v20, val_main_v19, val_main_v0]

theorem ref_doatt (x : FVec Ideal S4096x1024 .f32) (mx : FVec Ideal S4096x1024 .bf16) (w : FVec Ideal S1024x1024 .bf16)
    (t : FVec Ideal S4096x1024 .f32) (p : FVec Ideal S4096x4224 .f32) (k : Fin 4096) (d : Fin 512) :
    val_main_v28 (F := Ideal) x mx w t p (ix2 k d) = (∑ b : Fin 1024, val_main_v18 (F := Ideal) x mx w t (ix2 k b) * w (ix2 ⟨512 + d.val, by omega⟩ b))
      * siluAt (p (ix2 k ⟨3584 + d.val, by omega⟩)) := by
  unfold siluAt
  pointwise [val_main_v28, val_main_v26, val_main_v25, val_main_v21, val_main_v1, val_main_v23, val_main_v22, val_main_call0_v5, val_main_call0_v4, val_main_call0_cst_0,
    val_main_call0_v3, val_main_call0_v2, val_main_call0_cst, val_main_call0_v1, val_main_call0_v0]
end Reference

section Kernel
open Cert.Kernel3Ideal Cert.Kernel3Ideal.Gen

theorem pay6_at (x : FVec Ideal S512x1024 .f32) (mx : FVec Ideal S512x1024 .bf16) (w : FVec Ideal S1024x1024 .bf16)
    (t : FVec Ideal S512x1024 .f32) (k : Fin 512) (d : Fin 1024) :
    k0_pay6 (F := Ideal) x mx w t (ix2 k d) = errAt (x (ix2 k d)) (fun a => mx (ix2 k a)) (fun a => w (ix2 a d)) (t (ix2 k d)) := by
  unfold errAt
  pointwise [k0_pay6]

theorem pay7_at (x : FVec Ideal S512x1024 .f32) (mx : FVec Ideal S512x1024 .bf16) (w : FVec Ideal S1024x1024 .bf16)
    (t : FVec Ideal S512x1024 .f32) (k : Fin 512) (d : Fin 1024) :
    k0_pay7 (F := Ideal) x mx w t (ix2 k d)
      = errAt (x (ix2 k d)) (fun a => mx (ix2 k a)) (fun a => w (ix2 a d)) (t (ix2 k d)) * Ideal.ofBits .f32 0x3A800000#32 := by
  pointwise [k0_pay7, pay6_at]

theorem pay9_at (x : FVec Ideal S512x1024 .f32) (mx : FVec Ideal S512x1024 .bf16) (w : FVec Ideal S1024x1024 .bf16)
    (t : FVec Ideal S512x1024 .f32) (k : Fin 512) (d : Fin 1024) :
    k0_pay9 (F := Ideal) x mx w t (ix2 k d)
      = errAt (x (ix2 k d)) (fun a => mx (ix2 k a)) (fun a => w (ix2 a d)) (t (ix2 k d)) * Ideal.ofBits .f32 0x3A800000#32 := by
  pointwise [k0_pay9, pay7_at]

theorem pay8_at (x : FVec Ideal S512x1024 .f32) (mx : FVec Ideal S512x1024 .bf16) (w : FVec Ideal S1024x1024 .bf16)
    (t : FVec Ideal S512x1024 .f32) (acc : FVec Ideal S8x128 .f32) (a : Fin 8) (b : Fin 128) :
    k0_pay8 (F := Ideal) x mx w t acc (ix2 a b) = acc (ix2 a b) + ∑ k : Fin 512,
      rowLoss (fun d => errAt (x (ix2 k d)) (fun a => mx (ix2 k a)) (fun a => w (ix2 a d)) (t (ix2 k d))) := by
  pointwise [k0_pay8, pay6_at]
  exact congrArg (acc (ix2 a b) + ·) (half_sum _)

theorem pay11_at (dy : FVec Ideal S512x1024 .bf16) (acc : FVec Ideal S1024x1024 .f32) (mx : FVec Ideal S512x1024 .bf16) (a d : Fin 1024) :
    k0_pay11 (F := Ideal) dy (k0_pay10 (F := Ideal) acc) mx (ix2 a d) = acc (ix2 a d) + ∑ k : Fin 512, mx (ix2 k a) * dy (ix2 k d) := by
  pointwise [k0_pay11, k0_pay10]

theorem pay27_at (dy : FVec Ideal S512x1024 .bf16) (w : FVec Ideal S1024x1024 .bf16) (g : FVec Ideal S512x512 .f32) (k d : Fin 512) :
    k0_pay27 (F := Ideal) (k0_pay12 (F := Ideal) dy w) g (ix2 k d)
      = (∑ b : Fin 1024, dy (ix2 k b) * w (ix2 ⟨512 + d.val, by omega⟩ b)) * siluAt (g (ix2 k d)) := by
  unfold siluAt
  pointwise [k0_pay27, k0_pay26, k0_pay24, k0_pay23, k0_pay12]
  rw [zero_sub, mul_assoc]

theorem zero3_at (j : S8x128.Idx) : k0_pay3 (F := Ideal) j = 0 := by
  pointwise [k0_pay3]
theorem zero4_at (j : S1024x1024.Idx) : k0_pay4 (F := Ideal) j = 0 := by
  pointwise [k0_pay4]
end Kernel

end Cert.OutValue

end
-- ==== Proof.OutValue.lean ====
/- The output projection with the loss and its gradient: what the kernel's grid leaves in the four arrays the claim names. -/
module

public import proofs.«01_k».proof.Proof.Gen.Kernel3Ideal.Value
public import proofs.«01_k».proof.Proof.OutPure
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.OutValue

open Cert.Kernel3Ideal Cert.Kernel3Ideal.Gen

variable (m : (ℓ : Loc nD τ sig) → Buf (Elt Ideal) ℓ)

/-- Every window's block index at every grid point, for the windows the claim reads. -/
theorem idx_val : ∀ t : Fin cfg0.N, win0_0.index t = ![t.val, 0]
    ∧ win0_1.index t = ![t.val, 0]
    ∧ win0_2.index t = ![0, 0]
    ∧ win0_3.index t = ![t.val, 0]
    ∧ win0_6.index t = ![t.val, 7]
    ∧ win0_11.index t = ![t.val, 0]
    ∧ win0_12.index t = ![0, 0]
    ∧ win0_13.index t = ![0, 0]
    ∧ win0_17.index t = ![t.val, 0] :=
  (by decide +kernel : ∀ t : Fin grid0.N, _)

abbrev A0 (c : Dev nD) : FVec Ideal S4096x1024 .f32 := m ((c : Thread nD τ).loc main_arg0)
abbrev A1 (c : Dev nD) : FVec Ideal S4096x1024 .bf16 := m ((c : Thread nD τ).loc main_arg1)
abbrev A2 (c : Dev nD) : FVec Ideal S1024x1024 .bf16 := m ((c : Thread nD τ).loc main_arg2)
abbrev A3 (c : Dev nD) : FVec Ideal S4096x1024 .f32 := m ((c : Thread nD τ).loc main_arg3)
abbrev A5 (c : Dev nD) : FVec Ideal S4096x4224 .f32 := m ((c : Thread nD τ).loc main_arg5)

/-- The error entries of one tile. -/
abbrev tileErr (x : FVec Ideal S512x1024 .f32) (mx : FVec Ideal S512x1024 .bf16) (w : FVec Ideal S1024x1024 .bf16) (t : FVec Ideal S512x1024 .f32)
    (k : Fin 512) (d : Fin 1024) : EReal := errAt (x (ix2 k d)) (fun a => mx (ix2 k a)) (fun a => w (ix2 a d)) (t (ix2 k d))

/-- The error entries over all tokens. -/
abbrev fullErr (c : Dev nD) (k : Fin 4096) (d : Fin 1024) : EReal :=
  errAt (A0 m c (ix2 k d)) (fun a => A1 m c (ix2 k a)) (fun a => A2 m c (ix2 a d)) (A3 m c (ix2 k d))

theorem dy_out (c : Dev nD) (t : Fin cfg0.N) :
    (outsAt0 m c t.val t.isLt).1 = k0_pay7 (F := Ideal) (iblk m c 0 t) (iblk m c 1 t) (iblk m c 2 t) (iblk m c 3 t) := by
  by_cases h : t.val % 8 = 0
  · rw [outsAt0_A m c t h]; frame_out
  · rw [outsAt0_B m c t h]; frame_out

theorem doatt_out (c : Dev nD) (t : Fin cfg0.N) :
    (outsAt0 m c t.val t.isLt).2.2.2.2.2.2.1 = k0_pay27 (F := Ideal) (k0_pay12 (F := Ideal) (k0_pay9 (F := Ideal) (iblk m c 0 t) (iblk m c 1 t) (iblk m c 2 t) (iblk m c 3 t)) (iblk m c 2 t)) (X0_6 m c t) := by
  by_cases h : t.val % 8 = 0
  · rw [outsAt0_A m c t h]; frame_out
  · rw [outsAt0_B m c t h]; frame_out

theorem loss_start (c : Dev nD) (t : Fin cfg0.N) (h : t.val % 8 = 0) :
    (outsAt0 m c t.val t.isLt).2.1 = k0_pay8 (F := Ideal) (iblk m c 0 t) (iblk m c 1 t) (iblk m c 2 t) (iblk m c 3 t) (k0_pay3 (F := Ideal)) := by
  rw [outsAt0_A m c t h]; frame_out

theorem loss_step (c : Dev nD) (t : Fin cfg0.N) (h : ¬t.val % 8 = 0) :
    (outsAt0 m c t.val t.isLt).2.1 = k0_pay8 (F := Ideal) (iblk m c 0 t) (iblk m c 1 t) (iblk m c 2 t) (iblk m c 3 t)
      (outsAt0 m c (t.val - 1) (Nat.lt_of_le_of_lt (Nat.sub_le _ _) t.isLt)).2.1 := by
  rw [outsAt0_B m c t h]; frame_out

theorem dw_start (c : Dev nD) (t : Fin cfg0.N) (h : t.val % 8 = 0) :
    (outsAt0 m c t.val t.isLt).2.2.1 = k0_pay11 (F := Ideal) (k0_pay9 (F := Ideal) (iblk m c 0 t) (iblk m c 1 t) (iblk m c 2 t) (iblk m c 3 t))
      (k0_pay10 (F := Ideal) (k0_pay4 (F := Ideal))) (iblk m c 1 t) := by
  rw [outsAt0_A m c t h]; frame_out

theorem dw_step (c : Dev nD) (t : Fin cfg0.N) (h : ¬t.val % 8 = 0) :
    (outsAt0 m c t.val t.isLt).2.2.1 = k0_pay11 (F := Ideal) (k0_pay9 (F := Ideal) (iblk m c 0 t) (iblk m c 1 t) (iblk m c 2 t) (iblk m c 3 t))
      (k0_pay10 (F := Ideal) (outsAt0 m c (t.val - 1) (Nat.lt_of_le_of_lt (Nat.sub_le _ _) t.isLt)).2.2.1) (iblk m c 1 t) := by
  rw [outsAt0_B m c t h]; frame_out

theorem r0 (c : Dev nD) (t : Fin cfg0.N) (k : Fin 512) (hl : t.val * 512 + k.val < 4096) (d : Fin 1024) :
    (iblk m c 0 t : FVec Ideal S512x1024 .f32) (ix2 k d) = A0 m c (ix2 ⟨t.val * 512 + k.val, hl⟩ d) := by
  unfold A0
  blk_point [iblk, V, idx_val t]
theorem r1 (c : Dev nD) (t : Fin cfg0.N) (k : Fin 512) (hl : t.val * 512 + k.val < 4096) (d : Fin 1024) :
    (iblk m c 1 t : FVec Ideal S512x1024 .bf16) (ix2 k d) = A1 m c (ix2 ⟨t.val * 512 + k.val, hl⟩ d) := by
  unfold A1
  blk_point [iblk, V, idx_val t]
theorem r2 (c : Dev nD) (t : Fin cfg0.N) (k : Fin 1024) (d : Fin 1024) :
    (iblk m c 2 t : FVec Ideal S1024x1024 .bf16) (ix2 k d) = A2 m c (ix2 k d) := by
  unfold A2
  blk_point [iblk, V, idx_val t]
theorem r3 (c : Dev nD) (t : Fin cfg0.N) (k : Fin 512) (hl : t.val * 512 + k.val < 4096) (d : Fin 1024) :
    (iblk m c 3 t : FVec Ideal S512x1024 .f32) (ix2 k d) = A3 m c (ix2 ⟨t.val * 512 + k.val, hl⟩ d) := by
  unfold A3
  blk_point [iblk, V, idx_val t]
theorem r6 (c : Dev nD) (t : Fin cfg0.N) (k : Fin 512) (hl : t.val * 512 + k.val < 4096) (d : Fin 512) :
    (X0_6 m c t : FVec Ideal S512x512 .f32) (ix2 k d) = A5 m c (ix2 ⟨t.val * 512 + k.val, hl⟩ ⟨3584 + d.val, by omega⟩) := by
  unfold X0_6 Pipeline.Window.fill
  rw [dif_pos (moved0_6 t (ix2 k d))]
  show m ((c : Thread nD τ).loc main_arg5) _ = m ((c : Thread nD τ).loc main_arg5) _
  refine congrArg _ ?_
  blk_ext [idx_val t]

/-- The tile's error is the array's, at the tile's rows. -/
theorem err_tile (c : Dev nD) (t : Fin cfg0.N) (k : Fin 512) (hl : t.val * 512 + k.val < 4096) (d : Fin 1024) :
    tileErr (iblk m c 0 t) (iblk m c 1 t) (iblk m c 2 t) (iblk m c 3 t) k d = fullErr m c ⟨t.val * 512 + k.val, hl⟩ d := by
  have e1 : (fun a => (iblk m c 1 t : FVec Ideal S512x1024 .bf16) (ix2 k a)) = fun a => A1 m c (ix2 ⟨t.val * 512 + k.val, hl⟩ a) := funext fun a => r1 m c t k hl a
  have e2 : (fun a => (iblk m c 2 t : FVec Ideal S1024x1024 .bf16) (ix2 a d)) = fun a => A2 m c (ix2 a d) := funext fun a => r2 m c t a d
  show errAt _ _ _ _ = errAt _ _ _ _
  rw [r0 m c t k hl d, e1, e2, r3 m c t k hl d]

/-- The tile's gradient of the residual stream is the reference's, at the tile's rows. -/
theorem dy_tile (c : Dev nD) (t : Fin cfg0.N) (k : Fin 512) (hl : t.val * 512 + k.val < 4096) (d : Fin 1024) :
    k0_pay9 (F := Ideal) (iblk m c 0 t) (iblk m c 1 t) (iblk m c 2 t) (iblk m c 3 t) (ix2 k d)
      = Cert.Reference3Ideal.Read.val_main_v18 (F := Ideal) (A0 m c) (A1 m c) (A2 m c) (A3 m c) (ix2 ⟨t.val * 512 + k.val, hl⟩ d) :=
  (pay9_at _ _ _ _ k d).trans ((congrArg (· * Ideal.ofBits .f32 0x3A800000#32) (err_tile m c t k hl d)).trans (ref_dy _ _ _ _ _ d).symm)

/-- The gradient of the residual stream: every token's error over the row's length. -/
theorem final_dy (c : Dev nD) : (dats m 0 c).arrAt 11 (cfgs 0).N
    = Cert.Reference3Ideal.Read.val_main_v18 (F := Ideal) (A0 m c) (A1 m c) (A2 m c) (A3 m c) := by
  refine (dats m 0 c).arrAt_eq_of_covers 11 _ (by decide +kernel) fun t _ y => ?_
  blk_simp
  rw [after0_11, dy_out]
  obtain ⟨k, d, rfl⟩ : ∃ (k : Fin 512) (d : Fin 1024), y = ix2 k d := ⟨y 0, y 1, eq_ix2 y⟩
  have ht : t.val < 8 := lt_of_lt_of_eq t.isLt N_0
  have hj : ((cfg0.win 11).blk t).view.emb (ix2 k d) = ix2 (⟨t.val * 512 + k.val, by omega⟩ : Fin 4096) d := by
    blk_ext [idx_val t]
  rw [hj]
  exact (pay7_at _ _ _ _ k d).trans ((congrArg (· * Ideal.ofBits .f32 0x3A800000#32) (err_tile m c t k _ d)).trans (ref_dy _ _ _ _ _ d).symm)

/-- The loss, in every cell of its block. -/
theorem final_loss (c : Dev nD) : (dats m 0 c).arrAt 12 (cfgs 0).N
    = Cert.Reference3Ideal.Read.val_main_v27 (F := Ideal) (A0 m c) (A1 m c) (A2 m c) (A3 m c) := by
  refine (dats m 0 c).arrAt_eq_of_after_last 12 t0_7 (by decide +kernel) _ fun j => ?_
  blk_simp
  rw [after0_12, Pipeline.eq_sum_fin_of_reset_step_apply_last (fun n h => (outsAt0 m c n h).2.1) 8 (fun _ => 0)
      (fun t j => ∑ k : Fin 512, rowLoss (fun d => tileErr (iblk m c 0 t) (iblk m c 1 t) (iblk m c 2 t) (iblk m c 3 t) k d))
    (fun t h j => by
      obtain ⟨a, b, rfl⟩ : ∃ (a : Fin 8) (b : Fin 128), j = ix2 a b := ⟨j 0, j 1, eq_ix2 j⟩
      show (outsAt0 m c t.val t.isLt).2.1 _ = _
      rw [loss_start m c t h, pay8_at, zero3_at])
    (fun t h j => by
      obtain ⟨a, b, rfl⟩ : ∃ (a : Fin 8) (b : Fin 128), j = ix2 a b := ⟨j 0, j 1, eq_ix2 j⟩
      show (outsAt0 m c t.val t.isLt).2.1 _ = _
      rw [loss_step m c t h, pay8_at])
    (le_of_eq N_0) t0_7 rfl j, zero_add]
  obtain ⟨a, b, rfl⟩ : ∃ (a : Fin 8) (b : Fin 128), j = ix2 a b := ⟨j 0, j 1, eq_ix2 j⟩
  rw [ref_loss]
  refine Fin.sum_mul_add_congr fun s k hl => ?_
  exact congrArg rowLoss (funext fun d => err_tile m c s k hl d)

/-- One token's share of the weight gradient. -/
def dwTerm (mx dy : FVec Ideal S512x1024 .bf16) (k : Fin 512) (a d : Fin 1024) : EReal := mx (ix2 k a) * dy (ix2 k d)

/-- The gradient of the output projection's weights. -/
theorem final_dw (c : Dev nD) : (dats m 0 c).arrAt 13 (cfgs 0).N
    = Cert.Reference3Ideal.Read.val_main_v20 (F := Ideal) (A0 m c) (A1 m c) (A2 m c) (A3 m c) := by
  refine (dats m 0 c).arrAt_eq_of_after_last 13 t0_7 (by decide +kernel) _ fun j => ?_
  blk_simp
  rw [after0_13, Pipeline.eq_sum_fin_of_reset_step_apply_last (fun n h => (outsAt0 m c n h).2.2.1) 8 (fun _ => 0)
      (fun t j => ∑ k : Fin 512, dwTerm (iblk m c 1 t) (k0_pay9 (F := Ideal) (iblk m c 0 t) (iblk m c 1 t) (iblk m c 2 t) (iblk m c 3 t)) k (j 0) (j 1))
    (fun t h j => by
      obtain ⟨a, b, rfl⟩ : ∃ (a : Fin 1024) (b : Fin 1024), j = ix2 a b := ⟨j 0, j 1, eq_ix2 j⟩
      show (outsAt0 m c t.val t.isLt).2.2.1 _ = _
      rw [dw_start m c t h, pay11_at, zero4_at]; rfl)
    (fun t h j => by
      obtain ⟨a, b, rfl⟩ : ∃ (a : Fin 1024) (b : Fin 1024), j = ix2 a b := ⟨j 0, j 1, eq_ix2 j⟩
      show (outsAt0 m c t.val t.isLt).2.2.1 _ = _
      rw [dw_step m c t h, pay11_at]; rfl)
    (le_of_eq N_0) t0_7 rfl j, zero_add]
  obtain ⟨a, b, rfl⟩ : ∃ (a : Fin 1024) (b : Fin 1024), j = ix2 a b := ⟨j 0, j 1, eq_ix2 j⟩
  rw [ref_dw]
  refine Fin.sum_mul_add_congr fun s k hl => ?_
  exact (mul_comm _ _).trans (congr (congrArg HMul.hMul (dy_tile m c s k hl b)) (r1 m c s k hl a))

/-- The gradient of the attention branch's output. -/
theorem final_doatt (c : Dev nD) : (dats m 0 c).arrAt 17 (cfgs 0).N
    = Cert.Reference3Ideal.Read.val_main_v28 (F := Ideal) (A0 m c) (A1 m c) (A2 m c) (A3 m c) (A5 m c) := by
  refine (dats m 0 c).arrAt_eq_of_covers 17 _ (by decide +kernel) fun t _ y => ?_
  blk_simp
  rw [after0_17, doatt_out]
  obtain ⟨k, d, rfl⟩ : ∃ (k : Fin 512) (d : Fin 512), y = ix2 k d := ⟨y 0, y 1, eq_ix2 y⟩
  have ht : t.val < 8 := lt_of_lt_of_eq t.isLt N_0
  have hj : ((cfg0.win 17).blk t).view.emb (ix2 k d) = ix2 (⟨t.val * 512 + k.val, by omega⟩ : Fin 4096) d := by
    blk_ext [idx_val t]
  rw [hj, ref_doatt, pay27_at]
  refine congr (congrArg HMul.hMul (Finset.sum_congr rfl fun b _ => ?_)) (congrArg siluAt (r6 m c t k _ d))
  exact congr (congrArg HMul.hMul (dy_tile m c t k _ b)) (r2 m c t _ b)

end Cert.OutValue

end
-- ==== Proof.InValue.lean ====
/- The input projection: the normalised rows times the transposed weights, in the kernel's tiles and in the reference. -/
module

public import proofs.«01_k».proof.Proof.Gen.Kernel4Ideal.Value
public import proofs.«01_k».proof.Proof.Gen.Reference4Ideal.Read
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.InValue

/-- One entry of the normalised row `x`: the entry over the row's root mean square, times the entry's weight. -/
def normAt (x w : Fin 1024 → EReal) (d : Fin 1024) : EReal :=
  x d * Ideal.rsqrt (Ideal.div (∑ l : Fin 1024, x l * x l) (Ideal.ofBits .f32 0x44800000#32) + Ideal.ofBits .f32 0x358637BD#32) * w d

section Reference
open Cert.Reference4Ideal Cert.Reference4Ideal.Read

theorem ref_at (x : FVec Ideal S4096x1024 .f32) (w : FVec Ideal S1x1024 .f32) (wt : FVec Ideal S4224x1024 .bf16) (k : Fin 4096) (a : Fin 4224) :
    val_main_v16 (F := Ideal) x w wt (ix2 k a)
      = ∑ b : Fin 1024, normAt (fun l => x (ix2 k l)) (fun l => w (ix2 0 l)) b * wt (ix2 a b) := by
  unfold normAt
  pointwise [val_main_v0, val_main_v1, val_main_cst, val_main_v2, val_main_v3, val_main_cst_0, val_main_v4, val_main_v5, val_main_cst_1, val_main_v6, val_main_v7,
    val_main_v8, val_main_v9, val_main_v10, val_main_v11, val_main_v12, val_main_v13, val_main_v14, val_main_v15, val_main_v16]
end Reference

open Cert.Kernel4Ideal Cert.Kernel4Ideal.Gen

theorem pay3_at (x : FVec Ideal S512x1024 .f32) (w : FVec Ideal S1x1024 .f32) (wt : FVec Ideal S4224x1024 .bf16) (k : Fin 512) (a : Fin 4224) :
    k0_pay3 (F := Ideal) x w wt (ix2 k a)
      = ∑ b : Fin 1024, normAt (fun l => x (ix2 k l)) (fun l => w (ix2 0 l)) b * wt (ix2 a b) := by
  unfold normAt
  pointwise [k0_pay3]

variable (m : (ℓ : Loc nD τ sig) → Buf (Elt Ideal) ℓ)

theorem idx_val : ∀ t : Fin cfg0.N, win0_0.index t = ![t.val, 0]
    ∧ win0_1.index t = ![0, 0]
    ∧ win0_2.index t = ![0, 0]
    ∧ win0_6.index t = ![t.val, 0] :=
  (by decide +kernel : ∀ t : Fin grid0.N, _)

abbrev A0 (c : Dev nD) : FVec Ideal S4096x1024 .f32 := m ((c : Thread nD τ).loc main_arg0)
abbrev A1 (c : Dev nD) : FVec Ideal S1x1024 .f32 := m ((c : Thread nD τ).loc main_arg1)
abbrev A2 (c : Dev nD) : FVec Ideal S4224x1024 .bf16 := m ((c : Thread nD τ).loc main_arg2)

theorem o_out (c : Dev nD) (t : Fin cfg0.N) :
    (outsAt0 m c t.val t.isLt).1 = k0_pay3 (F := Ideal) (iblk m c 0 t) (iblk m c 1 t) (iblk m c 2 t) := by
  by_cases h : t.val % 8 = 0
  · rw [outsAt0_A m c t h]; frame_out
  · rw [outsAt0_B m c t h]; frame_out

theorem r0 (c : Dev nD) (t : Fin cfg0.N) (k : Fin 512) (hl : t.val * 512 + k.val < 4096) (d : Fin 1024) :
    (iblk m c 0 t : FVec Ideal S512x1024 .f32) (ix2 k d) = A0 m c (ix2 ⟨t.val * 512 + k.val, hl⟩ d) := by
  unfold A0
  blk_point [iblk, V, idx_val t]
theorem r1 (c : Dev nD) (t : Fin cfg0.N) (d : Fin 1024) :
    (iblk m c 1 t : FVec Ideal S1x1024 .f32) (ix2 0 d) = A1 m c (ix2 0 d) := by
  unfold A1
  blk_point [iblk, V, idx_val t]
theorem r2 (c : Dev nD) (t : Fin cfg0.N) (k : Fin 4224) (d : Fin 1024) :
    (iblk m c 2 t : FVec Ideal S4224x1024 .bf16) (ix2 k d) = A2 m c (ix2 k d) := by
  unfold A2
  blk_point [iblk, V, idx_val t]

/-- The projection of every token. -/
theorem final_o (c : Dev nD) : (dats m 0 c).arrAt 6 (cfgs 0).N
    = Cert.Reference4Ideal.Read.val_main_v16 (F := Ideal) (A0 m c) (A1 m c) (A2 m c) := by
  refine (dats m 0 c).arrAt_eq_of_covers 6 _ (by decide +kernel) fun t _ y => ?_
  blk_simp
  rw [after0_6, o_out]
  obtain ⟨k, a, rfl⟩ : ∃ (k : Fin 512) (a : Fin 4224), y = ix2 k a := ⟨y 0, y 1, eq_ix2 y⟩
  have ht : t.val < 8 := lt_of_lt_of_eq t.isLt N_0
  have hj : ((cfg0.win 6).blk t).view.emb (ix2 k a) = ix2 (⟨t.val * 512 + k.val, by omega⟩ : Fin 4096) a := by
    blk_ext [idx_val t]
  rw [hj]
  refine (pay3_at _ _ _ k a).trans (Eq.trans ?_ (ref_at _ _ _ _ a).symm)
  have e0 : (fun l => (iblk m c 0 t : FVec Ideal S512x1024 .f32) (ix2 k l)) = fun l => A0 m c (ix2 ⟨t.val * 512 + k.val, by omega⟩ l) := funext fun l => r0 m c t k _ l
  have e1 : (fun l => (iblk m c 1 t : FVec Ideal S1x1024 .f32) (ix2 0 l)) = fun l => A1 m c (ix2 0 l) := funext fun l => r1 m c t l
  rw [e0, e1]
  exact Finset.sum_congr rfl fun b _ => congrArg _ (r2 m c t a b)

end Cert.InValue

end
-- ==== Proof.ScanRefOps.lean ====
/- The gated delta rule's reference as lists of operations: what comes before, between and after its two loops, and what each loop's body does in order. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

@[expose] public section

set_option maxRecDepth 100000

noncomputable section

namespace Cert.ScanRef

open Cert.ReferenceIdeal Cert.ReferenceIdeal.Gen
open Idealize.ShloMosaic Idealize.ShloMosaic.TcCoe Idealize.ShloMosaic.StableHlo
open Idealize.SL Idealize.SL.Sem

variable {F : FTy → Type} [FloatOps F]

/-- The operations before the first loop. -/
def preO : List (HloOp τ sig (Elt F)) :=
  ( StableHlo.unary main_arg2 main_v0 ((extf .f32 · bitsLt_bf16_f32) : (⟨S4096x512, .bf16⟩ : BufTy).Contents (Elt F) → (⟨S4096x512, .f32⟩ : BufTy).Contents (Elt F))
  :: StableHlo.reshape main_v0 main_v1 (rfl : (.f32 : EltTy) = .f32) shapeCasts_S4096x512_S64x64x4x128
  :: StableHlo.unary main_v1 main_v2 ((transpose S64x4x64x128 [0, 2, 1, 3] · transposes_S64x64x4x128_S64x4x64x128_0_2_1_3) : (⟨S64x64x4x128, .f32⟩ : BufTy).Contents (Elt F) → (⟨S64x4x64x128, .f32⟩ : BufTy).Contents (Elt F))
  :: StableHlo.unary main_arg3 main_v3 ((extf .f32 · bitsLt_bf16_f32) : (⟨S4096x512, .bf16⟩ : BufTy).Contents (Elt F) → (⟨S4096x512, .f32⟩ : BufTy).Contents (Elt F))
  :: StableHlo.reshape main_v3 main_v4 (rfl : (.f32 : EltTy) = .f32) shapeCasts_S4096x512_S64x64x4x128
  :: StableHlo.unary main_v4 main_v5 ((transpose S64x4x64x128 [0, 2, 1, 3] · transposes_S64x64x4x128_S64x4x64x128_0_2_1_3) : (⟨S64x64x4x128, .f32⟩ : BufTy).Contents (Elt F) → (⟨S64x4x64x128, .f32⟩ : BufTy).Contents (Elt F))
  :: StableHlo.reshape main_arg0 main_v6 (rfl : (.f32 : EltTy) = .f32) shapeCasts_S4096x512_S64x64x4x128
  :: StableHlo.unary main_v6 main_v7 ((transpose S64x4x64x128 [0, 2, 1, 3] · transposes_S64x64x4x128_S64x4x64x128_0_2_1_3) : (⟨S64x64x4x128, .f32⟩ : BufTy).Contents (Elt F) → (⟨S64x4x64x128, .f32⟩ : BufTy).Contents (Elt F))
  :: StableHlo.unary main_arg1 main_v8 ((extf .f32 · bitsLt_bf16_f32) : (⟨S4096x512, .bf16⟩ : BufTy).Contents (Elt F) → (⟨S4096x512, .f32⟩ : BufTy).Contents (Elt F))
  :: StableHlo.reshape main_v8 main_v9 (rfl : (.f32 : EltTy) = .f32) shapeCasts_S4096x512_S64x64x4x128
  :: StableHlo.unary main_v9 main_v10 ((transpose S64x4x64x128 [0, 2, 1, 3] · transposes_S64x64x4x128_S64x4x64x128_0_2_1_3) : (⟨S64x64x4x128, .f32⟩ : BufTy).Contents (Elt F) → (⟨S64x4x64x128, .f32⟩ : BufTy).Contents (Elt F))
  :: StableHlo.nullary main_cst (constant S_ .f32 0x00000000#32)
  :: StableHlo.unary main_cst main_v11 (broadcastInDim S4x128x128 ![] bcast_S_S4x128x128 : (⟨S_, .f32⟩ : BufTy).Contents (Elt F) → (⟨S4x128x128, .f32⟩ : BufTy).Contents (Elt F))
  :: StableHlo.nullary main_cst_0 (constant S_ .f32 0x00000000#32)
  :: StableHlo.unary main_cst_0 main_v12 (broadcastInDim S64x4x64x128 ![] bcast_S_S64x4x64x128 : (⟨S_, .f32⟩ : BufTy).Contents (Elt F) → (⟨S64x4x64x128, .f32⟩ : BufTy).Contents (Elt F))
  :: StableHlo.nullary main_cst_1 (constant S_ .f32 0x00000000#32)
  :: StableHlo.unary main_cst_1 main_v13 (broadcastInDim S64x4x128x128 ![] bcast_S_S64x4x128x128 : (⟨S_, .f32⟩ : BufTy).Contents (Elt F) → (⟨S64x4x128x128, .f32⟩ : BufTy).Contents (Elt F))
  :: StableHlo.nullary main_cst_2 (constant S_ .f32 0x00000000#32)
  :: StableHlo.unary main_cst_2 main_v14 (broadcastInDim S64x4x64x128 ![] bcast_S_S64x4x64x128 : (⟨S_, .f32⟩ : BufTy).Contents (Elt F) → (⟨S64x4x64x128, .f32⟩ : BufTy).Contents (Elt F))
  :: StableHlo.nullary main_cst_3 (constant S_ .f32 0x00000000#32)
  :: StableHlo.unary main_cst_3 main_v15 (broadcastInDim S64x4x1x1 ![] bcast_S_S64x4x1x1 : (⟨S_, .f32⟩ : BufTy).Contents (Elt F) → (⟨S64x4x1x1, .f32⟩ : BufTy).Contents (Elt F))
  :: StableHlo.nullary main_c (constantI S_ 32 0#32)
  :: StableHlo.unary main_arg4 main_v16_0 id
  :: StableHlo.unary main_v2 main_v16_1 id
  :: StableHlo.unary main_v5 main_v16_2 id
  :: StableHlo.unary main_v7 main_v16_3 id
  :: StableHlo.unary main_v10 main_v16_4 id
  :: StableHlo.unary main_arg5 main_v16_5 id
  :: StableHlo.unary main_c main_v16_6 id
  :: StableHlo.unary main_v11 main_v16_7 id
  :: StableHlo.unary main_v12 main_v16_8 id
  :: StableHlo.unary main_v13 main_v16_9 id
  :: StableHlo.unary main_v14 main_v16_10 id
  :: StableHlo.unary main_v15 main_v16_11 id
  :: [] )
theorem preO_sub : (preO : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.reshape_bufs_sub .., StableHlo.unary_bufs_sub .., StableHlo.reshape_bufs_sub .., StableHlo.unary_bufs_sub .., StableHlo.unary_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem preO_fresh : (preO : List (HloOp τ sig (Elt F))).Forall fun op => op.fresh = ∅ :=
  StableHlo.forall_fresh_of_map rfl
abbrev preO_W : List (Ref sig .tc) := [main_v0, main_v1, main_v2, main_v3, main_v4, main_v5, main_v6, main_v7, main_v8, main_v9, main_v10, main_cst, main_v11, main_cst_0, main_v12, main_cst_1, main_v13, main_cst_2, main_v14, main_cst_3, main_v15, main_c, main_v16_0, main_v16_1, main_v16_2, main_v16_3, main_v16_4, main_v16_5, main_v16_6, main_v16_7, main_v16_8, main_v16_9, main_v16_10, main_v16_11]
theorem preO_writes : (preO : List (HloOp τ sig (Elt F))).Forall fun op => op.writes ⊆ (preO_W.map (Proc.devRef (τ := τ) .tc)).toFinset :=
  StableHlo.forall_writes_sub_of_map rfl
/-- The operations between the loops, first part. -/
def midO : List (HloOp τ sig (Elt F)) :=
  [ StableHlo.reshape main_arg6 main_v17 (rfl : (.f32 : EltTy) = .f32) shapeCasts_S4096x512_S64x64x4x128,
    StableHlo.unary main_v17 main_v18 ((transpose S64x4x64x128 [0, 2, 1, 3] · transposes_S64x64x4x128_S64x4x64x128_0_2_1_3) : (⟨S64x64x4x128, .f32⟩ : BufTy).Contents (Elt F) → (⟨S64x4x64x128, .f32⟩ : BufTy).Contents (Elt F)),
    StableHlo.nullary main_cst_4 (constant S_ .f32 0x00000000#32),
    StableHlo.unary main_cst_4 main_v19 (broadcastInDim S4x128x128 ![] bcast_S_S4x128x128 : (⟨S_, .f32⟩ : BufTy).Contents (Elt F) → (⟨S4x128x128, .f32⟩ : BufTy).Contents (Elt F)),
    StableHlo.nullary main_cst_5 (constant S_ .f32 0x00000000#32),
    StableHlo.unary main_cst_5 main_v20 (broadcastInDim S4x128x128 ![] bcast_S_S4x128x128 : (⟨S_, .f32⟩ : BufTy).Contents (Elt F) → (⟨S4x128x128, .f32⟩ : BufTy).Contents (Elt F)),
    StableHlo.nullary main_cst_6 (constant S_ .f32 0x00000000#32),
    StableHlo.unary main_cst_6 main_v21 (broadcastInDim S64x4x64x64 ![] bcast_S_S64x4x64x64 : (⟨S_, .f32⟩ : BufTy).Contents (Elt F) → (⟨S64x4x64x64, .f32⟩ : BufTy).Contents (Elt F)),
    StableHlo.nullary main_cst_7 (constant S_ .f32 0x00000000#32),
    StableHlo.unary main_cst_7 main_v22 (broadcastInDim S64x4x64x128 ![] bcast_S_S64x4x64x128 : (⟨S_, .f32⟩ : BufTy).Contents (Elt F) → (⟨S64x4x64x128, .f32⟩ : BufTy).Contents (Elt F)),
    StableHlo.nullary main_cst_8 (constant S_ .f32 0x00000000#32),
    StableHlo.unary main_cst_8 main_v23 (broadcastInDim S64x4x64x128 ![] bcast_S_S64x4x64x128 : (⟨S_, .f32⟩ : BufTy).Contents (Elt F) → (⟨S64x4x64x128, .f32⟩ : BufTy).Contents (Elt F)),
    StableHlo.nullary main_cst_9 (constant S_ .f32 0x00000000#32),
    StableHlo.unary main_cst_9 main_v24 (broadcastInDim S64x4x64x128 ![] bcast_S_S64x4x64x128 : (⟨S_, .f32⟩ : BufTy).Contents (Elt F) → (⟨S64x4x64x128, .f32⟩ : BufTy).Contents (Elt F)),
    StableHlo.nullary main_cst_10 (constant S_ .f32 0x00000000#32),
    StableHlo.unary main_cst_10 main_v25 (broadcastInDim S64x4x64x128 ![] bcast_S_S64x4x64x128 : (⟨S_, .f32⟩ : BufTy).Contents (Elt F) → (⟨S64x4x64x128, .f32⟩ : BufTy).Contents (Elt F)),
    StableHlo.nullary main_cst_11 (constant S_ .f32 0x00000000#32),
    StableHlo.unary main_cst_11 main_v26 (broadcastInDim S64x4 ![] bcast_S_S64x4 : (⟨S_, .f32⟩ : BufTy).Contents (Elt F) → (⟨S64x4, .f32⟩ : BufTy).Contents (Elt F)),
    StableHlo.nullary main_c_12 (constantI S_ 32 0#32),
    StableHlo.unary main_v18 main_v27_0 id,
    StableHlo.unary main_v16_9 main_v27_1 id,
    StableHlo.unary main_v10 main_v27_2 id,
    StableHlo.unary main_v2 main_v27_3 id,
    StableHlo.unary main_v16_10 main_v27_4 id,
    StableHlo.unary main_arg4 main_v27_5 id ]
theorem midO_sub : (midO : List (HloOp τ sig (Elt F))).Forall fun op => op.bufs ⊆ StableHlo.tcRefs τ sig :=
  ⟨StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
theorem midO_fresh : (midO : List (HloOp τ sig (Elt F))).Forall fun op => op.fresh = ∅ :=
  StableHlo.forall_fresh_of_map rfl
abbrev midO_W : List (Ref sig .tc) := [main_v17, main_v18, main_cst_4, main_v19, main_cst_5, main_v20, main_cst_6, main_v21, main_cst_7, main_v22, main_cst_8, main_v23, main_cst_9, main_v24, main_cst_10, main_v25, main_cst_11, main_v26, main_c_12, main_v27_0, main_v27_1, main_v27_2, main_v27_3, main_v27_4, main_v27_5]
theorem midO_writes : (midO : List (HloOp τ sig (Elt F))).Forall fun op => op.writes ⊆ (midO_W.map (Proc.devRef (τ := τ) .tc)).toFinset :=
  StableHlo.forall_writes_sub_of_map rfl
/-- The operations between the loops, second part. -/
def midP : List (HloOp τ sig (Elt F)) :=
  [ StableHlo.unary main_v16_11 main_v27_6 id,
    StableHlo.unary main_v5 main_v27_7 id,
    StableHlo.unary main_c_12 main_v27_8 id,
    StableHlo.unary main_v20 main_v27_9 id,
    StableHlo.unary main_v21 main_v27_10 id,
    StableHlo.unary main_v22 main_v27_11 id,
    StableHlo.unary main_v23 main_v27_12 id,
    StableHlo.unary main_v24 main_v27_13 id,
    StableHlo.unary main_v25 main_v27_14 id,
    StableHlo.unary main_v26 main_v27_15 id ]
theorem midP_sub : (midP : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem midP_fresh : (midP : List (HloOp τ sig (Elt F))).Forall fun op => op.fresh = ∅ :=
  StableHlo.forall_fresh_of_map rfl
abbrev midP_W : List (Ref sig .tc) := [main_v27_6, main_v27_7, main_v27_8, main_v27_9, main_v27_10, main_v27_11, main_v27_12, main_v27_13, main_v27_14, main_v27_15]
theorem midP_writes : (midP : List (HloOp τ sig (Elt F))).Forall fun op => op.writes ⊆ (midP_W.map (Proc.devRef (τ := τ) .tc)).toFinset :=
  StableHlo.forall_writes_sub_of_map rfl
/-- The operations after the second loop. -/
def postO : List (HloOp τ sig (Elt F)) :=
  [ StableHlo.unary main_v16_8 main_v28 ((transpose S64x64x4x128 [0, 2, 1, 3] · transposes_S64x4x64x128_S64x64x4x128_0_2_1_3) : (⟨S64x4x64x128, .f32⟩ : BufTy).Contents (Elt F) → (⟨S64x64x4x128, .f32⟩ : BufTy).Contents (Elt F)),
    StableHlo.reshape main_v28 main_v29 (rfl : (.f32 : EltTy) = .f32) shapeCasts_S64x64x4x128_S4096x512,
    StableHlo.unary main_v27_13 main_v30 ((transpose S64x64x4x128 [0, 2, 1, 3] · transposes_S64x4x64x128_S64x64x4x128_0_2_1_3) : (⟨S64x4x64x128, .f32⟩ : BufTy).Contents (Elt F) → (⟨S64x64x4x128, .f32⟩ : BufTy).Contents (Elt F)),
    StableHlo.reshape main_v30 main_v31 (rfl : (.f32 : EltTy) = .f32) shapeCasts_S64x64x4x128_S4096x512,
    StableHlo.unary main_v27_14 main_v32 ((transpose S64x64x4x128 [0, 2, 1, 3] · transposes_S64x4x64x128_S64x64x4x128_0_2_1_3) : (⟨S64x4x64x128, .f32⟩ : BufTy).Contents (Elt F) → (⟨S64x64x4x128, .f32⟩ : BufTy).Contents (Elt F)),
    StableHlo.reshape main_v32 main_v33 (rfl : (.f32 : EltTy) = .f32) shapeCasts_S64x64x4x128_S4096x512,
    StableHlo.unary main_v27_11 main_v34 ((transpose S64x64x4x128 [0, 2, 1, 3] · transposes_S64x4x64x128_S64x64x4x128_0_2_1_3) : (⟨S64x4x64x128, .f32⟩ : BufTy).Contents (Elt F) → (⟨S64x64x4x128, .f32⟩ : BufTy).Contents (Elt F)),
    StableHlo.reshape main_v34 main_v35 (rfl : (.f32 : EltTy) = .f32) shapeCasts_S64x64x4x128_S4096x512,
    StableHlo.unary main_v27_12 main_v36 ((transpose S64x64x4x128 [0, 2, 1, 3] · transposes_S64x4x64x128_S64x64x4x128_0_2_1_3) : (⟨S64x4x64x128, .f32⟩ : BufTy).Contents (Elt F) → (⟨S64x64x4x128, .f32⟩ : BufTy).Contents (Elt F)),
    StableHlo.reshape main_v36 main_v37 (rfl : (.f32 : EltTy) = .f32) shapeCasts_S64x64x4x128_S4096x512,
    StableHlo.unary main_v27_15 main_v38 (broadcastInDim S64x4x1x1 ![0, 1] bcast_S64x4_S64x4x1x1_0_1 : (⟨S64x4, .f32⟩ : BufTy).Contents (Elt F) → (⟨S64x4x1x1, .f32⟩ : BufTy).Contents (Elt F)),
    StableHlo.unary main_v38 main_v39 (broadcastInDim S64x4x1x128 ![0, 1, 2, 3] bcast_S64x4x1x1_S64x4x1x128_0_1_2_3 : (⟨S64x4x1x1, .f32⟩ : BufTy).Contents (Elt F) → (⟨S64x4x1x128, .f32⟩ : BufTy).Contents (Elt F)) ]
theorem postO_sub : (postO : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub ..⟩
theorem postO_fresh : (postO : List (HloOp τ sig (Elt F))).Forall fun op => op.fresh = ∅ :=
  StableHlo.forall_fresh_of_map rfl
abbrev postO_W : List (Ref sig .tc) := [main_v28, main_v29, main_v30, main_v31, main_v32, main_v33, main_v34, main_v35, main_v36, main_v37, main_v38, main_v39]
theorem postO_writes : (postO : List (HloOp τ sig (Elt F))).Forall fun op => op.writes ⊆ (postO_W.map (Proc.devRef (τ := τ) .tc)).toFinset :=
  StableHlo.forall_writes_sub_of_map rfl
/-- A piece of the first loop body. -/
def fO0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.nullary (.of main_while0b_call0_c_1 : StableHlo.TRef sig ⟨S_, .i32⟩) (constantI S_ 32 0#32),
    StableHlo.TRef.unaryIndexed (.of main_v16_0 : StableHlo.TRef sig ⟨S64x4x64x64, .f32⟩) ![(.of main_v16_6 : StableHlo.TRef sig ⟨S_, .i32⟩), (.of main_while0b_call0_c : StableHlo.TRef sig ⟨S_, .i32⟩), (.of main_while0b_call0_c_0 : StableHlo.TRef sig ⟨S_, .i32⟩), (.of main_while0b_call0_c_1 : StableHlo.TRef sig ⟨S_, .i32⟩)] (.of main_while0b_call0_v0 : StableHlo.TRef sig ⟨S1x4x64x64, .f32⟩) (fun x i => Host.dynamicSlice S1x4x64x64 x (fun k => (i k (Shape.Idx.first h_S_)).toInt) sliceFits_S64x4x64x64_S1x4x64x64),
    StableHlo.TRef.reshape (.of main_while0b_call0_v0 : StableHlo.TRef sig ⟨S1x4x64x64, .f32⟩) (.of main_while0b_v40 : StableHlo.TRef sig ⟨S4x64x64, .f32⟩) (rfl : (.f32 : EltTy) = .f32) shapeCasts_S1x4x64x64_S4x64x64 ]
theorem fO0_sub : (fO0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem fO0_fresh : (fO0 : List (HloOp τ sig (Elt F))).Forall fun op => op.fresh = ∅ :=
  StableHlo.forall_fresh_of_map rfl
abbrev fO0_W : List (Ref sig .tc) := [main_while0b_call0_c, main_while0b_call0_c_0, main_while0b_call0_c_1, main_while0b_call0_v0, main_while0b_v40]
theorem fO0_writes : (fO0 : List (HloOp τ sig (Elt F))).Forall fun op => op.writes ⊆ (fO0_W.map (Proc.devRef (τ := τ) .tc)).toFinset :=
  StableHlo.forall_writes_sub_of_map rfl
/-- A piece of the first loop body. -/
def fO1 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.nullary (.of main_while0b_call1_c_1 : StableHlo.TRef sig ⟨S_, .i32⟩) (constantI S_ 32 0#32),
    StableHlo.TRef.unaryIndexed (.of main_v16_1 : StableHlo.TRef sig ⟨S64x4x64x128, .f32⟩) ![(.of main_v16_6 : StableHlo.TRef sig ⟨S_, .i32⟩), (.of main_while0b_call1_c : StableHlo.TRef sig ⟨S_, .i32⟩), (.of main_while0b_call1_c_0 : StableHlo.TRef sig ⟨S_, .i32⟩), (.of main_while0b_call1_c_1 : StableHlo.TRef sig ⟨S_, .i32⟩)] (.of main_while0b_call1_v0 : StableHlo.TRef sig ⟨S1x4x64x128, .f32⟩) (fun x i => Host.dynamicSlice S1x4x64x128 x (fun k => (i k (Shape.Idx.first h_S_)).toInt) sliceFits_S64x4x64x128_S1x4x64x128),
    StableHlo.TRef.reshape (.of main_while0b_call1_v0 : StableHlo.TRef sig ⟨S1x4x64x128, .f32⟩) (.of main_while0b_v41 : StableHlo.TRef sig ⟨S4x64x128, .f32⟩) (rfl : (.f32 : EltTy) = .f32) shapeCasts_S1x4x64x128_S4x64x128 ]
theorem fO1_sub : (fO1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem fO1_fresh : (fO1 : List (HloOp τ sig (Elt F))).Forall fun op => op.fresh = ∅ :=
  StableHlo.forall_fresh_of_map rfl
abbrev fO1_W : List (Ref sig .tc) := [main_while0b_call1_c, main_while0b_call1_c_0, main_while0b_call1_c_1, main_while0b_call1_v0, main_while0b_v41]
theorem fO1_writes : (fO1 : List (HloOp τ sig (Elt F))).Forall fun op => op.writes ⊆ (fO1_W.map (Proc.devRef (τ := τ) .tc)).toFinset :=
  StableHlo.forall_writes_sub_of_map rfl
/-- A piece of the first loop body. -/
def fO2 : List (HloOp τ sig (Elt F)) :=
  [ StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.nullary (.of main_while0b_call2_c_1 : StableHlo.TRef sig ⟨S_, .i32⟩) (constantI S_ 32 0#32),
    StableHlo.TRef.unaryIndexed (.of main_v16_2 : StableHlo.TRef sig ⟨S64x4x64x128, .f32⟩) ![(.of main_v16_6 : StableHlo.TRef sig ⟨S_, .i32⟩), (.of main_while0b_call2_c : StableHlo.TRef sig ⟨S_, .i32⟩), (.of main_while0b_call2_c_0 : StableHlo.TRef sig ⟨S_, .i32⟩), (.of main_while0b_call2_c_1 : StableHlo.TRef sig ⟨S_, .i32⟩)] (.of main_while0b_call2_v0 : StableHlo.TRef sig ⟨S1x4x64x128, .f32⟩) (fun x i => Host.dynamicSlice S1x4x64x128 x (fun k => (i k (Shape.Idx.first h_S_)).toInt) sliceFits_S64x4x64x128_S1x4x64x128),
    StableHlo.TRef.reshape (.of main_while0b_call2_v0 : StableHlo.TRef sig ⟨S1x4x64x128, .f32⟩) (.of main_while0b_v42 : StableHlo.TRef sig ⟨S4x64x128, .f32⟩) (rfl : (.f32 : EltTy) = .f32) shapeCasts_S1x4x64x128_S4x64x128 ]
theorem fO2_sub : (fO2 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem fO2_fresh : (fO2 : List (HloOp τ sig (Elt F))).Forall fun op => op.fresh = ∅ :=
  StableHlo.forall_fresh_of_map rfl
abbrev fO2_W : List (Ref sig .tc) := [main_while0b_call2_c, main_while0b_call2_c_0, main_while0b_call2_c_1, main_while0b_call2_v0, main_while0b_v42]
theorem fO2_writes : (fO2 : List (HloOp τ sig (Elt F))).Forall fun op => op.writes ⊆ (fO2_W.map (Proc.devRef (τ := τ) .tc)).toFinset :=
  StableHlo.forall_writes_sub_of_map rfl
/-- A piece of the first loop body. -/
def fO3 : List (HloOp τ sig (Elt F)) :=
  [ StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.nullary (.of main_while0b_call3_c_1 : StableHlo.TRef sig ⟨S_, .i32⟩) (constantI S_ 32 0#32),
    StableHlo.TRef.unaryIndexed (.of main_v16_3 : StableHlo.TRef sig ⟨S64x4x64x128, .f32⟩) ![(.of main_v16_6 : StableHlo.TRef sig ⟨S_, .i32⟩), (.of main_while0b_call3_c : StableHlo.TRef sig ⟨S_, .i32⟩), (.of main_while0b_call3_c_0 : StableHlo.TRef sig ⟨S_, .i32⟩), (.of main_while0b_call3_c_1 : StableHlo.TRef sig ⟨S_, .i32⟩)] (.of main_while0b_call3_v0 : StableHlo.TRef sig ⟨S1x4x64x128, .f32⟩) (fun x i => Host.dynamicSlice S1x4x64x128 x (fun k => (i k (Shape.Idx.first h_S_)).toInt) sliceFits_S64x4x64x128_S1x4x64x128),
    StableHlo.TRef.reshape (.of main_while0b_call3_v0 : StableHlo.TRef sig ⟨S1x4x64x128, .f32⟩) (.of main_while0b_v43 : StableHlo.TRef sig ⟨S4x64x128, .f32⟩) (rfl : (.f32 : EltTy) = .f32) shapeCasts_S1x4x64x128_S4x64x128 ]
theorem fO3_sub : (fO3 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem fO3_fresh : (fO3 : List (HloOp τ sig (Elt F))).Forall fun op => op.fresh = ∅ :=
  StableHlo.forall_fresh_of_map rfl
abbrev fO3_W : List (Ref sig .tc) := [main_while0b_call3_c, main_while0b_call3_c_0, main_while0b_call3_c_1, main_while0b_call3_v0, main_while0b_v43]
theorem fO3_writes : (fO3 : List (HloOp τ sig (Elt F))).Forall fun op => op.writes ⊆ (fO3_W.map (Proc.devRef (τ := τ) .tc)).toFinset :=
  StableHlo.forall_writes_sub_of_map rfl
/-- A piece of the first loop body. -/
def fO4 : List (HloOp τ sig (Elt F)) :=
  [ StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.nullary (.of main_while0b_call4_c_1 : StableHlo.TRef sig ⟨S_, .i32⟩) (constantI S_ 32 0#32),
    StableHlo.TRef.unaryIndexed (.of main_v16_4 : StableHlo.TRef sig ⟨S64x4x64x128, .f32⟩) ![(.of main_v16_6 : StableHlo.TRef sig ⟨S_, .i32⟩), (.of main_while0b_call4_c : StableHlo.TRef sig ⟨S_, .i32⟩), (.of main_while0b_call4_c_0 : StableHlo.TRef sig ⟨S_, .i32⟩), (.of main_while0b_call4_c_1 : StableHlo.TRef sig ⟨S_, .i32⟩)] (.of main_while0b_call4_v0 : StableHlo.TRef sig ⟨S1x4x64x128, .f32⟩) (fun x i => Host.dynamicSlice S1x4x64x128 x (fun k => (i k (Shape.Idx.first h_S_)).toInt) sliceFits_S64x4x64x128_S1x4x64x128),
    StableHlo.TRef.reshape (.of main_while0b_call4_v0 : StableHlo.TRef sig ⟨S1x4x64x128, .f32⟩) (.of main_while0b_v44 : StableHlo.TRef sig ⟨S4x64x128, .f32⟩) (rfl : (.f32 : EltTy) = .f32) shapeCasts_S1x4x64x128_S4x64x128 ]
theorem fO4_sub : (fO4 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem fO4_fresh : (fO4 : List (HloOp τ sig (Elt F))).Forall fun op => op.fresh = ∅ :=
  StableHlo.forall_fresh_of_map rfl
abbrev fO4_W : List (Ref sig .tc) := [main_while0b_call4_c, main_while0b_call4_c_0, main_while0b_call4_c_1, main_while0b_call4_v0, main_while0b_v44]
theorem fO4_writes : (fO4 : List (HloOp τ sig (Elt F))).Forall fun op => op.writes ⊆ (fO4_W.map (Proc.devRef (τ := τ) .tc)).toFinset :=
  StableHlo.forall_writes_sub_of_map rfl
/-- A piece of the first loop body. -/
def fO5 : List (HloOp τ sig (Elt F)) :=
  [ StableHlo.TRef.nullary (.of main_while0b_call5_c : StableHlo.TRef sig ⟨S_, .i32⟩) (constantI S_ 32 0#32),
    StableHlo.TRef.unaryIndexed (.of main_v16_5 : StableHlo.TRef sig ⟨S64x4, .f32⟩) ![(.of main_v16_6 : StableHlo.TRef sig ⟨S_, .i32⟩), (.of main_while0b_call5_c : StableHlo.TRef sig ⟨S_, .i32⟩)] (.of main_while0b_call5_v0 : StableHlo.TRef sig ⟨S1x4, .f32⟩) (fun x i => Host.dynamicSlice S1x4 x (fun k => (i k (Shape.Idx.first h_S_)).toInt) sliceFits_S64x4_S1x4),
    StableHlo.TRef.reshape (.of main_while0b_call5_v0 : StableHlo.TRef sig ⟨S1x4, .f32⟩) (.of main_while0b_v45 : StableHlo.TRef sig ⟨S4, .f32⟩) (rfl : (.f32 : EltTy) = .f32) shapeCasts_S1x4_S4 ]
theorem fO5_sub : (fO5 : List (HloOp τ sig (Elt F))).Forall fun op => op.bufs ⊆ StableHlo.tcRefs τ sig :=
  ⟨StableHlo.nullary_bufs_sub .., StableHlo.unaryIndexed_bufs_sub .., StableHlo.reshape_bufs_sub ..⟩
theorem fO5_fresh : (fO5 : List (HloOp τ sig (Elt F))).Forall fun op => op.fresh = ∅ :=
  StableHlo.forall_fresh_of_map rfl
abbrev fO5_W : List (Ref sig .tc) := [main_while0b_call5_c, main_while0b_call5_v0, main_while0b_v45]
theorem fO5_writes : (fO5 : List (HloOp τ sig (Elt F))).Forall fun op => op.writes ⊆ (fO5_W.map (Proc.devRef (τ := τ) .tc)).toFinset :=
  StableHlo.forall_writes_sub_of_map rfl
/-- A piece of the first loop body. -/
def fO6 : List (HloOp τ sig (Elt F)) :=
  [ StableHlo.binary main_while0b_v44 main_v16_7 main_while0b_v46 ((fun l r => Host.dotGeneral dot_S4x64x128_S4x128x128_S4x64x128_2_1_1_2_0_0 none l r) : (⟨S4x64x128, .f32⟩ : BufTy).Contents (Elt F) → (⟨S4x128x128, .f32⟩ : BufTy).Contents (Elt F) → (⟨S4x64x128, .f32⟩ : BufTy).Contents (Elt F)),
    StableHlo.binary main_while0b_v43 main_while0b_v46 main_while0b_v47 (subf : (⟨S4x64x128, .f32⟩ : BufTy).Contents (Elt F) → (⟨S4x64x128, .f32⟩ : BufTy).Contents (Elt F) → (⟨S4x64x128, .f32⟩ : BufTy).Contents (Elt F)),
    StableHlo.binary main_while0b_v41 main_v16_7 main_while0b_v48 ((fun l r => Host.dotGeneral dot_S4x64x128_S4x128x128_S4x64x128_2_1_1_2_0_0 none l r) : (⟨S4x64x128, .f32⟩ : BufTy).Contents (Elt F) → (⟨S4x128x128, .f32⟩ : BufTy).Contents (Elt F) → (⟨S4x64x128, .f32⟩ : BufTy).Contents (Elt F)),
    StableHlo.binary main_while0b_v40 main_while0b_v47 main_while0b_v49 ((fun l r => Host.dotGeneral dot_S4x64x64_S4x64x128_S4x64x128_2_1_1_2_0_0 none l r) : (⟨S4x64x64, .f32⟩ : BufTy).Contents (Elt F) → (⟨S4x64x128, .f32⟩ : BufTy).Contents (Elt F) → (⟨S4x64x128, .f32⟩ : BufTy).Contents (Elt F)),
    StableHlo.binary main_while0b_v48 main_while0b_v49 main_while0b_v50 (addf : (⟨S4x64x128, .f32⟩ : BufTy).Contents (Elt F) → (⟨S4x64x128, .f32⟩ : BufTy).Contents (Elt F) → (⟨S4x64x128, .f32⟩ : BufTy).Contents (Elt F)),
    StableHlo.unary main_while0b_v45 main_while0b_v51 (broadcastInDim S4x1x1 ![0] bcast_S4_S4x1x1_0 : (⟨S4, .f32⟩ : BufTy).Contents (Elt F) → (⟨S4x1x1, .f32⟩ : BufTy).Contents (Elt F)),
    StableHlo.unary main_while0b_v51 main_while0b_v52 (broadcastInDim S4x128x128 ![0, 1, 2] bcast_S4x1x1_S4x128x128_0_1_2 : (⟨S4x1x1, .f32⟩ : BufTy).Contents (Elt F) → (⟨S4x128x128, .f32⟩ : BufTy).Contents (Elt F)),
    StableHlo.binary main_v16_7 main_while0b_v52 main_while0b_v53 (mulf : (⟨S4x128x128, .f32⟩ : BufTy).Contents (Elt F) → (⟨S4x128x128, .f32⟩ : BufTy).Contents (Elt F) → (⟨S4x128x128, .f32⟩ : BufTy).Contents (Elt F)),
    StableHlo.binary main_while0b_v42 main_while0b_v47 main_while0b_v54 ((fun l r => Host.dotGeneral dot_S4x64x128_S4x64x128_S4x128x128_1_1_2_2_0_0 none l r) : (⟨S4x64x128, .f32⟩ : BufTy).Contents (Elt F) → (⟨S4x64x128, .f32⟩ : BufTy).Contents (Elt F) → (⟨S4x128x128, .f32⟩ : BufTy).Contents (Elt F)),
    StableHlo.binary main_while0b_v53 main_while0b_v54 main_while0b_v55 (addf : (⟨S4x128x128, .f32⟩ : BufTy).Contents (Elt F) → (⟨S4x128x128, .f32⟩ : BufTy).Contents (Elt F) → (⟨S4x128x128, .f32⟩ : BufTy).Contents (Elt F)) ]
theorem fO6_sub : (fO6 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub ..⟩
theorem fO6_fresh : (fO6 : List (HloOp τ sig (Elt F))).Forall fun op => op.fresh = ∅ :=
  StableHlo.forall_fresh_of_map rfl
abbrev fO6_W : List (Ref sig .tc) := [main_while0b_v46, main_while0b_v47, main_while0b_v48, main_while0b_v49, main_while0b_v50, main_while0b_v51, main_while0b_v52, main_while0b_v53, main_while0b_v54, main_while0b_v55]
theorem fO6_writes : (fO6 : List (HloOp τ sig (Elt F))).Forall fun op => op.writes ⊆ (fO6_W.map (Proc.devRef (τ := τ) .tc)).toFinset :=
  StableHlo.forall_writes_sub_of_map rfl
/-- A piece of the first loop body. -/
def fO7 : List (HloOp τ sig (Elt F)) :=
  [ StableHlo.TRef.unary (.of main_while0b_v50 : StableHlo.TRef sig ⟨S4x64x128, .f32⟩) (.of main_while0b_call6_v0 : StableHlo.TRef sig ⟨S1x4x64x128, .f32⟩) (broadcastInDim S1x4x64x128 ![1, 2, 3] bcast_S4x64x128_S1x4x64x128_1_2_3),
    StableHlo.TRef.nullary (.of main_while0b_call6_c : StableHlo.TRef sig ⟨S_, .i32⟩) (constantI S_ 32 0#32),
    StableHlo.TRef.nullary (.of main_while0b_call6_c_0 : StableHlo.TRef sig ⟨S_, .i32⟩) (constantI S_ 32 0#32),
    StableHlo.TRef.nullary (.of main_while0b_call6_c_1 : StableHlo.TRef sig ⟨S_, .i32⟩) (constantI S_ 32 0#32),
    StableHlo.TRef.binaryIndexed (.of main_v16_8 : StableHlo.TRef sig ⟨S64x4x64x128, .f32⟩) (.of main_while0b_call6_v0 : StableHlo.TRef sig ⟨S1x4x64x128, .f32⟩) ![(.of main_v16_6 : StableHlo.TRef sig ⟨S_, .i32⟩), (.of main_while0b_call6_c : StableHlo.TRef sig ⟨S_, .i32⟩), (.of main_while0b_call6_c_0 : StableHlo.TRef sig ⟨S_, .i32⟩), (.of main_while0b_call6_c_1 : StableHlo.TRef sig ⟨S_, .i32⟩)] (.of main_while0b_v56 : StableHlo.TRef sig ⟨S64x4x64x128, .f32⟩) (fun x u i => Host.dynamicUpdateSlice x u (fun k => (i k (Shape.Idx.first h_S_)).toInt) updateFits_S64x4x64x128_S1x4x64x128) ]
theorem fO7_sub : (fO7 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem fO7_fresh : (fO7 : List (HloOp τ sig (Elt F))).Forall fun op => op.fresh = ∅ :=
  StableHlo.forall_fresh_of_map rfl
abbrev fO7_W : List (Ref sig .tc) := [main_while0b_call6_v0, main_while0b_call6_c, main_while0b_call6_c_0, main_while0b_call6_c_1, main_while0b_v56]
theorem fO7_writes : (fO7 : List (HloOp τ sig (Elt F))).Forall fun op => op.writes ⊆ (fO7_W.map (Proc.devRef (τ := τ) .tc)).toFinset :=
  StableHlo.forall_writes_sub_of_map rfl
/-- A piece of the first loop body. -/
def fO8 : List (HloOp τ sig (Elt F)) :=
  [ StableHlo.TRef.unary (.of main_v16_7 : StableHlo.TRef sig ⟨S4x128x128, .f32⟩) (.of main_while0b_call7_v0 : StableHlo.TRef sig ⟨S1x4x128x128, .f32⟩) (broadcastInDim S1x4x128x128 ![1, 2, 3] bcast_S4x128x128_S1x4x128x128_1_2_3),
    StableHlo.TRef.nullary (.of main_while0b_call7_c : StableHlo.TRef sig ⟨S_, .i32⟩) (constantI S_ 32 0#32),
    StableHlo.TRef.nullary (.of main_while0b_call7_c_0 : StableHlo.TRef sig ⟨S_, .i32⟩) (constantI S_ 32 0#32),
    StableHlo.TRef.nullary (.of main_while0b_call7_c_1 : StableHlo.TRef sig ⟨S_, .i32⟩) (constantI S_ 32 0#32),
    StableHlo.TRef.binaryIndexed (.of main_v16_9 : StableHlo.TRef sig ⟨S64x4x128x128, .f32⟩) (.of main_while0b_call7_v0 : StableHlo.TRef sig ⟨S1x4x128x128, .f32⟩) ![(.of main_v16_6 : StableHlo.TRef sig ⟨S_, .i32⟩), (.of main_while0b_call7_c : StableHlo.TRef sig ⟨S_, .i32⟩), (.of main_while0b_call7_c_0 : StableHlo.TRef sig ⟨S_, .i32⟩), (.of main_while0b_call7_c_1 : StableHlo.TRef sig ⟨S_, .i32⟩)] (.of main_while0b_v57 : StableHlo.TRef sig ⟨S64x4x128x128, .f32⟩) (fun x u i => Host.dynamicUpdateSlice x u (fun k => (i k (Shape.Idx.first h_S_)).toInt) updateFits_S64x4x128x128_S1x4x128x128) ]
theorem fO8_sub : (fO8 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem fO8_fresh : (fO8 : List (HloOp τ sig (Elt F))).Forall fun op => op.fresh = ∅ :=
  StableHlo.forall_fresh_of_map rfl
abbrev fO8_W : List (Ref sig .tc) := [main_while0b_call7_v0, main_while0b_call7_c, main_while0b_call7_c_0, main_while0b_call7_c_1, main_while0b_v57]
theorem fO8_writes : (fO8 : List (HloOp τ sig (Elt F))).Forall fun op => op.writes ⊆ (fO8_W.map (Proc.devRef (τ := τ) .tc)).toFinset :=
  StableHlo.forall_writes_sub_of_map rfl
/-- A piece of the first loop body. -/
def fO9 : List (HloOp τ sig (Elt F)) :=
  [ StableHlo.TRef.unary (.of main_while0b_v47 : StableHlo.TRef sig ⟨S4x64x128, .f32⟩) (.of main_while0b_call8_v0 : StableHlo.TRef sig ⟨S1x4x64x128, .f32⟩) (broadcastInDim S1x4x64x128 ![1, 2, 3] bcast_S4x64x128_S1x4x64x128_1_2_3),
    StableHlo.TRef.nullary (.of main_while0b_call8_c : StableHlo.TRef sig ⟨S_, .i32⟩) (constantI S_ 32 0#32),
    StableHlo.TRef.nullary (.of main_while0b_call8_c_0 : StableHlo.TRef sig ⟨S_, .i32⟩) (constantI S_ 32 0#32),
    StableHlo.TRef.nullary (.of main_while0b_call8_c_1 : StableHlo.TRef sig ⟨S_, .i32⟩) (constantI S_ 32 0#32),
    StableHlo.TRef.binaryIndexed (.of main_v16_10 : StableHlo.TRef sig ⟨S64x4x64x128, .f32⟩) (.of main_while0b_call8_v0 : StableHlo.TRef sig ⟨S1x4x64x128, .f32⟩) ![(.of main_v16_6 : StableHlo.TRef sig ⟨S_, .i32⟩), (.of main_while0b_call8_c : StableHlo.TRef sig ⟨S_, .i32⟩), (.of main_while0b_call8_c_0 : StableHlo.TRef sig ⟨S_, .i32⟩), (.of main_while0b_call8_c_1 : StableHlo.TRef sig ⟨S_, .i32⟩)] (.of main_while0b_v58 : StableHlo.TRef sig ⟨S64x4x64x128, .f32⟩) (fun x u i => Host.dynamicUpdateSlice x u (fun k => (i k (Shape.Idx.first h_S_)).toInt) updateFits_S64x4x64x128_S1x4x64x128) ]
theorem fO9_sub : (fO9 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem fO9_fresh : (fO9 : List (HloOp τ sig (Elt F))).Forall fun op => op.fresh = ∅ :=
  StableHlo.forall_fresh_of_map rfl
abbrev fO9_W : List (Ref sig .tc) := [main_while0b_call8_v0, main_while0b_call8_c, main_while0b_call8_c_0, main_while0b_call8_c_1, main_while0b_v58]
theorem fO9_writes : (fO9 : List (HloOp τ sig (Elt F))).Forall fun op => op.writes ⊆ (fO9_W.map (Proc.devRef (τ := τ) .tc)).toFinset :=
  StableHlo.forall_writes_sub_of_map rfl
/-- A piece of the first loop body. -/
def fO10 : List (HloOp τ sig (Elt F)) :=
  [ StableHlo.TRef.unary (.of main_while0b_v51 : StableHlo.TRef sig ⟨S4x1x1, .f32⟩) (.of main_while0b_call9_v0 : StableHlo.TRef sig ⟨S1x4x1x1, .f32⟩) (broadcastInDim S1x4x1x1 ![1, 2, 3] bcast_S4x1x1_S1x4x1x1_1_2_3),
    StableHlo.TRef.nullary (.of main_while0b_call9_c : StableHlo.TRef sig ⟨S_, .i32⟩) (constantI S_ 32 0#32),
    StableHlo.TRef.nullary (.of main_while0b_call9_c_0 : StableHlo.TRef sig ⟨S_, .i32⟩) (constantI S_ 32 0#32),
    StableHlo.TRef.nullary (.of main_while0b_call9_c_1 : StableHlo.TRef sig ⟨S_, .i32⟩) (constantI S_ 32 0#32),
    StableHlo.TRef.binaryIndexed (.of main_v16_11 : StableHlo.TRef sig ⟨S64x4x1x1, .f32⟩) (.of main_while0b_call9_v0 : StableHlo.TRef sig ⟨S1x4x1x1, .f32⟩) ![(.of main_v16_6 : StableHlo.TRef sig ⟨S_, .i32⟩), (.of main_while0b_call9_c : StableHlo.TRef sig ⟨S_, .i32⟩), (.of main_while0b_call9_c_0 : StableHlo.TRef sig ⟨S_, .i32⟩), (.of main_while0b_call9_c_1 : StableHlo.TRef sig ⟨S_, .i32⟩)] (.of main_while0b_v59 : StableHlo.TRef sig ⟨S64x4x1x1, .f32⟩) (fun x u i => Host.dynamicUpdateSlice x u (fun k => (i k (Shape.Idx.first h_S_)).toInt) updateFits_S64x4x1x1_S1x4x1x1) ]
theorem fO10_sub : (fO10 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem fO10_fresh : (fO10 : List (HloOp τ sig (Elt F))).Forall fun op => op.fresh = ∅ :=
  StableHlo.forall_fresh_of_map rfl
abbrev fO10_W : List (Ref sig .tc) := [main_while0b_call9_v0, main_while0b_call9_c, main_while0b_call9_c_0, main_while0b_call9_c_1, main_while0b_v59]
theorem fO10_writes : (fO10 : List (HloOp τ sig (Elt F))).Forall fun op => op.writes ⊆ (fO10_W.map (Proc.devRef (τ := τ) .tc)).toFinset :=
  StableHlo.forall_writes_sub_of_map rfl
/-- A piece of the first loop body. -/
def fO11 : List (HloOp τ sig (Elt F)) :=
  [ StableHlo.nullary main_while0b_c_24 (constantI S_ 32 1#32),
    StableHlo.binary main_v16_6 main_while0b_c_24 main_while0b_v60 (addi : (⟨S_, .i32⟩ : BufTy).Contents (Elt F) → (⟨S_, .i32⟩ : BufTy).Contents (Elt F) → (⟨S_, .i32⟩ : BufTy).Contents (Elt F)),
    StableHlo.unary main_while0b_v60 main_v16_6 id,
    StableHlo.unary main_while0b_v55 main_v16_7 id,
    StableHlo.unary main_while0b_v56 main_v16_8 id,
    StableHlo.unary main_while0b_v57 main_v16_9 id,
    StableHlo.unary main_while0b_v58 main_v16_10 id,
    StableHlo.unary main_while0b_v59 main_v16_11 id ]
theorem fO11_sub : (fO11 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩
theorem fO11_fresh : (fO11 : List (HloOp τ sig (Elt F))).Forall fun op => op.fresh = ∅ :=
  StableHlo.forall_fresh_of_map rfl
abbrev fO11_W : List (Ref sig .tc) := [main_while0b_c_24, main_while0b_v60, main_v16_6, main_v16_7, main_v16_8, main_v16_9, main_v16_10, main_v16_11]
theorem fO11_writes : (fO11 : List (HloOp τ sig (Elt F))).Forall fun op => op.writes ⊆ (fO11_W.map (Proc.devRef (τ := τ) .tc)).toFinset :=
  StableHlo.forall_writes_sub_of_map rfl
/-- A piece of the second loop body. -/
def bO0 : List (HloOp τ sig (Elt F)) :=
  [ StableHlo.nullary main_while1b_c_28 (constantI S_ 32 64#32),
    StableHlo.binary main_while1b_c_28 main_v27_8 main_while1b_v40 (subi : (⟨S_, .i32⟩ : BufTy).Contents (Elt F) → (⟨S_, .i32⟩ : BufTy).Contents (Elt F) → (⟨S_, .i32⟩ : BufTy).Contents (Elt F)),
    StableHlo.nullary main_while1b_c_29 (constantI S_ 32 1#32),
    StableHlo.binary main_while1b_v40 main_while1b_c_29 main_while1b_v41 (subi : (⟨S_, .i32⟩ : BufTy).Contents (Elt F) → (⟨S_, .i32⟩ : BufTy).Contents (Elt F) → (⟨S_, .i32⟩ : BufTy).Contents (Elt F)) ]
theorem bO0_sub : (bO0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
theorem bO0_fresh : (bO0 : List (HloOp τ sig (Elt F))).Forall fun op => op.fresh = ∅ :=
  StableHlo.forall_fresh_of_map rfl
abbrev bO0_W : List (Ref sig .tc) := [main_while1b_c_28, main_while1b_v40, main_while1b_c_29, main_while1b_v41]
theorem bO0_writes : (bO0 : List (HloOp τ sig (Elt F))).Forall fun op => op.writes ⊆ (bO0_W.map (Proc.devRef (τ := τ) .tc)).toFinset :=
  StableHlo.forall_writes_sub_of_map rfl
/-- A piece of the second loop body. -/
def bO1 : List (HloOp τ sig (Elt F)) :=
  [ StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.nullary (.of main_while1b_call10_c_1 : StableHlo.TRef sig ⟨S_, .i32⟩) (constantI S_ 32 0#32),
    StableHlo.TRef.unaryIndexed (.of main_v27_0 : StableHlo.TRef sig ⟨S64x4x64x128, .f32⟩) ![(.of main_while1b_v41 : StableHlo.TRef sig ⟨S_, .i32⟩), (.of main_while1b_call10_c : StableHlo.TRef sig ⟨S_, .i32⟩), (.of main_while1b_call10_c_0 : StableHlo.TRef sig ⟨S_, .i32⟩), (.of main_while1b_call10_c_1 : StableHlo.TRef sig ⟨S_, .i32⟩)] (.of main_while1b_call10_v0 : StableHlo.TRef sig ⟨S1x4x64x128, .f32⟩) (fun x i => Host.dynamicSlice S1x4x64x128 x (fun k => (i k (Shape.Idx.first h_S_)).toInt) sliceFits_S64x4x64x128_S1x4x64x128),
    StableHlo.TRef.reshape (.of main_while1b_call10_v0 : StableHlo.TRef sig ⟨S1x4x64x128, .f32⟩) (.of main_while1b_v42 : StableHlo.TRef sig ⟨S4x64x128, .f32⟩) (rfl : (.f32 : EltTy) = .f32) shapeCasts_S1x4x64x128_S4x64x128 ]
theorem bO1_sub : (bO1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem bO1_fresh : (bO1 : List (HloOp τ sig (Elt F))).Forall fun op => op.fresh = ∅ :=
  StableHlo.forall_fresh_of_map rfl
abbrev bO1_W : List (Ref sig .tc) := [main_while1b_call10_c, main_while1b_call10_c_0, main_while1b_call10_c_1, main_while1b_call10_v0, main_while1b_v42]
theorem bO1_writes : (bO1 : List (HloOp τ sig (Elt F))).Forall fun op => op.writes ⊆ (bO1_W.map (Proc.devRef (τ := τ) .tc)).toFinset :=
  StableHlo.forall_writes_sub_of_map rfl
/-- A piece of the second loop body. -/
def bO2 : List (HloOp τ sig (Elt F)) :=
  [ StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.nullary (.of main_while1b_call11_c_1 : StableHlo.TRef sig ⟨S_, .i32⟩) (constantI S_ 32 0#32),
    StableHlo.TRef.unaryIndexed (.of main_v27_1 : StableHlo.TRef sig ⟨S64x4x128x128, .f32⟩) ![(.of main_while1b_v41 : StableHlo.TRef sig ⟨S_, .i32⟩), (.of main_while1b_call11_c : StableHlo.TRef sig ⟨S_, .i32⟩), (.of main_while1b_call11_c_0 : StableHlo.TRef sig ⟨S_, .i32⟩), (.of main_while1b_call11_c_1 : StableHlo.TRef sig ⟨S_, .i32⟩)] (.of main_while1b_call11_v0 : StableHlo.TRef sig ⟨S1x4x128x128, .f32⟩) (fun x i => Host.dynamicSlice S1x4x128x128 x (fun k => (i k (Shape.Idx.first h_S_)).toInt) sliceFits_S64x4x128x128_S1x4x128x128),
    StableHlo.TRef.reshape (.of main_while1b_call11_v0 : StableHlo.TRef sig ⟨S1x4x128x128, .f32⟩) (.of main_while1b_v43 : StableHlo.TRef sig ⟨S4x128x128, .f32⟩) (rfl : (.f32 : EltTy) = .f32) shapeCasts_S1x4x128x128_S4x128x128 ]
theorem bO2_sub : (bO2 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem bO2_fresh : (bO2 : List (HloOp τ sig (Elt F))).Forall fun op => op.fresh = ∅ :=
  StableHlo.forall_fresh_of_map rfl
abbrev bO2_W : List (Ref sig .tc) := [main_while1b_call11_c, main_while1b_call11_c_0, main_while1b_call11_c_1, main_while1b_call11_v0, main_while1b_v43]
theorem bO2_writes : (bO2 : List (HloOp τ sig (Elt F))).Forall fun op => op.writes ⊆ (bO2_W.map (Proc.devRef (τ := τ) .tc)).toFinset :=
  StableHlo.forall_writes_sub_of_map rfl
/-- A piece of the second loop body. -/
def bO3 : List (HloOp τ sig (Elt F)) :=
  [ StableHlo.TRef.nullary (.of main_while1b_call12_c : StableHlo.TRef sig ⟨S_, .i32⟩) (constantI S_ 32 0#32),
    StableHlo.TRef.nullary (.of main_while1b_call12_c_0 : StableHlo.TRef sig ⟨S_, .i32⟩) (constantI S_ 32 0#32),
    StableHlo.TRef.nullary (.of main_while1b_call12_c_1 : StableHlo.TRef sig ⟨S_, .i32⟩) (constantI S_ 32 0#32),
    StableHlo.TRef.unaryIndexed (.of main_v27_2 : StableHlo.TRef sig ⟨S64x4x64x128, .f32⟩) ![(.of main_while1b_v41 : StableHlo.TRef sig ⟨S_, .i32⟩), (.of main_while1b_call12_c : StableHlo.TRef sig ⟨S_, .i32⟩), (.of main_while1b_call12_c_0 : StableHlo.TRef sig ⟨S_, .i32⟩), (.of main_while1b_call12_c_1 : StableHlo.TRef sig ⟨S_, .i32⟩)] (.of main_while1b_call12_v0 : StableHlo.TRef sig ⟨S1x4x64x128, .f32⟩) (fun x i => Host.dynamicSlice S1x4x64x128 x (fun k => (i k (Shape.Idx.first h_S_)).toInt) sliceFits_S64x4x64x128_S1x4x64x128),
    StableHlo.TRef.reshape (.of main_while1b_call12_v0 : StableHlo.TRef sig ⟨S1x4x64x128, .f32⟩) (.of main_while1b_v44 : StableHlo.TRef sig ⟨S4x64x128, .f32⟩) (rfl : (.f32 : EltTy) = .f32) shapeCasts_S1x4x64x128_S4x64x128 ]
theorem bO3_sub : (bO3 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem bO3_fresh : (bO3 : List (HloOp τ sig (Elt F))).Forall fun op => op.fresh = ∅ :=
  StableHlo.forall_fresh_of_map rfl
abbrev bO3_W : List (Ref sig .tc) := [main_while1b_call12_c, main_while1b_call12_c_0, main_while1b_call12_c_1, main_while1b_call12_v0, main_while1b_v44]
theorem bO3_writes : (bO3 : List (HloOp τ sig (Elt F))).Forall fun op => op.writes ⊆ (bO3_W.map (Proc.devRef (τ := τ) .tc)).toFinset :=
  StableHlo.forall_writes_sub_of_map rfl
/-- A piece of the second loop body. -/
def bO4 : List (HloOp τ sig (Elt F)) :=
  [ StableHlo.TRef.nullary (.of main_while1b_call13_c : StableHlo.TRef sig ⟨S_, .i32⟩) (constantI S_ 32 0#32),
    StableHlo.TRef.nullary (.of main_while1b_call13_c_0 : StableHlo.TRef sig ⟨S_, .i32⟩) (constantI S_ 32 0#32),
    StableHlo.TRef.nullary (.of main_while1b_call13_c_1 : StableHlo.TRef sig ⟨S_, .i32⟩) (constantI S_ 32 0#32),
    StableHlo.TRef.unaryIndexed (.of main_v27_3 : StableHlo.TRef sig ⟨S64x4x64x128, .f32⟩) ![(.of main_while1b_v41 : StableHlo.TRef sig ⟨S_, .i32⟩), (.of main_while1b_call13_c : StableHlo.TRef sig ⟨S_, .i32⟩), (.of main_while1b_call13_c_0 : StableHlo.TRef sig ⟨S_, .i32⟩), (.of main_while1b_call13_c_1 : StableHlo.TRef sig ⟨S_, .i32⟩)] (.of main_while1b_call13_v0 : StableHlo.TRef sig ⟨S1x4x64x128, .f32⟩) (fun x i => Host.dynamicSlice S1x4x64x128 x (fun k => (i k (Shape.Idx.first h_S_)).toInt) sliceFits_S64x4x64x128_S1x4x64x128),
    StableHlo.TRef.reshape (.of main_while1b_call13_v0 : StableHlo.TRef sig ⟨S1x4x64x128, .f32⟩) (.of main_while1b_v45 : StableHlo.TRef sig ⟨S4x64x128, .f32⟩) (rfl : (.f32 : EltTy) = .f32) shapeCasts_S1x4x64x128_S4x64x128 ]
theorem bO4_sub : (bO4 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem bO4_fresh : (bO4 : List (HloOp τ sig (Elt F))).Forall fun op => op.fresh = ∅ :=
  StableHlo.forall_fresh_of_map rfl
abbrev bO4_W : List (Ref sig .tc) := [main_while1b_call13_c, main_while1b_call13_c_0, main_while1b_call13_c_1, main_while1b_call13_v0, main_while1b_v45]
theorem bO4_writes : (bO4 : List (HloOp τ sig (Elt F))).Forall fun op => op.writes ⊆ (bO4_W.map (Proc.devRef (τ := τ) .tc)).toFinset :=
  StableHlo.forall_writes_sub_of_map rfl
/-- A piece of the second loop body. -/
def bO5 : List (HloOp τ sig (Elt F)) :=
  [ StableHlo.TRef.nullary (.of main_while1b_call14_c : StableHlo.TRef sig ⟨S_, .i32⟩) (constantI S_ 32 0#32),
    StableHlo.TRef.nullary (.of main_while1b_call14_c_0 : StableHlo.TRef sig ⟨S_, .i32⟩) (constantI S_ 32 0#32),
    StableHlo.TRef.nullary (.of main_while1b_call14_c_1 : StableHlo.TRef sig ⟨S_, .i32⟩) (constantI S_ 32 0#32),
    StableHlo.TRef.unaryIndexed (.of main_v27_4 : StableHlo.TRef sig ⟨S64x4x64x128, .f32⟩) ![(.of main_while1b_v41 : StableHlo.TRef sig ⟨S_, .i32⟩), (.of main_while1b_call14_c : StableHlo.TRef sig ⟨S_, .i32⟩), (.of main_while1b_call14_c_0 : StableHlo.TRef sig ⟨S_, .i32⟩), (.of main_while1b_call14_c_1 : StableHlo.TRef sig ⟨S_, .i32⟩)] (.of main_while1b_call14_v0 : StableHlo.TRef sig ⟨S1x4x64x128, .f32⟩) (fun x i => Host.dynamicSlice S1x4x64x128 x (fun k => (i k (Shape.Idx.first h_S_)).toInt) sliceFits_S64x4x64x128_S1x4x64x128),
    StableHlo.TRef.reshape (.of main_while1b_call14_v0 : StableHlo.TRef sig ⟨S1x4x64x128, .f32⟩) (.of main_while1b_v46 : StableHlo.TRef sig ⟨S4x64x128, .f32⟩) (rfl : (.f32 : EltTy) = .f32) shapeCasts_S1x4x64x128_S4x64x128 ]
theorem bO5_sub : (bO5 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem bO5_fresh : (bO5 : List (HloOp τ sig (Elt F))).Forall fun op => op.fresh = ∅ :=
  StableHlo.forall_fresh_of_map rfl
abbrev bO5_W : List (Ref sig .tc) := [main_while1b_call14_c, main_while1b_call14_c_0, main_while1b_call14_c_1, main_while1b_call14_v0, main_while1b_v46]
theorem bO5_writes : (bO5 : List (HloOp τ sig (Elt F))).Forall fun op => op.writes ⊆ (bO5_W.map (Proc.devRef (τ := τ) .tc)).toFinset :=
  StableHlo.forall_writes_sub_of_map rfl
/-- A piece of the second loop body. -/
def bO6 : List (HloOp τ sig (Elt F)) :=
  [ StableHlo.TRef.nullary (.of main_while1b_call15_c : StableHlo.TRef sig ⟨S_, .i32⟩) (constantI S_ 32 0#32),
    StableHlo.TRef.nullary (.of main_while1b_call15_c_0 : StableHlo.TRef sig ⟨S_, .i32⟩) (constantI S_ 32 0#32),
    StableHlo.TRef.nullary (.of main_while1b_call15_c_1 : StableHlo.TRef sig ⟨S_, .i32⟩) (constantI S_ 32 0#32),
    StableHlo.TRef.unaryIndexed (.of main_v27_5 : StableHlo.TRef sig ⟨S64x4x64x64, .f32⟩) ![(.of main_while1b_v41 : StableHlo.TRef sig ⟨S_, .i32⟩), (.of main_while1b_call15_c : StableHlo.TRef sig ⟨S_, .i32⟩), (.of main_while1b_call15_c_0 : StableHlo.TRef sig ⟨S_, .i32⟩), (.of main_while1b_call15_c_1 : StableHlo.TRef sig ⟨S_, .i32⟩)] (.of main_while1b_call15_v0 : StableHlo.TRef sig ⟨S1x4x64x64, .f32⟩) (fun x i => Host.dynamicSlice S1x4x64x64 x (fun k => (i k (Shape.Idx.first h_S_)).toInt) sliceFits_S64x4x64x64_S1x4x64x64),
    StableHlo.TRef.reshape (.of main_while1b_call15_v0 : StableHlo.TRef sig ⟨S1x4x64x64, .f32⟩) (.of main_while1b_v47 : StableHlo.TRef sig ⟨S4x64x64, .f32⟩) (rfl : (.f32 : EltTy) = .f32) shapeCasts_S1x4x64x64_S4x64x64 ]
theorem bO6_sub : (bO6 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem bO6_fresh : (bO6 : List (HloOp τ sig (Elt F))).Forall fun op => op.fresh = ∅ :=
  StableHlo.forall_fresh_of_map rfl
abbrev bO6_W : List (Ref sig .tc) := [main_while1b_call15_c, main_while1b_call15_c_0, main_while1b_call15_c_1, main_while1b_call15_v0, main_while1b_v47]
theorem bO6_writes : (bO6 : List (HloOp τ sig (Elt F))).Forall fun op => op.writes ⊆ (bO6_W.map (Proc.devRef (τ := τ) .tc)).toFinset :=
  StableHlo.forall_writes_sub_of_map rfl
/-- A piece of the second loop body. -/
def bO7 : List (HloOp τ sig (Elt F)) :=
  [ StableHlo.TRef.nullary (.of main_while1b_call16_c : StableHlo.TRef sig ⟨S_, .i32⟩) (constantI S_ 32 0#32),
    StableHlo.TRef.nullary (.of main_while1b_call16_c_0 : StableHlo.TRef sig ⟨S_, .i32⟩) (constantI S_ 32 0#32),
    StableHlo.TRef.nullary (.of main_while1b_call16_c_1 : StableHlo.TRef sig ⟨S_, .i32⟩) (constantI S_ 32 0#32),
    StableHlo.TRef.unaryIndexed (.of main_v27_6 : StableHlo.TRef sig ⟨S64x4x1x1, .f32⟩) ![(.of main_while1b_v41 : StableHlo.TRef sig ⟨S_, .i32⟩), (.of main_while1b_call16_c : StableHlo.TRef sig ⟨S_, .i32⟩), (.of main_while1b_call16_c_0 : StableHlo.TRef sig ⟨S_, .i32⟩), (.of main_while1b_call16_c_1 : StableHlo.TRef sig ⟨S_, .i32⟩)] (.of main_while1b_call16_v0 : StableHlo.TRef sig ⟨S1x4x1x1, .f32⟩) (fun x i => Host.dynamicSlice S1x4x1x1 x (fun k => (i k (Shape.Idx.first h_S_)).toInt) sliceFits_S64x4x1x1_S1x4x1x1),
    StableHlo.TRef.reshape (.of main_while1b_call16_v0 : StableHlo.TRef sig ⟨S1x4x1x1, .f32⟩) (.of main_while1b_v48 : StableHlo.TRef sig ⟨S4x1x1, .f32⟩) (rfl : (.f32 : EltTy) = .f32) shapeCasts_S1x4x1x1_S4x1x1 ]
theorem bO7_sub : (bO7 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem bO7_fresh : (bO7 : List (HloOp τ sig (Elt F))).Forall fun op => op.fresh = ∅ :=
  StableHlo.forall_fresh_of_map rfl
abbrev bO7_W : List (Ref sig .tc) := [main_while1b_call16_c, main_while1b_call16_c_0, main_while1b_call16_c_1, main_while1b_call16_v0, main_while1b_v48]
theorem bO7_writes : (bO7 : List (HloOp τ sig (Elt F))).Forall fun op => op.writes ⊆ (bO7_W.map (Proc.devRef (τ := τ) .tc)).toFinset :=
  StableHlo.forall_writes_sub_of_map rfl
/-- A piece of the second loop body. -/
def bO8 : List (HloOp τ sig (Elt F)) :=
  [ StableHlo.TRef.nullary (.of main_while1b_call17_c : StableHlo.TRef sig ⟨S_, .i32⟩) (constantI S_ 32 0#32),
    StableHlo.TRef.nullary (.of main_while1b_call17_c_0 : StableHlo.TRef sig ⟨S_, .i32⟩) (constantI S_ 32 0#32),
    StableHlo.TRef.nullary (.of main_while1b_call17_c_1 : StableHlo.TRef sig ⟨S_, .i32⟩) (constantI S_ 32 0#32),
    StableHlo.TRef.unaryIndexed (.of main_v27_7 : StableHlo.TRef sig ⟨S64x4x64x128, .f32⟩) ![(.of main_while1b_v41 : StableHlo.TRef sig ⟨S_, .i32⟩), (.of main_while1b_call17_c : StableHlo.TRef sig ⟨S_, .i32⟩), (.of main_while1b_call17_c_0 : StableHlo.TRef sig ⟨S_, .i32⟩), (.of main_while1b_call17_c_1 : StableHlo.TRef sig ⟨S_, .i32⟩)] (.of main_while1b_call17_v0 : StableHlo.TRef sig ⟨S1x4x64x128, .f32⟩) (fun x i => Host.dynamicSlice S1x4x64x128 x (fun k => (i k (Shape.Idx.first h_S_)).toInt) sliceFits_S64x4x64x128_S1x4x64x128),
    StableHlo.TRef.reshape (.of main_while1b_call17_v0 : StableHlo.TRef sig ⟨S1x4x64x128, .f32⟩) (.of main_while1b_v49 : StableHlo.TRef sig ⟨S4x64x128, .f32⟩) (rfl : (.f32 : EltTy) = .f32) shapeCasts_S1x4x64x128_S4x64x128 ]
theorem bO8_sub : (bO8 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem bO8_fresh : (bO8 : List (HloOp τ sig (Elt F))).Forall fun op => op.fresh = ∅ :=
  StableHlo.forall_fresh_of_map rfl
abbrev bO8_W : List (Ref sig .tc) := [main_while1b_call17_c, main_while1b_call17_c_0, main_while1b_call17_c_1, main_while1b_call17_v0, main_while1b_v49]
theorem bO8_writes : (bO8 : List (HloOp τ sig (Elt F))).Forall fun op => op.writes ⊆ (bO8_W.map (Proc.devRef (τ := τ) .tc)).toFinset :=
  StableHlo.forall_writes_sub_of_map rfl
/-- A piece of the second loop body. -/
def bO9 : List (HloOp τ sig (Elt F)) :=
  [ StableHlo.binary main_v27_9 main_while1b_v49 main_while1b_v50 ((fun l r => Host.dotGeneral dot_S4x128x128_S4x64x128_S4x128x64_1_2_2_1_0_0 none l r) : (⟨S4x128x128, .f32⟩ : BufTy).Contents (Elt F) → (⟨S4x64x128, .f32⟩ : BufTy).Contents (Elt F) → (⟨S4x128x64, .f32⟩ : BufTy).Contents (Elt F)),
    StableHlo.unary main_while1b_v50 main_while1b_v51 ((transpose S4x64x128 [0, 2, 1] · transposes_S4x128x64_S4x64x128_0_2_1) : (⟨S4x128x64, .f32⟩ : BufTy).Contents (Elt F) → (⟨S4x64x128, .f32⟩ : BufTy).Contents (Elt F)),
    StableHlo.binary main_v27_9 main_while1b_v46 main_while1b_v52 ((fun l r => Host.dotGeneral dot_S4x128x128_S4x64x128_S4x128x64_2_2_1_1_0_0 none l r) : (⟨S4x128x128, .f32⟩ : BufTy).Contents (Elt F) → (⟨S4x64x128, .f32⟩ : BufTy).Contents (Elt F) → (⟨S4x128x64, .f32⟩ : BufTy).Contents (Elt F)),
    StableHlo.unary main_while1b_v52 main_while1b_v53 ((transpose S4x64x128 [0, 2, 1] · transposes_S4x128x64_S4x64x128_0_2_1) : (⟨S4x128x64, .f32⟩ : BufTy).Contents (Elt F) → (⟨S4x64x128, .f32⟩ : BufTy).Contents (Elt F)),
    StableHlo.binary main_while1b_v43 main_v27_9 main_while1b_v54 (mulf : (⟨S4x128x128, .f32⟩ : BufTy).Contents (Elt F) → (⟨S4x128x128, .f32⟩ : BufTy).Contents (Elt F) → (⟨S4x128x128, .f32⟩ : BufTy).Contents (Elt F)),
    StableHlo.nullary main_while1b_cst_30 (constant S_ .f32 0x00000000#32),
    StableHlo.binary main_while1b_v54 main_while1b_cst_30 main_while1b_v55 ((fun x v => Host.reduceAdd x v reducesTo_S4x128x128_S4_d1_2 h_S_) : (⟨S4x128x128, .f32⟩ : BufTy).Contents (Elt F) → (⟨S_, .f32⟩ : BufTy).Contents (Elt F) → (⟨S4, .f32⟩ : BufTy).Contents (Elt F)),
    StableHlo.reshape main_while1b_v55 main_while1b_v56 (rfl : (.f32 : EltTy) = .f32) shapeCasts_S4_S4x1x1,
    StableHlo.unary main_while1b_v48 main_while1b_v57 (broadcastInDim S4x128x128 ![0, 1, 2] bcast_S4x1x1_S4x128x128_0_1_2 : (⟨S4x1x1, .f32⟩ : BufTy).Contents (Elt F) → (⟨S4x128x128, .f32⟩ : BufTy).Contents (Elt F)),
    StableHlo.binary main_v27_9 main_while1b_v57 main_while1b_v58 (mulf : (⟨S4x128x128, .f32⟩ : BufTy).Contents (Elt F) → (⟨S4x128x128, .f32⟩ : BufTy).Contents (Elt F) → (⟨S4x128x128, .f32⟩ : BufTy).Contents (Elt F)),
    StableHlo.nullary main_while1b_cst_31 (constant S_ .f32 0x00000000#32),
    StableHlo.binary main_while1b_v56 main_while1b_cst_31 main_while1b_v59 ((fun x v => Host.reduceAdd x v reducesTo_S4x1x1_S4_d1_2 h_S_) : (⟨S4x1x1, .f32⟩ : BufTy).Contents (Elt F) → (⟨S_, .f32⟩ : BufTy).Contents (Elt F) → (⟨S4, .f32⟩ : BufTy).Contents (Elt F)),
    StableHlo.binary main_while1b_v42 main_while1b_v47 main_while1b_v60 ((fun l r => Host.dotGeneral dot_S4x64x128_S4x64x64_S4x128x64_1_1_2_2_0_0 none l r) : (⟨S4x64x128, .f32⟩ : BufTy).Contents (Elt F) → (⟨S4x64x64, .f32⟩ : BufTy).Contents (Elt F) → (⟨S4x128x64, .f32⟩ : BufTy).Contents (Elt F)),
    StableHlo.unary main_while1b_v60 main_while1b_v61 ((transpose S4x64x128 [0, 2, 1] · transposes_S4x128x64_S4x64x128_0_2_1) : (⟨S4x128x64, .f32⟩ : BufTy).Contents (Elt F) → (⟨S4x64x128, .f32⟩ : BufTy).Contents (Elt F)),
    StableHlo.binary main_while1b_v51 main_while1b_v61 main_while1b_v62 (addf : (⟨S4x64x128, .f32⟩ : BufTy).Contents (Elt F) → (⟨S4x64x128, .f32⟩ : BufTy).Contents (Elt F) → (⟨S4x64x128, .f32⟩ : BufTy).Contents (Elt F)),
    StableHlo.binary main_while1b_v42 main_while1b_v46 main_while1b_v63 ((fun l r => Host.dotGeneral dot_S4x64x128_S4x64x128_S4x64x64_2_2_1_1_0_0 none l r) : (⟨S4x64x128, .f32⟩ : BufTy).Contents (Elt F) → (⟨S4x64x128, .f32⟩ : BufTy).Contents (Elt F) → (⟨S4x64x64, .f32⟩ : BufTy).Contents (Elt F)),
    StableHlo.binary main_while1b_v42 main_while1b_v45 main_while1b_v64 ((fun l r => Host.dotGeneral dot_S4x64x128_S4x64x128_S4x128x128_1_1_2_2_0_0 none l r) : (⟨S4x64x128, .f32⟩ : BufTy).Contents (Elt F) → (⟨S4x64x128, .f32⟩ : BufTy).Contents (Elt F) → (⟨S4x128x128, .f32⟩ : BufTy).Contents (Elt F)),
    StableHlo.unary main_while1b_v64 main_while1b_v65 ((transpose S4x128x128 [0, 2, 1] · transposes_S4x128x128_S4x128x128_0_2_1) : (⟨S4x128x128, .f32⟩ : BufTy).Contents (Elt F) → (⟨S4x128x128, .f32⟩ : BufTy).Contents (Elt F)),
    StableHlo.binary main_while1b_v58 main_while1b_v65 main_while1b_v66 (addf : (⟨S4x128x128, .f32⟩ : BufTy).Contents (Elt F) → (⟨S4x128x128, .f32⟩ : BufTy).Contents (Elt F) → (⟨S4x128x128, .f32⟩ : BufTy).Contents (Elt F)),
    StableHlo.binary main_while1b_v42 main_while1b_v43 main_while1b_v67 ((fun l r => Host.dotGeneral dot_S4x64x128_S4x128x128_S4x64x128_2_2_1_1_0_0 none l r) : (⟨S4x64x128, .f32⟩ : BufTy).Contents (Elt F) → (⟨S4x128x128, .f32⟩ : BufTy).Contents (Elt F) → (⟨S4x64x128, .f32⟩ : BufTy).Contents (Elt F)),
    StableHlo.unary main_while1b_v62 main_while1b_v68 (Host.negf : (⟨S4x64x128, .f32⟩ : BufTy).Contents (Elt F) → (⟨S4x64x128, .f32⟩ : BufTy).Contents (Elt F)),
    StableHlo.binary main_while1b_v68 main_while1b_v44 main_while1b_v69 ((fun l r => Host.dotGeneral dot_S4x64x128_S4x64x128_S4x128x128_1_1_2_2_0_0 none l r) : (⟨S4x64x128, .f32⟩ : BufTy).Contents (Elt F) → (⟨S4x64x128, .f32⟩ : BufTy).Contents (Elt F) → (⟨S4x128x128, .f32⟩ : BufTy).Contents (Elt F)),
    StableHlo.unary main_while1b_v69 main_while1b_v70 ((transpose S4x128x128 [0, 2, 1] · transposes_S4x128x128_S4x128x128_0_2_1) : (⟨S4x128x128, .f32⟩ : BufTy).Contents (Elt F) → (⟨S4x128x128, .f32⟩ : BufTy).Contents (Elt F)),
    StableHlo.binary main_while1b_v66 main_while1b_v70 main_while1b_v71 (addf : (⟨S4x128x128, .f32⟩ : BufTy).Contents (Elt F) → (⟨S4x128x128, .f32⟩ : BufTy).Contents (Elt F) → (⟨S4x128x128, .f32⟩ : BufTy).Contents (Elt F)),
    StableHlo.binary main_while1b_v68 main_while1b_v43 main_while1b_v72 ((fun l r => Host.dotGeneral dot_S4x64x128_S4x128x128_S4x64x128_2_2_1_1_0_0 none l r) : (⟨S4x64x128, .f32⟩ : BufTy).Contents (Elt F) → (⟨S4x128x128, .f32⟩ : BufTy).Contents (Elt F) → (⟨S4x64x128, .f32⟩ : BufTy).Contents (Elt F)) ]
theorem bO9_sub : (bO9 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.binary_bufs_sub .., StableHlo.unary_bufs_sub .., StableHlo.binary_bufs_sub .., StableHlo.binary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub ..⟩
theorem bO9_fresh : (bO9 : List (HloOp τ sig (Elt F))).Forall fun op => op.fresh = ∅ :=
  StableHlo.forall_fresh_of_map rfl
abbrev bO9_W : List (Ref sig .tc) := [main_while1b_v50, main_while1b_v51, main_while1b_v52, main_while1b_v53, main_while1b_v54, main_while1b_cst_30, main_while1b_v55, main_while1b_v56, main_while1b_v57, main_while1b_v58, main_while1b_cst_31, main_while1b_v59, main_while1b_v60, main_while1b_v61, main_while1b_v62, main_while1b_v63, main_while1b_v64, main_while1b_v65, main_while1b_v66, main_while1b_v67, main_while1b_v68, main_while1b_v69, main_while1b_v70, main_while1b_v71, main_while1b_v72]
theorem bO9_writes : (bO9 : List (HloOp τ sig (Elt F))).Forall fun op => op.writes ⊆ (bO9_W.map (Proc.devRef (τ := τ) .tc)).toFinset :=
  StableHlo.forall_writes_sub_of_map rfl
/-- A piece of the second loop body. -/
def bO10 : List (HloOp τ sig (Elt F)) :=
  [ StableHlo.TRef.unary (.of main_while1b_v63 : StableHlo.TRef sig ⟨S4x64x64, .f32⟩) (.of main_while1b_call18_v0 : StableHlo.TRef sig ⟨S1x4x64x64, .f32⟩) (broadcastInDim S1x4x64x64 ![1, 2, 3] bcast_S4x64x64_S1x4x64x64_1_2_3),
    StableHlo.TRef.nullary (.of main_while1b_call18_c : StableHlo.TRef sig ⟨S_, .i32⟩) (constantI S_ 32 0#32),
    StableHlo.TRef.nullary (.of main_while1b_call18_c_0 : StableHlo.TRef sig ⟨S_, .i32⟩) (constantI S_ 32 0#32),
    StableHlo.TRef.nullary (.of main_while1b_call18_c_1 : StableHlo.TRef sig ⟨S_, .i32⟩) (constantI S_ 32 0#32),
    StableHlo.TRef.binaryIndexed (.of main_v27_10 : StableHlo.TRef sig ⟨S64x4x64x64, .f32⟩) (.of main_while1b_call18_v0 : StableHlo.TRef sig ⟨S1x4x64x64, .f32⟩) ![(.of main_while1b_v41 : StableHlo.TRef sig ⟨S_, .i32⟩), (.of main_while1b_call18_c : StableHlo.TRef sig ⟨S_, .i32⟩), (.of main_while1b_call18_c_0 : StableHlo.TRef sig ⟨S_, .i32⟩), (.of main_while1b_call18_c_1 : StableHlo.TRef sig ⟨S_, .i32⟩)] (.of main_while1b_v73 : StableHlo.TRef sig ⟨S64x4x64x64, .f32⟩) (fun x u i => Host.dynamicUpdateSlice x u (fun k => (i k (Shape.Idx.first h_S_)).toInt) updateFits_S64x4x64x64_S1x4x64x64) ]
theorem bO10_sub : (bO10 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem bO10_fresh : (bO10 : List (HloOp τ sig (Elt F))).Forall fun op => op.fresh = ∅ :=
  StableHlo.forall_fresh_of_map rfl
abbrev bO10_W : List (Ref sig .tc) := [main_while1b_call18_v0, main_while1b_call18_c, main_while1b_call18_c_0, main_while1b_call18_c_1, main_while1b_v73]
theorem bO10_writes : (bO10 : List (HloOp τ sig (Elt F))).Forall fun op => op.writes ⊆ (bO10_W.map (Proc.devRef (τ := τ) .tc)).toFinset :=
  StableHlo.forall_writes_sub_of_map rfl
/-- A piece of the second loop body. -/
def bO11 : List (HloOp τ sig (Elt F)) :=
  [ StableHlo.TRef.unary (.of main_while1b_v67 : StableHlo.TRef sig ⟨S4x64x128, .f32⟩) (.of main_while1b_call19_v0 : StableHlo.TRef sig ⟨S1x4x64x128, .f32⟩) (broadcastInDim S1x4x64x128 ![1, 2, 3] bcast_S4x64x128_S1x4x64x128_1_2_3),
    StableHlo.TRef.nullary (.of main_while1b_call19_c : StableHlo.TRef sig ⟨S_, .i32⟩) (constantI S_ 32 0#32),
    StableHlo.TRef.nullary (.of main_while1b_call19_c_0 : StableHlo.TRef sig ⟨S_, .i32⟩) (constantI S_ 32 0#32),
    StableHlo.TRef.nullary (.of main_while1b_call19_c_1 : StableHlo.TRef sig ⟨S_, .i32⟩) (constantI S_ 32 0#32),
    StableHlo.TRef.binaryIndexed (.of main_v27_11 : StableHlo.TRef sig ⟨S64x4x64x128, .f32⟩) (.of main_while1b_call19_v0 : StableHlo.TRef sig ⟨S1x4x64x128, .f32⟩) ![(.of main_while1b_v41 : StableHlo.TRef sig ⟨S_, .i32⟩), (.of main_while1b_call19_c : StableHlo.TRef sig ⟨S_, .i32⟩), (.of main_while1b_call19_c_0 : StableHlo.TRef sig ⟨S_, .i32⟩), (.of main_while1b_call19_c_1 : StableHlo.TRef sig ⟨S_, .i32⟩)] (.of main_while1b_v74 : StableHlo.TRef sig ⟨S64x4x64x128, .f32⟩) (fun x u i => Host.dynamicUpdateSlice x u (fun k => (i k (Shape.Idx.first h_S_)).toInt) updateFits_S64x4x64x128_S1x4x64x128) ]
theorem bO11_sub : (bO11 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem bO11_fresh : (bO11 : List (HloOp τ sig (Elt F))).Forall fun op => op.fresh = ∅ :=
  StableHlo.forall_fresh_of_map rfl
abbrev bO11_W : List (Ref sig .tc) := [main_while1b_call19_v0, main_while1b_call19_c, main_while1b_call19_c_0, main_while1b_call19_c_1, main_while1b_v74]
theorem bO11_writes : (bO11 : List (HloOp τ sig (Elt F))).Forall fun op => op.writes ⊆ (bO11_W.map (Proc.devRef (τ := τ) .tc)).toFinset :=
  StableHlo.forall_writes_sub_of_map rfl
/-- A piece of the second loop body. -/
def bO12 : List (HloOp τ sig (Elt F)) :=
  [ StableHlo.TRef.unary (.of main_while1b_v53 : StableHlo.TRef sig ⟨S4x64x128, .f32⟩) (.of main_while1b_call20_v0 : StableHlo.TRef sig ⟨S1x4x64x128, .f32⟩) (broadcastInDim S1x4x64x128 ![1, 2, 3] bcast_S4x64x128_S1x4x64x128_1_2_3),
    StableHlo.TRef.nullary (.of main_while1b_call20_c : StableHlo.TRef sig ⟨S_, .i32⟩) (constantI S_ 32 0#32),
    StableHlo.TRef.nullary (.of main_while1b_call20_c_0 : StableHlo.TRef sig ⟨S_, .i32⟩) (constantI S_ 32 0#32),
    StableHlo.TRef.nullary (.of main_while1b_call20_c_1 : StableHlo.TRef sig ⟨S_, .i32⟩) (constantI S_ 32 0#32),
    StableHlo.TRef.binaryIndexed (.of main_v27_12 : StableHlo.TRef sig ⟨S64x4x64x128, .f32⟩) (.of main_while1b_call20_v0 : StableHlo.TRef sig ⟨S1x4x64x128, .f32⟩) ![(.of main_while1b_v41 : StableHlo.TRef sig ⟨S_, .i32⟩), (.of main_while1b_call20_c : StableHlo.TRef sig ⟨S_, .i32⟩), (.of main_while1b_call20_c_0 : StableHlo.TRef sig ⟨S_, .i32⟩), (.of main_while1b_call20_c_1 : StableHlo.TRef sig ⟨S_, .i32⟩)] (.of main_while1b_v75 : StableHlo.TRef sig ⟨S64x4x64x128, .f32⟩) (fun x u i => Host.dynamicUpdateSlice x u (fun k => (i k (Shape.Idx.first h_S_)).toInt) updateFits_S64x4x64x128_S1x4x64x128) ]
theorem bO12_sub : (bO12 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem bO12_fresh : (bO12 : List (HloOp τ sig (Elt F))).Forall fun op => op.fresh = ∅ :=
  StableHlo.forall_fresh_of_map rfl
abbrev bO12_W : List (Ref sig .tc) := [main_while1b_call20_v0, main_while1b_call20_c, main_while1b_call20_c_0, main_while1b_call20_c_1, main_while1b_v75]
theorem bO12_writes : (bO12 : List (HloOp τ sig (Elt F))).Forall fun op => op.writes ⊆ (bO12_W.map (Proc.devRef (τ := τ) .tc)).toFinset :=
  StableHlo.forall_writes_sub_of_map rfl
/-- A piece of the second loop body. -/
def bO13 : List (HloOp τ sig (Elt F)) :=
  [ StableHlo.TRef.unary (.of main_while1b_v62 : StableHlo.TRef sig ⟨S4x64x128, .f32⟩) (.of main_while1b_call21_v0 : StableHlo.TRef sig ⟨S1x4x64x128, .f32⟩) (broadcastInDim S1x4x64x128 ![1, 2, 3] bcast_S4x64x128_S1x4x64x128_1_2_3),
    StableHlo.TRef.nullary (.of main_while1b_call21_c : StableHlo.TRef sig ⟨S_, .i32⟩) (constantI S_ 32 0#32),
    StableHlo.TRef.nullary (.of main_while1b_call21_c_0 : StableHlo.TRef sig ⟨S_, .i32⟩) (constantI S_ 32 0#32),
    StableHlo.TRef.nullary (.of main_while1b_call21_c_1 : StableHlo.TRef sig ⟨S_, .i32⟩) (constantI S_ 32 0#32),
    StableHlo.TRef.binaryIndexed (.of main_v27_13 : StableHlo.TRef sig ⟨S64x4x64x128, .f32⟩) (.of main_while1b_call21_v0 : StableHlo.TRef sig ⟨S1x4x64x128, .f32⟩) ![(.of main_while1b_v41 : StableHlo.TRef sig ⟨S_, .i32⟩), (.of main_while1b_call21_c : StableHlo.TRef sig ⟨S_, .i32⟩), (.of main_while1b_call21_c_0 : StableHlo.TRef sig ⟨S_, .i32⟩), (.of main_while1b_call21_c_1 : StableHlo.TRef sig ⟨S_, .i32⟩)] (.of main_while1b_v76 : StableHlo.TRef sig ⟨S64x4x64x128, .f32⟩) (fun x u i => Host.dynamicUpdateSlice x u (fun k => (i k (Shape.Idx.first h_S_)).toInt) updateFits_S64x4x64x128_S1x4x64x128) ]
theorem bO13_sub : (bO13 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem bO13_fresh : (bO13 : List (HloOp τ sig (Elt F))).Forall fun op => op.fresh = ∅ :=
  StableHlo.forall_fresh_of_map rfl
abbrev bO13_W : List (Ref sig .tc) := [main_while1b_call21_v0, main_while1b_call21_c, main_while1b_call21_c_0, main_while1b_call21_c_1, main_while1b_v76]
theorem bO13_writes : (bO13 : List (HloOp τ sig (Elt F))).Forall fun op => op.writes ⊆ (bO13_W.map (Proc.devRef (τ := τ) .tc)).toFinset :=
  StableHlo.forall_writes_sub_of_map rfl
/-- A piece of the second loop body. -/
def bO14 : List (HloOp τ sig (Elt F)) :=
  [ StableHlo.TRef.unary (.of main_while1b_v72 : StableHlo.TRef sig ⟨S4x64x128, .f32⟩) (.of main_while1b_call22_v0 : StableHlo.TRef sig ⟨S1x4x64x128, .f32⟩) (broadcastInDim S1x4x64x128 ![1, 2, 3] bcast_S4x64x128_S1x4x64x128_1_2_3),
    StableHlo.TRef.nullary (.of main_while1b_call22_c : StableHlo.TRef sig ⟨S_, .i32⟩) (constantI S_ 32 0#32),
    StableHlo.TRef.nullary (.of main_while1b_call22_c_0 : StableHlo.TRef sig ⟨S_, .i32⟩) (constantI S_ 32 0#32),
    StableHlo.TRef.nullary (.of main_while1b_call22_c_1 : StableHlo.TRef sig ⟨S_, .i32⟩) (constantI S_ 32 0#32),
    StableHlo.TRef.binaryIndexed (.of main_v27_14 : StableHlo.TRef sig ⟨S64x4x64x128, .f32⟩) (.of main_while1b_call22_v0 : StableHlo.TRef sig ⟨S1x4x64x128, .f32⟩) ![(.of main_while1b_v41 : StableHlo.TRef sig ⟨S_, .i32⟩), (.of main_while1b_call22_c : StableHlo.TRef sig ⟨S_, .i32⟩), (.of main_while1b_call22_c_0 : StableHlo.TRef sig ⟨S_, .i32⟩), (.of main_while1b_call22_c_1 : StableHlo.TRef sig ⟨S_, .i32⟩)] (.of main_while1b_v77 : StableHlo.TRef sig ⟨S64x4x64x128, .f32⟩) (fun x u i => Host.dynamicUpdateSlice x u (fun k => (i k (Shape.Idx.first h_S_)).toInt) updateFits_S64x4x64x128_S1x4x64x128) ]
theorem bO14_sub : (bO14 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩
theorem bO14_fresh : (bO14 : List (HloOp τ sig (Elt F))).Forall fun op => op.fresh = ∅ :=
  StableHlo.forall_fresh_of_map rfl
abbrev bO14_W : List (Ref sig .tc) := [main_while1b_call22_v0, main_while1b_call22_c, main_while1b_call22_c_0, main_while1b_call22_c_1, main_while1b_v77]
theorem bO14_writes : (bO14 : List (HloOp τ sig (Elt F))).Forall fun op => op.writes ⊆ (bO14_W.map (Proc.devRef (τ := τ) .tc)).toFinset :=
  StableHlo.forall_writes_sub_of_map rfl
/-- A piece of the second loop body. -/
def bO15 : List (HloOp τ sig (Elt F)) :=
  [ StableHlo.TRef.unary (.of main_while1b_v59 : StableHlo.TRef sig ⟨S4, .f32⟩) (.of main_while1b_call23_v0 : StableHlo.TRef sig ⟨S1x4, .f32⟩) (broadcastInDim S1x4 ![1] bcast_S4_S1x4_1),
    StableHlo.TRef.nullary (.of main_while1b_call23_c : StableHlo.TRef sig ⟨S_, .i32⟩) (constantI S_ 32 0#32),
    StableHlo.TRef.binaryIndexed (.of main_v27_15 : StableHlo.TRef sig ⟨S64x4, .f32⟩) (.of main_while1b_call23_v0 : StableHlo.TRef sig ⟨S1x4, .f32⟩) ![(.of main_while1b_v41 : StableHlo.TRef sig ⟨S_, .i32⟩), (.of main_while1b_call23_c : StableHlo.TRef sig ⟨S_, .i32⟩)] (.of main_while1b_v78 : StableHlo.TRef sig ⟨S64x4, .f32⟩) (fun x u i => Host.dynamicUpdateSlice x u (fun k => (i k (Shape.Idx.first h_S_)).toInt) updateFits_S64x4_S1x4) ]
theorem bO15_sub : (bO15 : List (HloOp τ sig (Elt F))).Forall fun op => op.bufs ⊆ StableHlo.tcRefs τ sig :=
  ⟨StableHlo.unary_bufs_sub .., StableHlo.nullary_bufs_sub .., StableHlo.binaryIndexed_bufs_sub ..⟩
theorem bO15_fresh : (bO15 : List (HloOp τ sig (Elt F))).Forall fun op => op.fresh = ∅ :=
  StableHlo.forall_fresh_of_map rfl
abbrev bO15_W : List (Ref sig .tc) := [main_while1b_call23_v0, main_while1b_call23_c, main_while1b_v78]
theorem bO15_writes : (bO15 : List (HloOp τ sig (Elt F))).Forall fun op => op.writes ⊆ (bO15_W.map (Proc.devRef (τ := τ) .tc)).toFinset :=
  StableHlo.forall_writes_sub_of_map rfl
/-- A piece of the second loop body. -/
def bO16 : List (HloOp τ sig (Elt F)) :=
  [ StableHlo.nullary main_while1b_c_32 (constantI S_ 32 1#32),
    StableHlo.binary main_v27_8 main_while1b_c_32 main_while1b_v79 (addi : (⟨S_, .i32⟩ : BufTy).Contents (Elt F) → (⟨S_, .i32⟩ : BufTy).Contents (Elt F) → (⟨S_, .i32⟩ : BufTy).Contents (Elt F)),
    StableHlo.unary main_while1b_v79 main_v27_8 id,
    StableHlo.unary main_while1b_v71 main_v27_9 id,
    StableHlo.unary main_while1b_v73 main_v27_10 id,
    StableHlo.unary main_while1b_v74 main_v27_11 id,
    StableHlo.unary main_while1b_v75 main_v27_12 id,
    StableHlo.unary main_while1b_v76 main_v27_13 id,
    StableHlo.unary main_while1b_v77 main_v27_14 id,
    StableHlo.unary main_while1b_v78 main_v27_15 id ]
theorem bO16_sub : (bO16 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem bO16_fresh : (bO16 : List (HloOp τ sig (Elt F))).Forall fun op => op.fresh = ∅ :=
  StableHlo.forall_fresh_of_map rfl
abbrev bO16_W : List (Ref sig .tc) := [main_while1b_c_32, main_while1b_v79, main_v27_8, main_v27_9, main_v27_10, main_v27_11, main_v27_12, main_v27_13, main_v27_14, main_v27_15]
theorem bO16_writes : (bO16 : List (HloOp τ sig (Elt F))).Forall fun op => op.writes ⊆ (bO16_W.map (Proc.devRef (τ := τ) .tc)).toFinset :=
  StableHlo.forall_writes_sub_of_map rfl

theorem main_part0_chain (c : Dev nD) : main_part0 (F := F) c = (Pipeline.chainK
  [ StableHlo.seq preO,
    HostLoop.enter 0 ]
  (StableHlo.seq midO) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

theorem main_part1_chain (c : Dev nD) : main_part1 (F := F) c = (Pipeline.chain
  [ StableHlo.seq midP,
    HostLoop.enter 1,
    StableHlo.seq postO ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl

theorem main_chain_windows (c : Dev nD) : main (F := F) c = (Pipeline.chain
  [ StableHlo.seq preO,
    HostLoop.enter 0,
    StableHlo.seq midO,
    StableHlo.seq midP,
    HostLoop.enter 1,
    StableHlo.seq postO ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [main_part1_chain, main_part0_chain, Pipeline.chainK_bind_chain]
  chain_rfl

theorem while0_body_chain : main_while0_body (F := F) = (Pipeline.chain
  [ StableHlo.seq fO0,
    StableHlo.seq fO1,
    StableHlo.seq fO2,
    StableHlo.seq fO3,
    StableHlo.seq fO4,
    StableHlo.seq fO5,
    StableHlo.seq fO6,
    StableHlo.seq fO7,
    StableHlo.seq fO8,
    StableHlo.seq fO9,
    StableHlo.seq fO10,
    StableHlo.seq fO11 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, StableHlo.chain_seq_cons]
  chain_rfl

theorem while1_body_chain : main_while1_body (F := F) = (Pipeline.chain
  [ StableHlo.seq bO0,
    StableHlo.seq bO1,
    StableHlo.seq bO2,
    StableHlo.seq bO3,
    StableHlo.seq bO4,
    StableHlo.seq bO5,
    StableHlo.seq bO6,
    StableHlo.seq bO7,
    StableHlo.seq bO8,
    StableHlo.seq bO9,
    StableHlo.seq bO10,
    StableHlo.seq bO11,
    StableHlo.seq bO12,
    StableHlo.seq bO13,
    StableHlo.seq bO14,
    StableHlo.seq bO15,
    StableHlo.seq bO16 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, Pipeline.chain_cons, Pipeline.chain_cons, StableHlo.chain_seq_cons]
  chain_rfl

end Cert.ScanRef
-- ==== Proof.ScanRefRun.lean ====
/- The run of the gated delta rule's reference: what every buffer holds after the two loops, as the loops' bodies iterated. -/
module

public import proofs.«01_k».proof.Proof.ScanRefOps
public import Idealize.ShloMosaic.Lib.Scf.ExitTest
public import Idealize.ShloMosaic.Lib.Scf.Counter

@[expose] public section

set_option maxRecDepth 100000

noncomputable section

namespace Cert.ScanRef

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs unscopedBufs_held CSeg Ticket)

variable {F : FTy → Type} [FloatOps F]

/-! ## The loops' conditions -/

def condF : List (HloOp τ sig (Elt F)) :=
  [ StableHlo.nullary main_while0c_c_24 (constantI S_ 32 64#32),
    StableHlo.binary main_v16_6 main_while0c_c_24 main_while0c_v40 (cmpi .slt) ]
def condB : List (HloOp τ sig (Elt F)) :=
  [ StableHlo.nullary main_while1c_c_28 (constantI S_ 32 64#32),
    StableHlo.binary main_v27_8 main_while1c_c_28 main_while1c_v40 (cmpi .slt) ]
abbrev condF_W : List (Ref sig .tc) := [main_while0c_c_24, main_while0c_v40]
abbrev condB_W : List (Ref sig .tc) := [main_while1c_c_28, main_while1c_v40]
theorem condF_writes : (condF : List (HloOp τ sig (Elt F))).Forall fun op => op.writes ⊆ (condF_W.map (Proc.devRef (τ := τ) .tc)).toFinset :=
  StableHlo.forall_writes_sub_of_map rfl
theorem condB_writes : (condB : List (HloOp τ sig (Elt F))).Forall fun op => op.writes ⊆ (condB_W.map (Proc.devRef (τ := τ) .tc)).toFinset :=
  StableHlo.forall_writes_sub_of_map rfl

/-! ## The bodies as lists of pieces -/

abbrev bodyF : List (List (HloOp τ sig (Elt F))) := [fO0, fO1, fO2, fO3, fO4, fO5, fO6, fO7, fO8, fO9, fO10, fO11]
abbrev bodyB : List (List (HloOp τ sig (Elt F))) := [bO0, bO1, bO2, bO3, bO4, bO5, bO6, bO7, bO8, bO9, bO10, bO11, bO12, bO13, bO14, bO15, bO16]

theorem plain_cons {ops : List (HloOp τ sig (Elt F))} {rest : List (List (HloOp τ sig (Elt F)))}
    (hs : ops.Forall fun op => op.bufs ⊆ tcRefs τ sig) (hf : ops.Forall fun op => op.fresh = ∅) (h : Plain rest) : Plain (ops :: rest) :=
  Plain.cons hs h (List.forall_iff_forall_mem.mp hf)

theorem plainPre : Plain ([preO] : List (List (HloOp τ sig (Elt F)))) := plain_cons preO_sub preO_fresh .nil
theorem plainMid : Plain ([midO, midP] : List (List (HloOp τ sig (Elt F)))) := plain_cons midO_sub midO_fresh (plain_cons midP_sub midP_fresh .nil)
theorem plainPost : Plain ([postO] : List (List (HloOp τ sig (Elt F)))) := plain_cons postO_sub postO_fresh .nil
theorem plainF : Plain (bodyF : List (List (HloOp τ sig (Elt F)))) :=
  plain_cons fO0_sub fO0_fresh <| plain_cons fO1_sub fO1_fresh <| plain_cons fO2_sub fO2_fresh <| plain_cons fO3_sub fO3_fresh <|
  plain_cons fO4_sub fO4_fresh <| plain_cons fO5_sub fO5_fresh <| plain_cons fO6_sub fO6_fresh <| plain_cons fO7_sub fO7_fresh <|
  plain_cons fO8_sub fO8_fresh <| plain_cons fO9_sub fO9_fresh <| plain_cons fO10_sub fO10_fresh <| plain_cons fO11_sub fO11_fresh .nil
theorem plainB : Plain (bodyB : List (List (HloOp τ sig (Elt F)))) :=
  plain_cons bO0_sub bO0_fresh <| plain_cons bO1_sub bO1_fresh <| plain_cons bO2_sub bO2_fresh <| plain_cons bO3_sub bO3_fresh <|
  plain_cons bO4_sub bO4_fresh <| plain_cons bO5_sub bO5_fresh <| plain_cons bO6_sub bO6_fresh <| plain_cons bO7_sub bO7_fresh <|
  plain_cons bO8_sub bO8_fresh <| plain_cons bO9_sub bO9_fresh <| plain_cons bO10_sub bO10_fresh <| plain_cons bO11_sub bO11_fresh <|
  plain_cons bO12_sub bO12_fresh <| plain_cons bO13_sub bO13_fresh <| plain_cons bO14_sub bO14_fresh <| plain_cons bO15_sub bO15_fresh <|
  plain_cons bO16_sub bO16_fresh .nil

/-! ## What a stretch leaves alone -/

theorem pre_keep (V : Valuation τ sig (Elt F)) (r : Ref sig .tc) (h : r ∉ preO_W) : after preO V (Proc.devRef .tc r) = V (Proc.devRef .tc r) :=
  after_of_writes_sub preO V preO_writes h
theorem mid_keep (V : Valuation τ sig (Elt F)) (r : Ref sig .tc) (h : r ∉ midO_W) (h' : r ∉ midP_W) :
    afterL [midO, midP] V (Proc.devRef .tc r) = V (Proc.devRef .tc r) :=
  (after_of_writes_sub midP _ midP_writes h').trans (after_of_writes_sub midO V midO_writes h)
theorem post_keep (V : Valuation τ sig (Elt F)) (r : Ref sig .tc) (h : r ∉ postO_W) : after postO V (Proc.devRef .tc r) = V (Proc.devRef .tc r) :=
  after_of_writes_sub postO V postO_writes h
theorem condF_keep (V : Valuation τ sig (Elt F)) (r : Ref sig .tc) (h : r ∉ condF_W) : after condF V (Proc.devRef .tc r) = V (Proc.devRef .tc r) :=
  after_of_writes_sub condF V condF_writes h
theorem condB_keep (V : Valuation τ sig (Elt F)) (r : Ref sig .tc) (h : r ∉ condB_W) : after condB V (Proc.devRef .tc r) = V (Proc.devRef .tc r) :=
  after_of_writes_sub condB V condB_writes h

/-- The buffers the first loop's body writes. -/
abbrev bodyF_W : List (Ref sig .tc) := fO0_W ++ (fO1_W ++ (fO2_W ++ (fO3_W ++ (fO4_W ++ (fO5_W ++ (fO6_W ++ (fO7_W ++ (fO8_W ++ (fO9_W ++ (fO10_W ++ fO11_W))))))))))
/-- The buffers the second loop's body writes. -/
abbrev bodyB_W : List (Ref sig .tc) := bO0_W ++ (bO1_W ++ (bO2_W ++ (bO3_W ++ (bO4_W ++ (bO5_W ++ (bO6_W ++ (bO7_W ++ (bO8_W ++ (bO9_W ++ (bO10_W ++ (bO11_W ++ (bO12_W ++ (bO13_W ++ (bO14_W ++ (bO15_W ++ bO16_W)))))))))))))))

theorem keep_step {ops : List (HloOp τ sig (Elt F))} {W : List (Ref sig .tc)} (hw : ops.Forall fun op => op.writes ⊆ (W.map (Proc.devRef (τ := τ) .tc)).toFinset)
    {rest : List (List (HloOp τ sig (Elt F)))} {W' : List (Ref sig .tc)} {r : Ref sig .tc}
    (hr : ∀ V : Valuation τ sig (Elt F), r ∉ W' → afterL rest V (Proc.devRef .tc r) = V (Proc.devRef .tc r)) (V : Valuation τ sig (Elt F)) (h : r ∉ W ++ W') :
    afterL (ops :: rest) V (Proc.devRef .tc r) = V (Proc.devRef .tc r) := by
  rw [List.mem_append, not_or] at h
  exact (hr _ h.2).trans (after_of_writes_sub ops V hw h.1)
theorem keep_last {ops : List (HloOp τ sig (Elt F))} {W : List (Ref sig .tc)} (hw : ops.Forall fun op => op.writes ⊆ (W.map (Proc.devRef (τ := τ) .tc)).toFinset)
    {r : Ref sig .tc} (V : Valuation τ sig (Elt F)) (h : r ∉ W) : afterL [ops] V (Proc.devRef .tc r) = V (Proc.devRef .tc r) :=
  after_of_writes_sub ops V hw h

theorem bodyF_keep (r : Ref sig .tc) (V : Valuation τ sig (Elt F)) (h : r ∉ bodyF_W) : afterL bodyF V (Proc.devRef .tc r) = V (Proc.devRef .tc r) :=
  keep_step fO0_writes (keep_step fO1_writes (keep_step fO2_writes (keep_step fO3_writes (keep_step fO4_writes (keep_step fO5_writes (keep_step fO6_writes
    (keep_step fO7_writes (keep_step fO8_writes (keep_step fO9_writes (keep_step fO10_writes (keep_last fO11_writes))))))))))) V h
theorem bodyB_keep (r : Ref sig .tc) (V : Valuation τ sig (Elt F)) (h : r ∉ bodyB_W) : afterL bodyB V (Proc.devRef .tc r) = V (Proc.devRef .tc r) :=
  keep_step bO0_writes (keep_step bO1_writes (keep_step bO2_writes (keep_step bO3_writes (keep_step bO4_writes (keep_step bO5_writes (keep_step bO6_writes
    (keep_step bO7_writes (keep_step bO8_writes (keep_step bO9_writes (keep_step bO10_writes (keep_step bO11_writes (keep_step bO12_writes
    (keep_step bO13_writes (keep_step bO14_writes (keep_step bO15_writes (keep_last bO16_writes)))))))))))))))) V h

/-! ## The buffers along the run -/

variable (m : (ℓ : Loc nD τ sig) → Buf (Elt F) ℓ) (ρ : Dev nD → PrngReg)

/-- At the first loop's entry. -/
def W0 (c : Dev nD) : Valuation τ sig (Elt F) := after preO (launchContents m c)
/-- Before the first loop's `k`-th trip. -/
abbrev AF (k : ℕ) (c : Dev nD) : Valuation τ sig (Elt F) := atTrip condF bodyF (W0 m) k c
/-- At the second loop's entry. -/
def W1 (c : Dev nD) : Valuation τ sig (Elt F) := afterL [midO, midP] (after condF (AF m 64 c))
/-- Before the second loop's `k`-th trip. -/
abbrev AB (k : ℕ) (c : Dev nD) : Valuation τ sig (Elt F) := atTrip condB bodyB (W1 m) k c
/-- At the end. -/
def WE (c : Dev nD) : Valuation τ sig (Elt F) := after postO (after condB (AB m 64 c))

/-- The first loop's counter steps by one. -/
theorem ctrF_step (X : Valuation τ sig (Elt F)) :
    after fO11 X (Proc.devRef .tc main_v16_6) = addi (X (Proc.devRef .tc main_v16_6)) (constantI S_ 32 1#32) := by
  unfold fO11
  after_results
  rfl
theorem ctrB_step (X : Valuation τ sig (Elt F)) :
    after bO16 X (Proc.devRef .tc main_v27_8) = addi (X (Proc.devRef .tc main_v27_8)) (constantI S_ 32 1#32) := by
  unfold bO16
  after_results
  rfl

abbrev headF : List (List (HloOp τ sig (Elt F))) := [fO0, fO1, fO2, fO3, fO4, fO5, fO6, fO7, fO8, fO9, fO10]
abbrev headF_W : List (Ref sig .tc) := fO0_W ++ (fO1_W ++ (fO2_W ++ (fO3_W ++ (fO4_W ++ (fO5_W ++ (fO6_W ++ (fO7_W ++ (fO8_W ++ (fO9_W ++ fO10_W)))))))))
theorem headF_keep (r : Ref sig .tc) (V : Valuation τ sig (Elt F)) (h : r ∉ headF_W) : afterL headF V (Proc.devRef .tc r) = V (Proc.devRef .tc r) :=
  keep_step fO0_writes (keep_step fO1_writes (keep_step fO2_writes (keep_step fO3_writes (keep_step fO4_writes (keep_step fO5_writes (keep_step fO6_writes
    (keep_step fO7_writes (keep_step fO8_writes (keep_step fO9_writes (keep_last fO10_writes)))))))))) V h
theorem bodyF_eq (V : Valuation τ sig (Elt F)) : afterL bodyF V = after fO11 (afterL headF V) := rfl
abbrev headB : List (List (HloOp τ sig (Elt F))) := [bO0, bO1, bO2, bO3, bO4, bO5, bO6, bO7, bO8, bO9, bO10, bO11, bO12, bO13, bO14, bO15]
abbrev headB_W : List (Ref sig .tc) := bO0_W ++ (bO1_W ++ (bO2_W ++ (bO3_W ++ (bO4_W ++ (bO5_W ++ (bO6_W ++ (bO7_W ++ (bO8_W ++ (bO9_W ++ (bO10_W ++ (bO11_W ++ (bO12_W ++ (bO13_W ++ (bO14_W ++ bO15_W))))))))))))))
theorem headB_keep (r : Ref sig .tc) (V : Valuation τ sig (Elt F)) (h : r ∉ headB_W) : afterL headB V (Proc.devRef .tc r) = V (Proc.devRef .tc r) :=
  keep_step bO0_writes (keep_step bO1_writes (keep_step bO2_writes (keep_step bO3_writes (keep_step bO4_writes (keep_step bO5_writes (keep_step bO6_writes
    (keep_step bO7_writes (keep_step bO8_writes (keep_step bO9_writes (keep_step bO10_writes (keep_step bO11_writes (keep_step bO12_writes
    (keep_step bO13_writes (keep_step bO14_writes (keep_last bO15_writes))))))))))))))) V h
theorem bodyB_eq (V : Valuation τ sig (Elt F)) : afterL bodyB V = after bO16 (afterL headB V) := rfl

theorem ctrF_entry (c : Dev nD) : W0 m c (Proc.devRef .tc main_v16_6) = fun _ => (0#32 : BitVec 32) := by
  unfold W0 preO
  after_reads_simp
  rfl
theorem ctrB_entry (c : Dev nD) : W1 m c (Proc.devRef .tc main_v27_8) = fun _ => (0#32 : BitVec 32) := by
  unfold W1 midO midP
  simp only [afterL_cons, afterL_nil]
  after_reads_simp
  rfl

theorem AF_ctr (c : Dev nD) : ∀ k, AF m k c (Proc.devRef .tc main_v16_6) = fun _ => Scf.iv 0#32 1#32 k
  | 0 => by rw [show AF m 0 c = W0 m c from rfl, ctrF_entry, Scf.iv_zero]
  | k + 1 => by
    rw [show AF m (k + 1) c = afterL bodyF (after condF (AF m k c)) from rfl, bodyF_eq, ctrF_step, headF_keep _ _ (by decide +kernel),
      condF_keep _ _ (by decide +kernel), AF_ctr c k, Scf.iv_succ]
    rfl
theorem AB_ctr (c : Dev nD) : ∀ k, AB m k c (Proc.devRef .tc main_v27_8) = fun _ => Scf.iv 0#32 1#32 k
  | 0 => by rw [show AB m 0 c = W1 m c from rfl, ctrB_entry, Scf.iv_zero]
  | k + 1 => by
    rw [show AB m (k + 1) c = afterL bodyB (after condB (AB m k c)) from rfl, bodyB_eq, ctrB_step, headB_keep _ _ (by decide +kernel),
      condB_keep _ _ (by decide +kernel), AB_ctr c k, Scf.iv_succ]
    rfl

/-! ## The conditions' specifications -/

local notation "𝕄" => MT nD τ sig Unit (Elt F) ℕ (Option PUnit) ℕ

/-- What rides beside the buffers: the device's debts. -/
abbrev Rw (c : Dev nD) : sProp 𝕄 := iprop(∃ W, owes (c : Thread nD τ) (0 : CellTallies nD τ sig Unit) W)

set_option backward.isDefEq.respectTransparency.types false in
theorem condF_spec : LoopCond (pcfgs (F := F)) defs₀ Variants.none loops Rw (main_while0_cond (F := F)) condF bodyF (W0 m) 64 := by
  intro k hk c bd
  have hctr := AF_ctr m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (AF m k c) main_v16_6 HostLoop.idx0)
        (HloOp.result _ (AF m k c) main_while0c_c_24 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  isplitl [Hh]
  · unfold condF; rw [after_cons, after_cons, after_nil]; iexact Hh
  iexact HR

set_option backward.isDefEq.respectTransparency.types false in
theorem condB_spec : LoopCond (pcfgs (F := F)) defs₀ Variants.none loops Rw (main_while1_cond (F := F)) condB bodyB (W1 m) 64 := by
  intro k hk c bd
  have hctr := AB_ctr m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (AB m k c) main_v27_8 HostLoop.idx0)
        (HloOp.result _ (AB m k c) main_while1c_c_28 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  isplitl [Hh]
  · unfold condB; rw [after_cons, after_cons, after_nil]; iexact Hh
  iexact HR

/-! ## The run -/

abbrev adm0 : (p : Fin 0) → ((pcfgs (F := F)) p).Adm := fun p => p.elim0
abbrev tk0 : Fin 0 → Ticket (Ix := Unit) (Name := ℕ) (U := Option PUnit) (Lvl := ℕ) (nD := nD) (τ := τ) (pcfgs (F := F)) adm0 := fun j => j.elim0
abbrev L0 : GSem nD τ sig → Finset Unit := fun _ => ∅
abbrev lv0 : GSem nD τ sig → Unit → ℕ := fun _ _ => 0

def tailSegs : List (CSeg (pcfgs (F := F)) adm0 defs₀ Variants.none L0 lv0 loops tk0) :=
  segsOf _ _ _ _ _ _ _ _ Rw [midO, midP] plainMid (fun c => after condF (AF m 64 c))
    ++ loopSeg _ _ _ _ _ _ _ _ 1 main_while1_cond main_while1_body rfl condB bodyB plainB (by rw [while1_body_chain]; rfl) 64 (W1 m) Rw (condB_spec m)
      :: segsOf _ _ _ _ _ _ _ _ Rw [postO] plainPost (fun c => after condB (AB m 64 c))
def runSegs : List (CSeg (pcfgs (F := F)) adm0 defs₀ Variants.none L0 lv0 loops tk0) :=
  segsOf _ _ _ _ _ _ _ _ Rw [preO] plainPre (launchContents m)
    ++ loopSeg _ _ _ _ _ _ _ _ 0 main_while0_cond main_while0_body rfl condF bodyF plainF (by rw [while0_body_chain]; rfl) 64 (W0 m) Rw (condF_spec m)
      :: tailSegs m

theorem runSegs_prog : (runSegs m).map CSeg.prog = [seq (preO (F := F)), HostLoop.enter 0, seq midO, seq midP, HostLoop.enter 1, seq postO] := rfl

theorem tail_chains : CSeg.Chains (fun c => iprop(held (c : Thread nD τ) (ucRefs τ sig) (after condF (AF m 64 c)) ∗ Rw c)) (tailSegs m)
      (fun c => iprop(iprop(held (c : Thread nD τ) (ucRefs τ sig) (WE m c)) ∗ ∃ W, owes (c : Thread nD τ) (0 : CellTallies nD τ sig Unit) W)) := by
  unfold tailSegs
  exact CSeg.Chains.append (segsOf_chains _ _ _ _ _ _ _ _ Rw [midO, midP] plainMid _) ⟨fun _ => .rfl, segsOf_chains _ _ _ _ _ _ _ _ Rw [postO] plainPost _⟩
theorem run_chains : CSeg.Chains (fun c => iprop(held (c : Thread nD τ) (ucRefs τ sig) (launchContents m c) ∗ Rw c)) (runSegs m)
      (fun c => iprop(iprop(held (c : Thread nD τ) (ucRefs τ sig) (WE m c)) ∗ ∃ W, owes (c : Thread nD τ) (0 : CellTallies nD τ sig Unit) W)) := by
  unfold runSegs
  exact CSeg.Chains.append (segsOf_chains _ _ _ _ _ _ _ _ Rw [preO] plainPre _) ⟨fun _ => .rfl, tail_chains m⟩

/-- The run: every buffer that holds a value of the program ends at `WE`. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = WE m c (Proc.devRef .tc b)) :=
  Pipeline.θ_run_regions_loop_kit (Ix := Unit) (Name := ℕ) (U := Option PUnit) (Lvl := ℕ) (J := Fin 0) (P := Fin 0) (Val := Elt F)
    pcfgs adm0 (fun k => k.1.elim0) defs₀ Variants.none L0 lv0 loops tk0 m ρ main
    (runSegs m)
    (fun c Q => by
      rw [main_chain_windows c]
      show wp _ _ _ (Pipeline.chain ((runSegs m).map CSeg.prog)) Q ⊢ _
      rw [runSegs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (WE m c)))
    (hch := run_chains m)
    (hinit := by
      refine Pipeline.initEach L0 lv0 fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = WE m c b)
    (hfin := fun c s' => by
      unfold held
      iintro ⟨Hh, HSI⟩
      ihave Hr := (pointsTo_read_all (ucRefs τ sig) (fun b => ((c : Dev nD), b)) (fun b => WE m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.ScanRef
-- ==== Proof.ScanRefTrip.lean ====
/- What each piece of a trip of the gated delta rule's reference leaves: the members sliced from the stacks, the trip's operations on them, the stacks with a member replaced. -/
module

public import proofs.«01_k».proof.Proof.ScanRefRun

@[expose] public section

set_option maxRecDepth 100000

noncomputable section

namespace Cert.ScanRef

open Cert.ReferenceIdeal Cert.ReferenceIdeal.Gen
open Idealize.ShloMosaic Idealize.ShloMosaic.TcCoe Idealize.ShloMosaic.Tactic
open Idealize.ShloMosaic.StableHlo
open Idealize.SL Idealize.SL.Sem

variable {F : FTy → Type} [FloatOps F]

/-- The member at a place of a stack, as the slice reads it. -/
def rd_S64x4x64x64 (x : Vec F S64x4x64x64 .f32) (i : BitVec 32) : Vec F S4x64x64 .f32 :=
  shapeCast S4x64x64 (Host.dynamicSlice S1x4x64x64 x ![i.toInt, 0, 0, 0] sliceFits_S64x4x64x64_S1x4x64x64) shapeCasts_S1x4x64x64_S4x64x64

/-- The member at a place of a stack, as the slice reads it. -/
def rd_S64x4x64x128 (x : Vec F S64x4x64x128 .f32) (i : BitVec 32) : Vec F S4x64x128 .f32 :=
  shapeCast S4x64x128 (Host.dynamicSlice S1x4x64x128 x ![i.toInt, 0, 0, 0] sliceFits_S64x4x64x128_S1x4x64x128) shapeCasts_S1x4x64x128_S4x64x128

/-- The member at a place of a stack, as the slice reads it. -/
def rd_S64x4 (x : Vec F S64x4 .f32) (i : BitVec 32) : Vec F S4 .f32 :=
  shapeCast S4 (Host.dynamicSlice S1x4 x ![i.toInt, 0] sliceFits_S64x4_S1x4) shapeCasts_S1x4_S4

/-- The member at a place of a stack, as the slice reads it. -/
def rd_S64x4x128x128 (x : Vec F S64x4x128x128 .f32) (i : BitVec 32) : Vec F S4x128x128 .f32 :=
  shapeCast S4x128x128 (Host.dynamicSlice S1x4x128x128 x ![i.toInt, 0, 0, 0] sliceFits_S64x4x128x128_S1x4x128x128) shapeCasts_S1x4x128x128_S4x128x128

/-- The member at a place of a stack, as the slice reads it. -/
def rd_S64x4x1x1 (x : Vec F S64x4x1x1 .f32) (i : BitVec 32) : Vec F S4x1x1 .f32 :=
  shapeCast S4x1x1 (Host.dynamicSlice S1x4x1x1 x ![i.toInt, 0, 0, 0] sliceFits_S64x4x1x1_S1x4x1x1) shapeCasts_S1x4x1x1_S4x1x1

/-- A stack with the member at a place replaced, as the update writes it. -/
def wr_S64x4x64x128 (x : Vec F S64x4x64x128 .f32) (u : Vec F S4x64x128 .f32) (i : BitVec 32) : Vec F S64x4x64x128 .f32 :=
  Host.dynamicUpdateSlice x (broadcastInDim S1x4x64x128 ![1, 2, 3] bcast_S4x64x128_S1x4x64x128_1_2_3 u : Vec F S1x4x64x128 .f32) ![i.toInt, 0, 0, 0] updateFits_S64x4x64x128_S1x4x64x128

/-- A stack with the member at a place replaced, as the update writes it. -/
def wr_S64x4x128x128 (x : Vec F S64x4x128x128 .f32) (u : Vec F S4x128x128 .f32) (i : BitVec 32) : Vec F S64x4x128x128 .f32 :=
  Host.dynamicUpdateSlice x (broadcastInDim S1x4x128x128 ![1, 2, 3] bcast_S4x128x128_S1x4x128x128_1_2_3 u : Vec F S1x4x128x128 .f32) ![i.toInt, 0, 0, 0] updateFits_S64x4x128x128_S1x4x128x128

/-- A stack with the member at a place replaced, as the update writes it. -/
def wr_S64x4x1x1 (x : Vec F S64x4x1x1 .f32) (u : Vec F S4x1x1 .f32) (i : BitVec 32) : Vec F S64x4x1x1 .f32 :=
  Host.dynamicUpdateSlice x (broadcastInDim S1x4x1x1 ![1, 2, 3] bcast_S4x1x1_S1x4x1x1_1_2_3 u : Vec F S1x4x1x1 .f32) ![i.toInt, 0, 0, 0] updateFits_S64x4x1x1_S1x4x1x1

/-- A stack with the member at a place replaced, as the update writes it. -/
def wr_S64x4x64x64 (x : Vec F S64x4x64x64 .f32) (u : Vec F S4x64x64 .f32) (i : BitVec 32) : Vec F S64x4x64x64 .f32 :=
  Host.dynamicUpdateSlice x (broadcastInDim S1x4x64x64 ![1, 2, 3] bcast_S4x64x64_S1x4x64x64_1_2_3 u : Vec F S1x4x64x64 .f32) ![i.toInt, 0, 0, 0] updateFits_S64x4x64x64_S1x4x64x64

/-- A stack with the member at a place replaced, as the update writes it. -/
def wr_S64x4 (x : Vec F S64x4 .f32) (u : Vec F S4 .f32) (i : BitVec 32) : Vec F S64x4 .f32 :=
  Host.dynamicUpdateSlice x (broadcastInDim S1x4 ![1] bcast_S4_S1x4_1 u : Vec F S1x4 .f32) ![i.toInt, 0] updateFits_S64x4_S1x4

/-! ## The slices and the updates -/

theorem fO0_val (V : Valuation τ sig (Elt F)) (i : BitVec 32) (hi : V (Proc.devRef .tc main_v16_6) = fun _ => i) :
    after fO0 V (Proc.devRef .tc main_while0b_v40) = rd_S64x4x64x64 (V (Proc.devRef .tc main_v16_0)) i := by
  unfold fO0
  after_results
  refine congrArg (fun st => shapeCast S4x64x64 (Host.dynamicSlice S1x4x64x64 (V (Proc.devRef .tc main_v16_0)) st sliceFits_S64x4x64x64_S1x4x64x64) shapeCasts_S1x4x64x64_S4x64x64) (funext fun k => ?_)
  fin_cases k
  · exact congrArg (fun X => BitVec.toInt (X (Shape.Idx.first h_S_))) hi
  · rfl
  · rfl
  · rfl

theorem fO1_val (V : Valuation τ sig (Elt F)) (i : BitVec 32) (hi : V (Proc.devRef .tc main_v16_6) = fun _ => i) :
    after fO1 V (Proc.devRef .tc main_while0b_v41) = rd_S64x4x64x128 (V (Proc.devRef .tc main_v16_1)) i := by
  unfold fO1
  after_results
  refine congrArg (fun st => shapeCast S4x64x128 (Host.dynamicSlice S1x4x64x128 (V (Proc.devRef .tc main_v16_1)) st sliceFits_S64x4x64x128_S1x4x64x128) shapeCasts_S1x4x64x128_S4x64x128) (funext fun k => ?_)
  fin_cases k
  · exact congrArg (fun X => BitVec.toInt (X (Shape.Idx.first h_S_))) hi
  · rfl
  · rfl
  · rfl

theorem fO2_val (V : Valuation τ sig (Elt F)) (i : BitVec 32) (hi : V (Proc.devRef .tc main_v16_6) = fun _ => i) :
    after fO2 V (Proc.devRef .tc main_while0b_v42) = rd_S64x4x64x128 (V (Proc.devRef .tc main_v16_2)) i := by
  unfold fO2
  after_results
  refine congrArg (fun st => shapeCast S4x64x128 (Host.dynamicSlice S1x4x64x128 (V (Proc.devRef .tc main_v16_2)) st sliceFits_S64x4x64x128_S1x4x64x128) shapeCasts_S1x4x64x128_S4x64x128) (funext fun k => ?_)
  fin_cases k
  · exact congrArg (fun X => BitVec.toInt (X (Shape.Idx.first h_S_))) hi
  · rfl
  · rfl
  · rfl

theorem fO3_val (V : Valuation τ sig (Elt F)) (i : BitVec 32) (hi : V (Proc.devRef .tc main_v16_6) = fun _ => i) :
    after fO3 V (Proc.devRef .tc main_while0b_v43) = rd_S64x4x64x128 (V (Proc.devRef .tc main_v16_3)) i := by
  unfold fO3
  after_results
  refine congrArg (fun st => shapeCast S4x64x128 (Host.dynamicSlice S1x4x64x128 (V (Proc.devRef .tc main_v16_3)) st sliceFits_S64x4x64x128_S1x4x64x128) shapeCasts_S1x4x64x128_S4x64x128) (funext fun k => ?_)
  fin_cases k
  · exact congrArg (fun X => BitVec.toInt (X (Shape.Idx.first h_S_))) hi
  · rfl
  · rfl
  · rfl

theorem fO4_val (V : Valuation τ sig (Elt F)) (i : BitVec 32) (hi : V (Proc.devRef .tc main_v16_6) = fun _ => i) :
    after fO4 V (Proc.devRef .tc main_while0b_v44) = rd_S64x4x64x128 (V (Proc.devRef .tc main_v16_4)) i := by
  unfold fO4
  after_results
  refine congrArg (fun st => shapeCast S4x64x128 (Host.dynamicSlice S1x4x64x128 (V (Proc.devRef .tc main_v16_4)) st sliceFits_S64x4x64x128_S1x4x64x128) shapeCasts_S1x4x64x128_S4x64x128) (funext fun k => ?_)
  fin_cases k
  · exact congrArg (fun X => BitVec.toInt (X (Shape.Idx.first h_S_))) hi
  · rfl
  · rfl
  · rfl

theorem fO5_val (V : Valuation τ sig (Elt F)) (i : BitVec 32) (hi : V (Proc.devRef .tc main_v16_6) = fun _ => i) :
    after fO5 V (Proc.devRef .tc main_while0b_v45) = rd_S64x4 (V (Proc.devRef .tc main_v16_5)) i := by
  unfold fO5
  after_results
  refine congrArg (fun st => shapeCast S4 (Host.dynamicSlice S1x4 (V (Proc.devRef .tc main_v16_5)) st sliceFits_S64x4_S1x4) shapeCasts_S1x4_S4) (funext fun k => ?_)
  fin_cases k
  · exact congrArg (fun X => BitVec.toInt (X (Shape.Idx.first h_S_))) hi
  · rfl

theorem fO7_val (V : Valuation τ sig (Elt F)) (i : BitVec 32) (hi : V (Proc.devRef .tc main_v16_6) = fun _ => i) :
    after fO7 V (Proc.devRef .tc main_while0b_v56) = wr_S64x4x64x128 (V (Proc.devRef .tc main_v16_8)) (V (Proc.devRef .tc main_while0b_v50)) i := by
  unfold fO7
  after_results
  refine congrArg (fun st => Host.dynamicUpdateSlice (V (Proc.devRef .tc main_v16_8)) (broadcastInDim S1x4x64x128 ![1, 2, 3] bcast_S4x64x128_S1x4x64x128_1_2_3 (V (Proc.devRef .tc main_while0b_v50)) : Vec F S1x4x64x128 .f32) st updateFits_S64x4x64x128_S1x4x64x128) (funext fun k => ?_)
  fin_cases k
  · exact congrArg (fun X => BitVec.toInt (X (Shape.Idx.first h_S_))) hi
  · rfl
  · rfl
  · rfl

theorem fO8_val (V : Valuation τ sig (Elt F)) (i : BitVec 32) (hi : V (Proc.devRef .tc main_v16_6) = fun _ => i) :
    after fO8 V (Proc.devRef .tc main_while0b_v57) = wr_S64x4x128x128 (V (Proc.devRef .tc main_v16_9)) (V (Proc.devRef .tc main_v16_7)) i := by
  unfold fO8
  after_results
  refine congrArg (fun st => Host.dynamicUpdateSlice (V (Proc.devRef .tc main_v16_9)) (broadcastInDim S1x4x128x128 ![1, 2, 3] bcast_S4x128x128_S1x4x128x128_1_2_3 (V (Proc.devRef .tc main_v16_7)) : Vec F S1x4x128x128 .f32) st updateFits_S64x4x128x128_S1x4x128x128) (funext fun k => ?_)
  fin_cases k
  · exact congrArg (fun X => BitVec.toInt (X (Shape.Idx.first h_S_))) hi
  · rfl
  · rfl
  · rfl

theorem fO9_val (V : Valuation τ sig (Elt F)) (i : BitVec 32) (hi : V (Proc.devRef .tc main_v16_6) = fun _ => i) :
    after fO9 V (Proc.devRef .tc main_while0b_v58) = wr_S64x4x64x128 (V (Proc.devRef .tc main_v16_10)) (V (Proc.devRef .tc main_while0b_v47)) i := by
  unfold fO9
  after_results
  refine congrArg (fun st => Host.dynamicUpdateSlice (V (Proc.devRef .tc main_v16_10)) (broadcastInDim S1x4x64x128 ![1, 2, 3] bcast_S4x64x128_S1x4x64x128_1_2_3 (V (Proc.devRef .tc main_while0b_v47)) : Vec F S1x4x64x128 .f32) st updateFits_S64x4x64x128_S1x4x64x128) (funext fun k => ?_)
  fin_cases k
  · exact congrArg (fun X => BitVec.toInt (X (Shape.Idx.first h_S_))) hi
  · rfl
  · rfl
  · rfl

theorem fO10_val (V : Valuation τ sig (Elt F)) (i : BitVec 32) (hi : V (Proc.devRef .tc main_v16_6) = fun _ => i) :
    after fO10 V (Proc.devRef .tc main_while0b_v59) = wr_S64x4x1x1 (V (Proc.devRef .tc main_v16_11)) (V (Proc.devRef .tc main_while0b_v51)) i := by
  unfold fO10
  after_results
  refine congrArg (fun st => Host.dynamicUpdateSlice (V (Proc.devRef .tc main_v16_11)) (broadcastInDim S1x4x1x1 ![1, 2, 3] bcast_S4x1x1_S1x4x1x1_1_2_3 (V (Proc.devRef .tc main_while0b_v51)) : Vec F S1x4x1x1 .f32) st updateFits_S64x4x1x1_S1x4x1x1) (funext fun k => ?_)
  fin_cases k
  · exact congrArg (fun X => BitVec.toInt (X (Shape.Idx.first h_S_))) hi
  · rfl
  · rfl
  · rfl

theorem bO1_val (V : Valuation τ sig (Elt F)) (i : BitVec 32) (hi : V (Proc.devRef .tc main_while1b_v41) = fun _ => i) :
    after bO1 V (Proc.devRef .tc main_while1b_v42) = rd_S64x4x64x128 (V (Proc.devRef .tc main_v27_0)) i := by
  unfold bO1
  after_results
  refine congrArg (fun st => shapeCast S4x64x128 (Host.dynamicSlice S1x4x64x128 (V (Proc.devRef .tc main_v27_0)) st sliceFits_S64x4x64x128_S1x4x64x128) shapeCasts_S1x4x64x128_S4x64x128) (funext fun k => ?_)
  fin_cases k
  · exact congrArg (fun X => BitVec.toInt (X (Shape.Idx.first h_S_))) hi
  · rfl
  · rfl
  · rfl

theorem bO2_val (V : Valuation τ sig (Elt F)) (i : BitVec 32) (hi : V (Proc.devRef .tc main_while1b_v41) = fun _ => i) :
    after bO2 V (Proc.devRef .tc main_while1b_v43) = rd_S64x4x128x128 (V (Proc.devRef .tc main_v27_1)) i := by
  unfold bO2
  after_results
  refine congrArg (fun st => shapeCast S4x128x128 (Host.dynamicSlice S1x4x128x128 (V (Proc.devRef .tc main_v27_1)) st sliceFits_S64x4x128x128_S1x4x128x128) shapeCasts_S1x4x128x128_S4x128x128) (funext fun k => ?_)
  fin_cases k
  · exact congrArg (fun X => BitVec.toInt (X (Shape.Idx.first h_S_))) hi
  · rfl
  · rfl
  · rfl

theorem bO3_val (V : Valuation τ sig (Elt F)) (i : BitVec 32) (hi : V (Proc.devRef .tc main_while1b_v41) = fun _ => i) :
    after bO3 V (Proc.devRef .tc main_while1b_v44) = rd_S64x4x64x128 (V (Proc.devRef .tc main_v27_2)) i := by
  unfold bO3
  after_results
  refine congrArg (fun st => shapeCast S4x64x128 (Host.dynamicSlice S1x4x64x128 (V (Proc.devRef .tc main_v27_2)) st sliceFits_S64x4x64x128_S1x4x64x128) shapeCasts_S1x4x64x128_S4x64x128) (funext fun k => ?_)
  fin_cases k
  · exact congrArg (fun X => BitVec.toInt (X (Shape.Idx.first h_S_))) hi
  · rfl
  · rfl
  · rfl

theorem bO4_val (V : Valuation τ sig (Elt F)) (i : BitVec 32) (hi : V (Proc.devRef .tc main_while1b_v41) = fun _ => i) :
    after bO4 V (Proc.devRef .tc main_while1b_v45) = rd_S64x4x64x128 (V (Proc.devRef .tc main_v27_3)) i := by
  unfold bO4
  after_results
  refine congrArg (fun st => shapeCast S4x64x128 (Host.dynamicSlice S1x4x64x128 (V (Proc.devRef .tc main_v27_3)) st sliceFits_S64x4x64x128_S1x4x64x128) shapeCasts_S1x4x64x128_S4x64x128) (funext fun k => ?_)
  fin_cases k
  · exact congrArg (fun X => BitVec.toInt (X (Shape.Idx.first h_S_))) hi
  · rfl
  · rfl
  · rfl

theorem bO5_val (V : Valuation τ sig (Elt F)) (i : BitVec 32) (hi : V (Proc.devRef .tc main_while1b_v41) = fun _ => i) :
    after bO5 V (Proc.devRef .tc main_while1b_v46) = rd_S64x4x64x128 (V (Proc.devRef .tc main_v27_4)) i := by
  unfold bO5
  after_results
  refine congrArg (fun st => shapeCast S4x64x128 (Host.dynamicSlice S1x4x64x128 (V (Proc.devRef .tc main_v27_4)) st sliceFits_S64x4x64x128_S1x4x64x128) shapeCasts_S1x4x64x128_S4x64x128) (funext fun k => ?_)
  fin_cases k
  · exact congrArg (fun X => BitVec.toInt (X (Shape.Idx.first h_S_))) hi
  · rfl
  · rfl
  · rfl

theorem bO6_val (V : Valuation τ sig (Elt F)) (i : BitVec 32) (hi : V (Proc.devRef .tc main_while1b_v41) = fun _ => i) :
    after bO6 V (Proc.devRef .tc main_while1b_v47) = rd_S64x4x64x64 (V (Proc.devRef .tc main_v27_5)) i := by
  unfold bO6
  after_results
  refine congrArg (fun st => shapeCast S4x64x64 (Host.dynamicSlice S1x4x64x64 (V (Proc.devRef .tc main_v27_5)) st sliceFits_S64x4x64x64_S1x4x64x64) shapeCasts_S1x4x64x64_S4x64x64) (funext fun k => ?_)
  fin_cases k
  · exact congrArg (fun X => BitVec.toInt (X (Shape.Idx.first h_S_))) hi
  · rfl
  · rfl
  · rfl

theorem bO7_val (V : Valuation τ sig (Elt F)) (i : BitVec 32) (hi : V (Proc.devRef .tc main_while1b_v41) = fun _ => i) :
    after bO7 V (Proc.devRef .tc main_while1b_v48) = rd_S64x4x1x1 (V (Proc.devRef .tc main_v27_6)) i := by
  unfold bO7
  after_results
  refine congrArg (fun st => shapeCast S4x1x1 (Host.dynamicSlice S1x4x1x1 (V (Proc.devRef .tc main_v27_6)) st sliceFits_S64x4x1x1_S1x4x1x1) shapeCasts_S1x4x1x1_S4x1x1) (funext fun k => ?_)
  fin_cases k
  · exact congrArg (fun X => BitVec.toInt (X (Shape.Idx.first h_S_))) hi
  · rfl
  · rfl
  · rfl

theorem bO8_val (V : Valuation τ sig (Elt F)) (i : BitVec 32) (hi : V (Proc.devRef .tc main_while1b_v41) = fun _ => i) :
    after bO8 V (Proc.devRef .tc main_while1b_v49) = rd_S64x4x64x128 (V (Proc.devRef .tc main_v27_7)) i := by
  unfold bO8
  after_results
  refine congrArg (fun st => shapeCast S4x64x128 (Host.dynamicSlice S1x4x64x128 (V (Proc.devRef .tc main_v27_7)) st sliceFits_S64x4x64x128_S1x4x64x128) shapeCasts_S1x4x64x128_S4x64x128) (funext fun k => ?_)
  fin_cases k
  · exact congrArg (fun X => BitVec.toInt (X (Shape.Idx.first h_S_))) hi
  · rfl
  · rfl
  · rfl

theorem bO10_val (V : Valuation τ sig (Elt F)) (i : BitVec 32) (hi : V (Proc.devRef .tc main_while1b_v41) = fun _ => i) :
    after bO10 V (Proc.devRef .tc main_while1b_v73) = wr_S64x4x64x64 (V (Proc.devRef .tc main_v27_10)) (V (Proc.devRef .tc main_while1b_v63)) i := by
  unfold bO10
  after_results
  refine congrArg (fun st => Host.dynamicUpdateSlice (V (Proc.devRef .tc main_v27_10)) (broadcastInDim S1x4x64x64 ![1, 2, 3] bcast_S4x64x64_S1x4x64x64_1_2_3 (V (Proc.devRef .tc main_while1b_v63)) : Vec F S1x4x64x64 .f32) st updateFits_S64x4x64x64_S1x4x64x64) (funext fun k => ?_)
  fin_cases k
  · exact congrArg (fun X => BitVec.toInt (X (Shape.Idx.first h_S_))) hi
  · rfl
  · rfl
  · rfl

theorem bO11_val (V : Valuation τ sig (Elt F)) (i : BitVec 32) (hi : V (Proc.devRef .tc main_while1b_v41) = fun _ => i) :
    after bO11 V (Proc.devRef .tc main_while1b_v74) = wr_S64x4x64x128 (V (Proc.devRef .tc main_v27_11)) (V (Proc.devRef .tc main_while1b_v67)) i := by
  unfold bO11
  after_results
  refine congrArg (fun st => Host.dynamicUpdateSlice (V (Proc.devRef .tc main_v27_11)) (broadcastInDim S1x4x64x128 ![1, 2, 3] bcast_S4x64x128_S1x4x64x128_1_2_3 (V (Proc.devRef .tc main_while1b_v67)) : Vec F S1x4x64x128 .f32) st updateFits_S64x4x64x128_S1x4x64x128) (funext fun k => ?_)
  fin_cases k
  · exact congrArg (fun X => BitVec.toInt (X (Shape.Idx.first h_S_))) hi
  · rfl
  · rfl
  · rfl

theorem bO12_val (V : Valuation τ sig (Elt F)) (i : BitVec 32) (hi : V (Proc.devRef .tc main_while1b_v41) = fun _ => i) :
    after bO12 V (Proc.devRef .tc main_while1b_v75) = wr_S64x4x64x128 (V (Proc.devRef .tc main_v27_12)) (V (Proc.devRef .tc main_while1b_v53)) i := by
  unfold bO12
  after_results
  refine congrArg (fun st => Host.dynamicUpdateSlice (V (Proc.devRef .tc main_v27_12)) (broadcastInDim S1x4x64x128 ![1, 2, 3] bcast_S4x64x128_S1x4x64x128_1_2_3 (V (Proc.devRef .tc main_while1b_v53)) : Vec F S1x4x64x128 .f32) st updateFits_S64x4x64x128_S1x4x64x128) (funext fun k => ?_)
  fin_cases k
  · exact congrArg (fun X => BitVec.toInt (X (Shape.Idx.first h_S_))) hi
  · rfl
  · rfl
  · rfl

theorem bO13_val (V : Valuation τ sig (Elt F)) (i : BitVec 32) (hi : V (Proc.devRef .tc main_while1b_v41) = fun _ => i) :
    after bO13 V (Proc.devRef .tc main_while1b_v76) = wr_S64x4x64x128 (V (Proc.devRef .tc main_v27_13)) (V (Proc.devRef .tc main_while1b_v62)) i := by
  unfold bO13
  after_results
  refine congrArg (fun st => Host.dynamicUpdateSlice (V (Proc.devRef .tc main_v27_13)) (broadcastInDim S1x4x64x128 ![1, 2, 3] bcast_S4x64x128_S1x4x64x128_1_2_3 (V (Proc.devRef .tc main_while1b_v62)) : Vec F S1x4x64x128 .f32) st updateFits_S64x4x64x128_S1x4x64x128) (funext fun k => ?_)
  fin_cases k
  · exact congrArg (fun X => BitVec.toInt (X (Shape.Idx.first h_S_))) hi
  · rfl
  · rfl
  · rfl

theorem bO14_val (V : Valuation τ sig (Elt F)) (i : BitVec 32) (hi : V (Proc.devRef .tc main_while1b_v41) = fun _ => i) :
    after bO14 V (Proc.devRef .tc main_while1b_v77) = wr_S64x4x64x128 (V (Proc.devRef .tc main_v27_14)) (V (Proc.devRef .tc main_while1b_v72)) i := by
  unfold bO14
  after_results
  refine congrArg (fun st => Host.dynamicUpdateSlice (V (Proc.devRef .tc main_v27_14)) (broadcastInDim S1x4x64x128 ![1, 2, 3] bcast_S4x64x128_S1x4x64x128_1_2_3 (V (Proc.devRef .tc main_while1b_v72)) : Vec F S1x4x64x128 .f32) st updateFits_S64x4x64x128_S1x4x64x128) (funext fun k => ?_)
  fin_cases k
  · exact congrArg (fun X => BitVec.toInt (X (Shape.Idx.first h_S_))) hi
  · rfl
  · rfl
  · rfl

theorem bO15_val (V : Valuation τ sig (Elt F)) (i : BitVec 32) (hi : V (Proc.devRef .tc main_while1b_v41) = fun _ => i) :
    after bO15 V (Proc.devRef .tc main_while1b_v78) = wr_S64x4 (V (Proc.devRef .tc main_v27_15)) (V (Proc.devRef .tc main_while1b_v59)) i := by
  unfold bO15
  after_results
  refine congrArg (fun st => Host.dynamicUpdateSlice (V (Proc.devRef .tc main_v27_15)) (broadcastInDim S1x4 ![1] bcast_S4_S1x4_1 (V (Proc.devRef .tc main_while1b_v59)) : Vec F S1x4 .f32) st updateFits_S64x4_S1x4) (funext fun k => ?_)
  fin_cases k
  · exact congrArg (fun X => BitVec.toInt (X (Shape.Idx.first h_S_))) hi
  · rfl

/-! ## The trips' plain operations -/

def fVn (u w : Vec F S4x64x128 .f32) (s : Vec F S4x128x128 .f32) : Vec F S4x64x128 .f32 :=
  subf u (Host.dotGeneral dot_S4x64x128_S4x128x128_S4x64x128_2_1_1_2_0_0 none w s)
def fO (qd : Vec F S4x64x128 .f32) (s : Vec F S4x128x128 .f32) (a : Vec F S4x64x64 .f32) (vn : Vec F S4x64x128 .f32) : Vec F S4x64x128 .f32 :=
  addf (Host.dotGeneral dot_S4x64x128_S4x128x128_S4x64x128_2_1_1_2_0_0 none qd s) (Host.dotGeneral dot_S4x64x64_S4x64x128_S4x64x128_2_1_1_2_0_0 none a vn)
def fGl (gl : Vec F S4 .f32) : Vec F S4x1x1 .f32 := broadcastInDim S4x1x1 ![0] bcast_S4_S4x1x1_0 gl
def fSt (s : Vec F S4x128x128 .f32) (gl : Vec F S4x1x1 .f32) (kt vn : Vec F S4x64x128 .f32) : Vec F S4x128x128 .f32 :=
  addf (mulf s (broadcastInDim S4x128x128 ![0, 1, 2] bcast_S4x1x1_S4x128x128_0_1_2 gl)) (Host.dotGeneral dot_S4x64x128_S4x64x128_S4x128x128_1_1_2_2_0_0 none kt vn)
def bDvn (ds : Vec F S4x128x128 .f32) (kt dO : Vec F S4x64x128 .f32) (a : Vec F S4x64x64 .f32) : Vec F S4x64x128 .f32 :=
  addf (transpose S4x64x128 [0, 2, 1] (Host.dotGeneral dot_S4x128x128_S4x64x128_S4x128x64_1_2_2_1_0_0 none ds kt) transposes_S4x128x64_S4x64x128_0_2_1)
    (transpose S4x64x128 [0, 2, 1] (Host.dotGeneral dot_S4x64x128_S4x64x64_S4x128x64_1_1_2_2_0_0 none dO a) transposes_S4x128x64_S4x64x128_0_2_1)
def bDkt (ds : Vec F S4x128x128 .f32) (vn : Vec F S4x64x128 .f32) : Vec F S4x64x128 .f32 :=
  transpose S4x64x128 [0, 2, 1] (Host.dotGeneral dot_S4x128x128_S4x64x128_S4x128x64_2_2_1_1_0_0 none ds vn) transposes_S4x128x64_S4x64x128_0_2_1
def bDgl (st ds : Vec F S4x128x128 .f32) : Vec F S4 .f32 :=
  Host.reduceAdd (shapeCast S4x1x1 (Host.reduceAdd (mulf st ds) (constant S_ .f32 0x00000000#32) reducesTo_S4x128x128_S4_d1_2 h_S_) shapeCasts_S4_S4x1x1)
    (constant S_ .f32 0x00000000#32) reducesTo_S4x1x1_S4_d1_2 h_S_
def bDat (dO vn : Vec F S4x64x128 .f32) : Vec F S4x64x64 .f32 :=
  Host.dotGeneral dot_S4x64x128_S4x64x128_S4x64x64_2_2_1_1_0_0 none dO vn
def bDqd (dO : Vec F S4x64x128 .f32) (st : Vec F S4x128x128 .f32) : Vec F S4x64x128 .f32 :=
  Host.dotGeneral dot_S4x64x128_S4x128x128_S4x64x128_2_2_1_1_0_0 none dO st
def bDw (dv : Vec F S4x64x128 .f32) (st : Vec F S4x128x128 .f32) : Vec F S4x64x128 .f32 :=
  Host.dotGeneral dot_S4x64x128_S4x128x128_S4x64x128_2_2_1_1_0_0 none (Host.negf dv) st
def bDs (ds : Vec F S4x128x128 .f32) (gl : Vec F S4x1x1 .f32) (dO qd dv w : Vec F S4x64x128 .f32) : Vec F S4x128x128 .f32 :=
  addf (addf (mulf ds (broadcastInDim S4x128x128 ![0, 1, 2] bcast_S4x1x1_S4x128x128_0_1_2 gl))
      (transpose S4x128x128 [0, 2, 1] (Host.dotGeneral dot_S4x64x128_S4x64x128_S4x128x128_1_1_2_2_0_0 none dO qd) transposes_S4x128x128_S4x128x128_0_2_1))
    (transpose S4x128x128 [0, 2, 1] (Host.dotGeneral dot_S4x64x128_S4x64x128_S4x128x128_1_1_2_2_0_0 none (Host.negf dv) w) transposes_S4x128x128_S4x128x128_0_2_1)

theorem keepA (l : List (HloOp τ sig (Elt F))) (D : List (Ref sig .tc)) (hw : l.Forall fun op => op.writes ⊆ (D.map (Proc.devRef (τ := τ) .tc)).toFinset) (X : Valuation τ sig (Elt F)) (r : Ref sig .tc) (h : r ∉ D) :
    after l X (Proc.devRef .tc r) = X (Proc.devRef .tc r) := keep_last hw X h
theorem fO6_v47 (X : Valuation τ sig (Elt F)) : after fO6 X (Proc.devRef .tc main_while0b_v47) = fVn (X (Proc.devRef .tc main_while0b_v43)) (X (Proc.devRef .tc main_while0b_v44)) (X (Proc.devRef .tc main_v16_7)) := by
  unfold fO6; after_results; rfl
theorem fO6_v50 (X : Valuation τ sig (Elt F)) : after fO6 X (Proc.devRef .tc main_while0b_v50) = fO (X (Proc.devRef .tc main_while0b_v41)) (X (Proc.devRef .tc main_v16_7)) (X (Proc.devRef .tc main_while0b_v40)) (fVn (X (Proc.devRef .tc main_while0b_v43)) (X (Proc.devRef .tc main_while0b_v44)) (X (Proc.devRef .tc main_v16_7))) := by
  unfold fO6; after_results; rfl
theorem fO6_v51 (X : Valuation τ sig (Elt F)) : after fO6 X (Proc.devRef .tc main_while0b_v51) = fGl (X (Proc.devRef .tc main_while0b_v45)) := by
  unfold fO6; after_results; rfl
theorem fO6_v55 (X : Valuation τ sig (Elt F)) : after fO6 X (Proc.devRef .tc main_while0b_v55) = fSt (X (Proc.devRef .tc main_v16_7)) (fGl (X (Proc.devRef .tc main_while0b_v45))) (X (Proc.devRef .tc main_while0b_v42)) (fVn (X (Proc.devRef .tc main_while0b_v43)) (X (Proc.devRef .tc main_while0b_v44)) (X (Proc.devRef .tc main_v16_7))) := by
  unfold fO6; after_results; rfl
theorem bO9_v53 (X : Valuation τ sig (Elt F)) : after bO9 X (Proc.devRef .tc main_while1b_v53) = bDkt (X (Proc.devRef .tc main_v27_9)) (X (Proc.devRef .tc main_while1b_v46)) := by
  unfold bO9; after_results; rfl
theorem bO9_v59 (X : Valuation τ sig (Elt F)) : after bO9 X (Proc.devRef .tc main_while1b_v59) = bDgl (X (Proc.devRef .tc main_while1b_v43)) (X (Proc.devRef .tc main_v27_9)) := by
  unfold bO9; after_results; rfl
theorem bO9_v62 (X : Valuation τ sig (Elt F)) : after bO9 X (Proc.devRef .tc main_while1b_v62) = bDvn (X (Proc.devRef .tc main_v27_9)) (X (Proc.devRef .tc main_while1b_v49)) (X (Proc.devRef .tc main_while1b_v42)) (X (Proc.devRef .tc main_while1b_v47)) := by
  unfold bO9; after_results; rfl
theorem bO9_v63 (X : Valuation τ sig (Elt F)) : after bO9 X (Proc.devRef .tc main_while1b_v63) = bDat (X (Proc.devRef .tc main_while1b_v42)) (X (Proc.devRef .tc main_while1b_v46)) := by
  unfold bO9; after_results; rfl
theorem bO9_v67 (X : Valuation τ sig (Elt F)) : after bO9 X (Proc.devRef .tc main_while1b_v67) = bDqd (X (Proc.devRef .tc main_while1b_v42)) (X (Proc.devRef .tc main_while1b_v43)) := by
  unfold bO9; after_results; rfl
theorem bO9_v71 (X : Valuation τ sig (Elt F)) : after bO9 X (Proc.devRef .tc main_while1b_v71) = bDs (X (Proc.devRef .tc main_v27_9)) (X (Proc.devRef .tc main_while1b_v48)) (X (Proc.devRef .tc main_while1b_v42)) (X (Proc.devRef .tc main_while1b_v45)) (bDvn (X (Proc.devRef .tc main_v27_9)) (X (Proc.devRef .tc main_while1b_v49)) (X (Proc.devRef .tc main_while1b_v42)) (X (Proc.devRef .tc main_while1b_v47))) (X (Proc.devRef .tc main_while1b_v44)) := by
  unfold bO9; after_results; rfl
theorem bO9_v72 (X : Valuation τ sig (Elt F)) : after bO9 X (Proc.devRef .tc main_while1b_v72) = bDw (bDvn (X (Proc.devRef .tc main_v27_9)) (X (Proc.devRef .tc main_while1b_v49)) (X (Proc.devRef .tc main_while1b_v42)) (X (Proc.devRef .tc main_while1b_v47))) (X (Proc.devRef .tc main_while1b_v43)) := by
  unfold bO9; after_results; rfl
theorem fO11_main_v16_7 (X : Valuation τ sig (Elt F)) : after fO11 X (Proc.devRef .tc main_v16_7) = X (Proc.devRef .tc main_while0b_v55) := by
  unfold fO11; after_results; rfl
theorem fO11_main_v16_8 (X : Valuation τ sig (Elt F)) : after fO11 X (Proc.devRef .tc main_v16_8) = X (Proc.devRef .tc main_while0b_v56) := by
  unfold fO11; after_results; rfl
theorem fO11_main_v16_9 (X : Valuation τ sig (Elt F)) : after fO11 X (Proc.devRef .tc main_v16_9) = X (Proc.devRef .tc main_while0b_v57) := by
  unfold fO11; after_results; rfl
theorem fO11_main_v16_10 (X : Valuation τ sig (Elt F)) : after fO11 X (Proc.devRef .tc main_v16_10) = X (Proc.devRef .tc main_while0b_v58) := by
  unfold fO11; after_results; rfl
theorem fO11_main_v16_11 (X : Valuation τ sig (Elt F)) : after fO11 X (Proc.devRef .tc main_v16_11) = X (Proc.devRef .tc main_while0b_v59) := by
  unfold fO11; after_results; rfl
theorem bO16_main_v27_9 (X : Valuation τ sig (Elt F)) : after bO16 X (Proc.devRef .tc main_v27_9) = X (Proc.devRef .tc main_while1b_v71) := by
  unfold bO16; after_results; rfl
theorem bO16_main_v27_10 (X : Valuation τ sig (Elt F)) : after bO16 X (Proc.devRef .tc main_v27_10) = X (Proc.devRef .tc main_while1b_v73) := by
  unfold bO16; after_results; rfl
theorem bO16_main_v27_11 (X : Valuation τ sig (Elt F)) : after bO16 X (Proc.devRef .tc main_v27_11) = X (Proc.devRef .tc main_while1b_v74) := by
  unfold bO16; after_results; rfl
theorem bO16_main_v27_12 (X : Valuation τ sig (Elt F)) : after bO16 X (Proc.devRef .tc main_v27_12) = X (Proc.devRef .tc main_while1b_v75) := by
  unfold bO16; after_results; rfl
theorem bO16_main_v27_13 (X : Valuation τ sig (Elt F)) : after bO16 X (Proc.devRef .tc main_v27_13) = X (Proc.devRef .tc main_while1b_v76) := by
  unfold bO16; after_results; rfl
theorem bO16_main_v27_14 (X : Valuation τ sig (Elt F)) : after bO16 X (Proc.devRef .tc main_v27_14) = X (Proc.devRef .tc main_while1b_v77) := by
  unfold bO16; after_results; rfl
theorem bO16_main_v27_15 (X : Valuation τ sig (Elt F)) : after bO16 X (Proc.devRef .tc main_v27_15) = X (Proc.devRef .tc main_while1b_v78) := by
  unfold bO16; after_results; rfl
theorem bO0_v41 (X : Valuation τ sig (Elt F)) (i : BitVec 32) (hi : X (Proc.devRef .tc main_v27_8) = fun _ => i) : after bO0 X (Proc.devRef .tc main_while1b_v41) = fun _ => 64#32 - i - 1#32 := by
  unfold bO0; after_results; rw [hi]; rfl

/-! ## A trip -/

abbrev lfO1 (V : Valuation τ sig (Elt F)) : Valuation τ sig (Elt F) := after fO0 V
abbrev lfO2 (V : Valuation τ sig (Elt F)) : Valuation τ sig (Elt F) := after fO1 (lfO1 V)
abbrev lfO3 (V : Valuation τ sig (Elt F)) : Valuation τ sig (Elt F) := after fO2 (lfO2 V)
abbrev lfO4 (V : Valuation τ sig (Elt F)) : Valuation τ sig (Elt F) := after fO3 (lfO3 V)
abbrev lfO5 (V : Valuation τ sig (Elt F)) : Valuation τ sig (Elt F) := after fO4 (lfO4 V)
abbrev lfO6 (V : Valuation τ sig (Elt F)) : Valuation τ sig (Elt F) := after fO5 (lfO5 V)
abbrev lfO7 (V : Valuation τ sig (Elt F)) : Valuation τ sig (Elt F) := after fO6 (lfO6 V)
abbrev lfO8 (V : Valuation τ sig (Elt F)) : Valuation τ sig (Elt F) := after fO7 (lfO7 V)
abbrev lfO9 (V : Valuation τ sig (Elt F)) : Valuation τ sig (Elt F) := after fO8 (lfO8 V)
abbrev lfO10 (V : Valuation τ sig (Elt F)) : Valuation τ sig (Elt F) := after fO9 (lfO9 V)
abbrev lfO11 (V : Valuation τ sig (Elt F)) : Valuation τ sig (Elt F) := after fO10 (lfO10 V)
abbrev lfO12 (V : Valuation τ sig (Elt F)) : Valuation τ sig (Elt F) := after fO11 (lfO11 V)
abbrev lbO1 (V : Valuation τ sig (Elt F)) : Valuation τ sig (Elt F) := after bO0 V
abbrev lbO2 (V : Valuation τ sig (Elt F)) : Valuation τ sig (Elt F) := after bO1 (lbO1 V)
abbrev lbO3 (V : Valuation τ sig (Elt F)) : Valuation τ sig (Elt F) := after bO2 (lbO2 V)
abbrev lbO4 (V : Valuation τ sig (Elt F)) : Valuation τ sig (Elt F) := after bO3 (lbO3 V)
abbrev lbO5 (V : Valuation τ sig (Elt F)) : Valuation τ sig (Elt F) := after bO4 (lbO4 V)
abbrev lbO6 (V : Valuation τ sig (Elt F)) : Valuation τ sig (Elt F) := after bO5 (lbO5 V)
abbrev lbO7 (V : Valuation τ sig (Elt F)) : Valuation τ sig (Elt F) := after bO6 (lbO6 V)
abbrev lbO8 (V : Valuation τ sig (Elt F)) : Valuation τ sig (Elt F) := after bO7 (lbO7 V)
abbrev lbO9 (V : Valuation τ sig (Elt F)) : Valuation τ sig (Elt F) := after bO8 (lbO8 V)
abbrev lbO10 (V : Valuation τ sig (Elt F)) : Valuation τ sig (Elt F) := after bO9 (lbO9 V)
abbrev lbO11 (V : Valuation τ sig (Elt F)) : Valuation τ sig (Elt F) := after bO10 (lbO10 V)
abbrev lbO12 (V : Valuation τ sig (Elt F)) : Valuation τ sig (Elt F) := after bO11 (lbO11 V)
abbrev lbO13 (V : Valuation τ sig (Elt F)) : Valuation τ sig (Elt F) := after bO12 (lbO12 V)
abbrev lbO14 (V : Valuation τ sig (Elt F)) : Valuation τ sig (Elt F) := after bO13 (lbO13 V)
abbrev lbO15 (V : Valuation τ sig (Elt F)) : Valuation τ sig (Elt F) := after bO14 (lbO14 V)
abbrev lbO16 (V : Valuation τ sig (Elt F)) : Valuation τ sig (Elt F) := after bO15 (lbO15 V)
abbrev lbO17 (V : Valuation τ sig (Elt F)) : Valuation τ sig (Elt F) := after bO16 (lbO16 V)

theorem fOat_v40 (V : Valuation τ sig (Elt F)) (i : BitVec 32) (hi : V (Proc.devRef .tc main_v16_6) = fun _ => i) :
    (lfO6 V) (Proc.devRef .tc main_while0b_v40) = (rd_S64x4x64x64 (V (Proc.devRef .tc main_v16_0)) i) :=
  ((keepA fO5 fO5_W fO5_writes (lfO5 V) main_while0b_v40 (by decide +kernel)).trans ((keepA fO4 fO4_W fO4_writes (lfO4 V) main_while0b_v40 (by decide +kernel)).trans ((keepA fO3 fO3_W fO3_writes (lfO3 V) main_while0b_v40 (by decide +kernel)).trans ((keepA fO2 fO2_W fO2_writes (lfO2 V) main_while0b_v40 (by decide +kernel)).trans ((keepA fO1 fO1_W fO1_writes (lfO1 V) main_while0b_v40 (by decide +kernel))))))).trans (((fO0_val V i ((rfl).trans hi)).trans (congrArg (fun x => rd_S64x4x64x64 x i) (rfl))))
theorem fOat_v41 (V : Valuation τ sig (Elt F)) (i : BitVec 32) (hi : V (Proc.devRef .tc main_v16_6) = fun _ => i) :
    (lfO6 V) (Proc.devRef .tc main_while0b_v41) = (rd_S64x4x64x128 (V (Proc.devRef .tc main_v16_1)) i) :=
  ((keepA fO5 fO5_W fO5_writes (lfO5 V) main_while0b_v41 (by decide +kernel)).trans ((keepA fO4 fO4_W fO4_writes (lfO4 V) main_while0b_v41 (by decide +kernel)).trans ((keepA fO3 fO3_W fO3_writes (lfO3 V) main_while0b_v41 (by decide +kernel)).trans ((keepA fO2 fO2_W fO2_writes (lfO2 V) main_while0b_v41 (by decide +kernel)))))).trans (((fO1_val (lfO1 V) i (((keepA fO0 fO0_W fO0_writes V main_v16_6 (by decide +kernel))).trans hi)).trans (congrArg (fun x => rd_S64x4x64x128 x i) ((keepA fO0 fO0_W fO0_writes V main_v16_1 (by decide +kernel))))))
theorem fOat_v42 (V : Valuation τ sig (Elt F)) (i : BitVec 32) (hi : V (Proc.devRef .tc main_v16_6) = fun _ => i) :
    (lfO6 V) (Proc.devRef .tc main_while0b_v42) = (rd_S64x4x64x128 (V (Proc.devRef .tc main_v16_2)) i) :=
  ((keepA fO5 fO5_W fO5_writes (lfO5 V) main_while0b_v42 (by decide +kernel)).trans ((keepA fO4 fO4_W fO4_writes (lfO4 V) main_while0b_v42 (by decide +kernel)).trans ((keepA fO3 fO3_W fO3_writes (lfO3 V) main_while0b_v42 (by decide +kernel))))).trans (((fO2_val (lfO2 V) i (((keepA fO1 fO1_W fO1_writes (lfO1 V) main_v16_6 (by decide +kernel)).trans ((keepA fO0 fO0_W fO0_writes V main_v16_6 (by decide +kernel)))).trans hi)).trans (congrArg (fun x => rd_S64x4x64x128 x i) ((keepA fO1 fO1_W fO1_writes (lfO1 V) main_v16_2 (by decide +kernel)).trans ((keepA fO0 fO0_W fO0_writes V main_v16_2 (by decide +kernel)))))))
theorem fOat_v43 (V : Valuation τ sig (Elt F)) (i : BitVec 32) (hi : V (Proc.devRef .tc main_v16_6) = fun _ => i) :
    (lfO6 V) (Proc.devRef .tc main_while0b_v43) = (rd_S64x4x64x128 (V (Proc.devRef .tc main_v16_3)) i) :=
  ((keepA fO5 fO5_W fO5_writes (lfO5 V) main_while0b_v43 (by decide +kernel)).trans ((keepA fO4 fO4_W fO4_writes (lfO4 V) main_while0b_v43 (by decide +kernel)))).trans (((fO3_val (lfO3 V) i (((keepA fO2 fO2_W fO2_writes (lfO2 V) main_v16_6 (by decide +kernel)).trans ((keepA fO1 fO1_W fO1_writes (lfO1 V) main_v16_6 (by decide +kernel)).trans ((keepA fO0 fO0_W fO0_writes V main_v16_6 (by decide +kernel))))).trans hi)).trans (congrArg (fun x => rd_S64x4x64x128 x i) ((keepA fO2 fO2_W fO2_writes (lfO2 V) main_v16_3 (by decide +kernel)).trans ((keepA fO1 fO1_W fO1_writes (lfO1 V) main_v16_3 (by decide +kernel)).trans ((keepA fO0 fO0_W fO0_writes V main_v16_3 (by decide +kernel))))))))
theorem fOat_v44 (V : Valuation τ sig (Elt F)) (i : BitVec 32) (hi : V (Proc.devRef .tc main_v16_6) = fun _ => i) :
    (lfO6 V) (Proc.devRef .tc main_while0b_v44) = (rd_S64x4x64x128 (V (Proc.devRef .tc main_v16_4)) i) :=
  ((keepA fO5 fO5_W fO5_writes (lfO5 V) main_while0b_v44 (by decide +kernel))).trans (((fO4_val (lfO4 V) i (((keepA fO3 fO3_W fO3_writes (lfO3 V) main_v16_6 (by decide +kernel)).trans ((keepA fO2 fO2_W fO2_writes (lfO2 V) main_v16_6 (by decide +kernel)).trans ((keepA fO1 fO1_W fO1_writes (lfO1 V) main_v16_6 (by decide +kernel)).trans ((keepA fO0 fO0_W fO0_writes V main_v16_6 (by decide +kernel)))))).trans hi)).trans (congrArg (fun x => rd_S64x4x64x128 x i) ((keepA fO3 fO3_W fO3_writes (lfO3 V) main_v16_4 (by decide +kernel)).trans ((keepA fO2 fO2_W fO2_writes (lfO2 V) main_v16_4 (by decide +kernel)).trans ((keepA fO1 fO1_W fO1_writes (lfO1 V) main_v16_4 (by decide +kernel)).trans ((keepA fO0 fO0_W fO0_writes V main_v16_4 (by decide +kernel)))))))))
theorem fOat_v45 (V : Valuation τ sig (Elt F)) (i : BitVec 32) (hi : V (Proc.devRef .tc main_v16_6) = fun _ => i) :
    (lfO6 V) (Proc.devRef .tc main_while0b_v45) = (rd_S64x4 (V (Proc.devRef .tc main_v16_5)) i) :=
  (rfl).trans (((fO5_val (lfO5 V) i (((keepA fO4 fO4_W fO4_writes (lfO4 V) main_v16_6 (by decide +kernel)).trans ((keepA fO3 fO3_W fO3_writes (lfO3 V) main_v16_6 (by decide +kernel)).trans ((keepA fO2 fO2_W fO2_writes (lfO2 V) main_v16_6 (by decide +kernel)).trans ((keepA fO1 fO1_W fO1_writes (lfO1 V) main_v16_6 (by decide +kernel)).trans ((keepA fO0 fO0_W fO0_writes V main_v16_6 (by decide +kernel))))))).trans hi)).trans (congrArg (fun x => rd_S64x4 x i) ((keepA fO4 fO4_W fO4_writes (lfO4 V) main_v16_5 (by decide +kernel)).trans ((keepA fO3 fO3_W fO3_writes (lfO3 V) main_v16_5 (by decide +kernel)).trans ((keepA fO2 fO2_W fO2_writes (lfO2 V) main_v16_5 (by decide +kernel)).trans ((keepA fO1 fO1_W fO1_writes (lfO1 V) main_v16_5 (by decide +kernel)).trans ((keepA fO0 fO0_W fO0_writes V main_v16_5 (by decide +kernel))))))))))
theorem fOtr_v47 (V : Valuation τ sig (Elt F)) (i : BitVec 32) (hi : V (Proc.devRef .tc main_v16_6) = fun _ => i) :
    (lfO7 V) (Proc.devRef .tc main_while0b_v47) = fVn (rd_S64x4x64x128 (V (Proc.devRef .tc main_v16_3)) i) (rd_S64x4x64x128 (V (Proc.devRef .tc main_v16_4)) i) (V (Proc.devRef .tc main_v16_7)) := by
  refine (fO6_v47 (lfO6 V)).trans ?_
  rw [fOat_v43 V i hi, fOat_v44 V i hi, (show (lfO6 V) (Proc.devRef .tc main_v16_7) = V (Proc.devRef .tc main_v16_7) from (keepA fO5 fO5_W fO5_writes (lfO5 V) main_v16_7 (by decide +kernel)).trans ((keepA fO4 fO4_W fO4_writes (lfO4 V) main_v16_7 (by decide +kernel)).trans ((keepA fO3 fO3_W fO3_writes (lfO3 V) main_v16_7 (by decide +kernel)).trans ((keepA fO2 fO2_W fO2_writes (lfO2 V) main_v16_7 (by decide +kernel)).trans ((keepA fO1 fO1_W fO1_writes (lfO1 V) main_v16_7 (by decide +kernel)).trans ((keepA fO0 fO0_W fO0_writes V main_v16_7 (by decide +kernel))))))))]
theorem fOtr_v50 (V : Valuation τ sig (Elt F)) (i : BitVec 32) (hi : V (Proc.devRef .tc main_v16_6) = fun _ => i) :
    (lfO7 V) (Proc.devRef .tc main_while0b_v50) = fO (rd_S64x4x64x128 (V (Proc.devRef .tc main_v16_1)) i) (V (Proc.devRef .tc main_v16_7)) (rd_S64x4x64x64 (V (Proc.devRef .tc main_v16_0)) i) (fVn (rd_S64x4x64x128 (V (Proc.devRef .tc main_v16_3)) i) (rd_S64x4x64x128 (V (Proc.devRef .tc main_v16_4)) i) (V (Proc.devRef .tc main_v16_7))) := by
  refine (fO6_v50 (lfO6 V)).trans ?_
  rw [fOat_v41 V i hi, (show (lfO6 V) (Proc.devRef .tc main_v16_7) = V (Proc.devRef .tc main_v16_7) from (keepA fO5 fO5_W fO5_writes (lfO5 V) main_v16_7 (by decide +kernel)).trans ((keepA fO4 fO4_W fO4_writes (lfO4 V) main_v16_7 (by decide +kernel)).trans ((keepA fO3 fO3_W fO3_writes (lfO3 V) main_v16_7 (by decide +kernel)).trans ((keepA fO2 fO2_W fO2_writes (lfO2 V) main_v16_7 (by decide +kernel)).trans ((keepA fO1 fO1_W fO1_writes (lfO1 V) main_v16_7 (by decide +kernel)).trans ((keepA fO0 fO0_W fO0_writes V main_v16_7 (by decide +kernel)))))))), fOat_v40 V i hi, fOat_v43 V i hi, fOat_v44 V i hi]
theorem fOtr_v51 (V : Valuation τ sig (Elt F)) (i : BitVec 32) (hi : V (Proc.devRef .tc main_v16_6) = fun _ => i) :
    (lfO7 V) (Proc.devRef .tc main_while0b_v51) = fGl (rd_S64x4 (V (Proc.devRef .tc main_v16_5)) i) := by
  refine (fO6_v51 (lfO6 V)).trans ?_
  rw [fOat_v45 V i hi]
theorem fOtr_v55 (V : Valuation τ sig (Elt F)) (i : BitVec 32) (hi : V (Proc.devRef .tc main_v16_6) = fun _ => i) :
    (lfO7 V) (Proc.devRef .tc main_while0b_v55) = fSt (V (Proc.devRef .tc main_v16_7)) (fGl (rd_S64x4 (V (Proc.devRef .tc main_v16_5)) i)) (rd_S64x4x64x128 (V (Proc.devRef .tc main_v16_2)) i) (fVn (rd_S64x4x64x128 (V (Proc.devRef .tc main_v16_3)) i) (rd_S64x4x64x128 (V (Proc.devRef .tc main_v16_4)) i) (V (Proc.devRef .tc main_v16_7))) := by
  refine (fO6_v55 (lfO6 V)).trans ?_
  rw [(show (lfO6 V) (Proc.devRef .tc main_v16_7) = V (Proc.devRef .tc main_v16_7) from (keepA fO5 fO5_W fO5_writes (lfO5 V) main_v16_7 (by decide +kernel)).trans ((keepA fO4 fO4_W fO4_writes (lfO4 V) main_v16_7 (by decide +kernel)).trans ((keepA fO3 fO3_W fO3_writes (lfO3 V) main_v16_7 (by decide +kernel)).trans ((keepA fO2 fO2_W fO2_writes (lfO2 V) main_v16_7 (by decide +kernel)).trans ((keepA fO1 fO1_W fO1_writes (lfO1 V) main_v16_7 (by decide +kernel)).trans ((keepA fO0 fO0_W fO0_writes V main_v16_7 (by decide +kernel)))))))), fOat_v45 V i hi, fOat_v42 V i hi, fOat_v43 V i hi, fOat_v44 V i hi]
theorem bodyF_main_v16_8 (V : Valuation τ sig (Elt F)) (i : BitVec 32) (hi : V (Proc.devRef .tc main_v16_6) = fun _ => i) :
    afterL bodyF V (Proc.devRef .tc main_v16_8) = wr_S64x4x64x128 (V (Proc.devRef .tc main_v16_8)) (fO (rd_S64x4x64x128 (V (Proc.devRef .tc main_v16_1)) i) (V (Proc.devRef .tc main_v16_7)) (rd_S64x4x64x64 (V (Proc.devRef .tc main_v16_0)) i) (fVn (rd_S64x4x64x128 (V (Proc.devRef .tc main_v16_3)) i) (rd_S64x4x64x128 (V (Proc.devRef .tc main_v16_4)) i) (V (Proc.devRef .tc main_v16_7)))) i :=
  (fO11_main_v16_8 (lfO11 V)).trans (((keepA fO10 fO10_W fO10_writes (lfO10 V) main_while0b_v56 (by decide +kernel)).trans ((keepA fO9 fO9_W fO9_writes (lfO9 V) main_while0b_v56 (by decide +kernel)).trans ((keepA fO8 fO8_W fO8_writes (lfO8 V) main_while0b_v56 (by decide +kernel))))).trans (((fO7_val (lfO7 V) i (((keepA fO6 fO6_W fO6_writes (lfO6 V) main_v16_6 (by decide +kernel)).trans ((keepA fO5 fO5_W fO5_writes (lfO5 V) main_v16_6 (by decide +kernel)).trans ((keepA fO4 fO4_W fO4_writes (lfO4 V) main_v16_6 (by decide +kernel)).trans ((keepA fO3 fO3_W fO3_writes (lfO3 V) main_v16_6 (by decide +kernel)).trans ((keepA fO2 fO2_W fO2_writes (lfO2 V) main_v16_6 (by decide +kernel)).trans ((keepA fO1 fO1_W fO1_writes (lfO1 V) main_v16_6 (by decide +kernel)).trans ((keepA fO0 fO0_W fO0_writes V main_v16_6 (by decide +kernel))))))))).trans hi)).trans
    (congrArg₂ (fun x y => wr_S64x4x64x128 x y i) ((keepA fO6 fO6_W fO6_writes (lfO6 V) main_v16_8 (by decide +kernel)).trans ((keepA fO5 fO5_W fO5_writes (lfO5 V) main_v16_8 (by decide +kernel)).trans ((keepA fO4 fO4_W fO4_writes (lfO4 V) main_v16_8 (by decide +kernel)).trans ((keepA fO3 fO3_W fO3_writes (lfO3 V) main_v16_8 (by decide +kernel)).trans ((keepA fO2 fO2_W fO2_writes (lfO2 V) main_v16_8 (by decide +kernel)).trans ((keepA fO1 fO1_W fO1_writes (lfO1 V) main_v16_8 (by decide +kernel)).trans ((keepA fO0 fO0_W fO0_writes V main_v16_8 (by decide +kernel))))))))) ((rfl).trans (fOtr_v50 V i hi))))))
theorem bodyF_main_v16_9 (V : Valuation τ sig (Elt F)) (i : BitVec 32) (hi : V (Proc.devRef .tc main_v16_6) = fun _ => i) :
    afterL bodyF V (Proc.devRef .tc main_v16_9) = wr_S64x4x128x128 (V (Proc.devRef .tc main_v16_9)) (V (Proc.devRef .tc main_v16_7)) i :=
  (fO11_main_v16_9 (lfO11 V)).trans (((keepA fO10 fO10_W fO10_writes (lfO10 V) main_while0b_v57 (by decide +kernel)).trans ((keepA fO9 fO9_W fO9_writes (lfO9 V) main_while0b_v57 (by decide +kernel)))).trans (((fO8_val (lfO8 V) i (((keepA fO7 fO7_W fO7_writes (lfO7 V) main_v16_6 (by decide +kernel)).trans ((keepA fO6 fO6_W fO6_writes (lfO6 V) main_v16_6 (by decide +kernel)).trans ((keepA fO5 fO5_W fO5_writes (lfO5 V) main_v16_6 (by decide +kernel)).trans ((keepA fO4 fO4_W fO4_writes (lfO4 V) main_v16_6 (by decide +kernel)).trans ((keepA fO3 fO3_W fO3_writes (lfO3 V) main_v16_6 (by decide +kernel)).trans ((keepA fO2 fO2_W fO2_writes (lfO2 V) main_v16_6 (by decide +kernel)).trans ((keepA fO1 fO1_W fO1_writes (lfO1 V) main_v16_6 (by decide +kernel)).trans ((keepA fO0 fO0_W fO0_writes V main_v16_6 (by decide +kernel)))))))))).trans hi)).trans
    (congrArg₂ (fun x y => wr_S64x4x128x128 x y i) ((keepA fO7 fO7_W fO7_writes (lfO7 V) main_v16_9 (by decide +kernel)).trans ((keepA fO6 fO6_W fO6_writes (lfO6 V) main_v16_9 (by decide +kernel)).trans ((keepA fO5 fO5_W fO5_writes (lfO5 V) main_v16_9 (by decide +kernel)).trans ((keepA fO4 fO4_W fO4_writes (lfO4 V) main_v16_9 (by decide +kernel)).trans ((keepA fO3 fO3_W fO3_writes (lfO3 V) main_v16_9 (by decide +kernel)).trans ((keepA fO2 fO2_W fO2_writes (lfO2 V) main_v16_9 (by decide +kernel)).trans ((keepA fO1 fO1_W fO1_writes (lfO1 V) main_v16_9 (by decide +kernel)).trans ((keepA fO0 fO0_W fO0_writes V main_v16_9 (by decide +kernel)))))))))) ((keepA fO7 fO7_W fO7_writes (lfO7 V) main_v16_7 (by decide +kernel)).trans ((keepA fO6 fO6_W fO6_writes (lfO6 V) main_v16_7 (by decide +kernel)).trans ((keepA fO5 fO5_W fO5_writes (lfO5 V) main_v16_7 (by decide +kernel)).trans ((keepA fO4 fO4_W fO4_writes (lfO4 V) main_v16_7 (by decide +kernel)).trans ((keepA fO3 fO3_W fO3_writes (lfO3 V) main_v16_7 (by decide +kernel)).trans ((keepA fO2 fO2_W fO2_writes (lfO2 V) main_v16_7 (by decide +kernel)).trans ((keepA fO1 fO1_W fO1_writes (lfO1 V) main_v16_7 (by decide +kernel)).trans ((keepA fO0 fO0_W fO0_writes V main_v16_7 (by decide +kernel))))))))))))))
theorem bodyF_main_v16_10 (V : Valuation τ sig (Elt F)) (i : BitVec 32) (hi : V (Proc.devRef .tc main_v16_6) = fun _ => i) :
    afterL bodyF V (Proc.devRef .tc main_v16_10) = wr_S64x4x64x128 (V (Proc.devRef .tc main_v16_10)) (fVn (rd_S64x4x64x128 (V (Proc.devRef .tc main_v16_3)) i) (rd_S64x4x64x128 (V (Proc.devRef .tc main_v16_4)) i) (V (Proc.devRef .tc main_v16_7))) i :=
  (fO11_main_v16_10 (lfO11 V)).trans (((keepA fO10 fO10_W fO10_writes (lfO10 V) main_while0b_v58 (by decide +kernel))).trans (((fO9_val (lfO9 V) i (((keepA fO8 fO8_W fO8_writes (lfO8 V) main_v16_6 (by decide +kernel)).trans ((keepA fO7 fO7_W fO7_writes (lfO7 V) main_v16_6 (by decide +kernel)).trans ((keepA fO6 fO6_W fO6_writes (lfO6 V) main_v16_6 (by decide +kernel)).trans ((keepA fO5 fO5_W fO5_writes (lfO5 V) main_v16_6 (by decide +kernel)).trans ((keepA fO4 fO4_W fO4_writes (lfO4 V) main_v16_6 (by decide +kernel)).trans ((keepA fO3 fO3_W fO3_writes (lfO3 V) main_v16_6 (by decide +kernel)).trans ((keepA fO2 fO2_W fO2_writes (lfO2 V) main_v16_6 (by decide +kernel)).trans ((keepA fO1 fO1_W fO1_writes (lfO1 V) main_v16_6 (by decide +kernel)).trans ((keepA fO0 fO0_W fO0_writes V main_v16_6 (by decide +kernel))))))))))).trans hi)).trans
    (congrArg₂ (fun x y => wr_S64x4x64x128 x y i) ((keepA fO8 fO8_W fO8_writes (lfO8 V) main_v16_10 (by decide +kernel)).trans ((keepA fO7 fO7_W fO7_writes (lfO7 V) main_v16_10 (by decide +kernel)).trans ((keepA fO6 fO6_W fO6_writes (lfO6 V) main_v16_10 (by decide +kernel)).trans ((keepA fO5 fO5_W fO5_writes (lfO5 V) main_v16_10 (by decide +kernel)).trans ((keepA fO4 fO4_W fO4_writes (lfO4 V) main_v16_10 (by decide +kernel)).trans ((keepA fO3 fO3_W fO3_writes (lfO3 V) main_v16_10 (by decide +kernel)).trans ((keepA fO2 fO2_W fO2_writes (lfO2 V) main_v16_10 (by decide +kernel)).trans ((keepA fO1 fO1_W fO1_writes (lfO1 V) main_v16_10 (by decide +kernel)).trans ((keepA fO0 fO0_W fO0_writes V main_v16_10 (by decide +kernel))))))))))) (((keepA fO8 fO8_W fO8_writes (lfO8 V) main_while0b_v47 (by decide +kernel)).trans ((keepA fO7 fO7_W fO7_writes (lfO7 V) main_while0b_v47 (by decide +kernel)))).trans (fOtr_v47 V i hi))))))
theorem bodyF_main_v16_11 (V : Valuation τ sig (Elt F)) (i : BitVec 32) (hi : V (Proc.devRef .tc main_v16_6) = fun _ => i) :
    afterL bodyF V (Proc.devRef .tc main_v16_11) = wr_S64x4x1x1 (V (Proc.devRef .tc main_v16_11)) (fGl (rd_S64x4 (V (Proc.devRef .tc main_v16_5)) i)) i :=
  (fO11_main_v16_11 (lfO11 V)).trans ((rfl).trans (((fO10_val (lfO10 V) i (((keepA fO9 fO9_W fO9_writes (lfO9 V) main_v16_6 (by decide +kernel)).trans ((keepA fO8 fO8_W fO8_writes (lfO8 V) main_v16_6 (by decide +kernel)).trans ((keepA fO7 fO7_W fO7_writes (lfO7 V) main_v16_6 (by decide +kernel)).trans ((keepA fO6 fO6_W fO6_writes (lfO6 V) main_v16_6 (by decide +kernel)).trans ((keepA fO5 fO5_W fO5_writes (lfO5 V) main_v16_6 (by decide +kernel)).trans ((keepA fO4 fO4_W fO4_writes (lfO4 V) main_v16_6 (by decide +kernel)).trans ((keepA fO3 fO3_W fO3_writes (lfO3 V) main_v16_6 (by decide +kernel)).trans ((keepA fO2 fO2_W fO2_writes (lfO2 V) main_v16_6 (by decide +kernel)).trans ((keepA fO1 fO1_W fO1_writes (lfO1 V) main_v16_6 (by decide +kernel)).trans ((keepA fO0 fO0_W fO0_writes V main_v16_6 (by decide +kernel)))))))))))).trans hi)).trans
    (congrArg₂ (fun x y => wr_S64x4x1x1 x y i) ((keepA fO9 fO9_W fO9_writes (lfO9 V) main_v16_11 (by decide +kernel)).trans ((keepA fO8 fO8_W fO8_writes (lfO8 V) main_v16_11 (by decide +kernel)).trans ((keepA fO7 fO7_W fO7_writes (lfO7 V) main_v16_11 (by decide +kernel)).trans ((keepA fO6 fO6_W fO6_writes (lfO6 V) main_v16_11 (by decide +kernel)).trans ((keepA fO5 fO5_W fO5_writes (lfO5 V) main_v16_11 (by decide +kernel)).trans ((keepA fO4 fO4_W fO4_writes (lfO4 V) main_v16_11 (by decide +kernel)).trans ((keepA fO3 fO3_W fO3_writes (lfO3 V) main_v16_11 (by decide +kernel)).trans ((keepA fO2 fO2_W fO2_writes (lfO2 V) main_v16_11 (by decide +kernel)).trans ((keepA fO1 fO1_W fO1_writes (lfO1 V) main_v16_11 (by decide +kernel)).trans ((keepA fO0 fO0_W fO0_writes V main_v16_11 (by decide +kernel)))))))))))) (((keepA fO9 fO9_W fO9_writes (lfO9 V) main_while0b_v51 (by decide +kernel)).trans ((keepA fO8 fO8_W fO8_writes (lfO8 V) main_while0b_v51 (by decide +kernel)).trans ((keepA fO7 fO7_W fO7_writes (lfO7 V) main_while0b_v51 (by decide +kernel))))).trans (fOtr_v51 V i hi))))))
theorem bodyF_main_v16_7 (V : Valuation τ sig (Elt F)) (i : BitVec 32) (hi : V (Proc.devRef .tc main_v16_6) = fun _ => i) :
    afterL bodyF V (Proc.devRef .tc main_v16_7) = fSt (V (Proc.devRef .tc main_v16_7)) (fGl (rd_S64x4 (V (Proc.devRef .tc main_v16_5)) i)) (rd_S64x4x64x128 (V (Proc.devRef .tc main_v16_2)) i) (fVn (rd_S64x4x64x128 (V (Proc.devRef .tc main_v16_3)) i) (rd_S64x4x64x128 (V (Proc.devRef .tc main_v16_4)) i) (V (Proc.devRef .tc main_v16_7))) :=
  (fO11_main_v16_7 (lfO11 V)).trans (((keepA fO10 fO10_W fO10_writes (lfO10 V) main_while0b_v55 (by decide +kernel)).trans ((keepA fO9 fO9_W fO9_writes (lfO9 V) main_while0b_v55 (by decide +kernel)).trans ((keepA fO8 fO8_W fO8_writes (lfO8 V) main_while0b_v55 (by decide +kernel)).trans ((keepA fO7 fO7_W fO7_writes (lfO7 V) main_while0b_v55 (by decide +kernel)))))).trans (fOtr_v55 V i hi))
theorem bOat_v42 (V : Valuation τ sig (Elt F)) (i : BitVec 32) (hi : V (Proc.devRef .tc main_v27_8) = fun _ => i) :
    (lbO9 V) (Proc.devRef .tc main_while1b_v42) = (rd_S64x4x64x128 (V (Proc.devRef .tc main_v27_0)) (64#32 - i - 1#32)) :=
  ((keepA bO8 bO8_W bO8_writes (lbO8 V) main_while1b_v42 (by decide +kernel)).trans ((keepA bO7 bO7_W bO7_writes (lbO7 V) main_while1b_v42 (by decide +kernel)).trans ((keepA bO6 bO6_W bO6_writes (lbO6 V) main_while1b_v42 (by decide +kernel)).trans ((keepA bO5 bO5_W bO5_writes (lbO5 V) main_while1b_v42 (by decide +kernel)).trans ((keepA bO4 bO4_W bO4_writes (lbO4 V) main_while1b_v42 (by decide +kernel)).trans ((keepA bO3 bO3_W bO3_writes (lbO3 V) main_while1b_v42 (by decide +kernel)).trans ((keepA bO2 bO2_W bO2_writes (lbO2 V) main_while1b_v42 (by decide +kernel))))))))).trans (((bO1_val (lbO1 V) (64#32 - i - 1#32) ((rfl).trans (bO0_v41 V i hi))).trans (congrArg (fun x => rd_S64x4x64x128 x (64#32 - i - 1#32)) ((keepA bO0 bO0_W bO0_writes V main_v27_0 (by decide +kernel))))))
theorem bOat_v43 (V : Valuation τ sig (Elt F)) (i : BitVec 32) (hi : V (Proc.devRef .tc main_v27_8) = fun _ => i) :
    (lbO9 V) (Proc.devRef .tc main_while1b_v43) = (rd_S64x4x128x128 (V (Proc.devRef .tc main_v27_1)) (64#32 - i - 1#32)) :=
  ((keepA bO8 bO8_W bO8_writes (lbO8 V) main_while1b_v43 (by decide +kernel)).trans ((keepA bO7 bO7_W bO7_writes (lbO7 V) main_while1b_v43 (by decide +kernel)).trans ((keepA bO6 bO6_W bO6_writes (lbO6 V) main_while1b_v43 (by decide +kernel)).trans ((keepA bO5 bO5_W bO5_writes (lbO5 V) main_while1b_v43 (by decide +kernel)).trans ((keepA bO4 bO4_W bO4_writes (lbO4 V) main_while1b_v43 (by decide +kernel)).trans ((keepA bO3 bO3_W bO3_writes (lbO3 V) main_while1b_v43 (by decide +kernel)))))))).trans (((bO2_val (lbO2 V) (64#32 - i - 1#32) (((keepA bO1 bO1_W bO1_writes (lbO1 V) main_while1b_v41 (by decide +kernel))).trans (bO0_v41 V i hi))).trans (congrArg (fun x => rd_S64x4x128x128 x (64#32 - i - 1#32)) ((keepA bO1 bO1_W bO1_writes (lbO1 V) main_v27_1 (by decide +kernel)).trans ((keepA bO0 bO0_W bO0_writes V main_v27_1 (by decide +kernel)))))))
theorem bOat_v44 (V : Valuation τ sig (Elt F)) (i : BitVec 32) (hi : V (Proc.devRef .tc main_v27_8) = fun _ => i) :
    (lbO9 V) (Proc.devRef .tc main_while1b_v44) = (rd_S64x4x64x128 (V (Proc.devRef .tc main_v27_2)) (64#32 - i - 1#32)) :=
  ((keepA bO8 bO8_W bO8_writes (lbO8 V) main_while1b_v44 (by decide +kernel)).trans ((keepA bO7 bO7_W bO7_writes (lbO7 V) main_while1b_v44 (by decide +kernel)).trans ((keepA bO6 bO6_W bO6_writes (lbO6 V) main_while1b_v44 (by decide +kernel)).trans ((keepA bO5 bO5_W bO5_writes (lbO5 V) main_while1b_v44 (by decide +kernel)).trans ((keepA bO4 bO4_W bO4_writes (lbO4 V) main_while1b_v44 (by decide +kernel))))))).trans (((bO3_val (lbO3 V) (64#32 - i - 1#32) (((keepA bO2 bO2_W bO2_writes (lbO2 V) main_while1b_v41 (by decide +kernel)).trans ((keepA bO1 bO1_W bO1_writes (lbO1 V) main_while1b_v41 (by decide +kernel)))).trans (bO0_v41 V i hi))).trans (congrArg (fun x => rd_S64x4x64x128 x (64#32 - i - 1#32)) ((keepA bO2 bO2_W bO2_writes (lbO2 V) main_v27_2 (by decide +kernel)).trans ((keepA bO1 bO1_W bO1_writes (lbO1 V) main_v27_2 (by decide +kernel)).trans ((keepA bO0 bO0_W bO0_writes V main_v27_2 (by decide +kernel))))))))
theorem bOat_v45 (V : Valuation τ sig (Elt F)) (i : BitVec 32) (hi : V (Proc.devRef .tc main_v27_8) = fun _ => i) :
    (lbO9 V) (Proc.devRef .tc main_while1b_v45) = (rd_S64x4x64x128 (V (Proc.devRef .tc main_v27_3)) (64#32 - i - 1#32)) :=
  ((keepA bO8 bO8_W bO8_writes (lbO8 V) main_while1b_v45 (by decide +kernel)).trans ((keepA bO7 bO7_W bO7_writes (lbO7 V) main_while1b_v45 (by decide +kernel)).trans ((keepA bO6 bO6_W bO6_writes (lbO6 V) main_while1b_v45 (by decide +kernel)).trans ((keepA bO5 bO5_W bO5_writes (lbO5 V) main_while1b_v45 (by decide +kernel)))))).trans (((bO4_val (lbO4 V) (64#32 - i - 1#32) (((keepA bO3 bO3_W bO3_writes (lbO3 V) main_while1b_v41 (by decide +kernel)).trans ((keepA bO2 bO2_W bO2_writes (lbO2 V) main_while1b_v41 (by decide +kernel)).trans ((keepA bO1 bO1_W bO1_writes (lbO1 V) main_while1b_v41 (by decide +kernel))))).trans (bO0_v41 V i hi))).trans (congrArg (fun x => rd_S64x4x64x128 x (64#32 - i - 1#32)) ((keepA bO3 bO3_W bO3_writes (lbO3 V) main_v27_3 (by decide +kernel)).trans ((keepA bO2 bO2_W bO2_writes (lbO2 V) main_v27_3 (by decide +kernel)).trans ((keepA bO1 bO1_W bO1_writes (lbO1 V) main_v27_3 (by decide +kernel)).trans ((keepA bO0 bO0_W bO0_writes V main_v27_3 (by decide +kernel)))))))))
theorem bOat_v46 (V : Valuation τ sig (Elt F)) (i : BitVec 32) (hi : V (Proc.devRef .tc main_v27_8) = fun _ => i) :
    (lbO9 V) (Proc.devRef .tc main_while1b_v46) = (rd_S64x4x64x128 (V (Proc.devRef .tc main_v27_4)) (64#32 - i - 1#32)) :=
  ((keepA bO8 bO8_W bO8_writes (lbO8 V) main_while1b_v46 (by decide +kernel)).trans ((keepA bO7 bO7_W bO7_writes (lbO7 V) main_while1b_v46 (by decide +kernel)).trans ((keepA bO6 bO6_W bO6_writes (lbO6 V) main_while1b_v46 (by decide +kernel))))).trans (((bO5_val (lbO5 V) (64#32 - i - 1#32) (((keepA bO4 bO4_W bO4_writes (lbO4 V) main_while1b_v41 (by decide +kernel)).trans ((keepA bO3 bO3_W bO3_writes (lbO3 V) main_while1b_v41 (by decide +kernel)).trans ((keepA bO2 bO2_W bO2_writes (lbO2 V) main_while1b_v41 (by decide +kernel)).trans ((keepA bO1 bO1_W bO1_writes (lbO1 V) main_while1b_v41 (by decide +kernel)))))).trans (bO0_v41 V i hi))).trans (congrArg (fun x => rd_S64x4x64x128 x (64#32 - i - 1#32)) ((keepA bO4 bO4_W bO4_writes (lbO4 V) main_v27_4 (by decide +kernel)).trans ((keepA bO3 bO3_W bO3_writes (lbO3 V) main_v27_4 (by decide +kernel)).trans ((keepA bO2 bO2_W bO2_writes (lbO2 V) main_v27_4 (by decide +kernel)).trans ((keepA bO1 bO1_W bO1_writes (lbO1 V) main_v27_4 (by decide +kernel)).trans ((keepA bO0 bO0_W bO0_writes V main_v27_4 (by decide +kernel))))))))))
theorem bOat_v47 (V : Valuation τ sig (Elt F)) (i : BitVec 32) (hi : V (Proc.devRef .tc main_v27_8) = fun _ => i) :
    (lbO9 V) (Proc.devRef .tc main_while1b_v47) = (rd_S64x4x64x64 (V (Proc.devRef .tc main_v27_5)) (64#32 - i - 1#32)) :=
  ((keepA bO8 bO8_W bO8_writes (lbO8 V) main_while1b_v47 (by decide +kernel)).trans ((keepA bO7 bO7_W bO7_writes (lbO7 V) main_while1b_v47 (by decide +kernel)))).trans (((bO6_val (lbO6 V) (64#32 - i - 1#32) (((keepA bO5 bO5_W bO5_writes (lbO5 V) main_while1b_v41 (by decide +kernel)).trans ((keepA bO4 bO4_W bO4_writes (lbO4 V) main_while1b_v41 (by decide +kernel)).trans ((keepA bO3 bO3_W bO3_writes (lbO3 V) main_while1b_v41 (by decide +kernel)).trans ((keepA bO2 bO2_W bO2_writes (lbO2 V) main_while1b_v41 (by decide +kernel)).trans ((keepA bO1 bO1_W bO1_writes (lbO1 V) main_while1b_v41 (by decide +kernel))))))).trans (bO0_v41 V i hi))).trans (congrArg (fun x => rd_S64x4x64x64 x (64#32 - i - 1#32)) ((keepA bO5 bO5_W bO5_writes (lbO5 V) main_v27_5 (by decide +kernel)).trans ((keepA bO4 bO4_W bO4_writes (lbO4 V) main_v27_5 (by decide +kernel)).trans ((keepA bO3 bO3_W bO3_writes (lbO3 V) main_v27_5 (by decide +kernel)).trans ((keepA bO2 bO2_W bO2_writes (lbO2 V) main_v27_5 (by decide +kernel)).trans ((keepA bO1 bO1_W bO1_writes (lbO1 V) main_v27_5 (by decide +kernel)).trans ((keepA bO0 bO0_W bO0_writes V main_v27_5 (by decide +kernel)))))))))))
theorem bOat_v48 (V : Valuation τ sig (Elt F)) (i : BitVec 32) (hi : V (Proc.devRef .tc main_v27_8) = fun _ => i) :
    (lbO9 V) (Proc.devRef .tc main_while1b_v48) = (rd_S64x4x1x1 (V (Proc.devRef .tc main_v27_6)) (64#32 - i - 1#32)) :=
  ((keepA bO8 bO8_W bO8_writes (lbO8 V) main_while1b_v48 (by decide +kernel))).trans (((bO7_val (lbO7 V) (64#32 - i - 1#32) (((keepA bO6 bO6_W bO6_writes (lbO6 V) main_while1b_v41 (by decide +kernel)).trans ((keepA bO5 bO5_W bO5_writes (lbO5 V) main_while1b_v41 (by decide +kernel)).trans ((keepA bO4 bO4_W bO4_writes (lbO4 V) main_while1b_v41 (by decide +kernel)).trans ((keepA bO3 bO3_W bO3_writes (lbO3 V) main_while1b_v41 (by decide +kernel)).trans ((keepA bO2 bO2_W bO2_writes (lbO2 V) main_while1b_v41 (by decide +kernel)).trans ((keepA bO1 bO1_W bO1_writes (lbO1 V) main_while1b_v41 (by decide +kernel)))))))).trans (bO0_v41 V i hi))).trans (congrArg (fun x => rd_S64x4x1x1 x (64#32 - i - 1#32)) ((keepA bO6 bO6_W bO6_writes (lbO6 V) main_v27_6 (by decide +kernel)).trans ((keepA bO5 bO5_W bO5_writes (lbO5 V) main_v27_6 (by decide +kernel)).trans ((keepA bO4 bO4_W bO4_writes (lbO4 V) main_v27_6 (by decide +kernel)).trans ((keepA bO3 bO3_W bO3_writes (lbO3 V) main_v27_6 (by decide +kernel)).trans ((keepA bO2 bO2_W bO2_writes (lbO2 V) main_v27_6 (by decide +kernel)).trans ((keepA bO1 bO1_W bO1_writes (lbO1 V) main_v27_6 (by decide +kernel)).trans ((keepA bO0 bO0_W bO0_writes V main_v27_6 (by decide +kernel))))))))))))
theorem bOat_v49 (V : Valuation τ sig (Elt F)) (i : BitVec 32) (hi : V (Proc.devRef .tc main_v27_8) = fun _ => i) :
    (lbO9 V) (Proc.devRef .tc main_while1b_v49) = (rd_S64x4x64x128 (V (Proc.devRef .tc main_v27_7)) (64#32 - i - 1#32)) :=
  (rfl).trans (((bO8_val (lbO8 V) (64#32 - i - 1#32) (((keepA bO7 bO7_W bO7_writes (lbO7 V) main_while1b_v41 (by decide +kernel)).trans ((keepA bO6 bO6_W bO6_writes (lbO6 V) main_while1b_v41 (by decide +kernel)).trans ((keepA bO5 bO5_W bO5_writes (lbO5 V) main_while1b_v41 (by decide +kernel)).trans ((keepA bO4 bO4_W bO4_writes (lbO4 V) main_while1b_v41 (by decide +kernel)).trans ((keepA bO3 bO3_W bO3_writes (lbO3 V) main_while1b_v41 (by decide +kernel)).trans ((keepA bO2 bO2_W bO2_writes (lbO2 V) main_while1b_v41 (by decide +kernel)).trans ((keepA bO1 bO1_W bO1_writes (lbO1 V) main_while1b_v41 (by decide +kernel))))))))).trans (bO0_v41 V i hi))).trans (congrArg (fun x => rd_S64x4x64x128 x (64#32 - i - 1#32)) ((keepA bO7 bO7_W bO7_writes (lbO7 V) main_v27_7 (by decide +kernel)).trans ((keepA bO6 bO6_W bO6_writes (lbO6 V) main_v27_7 (by decide +kernel)).trans ((keepA bO5 bO5_W bO5_writes (lbO5 V) main_v27_7 (by decide +kernel)).trans ((keepA bO4 bO4_W bO4_writes (lbO4 V) main_v27_7 (by decide +kernel)).trans ((keepA bO3 bO3_W bO3_writes (lbO3 V) main_v27_7 (by decide +kernel)).trans ((keepA bO2 bO2_W bO2_writes (lbO2 V) main_v27_7 (by decide +kernel)).trans ((keepA bO1 bO1_W bO1_writes (lbO1 V) main_v27_7 (by decide +kernel)).trans ((keepA bO0 bO0_W bO0_writes V main_v27_7 (by decide +kernel)))))))))))))
theorem bOtr_v53 (V : Valuation τ sig (Elt F)) (i : BitVec 32) (hi : V (Proc.devRef .tc main_v27_8) = fun _ => i) :
    (lbO10 V) (Proc.devRef .tc main_while1b_v53) = bDkt (V (Proc.devRef .tc main_v27_9)) (rd_S64x4x64x128 (V (Proc.devRef .tc main_v27_4)) (64#32 - i - 1#32)) := by
  refine (bO9_v53 (lbO9 V)).trans ?_
  rw [(show (lbO9 V) (Proc.devRef .tc main_v27_9) = V (Proc.devRef .tc main_v27_9) from (keepA bO8 bO8_W bO8_writes (lbO8 V) main_v27_9 (by decide +kernel)).trans ((keepA bO7 bO7_W bO7_writes (lbO7 V) main_v27_9 (by decide +kernel)).trans ((keepA bO6 bO6_W bO6_writes (lbO6 V) main_v27_9 (by decide +kernel)).trans ((keepA bO5 bO5_W bO5_writes (lbO5 V) main_v27_9 (by decide +kernel)).trans ((keepA bO4 bO4_W bO4_writes (lbO4 V) main_v27_9 (by decide +kernel)).trans ((keepA bO3 bO3_W bO3_writes (lbO3 V) main_v27_9 (by decide +kernel)).trans ((keepA bO2 bO2_W bO2_writes (lbO2 V) main_v27_9 (by decide +kernel)).trans ((keepA bO1 bO1_W bO1_writes (lbO1 V) main_v27_9 (by decide +kernel)).trans ((keepA bO0 bO0_W bO0_writes V main_v27_9 (by decide +kernel))))))))))), bOat_v46 V i hi]
theorem bOtr_v59 (V : Valuation τ sig (Elt F)) (i : BitVec 32) (hi : V (Proc.devRef .tc main_v27_8) = fun _ => i) :
    (lbO10 V) (Proc.devRef .tc main_while1b_v59) = bDgl (rd_S64x4x128x128 (V (Proc.devRef .tc main_v27_1)) (64#32 - i - 1#32)) (V (Proc.devRef .tc main_v27_9)) := by
  refine (bO9_v59 (lbO9 V)).trans ?_
  rw [bOat_v43 V i hi, (show (lbO9 V) (Proc.devRef .tc main_v27_9) = V (Proc.devRef .tc main_v27_9) from (keepA bO8 bO8_W bO8_writes (lbO8 V) main_v27_9 (by decide +kernel)).trans ((keepA bO7 bO7_W bO7_writes (lbO7 V) main_v27_9 (by decide +kernel)).trans ((keepA bO6 bO6_W bO6_writes (lbO6 V) main_v27_9 (by decide +kernel)).trans ((keepA bO5 bO5_W bO5_writes (lbO5 V) main_v27_9 (by decide +kernel)).trans ((keepA bO4 bO4_W bO4_writes (lbO4 V) main_v27_9 (by decide +kernel)).trans ((keepA bO3 bO3_W bO3_writes (lbO3 V) main_v27_9 (by decide +kernel)).trans ((keepA bO2 bO2_W bO2_writes (lbO2 V) main_v27_9 (by decide +kernel)).trans ((keepA bO1 bO1_W bO1_writes (lbO1 V) main_v27_9 (by decide +kernel)).trans ((keepA bO0 bO0_W bO0_writes V main_v27_9 (by decide +kernel)))))))))))]
theorem bOtr_v62 (V : Valuation τ sig (Elt F)) (i : BitVec 32) (hi : V (Proc.devRef .tc main_v27_8) = fun _ => i) :
    (lbO10 V) (Proc.devRef .tc main_while1b_v62) = bDvn (V (Proc.devRef .tc main_v27_9)) (rd_S64x4x64x128 (V (Proc.devRef .tc main_v27_7)) (64#32 - i - 1#32)) (rd_S64x4x64x128 (V (Proc.devRef .tc main_v27_0)) (64#32 - i - 1#32)) (rd_S64x4x64x64 (V (Proc.devRef .tc main_v27_5)) (64#32 - i - 1#32)) := by
  refine (bO9_v62 (lbO9 V)).trans ?_
  rw [(show (lbO9 V) (Proc.devRef .tc main_v27_9) = V (Proc.devRef .tc main_v27_9) from (keepA bO8 bO8_W bO8_writes (lbO8 V) main_v27_9 (by decide +kernel)).trans ((keepA bO7 bO7_W bO7_writes (lbO7 V) main_v27_9 (by decide +kernel)).trans ((keepA bO6 bO6_W bO6_writes (lbO6 V) main_v27_9 (by decide +kernel)).trans ((keepA bO5 bO5_W bO5_writes (lbO5 V) main_v27_9 (by decide +kernel)).trans ((keepA bO4 bO4_W bO4_writes (lbO4 V) main_v27_9 (by decide +kernel)).trans ((keepA bO3 bO3_W bO3_writes (lbO3 V) main_v27_9 (by decide +kernel)).trans ((keepA bO2 bO2_W bO2_writes (lbO2 V) main_v27_9 (by decide +kernel)).trans ((keepA bO1 bO1_W bO1_writes (lbO1 V) main_v27_9 (by decide +kernel)).trans ((keepA bO0 bO0_W bO0_writes V main_v27_9 (by decide +kernel))))))))))), bOat_v49 V i hi, bOat_v42 V i hi, bOat_v47 V i hi]
theorem bOtr_v63 (V : Valuation τ sig (Elt F)) (i : BitVec 32) (hi : V (Proc.devRef .tc main_v27_8) = fun _ => i) :
    (lbO10 V) (Proc.devRef .tc main_while1b_v63) = bDat (rd_S64x4x64x128 (V (Proc.devRef .tc main_v27_0)) (64#32 - i - 1#32)) (rd_S64x4x64x128 (V (Proc.devRef .tc main_v27_4)) (64#32 - i - 1#32)) := by
  refine (bO9_v63 (lbO9 V)).trans ?_
  rw [bOat_v42 V i hi, bOat_v46 V i hi]
theorem bOtr_v67 (V : Valuation τ sig (Elt F)) (i : BitVec 32) (hi : V (Proc.devRef .tc main_v27_8) = fun _ => i) :
    (lbO10 V) (Proc.devRef .tc main_while1b_v67) = bDqd (rd_S64x4x64x128 (V (Proc.devRef .tc main_v27_0)) (64#32 - i - 1#32)) (rd_S64x4x128x128 (V (Proc.devRef .tc main_v27_1)) (64#32 - i - 1#32)) := by
  refine (bO9_v67 (lbO9 V)).trans ?_
  rw [bOat_v42 V i hi, bOat_v43 V i hi]
theorem bOtr_v71 (V : Valuation τ sig (Elt F)) (i : BitVec 32) (hi : V (Proc.devRef .tc main_v27_8) = fun _ => i) :
    (lbO10 V) (Proc.devRef .tc main_while1b_v71) = bDs (V (Proc.devRef .tc main_v27_9)) (rd_S64x4x1x1 (V (Proc.devRef .tc main_v27_6)) (64#32 - i - 1#32)) (rd_S64x4x64x128 (V (Proc.devRef .tc main_v27_0)) (64#32 - i - 1#32)) (rd_S64x4x64x128 (V (Proc.devRef .tc main_v27_3)) (64#32 - i - 1#32)) (bDvn (V (Proc.devRef .tc main_v27_9)) (rd_S64x4x64x128 (V (Proc.devRef .tc main_v27_7)) (64#32 - i - 1#32)) (rd_S64x4x64x128 (V (Proc.devRef .tc main_v27_0)) (64#32 - i - 1#32)) (rd_S64x4x64x64 (V (Proc.devRef .tc main_v27_5)) (64#32 - i - 1#32))) (rd_S64x4x64x128 (V (Proc.devRef .tc main_v27_2)) (64#32 - i - 1#32)) := by
  refine (bO9_v71 (lbO9 V)).trans ?_
  rw [(show (lbO9 V) (Proc.devRef .tc main_v27_9) = V (Proc.devRef .tc main_v27_9) from (keepA bO8 bO8_W bO8_writes (lbO8 V) main_v27_9 (by decide +kernel)).trans ((keepA bO7 bO7_W bO7_writes (lbO7 V) main_v27_9 (by decide +kernel)).trans ((keepA bO6 bO6_W bO6_writes (lbO6 V) main_v27_9 (by decide +kernel)).trans ((keepA bO5 bO5_W bO5_writes (lbO5 V) main_v27_9 (by decide +kernel)).trans ((keepA bO4 bO4_W bO4_writes (lbO4 V) main_v27_9 (by decide +kernel)).trans ((keepA bO3 bO3_W bO3_writes (lbO3 V) main_v27_9 (by decide +kernel)).trans ((keepA bO2 bO2_W bO2_writes (lbO2 V) main_v27_9 (by decide +kernel)).trans ((keepA bO1 bO1_W bO1_writes (lbO1 V) main_v27_9 (by decide +kernel)).trans ((keepA bO0 bO0_W bO0_writes V main_v27_9 (by decide +kernel))))))))))), bOat_v48 V i hi, bOat_v42 V i hi, bOat_v45 V i hi, bOat_v49 V i hi, bOat_v47 V i hi, bOat_v44 V i hi]
theorem bOtr_v72 (V : Valuation τ sig (Elt F)) (i : BitVec 32) (hi : V (Proc.devRef .tc main_v27_8) = fun _ => i) :
    (lbO10 V) (Proc.devRef .tc main_while1b_v72) = bDw (bDvn (V (Proc.devRef .tc main_v27_9)) (rd_S64x4x64x128 (V (Proc.devRef .tc main_v27_7)) (64#32 - i - 1#32)) (rd_S64x4x64x128 (V (Proc.devRef .tc main_v27_0)) (64#32 - i - 1#32)) (rd_S64x4x64x64 (V (Proc.devRef .tc main_v27_5)) (64#32 - i - 1#32))) (rd_S64x4x128x128 (V (Proc.devRef .tc main_v27_1)) (64#32 - i - 1#32)) := by
  refine (bO9_v72 (lbO9 V)).trans ?_
  rw [(show (lbO9 V) (Proc.devRef .tc main_v27_9) = V (Proc.devRef .tc main_v27_9) from (keepA bO8 bO8_W bO8_writes (lbO8 V) main_v27_9 (by decide +kernel)).trans ((keepA bO7 bO7_W bO7_writes (lbO7 V) main_v27_9 (by decide +kernel)).trans ((keepA bO6 bO6_W bO6_writes (lbO6 V) main_v27_9 (by decide +kernel)).trans ((keepA bO5 bO5_W bO5_writes (lbO5 V) main_v27_9 (by decide +kernel)).trans ((keepA bO4 bO4_W bO4_writes (lbO4 V) main_v27_9 (by decide +kernel)).trans ((keepA bO3 bO3_W bO3_writes (lbO3 V) main_v27_9 (by decide +kernel)).trans ((keepA bO2 bO2_W bO2_writes (lbO2 V) main_v27_9 (by decide +kernel)).trans ((keepA bO1 bO1_W bO1_writes (lbO1 V) main_v27_9 (by decide +kernel)).trans ((keepA bO0 bO0_W bO0_writes V main_v27_9 (by decide +kernel))))))))))), bOat_v49 V i hi, bOat_v42 V i hi, bOat_v47 V i hi, bOat_v43 V i hi]
theorem bodyB_main_v27_10 (V : Valuation τ sig (Elt F)) (i : BitVec 32) (hi : V (Proc.devRef .tc main_v27_8) = fun _ => i) :
    afterL bodyB V (Proc.devRef .tc main_v27_10) = wr_S64x4x64x64 (V (Proc.devRef .tc main_v27_10)) (bDat (rd_S64x4x64x128 (V (Proc.devRef .tc main_v27_0)) (64#32 - i - 1#32)) (rd_S64x4x64x128 (V (Proc.devRef .tc main_v27_4)) (64#32 - i - 1#32))) (64#32 - i - 1#32) :=
  (bO16_main_v27_10 (lbO16 V)).trans (((keepA bO15 bO15_W bO15_writes (lbO15 V) main_while1b_v73 (by decide +kernel)).trans ((keepA bO14 bO14_W bO14_writes (lbO14 V) main_while1b_v73 (by decide +kernel)).trans ((keepA bO13 bO13_W bO13_writes (lbO13 V) main_while1b_v73 (by decide +kernel)).trans ((keepA bO12 bO12_W bO12_writes (lbO12 V) main_while1b_v73 (by decide +kernel)).trans ((keepA bO11 bO11_W bO11_writes (lbO11 V) main_while1b_v73 (by decide +kernel))))))).trans (((bO10_val (lbO10 V) (64#32 - i - 1#32) (((keepA bO9 bO9_W bO9_writes (lbO9 V) main_while1b_v41 (by decide +kernel)).trans ((keepA bO8 bO8_W bO8_writes (lbO8 V) main_while1b_v41 (by decide +kernel)).trans ((keepA bO7 bO7_W bO7_writes (lbO7 V) main_while1b_v41 (by decide +kernel)).trans ((keepA bO6 bO6_W bO6_writes (lbO6 V) main_while1b_v41 (by decide +kernel)).trans ((keepA bO5 bO5_W bO5_writes (lbO5 V) main_while1b_v41 (by decide +kernel)).trans ((keepA bO4 bO4_W bO4_writes (lbO4 V) main_while1b_v41 (by decide +kernel)).trans ((keepA bO3 bO3_W bO3_writes (lbO3 V) main_while1b_v41 (by decide +kernel)).trans ((keepA bO2 bO2_W bO2_writes (lbO2 V) main_while1b_v41 (by decide +kernel)).trans ((keepA bO1 bO1_W bO1_writes (lbO1 V) main_while1b_v41 (by decide +kernel))))))))))).trans (bO0_v41 V i hi))).trans
    (congrArg₂ (fun x y => wr_S64x4x64x64 x y (64#32 - i - 1#32)) ((keepA bO9 bO9_W bO9_writes (lbO9 V) main_v27_10 (by decide +kernel)).trans ((keepA bO8 bO8_W bO8_writes (lbO8 V) main_v27_10 (by decide +kernel)).trans ((keepA bO7 bO7_W bO7_writes (lbO7 V) main_v27_10 (by decide +kernel)).trans ((keepA bO6 bO6_W bO6_writes (lbO6 V) main_v27_10 (by decide +kernel)).trans ((keepA bO5 bO5_W bO5_writes (lbO5 V) main_v27_10 (by decide +kernel)).trans ((keepA bO4 bO4_W bO4_writes (lbO4 V) main_v27_10 (by decide +kernel)).trans ((keepA bO3 bO3_W bO3_writes (lbO3 V) main_v27_10 (by decide +kernel)).trans ((keepA bO2 bO2_W bO2_writes (lbO2 V) main_v27_10 (by decide +kernel)).trans ((keepA bO1 bO1_W bO1_writes (lbO1 V) main_v27_10 (by decide +kernel)).trans ((keepA bO0 bO0_W bO0_writes V main_v27_10 (by decide +kernel)))))))))))) ((rfl).trans (bOtr_v63 V i hi))))))
theorem bodyB_main_v27_11 (V : Valuation τ sig (Elt F)) (i : BitVec 32) (hi : V (Proc.devRef .tc main_v27_8) = fun _ => i) :
    afterL bodyB V (Proc.devRef .tc main_v27_11) = wr_S64x4x64x128 (V (Proc.devRef .tc main_v27_11)) (bDqd (rd_S64x4x64x128 (V (Proc.devRef .tc main_v27_0)) (64#32 - i - 1#32)) (rd_S64x4x128x128 (V (Proc.devRef .tc main_v27_1)) (64#32 - i - 1#32))) (64#32 - i - 1#32) :=
  (bO16_main_v27_11 (lbO16 V)).trans (((keepA bO15 bO15_W bO15_writes (lbO15 V) main_while1b_v74 (by decide +kernel)).trans ((keepA bO14 bO14_W bO14_writes (lbO14 V) main_while1b_v74 (by decide +kernel)).trans ((keepA bO13 bO13_W bO13_writes (lbO13 V) main_while1b_v74 (by decide +kernel)).trans ((keepA bO12 bO12_W bO12_writes (lbO12 V) main_while1b_v74 (by decide +kernel)))))).trans (((bO11_val (lbO11 V) (64#32 - i - 1#32) (((keepA bO10 bO10_W bO10_writes (lbO10 V) main_while1b_v41 (by decide +kernel)).trans ((keepA bO9 bO9_W bO9_writes (lbO9 V) main_while1b_v41 (by decide +kernel)).trans ((keepA bO8 bO8_W bO8_writes (lbO8 V) main_while1b_v41 (by decide +kernel)).trans ((keepA bO7 bO7_W bO7_writes (lbO7 V) main_while1b_v41 (by decide +kernel)).trans ((keepA bO6 bO6_W bO6_writes (lbO6 V) main_while1b_v41 (by decide +kernel)).trans ((keepA bO5 bO5_W bO5_writes (lbO5 V) main_while1b_v41 (by decide +kernel)).trans ((keepA bO4 bO4_W bO4_writes (lbO4 V) main_while1b_v41 (by decide +kernel)).trans ((keepA bO3 bO3_W bO3_writes (lbO3 V) main_while1b_v41 (by decide +kernel)).trans ((keepA bO2 bO2_W bO2_writes (lbO2 V) main_while1b_v41 (by decide +kernel)).trans ((keepA bO1 bO1_W bO1_writes (lbO1 V) main_while1b_v41 (by decide +kernel)))))))))))).trans (bO0_v41 V i hi))).trans
    (congrArg₂ (fun x y => wr_S64x4x64x128 x y (64#32 - i - 1#32)) ((keepA bO10 bO10_W bO10_writes (lbO10 V) main_v27_11 (by decide +kernel)).trans ((keepA bO9 bO9_W bO9_writes (lbO9 V) main_v27_11 (by decide +kernel)).trans ((keepA bO8 bO8_W bO8_writes (lbO8 V) main_v27_11 (by decide +kernel)).trans ((keepA bO7 bO7_W bO7_writes (lbO7 V) main_v27_11 (by decide +kernel)).trans ((keepA bO6 bO6_W bO6_writes (lbO6 V) main_v27_11 (by decide +kernel)).trans ((keepA bO5 bO5_W bO5_writes (lbO5 V) main_v27_11 (by decide +kernel)).trans ((keepA bO4 bO4_W bO4_writes (lbO4 V) main_v27_11 (by decide +kernel)).trans ((keepA bO3 bO3_W bO3_writes (lbO3 V) main_v27_11 (by decide +kernel)).trans ((keepA bO2 bO2_W bO2_writes (lbO2 V) main_v27_11 (by decide +kernel)).trans ((keepA bO1 bO1_W bO1_writes (lbO1 V) main_v27_11 (by decide +kernel)).trans ((keepA bO0 bO0_W bO0_writes V main_v27_11 (by decide +kernel))))))))))))) (((keepA bO10 bO10_W bO10_writes (lbO10 V) main_while1b_v67 (by decide +kernel))).trans (bOtr_v67 V i hi))))))
theorem bodyB_main_v27_12 (V : Valuation τ sig (Elt F)) (i : BitVec 32) (hi : V (Proc.devRef .tc main_v27_8) = fun _ => i) :
    afterL bodyB V (Proc.devRef .tc main_v27_12) = wr_S64x4x64x128 (V (Proc.devRef .tc main_v27_12)) (bDkt (V (Proc.devRef .tc main_v27_9)) (rd_S64x4x64x128 (V (Proc.devRef .tc main_v27_4)) (64#32 - i - 1#32))) (64#32 - i - 1#32) :=
  (bO16_main_v27_12 (lbO16 V)).trans (((keepA bO15 bO15_W bO15_writes (lbO15 V) main_while1b_v75 (by decide +kernel)).trans ((keepA bO14 bO14_W bO14_writes (lbO14 V) main_while1b_v75 (by decide +kernel)).trans ((keepA bO13 bO13_W bO13_writes (lbO13 V) main_while1b_v75 (by decide +kernel))))).trans (((bO12_val (lbO12 V) (64#32 - i - 1#32) (((keepA bO11 bO11_W bO11_writes (lbO11 V) main_while1b_v41 (by decide +kernel)).trans ((keepA bO10 bO10_W bO10_writes (lbO10 V) main_while1b_v41 (by decide +kernel)).trans ((keepA bO9 bO9_W bO9_writes (lbO9 V) main_while1b_v41 (by decide +kernel)).trans ((keepA bO8 bO8_W bO8_writes (lbO8 V) main_while1b_v41 (by decide +kernel)).trans ((keepA bO7 bO7_W bO7_writes (lbO7 V) main_while1b_v41 (by decide +kernel)).trans ((keepA bO6 bO6_W bO6_writes (lbO6 V) main_while1b_v41 (by decide +kernel)).trans ((keepA bO5 bO5_W bO5_writes (lbO5 V) main_while1b_v41 (by decide +kernel)).trans ((keepA bO4 bO4_W bO4_writes (lbO4 V) main_while1b_v41 (by decide +kernel)).trans ((keepA bO3 bO3_W bO3_writes (lbO3 V) main_while1b_v41 (by decide +kernel)).trans ((keepA bO2 bO2_W bO2_writes (lbO2 V) main_while1b_v41 (by decide +kernel)).trans ((keepA bO1 bO1_W bO1_writes (lbO1 V) main_while1b_v41 (by decide +kernel))))))))))))).trans (bO0_v41 V i hi))).trans
    (congrArg₂ (fun x y => wr_S64x4x64x128 x y (64#32 - i - 1#32)) ((keepA bO11 bO11_W bO11_writes (lbO11 V) main_v27_12 (by decide +kernel)).trans ((keepA bO10 bO10_W bO10_writes (lbO10 V) main_v27_12 (by decide +kernel)).trans ((keepA bO9 bO9_W bO9_writes (lbO9 V) main_v27_12 (by decide +kernel)).trans ((keepA bO8 bO8_W bO8_writes (lbO8 V) main_v27_12 (by decide +kernel)).trans ((keepA bO7 bO7_W bO7_writes (lbO7 V) main_v27_12 (by decide +kernel)).trans ((keepA bO6 bO6_W bO6_writes (lbO6 V) main_v27_12 (by decide +kernel)).trans ((keepA bO5 bO5_W bO5_writes (lbO5 V) main_v27_12 (by decide +kernel)).trans ((keepA bO4 bO4_W bO4_writes (lbO4 V) main_v27_12 (by decide +kernel)).trans ((keepA bO3 bO3_W bO3_writes (lbO3 V) main_v27_12 (by decide +kernel)).trans ((keepA bO2 bO2_W bO2_writes (lbO2 V) main_v27_12 (by decide +kernel)).trans ((keepA bO1 bO1_W bO1_writes (lbO1 V) main_v27_12 (by decide +kernel)).trans ((keepA bO0 bO0_W bO0_writes V main_v27_12 (by decide +kernel)))))))))))))) (((keepA bO11 bO11_W bO11_writes (lbO11 V) main_while1b_v53 (by decide +kernel)).trans ((keepA bO10 bO10_W bO10_writes (lbO10 V) main_while1b_v53 (by decide +kernel)))).trans (bOtr_v53 V i hi))))))
theorem bodyB_main_v27_13 (V : Valuation τ sig (Elt F)) (i : BitVec 32) (hi : V (Proc.devRef .tc main_v27_8) = fun _ => i) :
    afterL bodyB V (Proc.devRef .tc main_v27_13) = wr_S64x4x64x128 (V (Proc.devRef .tc main_v27_13)) (bDvn (V (Proc.devRef .tc main_v27_9)) (rd_S64x4x64x128 (V (Proc.devRef .tc main_v27_7)) (64#32 - i - 1#32)) (rd_S64x4x64x128 (V (Proc.devRef .tc main_v27_0)) (64#32 - i - 1#32)) (rd_S64x4x64x64 (V (Proc.devRef .tc main_v27_5)) (64#32 - i - 1#32))) (64#32 - i - 1#32) :=
  (bO16_main_v27_13 (lbO16 V)).trans (((keepA bO15 bO15_W bO15_writes (lbO15 V) main_while1b_v76 (by decide +kernel)).trans ((keepA bO14 bO14_W bO14_writes (lbO14 V) main_while1b_v76 (by decide +kernel)))).trans (((bO13_val (lbO13 V) (64#32 - i - 1#32) (((keepA bO12 bO12_W bO12_writes (lbO12 V) main_while1b_v41 (by decide +kernel)).trans ((keepA bO11 bO11_W bO11_writes (lbO11 V) main_while1b_v41 (by decide +kernel)).trans ((keepA bO10 bO10_W bO10_writes (lbO10 V) main_while1b_v41 (by decide +kernel)).trans ((keepA bO9 bO9_W bO9_writes (lbO9 V) main_while1b_v41 (by decide +kernel)).trans ((keepA bO8 bO8_W bO8_writes (lbO8 V) main_while1b_v41 (by decide +kernel)).trans ((keepA bO7 bO7_W bO7_writes (lbO7 V) main_while1b_v41 (by decide +kernel)).trans ((keepA bO6 bO6_W bO6_writes (lbO6 V) main_while1b_v41 (by decide +kernel)).trans ((keepA bO5 bO5_W bO5_writes (lbO5 V) main_while1b_v41 (by decide +kernel)).trans ((keepA bO4 bO4_W bO4_writes (lbO4 V) main_while1b_v41 (by decide +kernel)).trans ((keepA bO3 bO3_W bO3_writes (lbO3 V) main_while1b_v41 (by decide +kernel)).trans ((keepA bO2 bO2_W bO2_writes (lbO2 V) main_while1b_v41 (by decide +kernel)).trans ((keepA bO1 bO1_W bO1_writes (lbO1 V) main_while1b_v41 (by decide +kernel)))))))))))))).trans (bO0_v41 V i hi))).trans
    (congrArg₂ (fun x y => wr_S64x4x64x128 x y (64#32 - i - 1#32)) ((keepA bO12 bO12_W bO12_writes (lbO12 V) main_v27_13 (by decide +kernel)).trans ((keepA bO11 bO11_W bO11_writes (lbO11 V) main_v27_13 (by decide +kernel)).trans ((keepA bO10 bO10_W bO10_writes (lbO10 V) main_v27_13 (by decide +kernel)).trans ((keepA bO9 bO9_W bO9_writes (lbO9 V) main_v27_13 (by decide +kernel)).trans ((keepA bO8 bO8_W bO8_writes (lbO8 V) main_v27_13 (by decide +kernel)).trans ((keepA bO7 bO7_W bO7_writes (lbO7 V) main_v27_13 (by decide +kernel)).trans ((keepA bO6 bO6_W bO6_writes (lbO6 V) main_v27_13 (by decide +kernel)).trans ((keepA bO5 bO5_W bO5_writes (lbO5 V) main_v27_13 (by decide +kernel)).trans ((keepA bO4 bO4_W bO4_writes (lbO4 V) main_v27_13 (by decide +kernel)).trans ((keepA bO3 bO3_W bO3_writes (lbO3 V) main_v27_13 (by decide +kernel)).trans ((keepA bO2 bO2_W bO2_writes (lbO2 V) main_v27_13 (by decide +kernel)).trans ((keepA bO1 bO1_W bO1_writes (lbO1 V) main_v27_13 (by decide +kernel)).trans ((keepA bO0 bO0_W bO0_writes V main_v27_13 (by decide +kernel))))))))))))))) (((keepA bO12 bO12_W bO12_writes (lbO12 V) main_while1b_v62 (by decide +kernel)).trans ((keepA bO11 bO11_W bO11_writes (lbO11 V) main_while1b_v62 (by decide +kernel)).trans ((keepA bO10 bO10_W bO10_writes (lbO10 V) main_while1b_v62 (by decide +kernel))))).trans (bOtr_v62 V i hi))))))
theorem bodyB_main_v27_14 (V : Valuation τ sig (Elt F)) (i : BitVec 32) (hi : V (Proc.devRef .tc main_v27_8) = fun _ => i) :
    afterL bodyB V (Proc.devRef .tc main_v27_14) = wr_S64x4x64x128 (V (Proc.devRef .tc main_v27_14)) (bDw (bDvn (V (Proc.devRef .tc main_v27_9)) (rd_S64x4x64x128 (V (Proc.devRef .tc main_v27_7)) (64#32 - i - 1#32)) (rd_S64x4x64x128 (V (Proc.devRef .tc main_v27_0)) (64#32 - i - 1#32)) (rd_S64x4x64x64 (V (Proc.devRef .tc main_v27_5)) (64#32 - i - 1#32))) (rd_S64x4x128x128 (V (Proc.devRef .tc main_v27_1)) (64#32 - i - 1#32))) (64#32 - i - 1#32) :=
  (bO16_main_v27_14 (lbO16 V)).trans (((keepA bO15 bO15_W bO15_writes (lbO15 V) main_while1b_v77 (by decide +kernel))).trans (((bO14_val (lbO14 V) (64#32 - i - 1#32) (((keepA bO13 bO13_W bO13_writes (lbO13 V) main_while1b_v41 (by decide +kernel)).trans ((keepA bO12 bO12_W bO12_writes (lbO12 V) main_while1b_v41 (by decide +kernel)).trans ((keepA bO11 bO11_W bO11_writes (lbO11 V) main_while1b_v41 (by decide +kernel)).trans ((keepA bO10 bO10_W bO10_writes (lbO10 V) main_while1b_v41 (by decide +kernel)).trans ((keepA bO9 bO9_W bO9_writes (lbO9 V) main_while1b_v41 (by decide +kernel)).trans ((keepA bO8 bO8_W bO8_writes (lbO8 V) main_while1b_v41 (by decide +kernel)).trans ((keepA bO7 bO7_W bO7_writes (lbO7 V) main_while1b_v41 (by decide +kernel)).trans ((keepA bO6 bO6_W bO6_writes (lbO6 V) main_while1b_v41 (by decide +kernel)).trans ((keepA bO5 bO5_W bO5_writes (lbO5 V) main_while1b_v41 (by decide +kernel)).trans ((keepA bO4 bO4_W bO4_writes (lbO4 V) main_while1b_v41 (by decide +kernel)).trans ((keepA bO3 bO3_W bO3_writes (lbO3 V) main_while1b_v41 (by decide +kernel)).trans ((keepA bO2 bO2_W bO2_writes (lbO2 V) main_while1b_v41 (by decide +kernel)).trans ((keepA bO1 bO1_W bO1_writes (lbO1 V) main_while1b_v41 (by decide +kernel))))))))))))))).trans (bO0_v41 V i hi))).trans
    (congrArg₂ (fun x y => wr_S64x4x64x128 x y (64#32 - i - 1#32)) ((keepA bO13 bO13_W bO13_writes (lbO13 V) main_v27_14 (by decide +kernel)).trans ((keepA bO12 bO12_W bO12_writes (lbO12 V) main_v27_14 (by decide +kernel)).trans ((keepA bO11 bO11_W bO11_writes (lbO11 V) main_v27_14 (by decide +kernel)).trans ((keepA bO10 bO10_W bO10_writes (lbO10 V) main_v27_14 (by decide +kernel)).trans ((keepA bO9 bO9_W bO9_writes (lbO9 V) main_v27_14 (by decide +kernel)).trans ((keepA bO8 bO8_W bO8_writes (lbO8 V) main_v27_14 (by decide +kernel)).trans ((keepA bO7 bO7_W bO7_writes (lbO7 V) main_v27_14 (by decide +kernel)).trans ((keepA bO6 bO6_W bO6_writes (lbO6 V) main_v27_14 (by decide +kernel)).trans ((keepA bO5 bO5_W bO5_writes (lbO5 V) main_v27_14 (by decide +kernel)).trans ((keepA bO4 bO4_W bO4_writes (lbO4 V) main_v27_14 (by decide +kernel)).trans ((keepA bO3 bO3_W bO3_writes (lbO3 V) main_v27_14 (by decide +kernel)).trans ((keepA bO2 bO2_W bO2_writes (lbO2 V) main_v27_14 (by decide +kernel)).trans ((keepA bO1 bO1_W bO1_writes (lbO1 V) main_v27_14 (by decide +kernel)).trans ((keepA bO0 bO0_W bO0_writes V main_v27_14 (by decide +kernel)))))))))))))))) (((keepA bO13 bO13_W bO13_writes (lbO13 V) main_while1b_v72 (by decide +kernel)).trans ((keepA bO12 bO12_W bO12_writes (lbO12 V) main_while1b_v72 (by decide +kernel)).trans ((keepA bO11 bO11_W bO11_writes (lbO11 V) main_while1b_v72 (by decide +kernel)).trans ((keepA bO10 bO10_W bO10_writes (lbO10 V) main_while1b_v72 (by decide +kernel)))))).trans (bOtr_v72 V i hi))))))
theorem bodyB_main_v27_15 (V : Valuation τ sig (Elt F)) (i : BitVec 32) (hi : V (Proc.devRef .tc main_v27_8) = fun _ => i) :
    afterL bodyB V (Proc.devRef .tc main_v27_15) = wr_S64x4 (V (Proc.devRef .tc main_v27_15)) (bDgl (rd_S64x4x128x128 (V (Proc.devRef .tc main_v27_1)) (64#32 - i - 1#32)) (V (Proc.devRef .tc main_v27_9))) (64#32 - i - 1#32) :=
  (bO16_main_v27_15 (lbO16 V)).trans ((rfl).trans (((bO15_val (lbO15 V) (64#32 - i - 1#32) (((keepA bO14 bO14_W bO14_writes (lbO14 V) main_while1b_v41 (by decide +kernel)).trans ((keepA bO13 bO13_W bO13_writes (lbO13 V) main_while1b_v41 (by decide +kernel)).trans ((keepA bO12 bO12_W bO12_writes (lbO12 V) main_while1b_v41 (by decide +kernel)).trans ((keepA bO11 bO11_W bO11_writes (lbO11 V) main_while1b_v41 (by decide +kernel)).trans ((keepA bO10 bO10_W bO10_writes (lbO10 V) main_while1b_v41 (by decide +kernel)).trans ((keepA bO9 bO9_W bO9_writes (lbO9 V) main_while1b_v41 (by decide +kernel)).trans ((keepA bO8 bO8_W bO8_writes (lbO8 V) main_while1b_v41 (by decide +kernel)).trans ((keepA bO7 bO7_W bO7_writes (lbO7 V) main_while1b_v41 (by decide +kernel)).trans ((keepA bO6 bO6_W bO6_writes (lbO6 V) main_while1b_v41 (by decide +kernel)).trans ((keepA bO5 bO5_W bO5_writes (lbO5 V) main_while1b_v41 (by decide +kernel)).trans ((keepA bO4 bO4_W bO4_writes (lbO4 V) main_while1b_v41 (by decide +kernel)).trans ((keepA bO3 bO3_W bO3_writes (lbO3 V) main_while1b_v41 (by decide +kernel)).trans ((keepA bO2 bO2_W bO2_writes (lbO2 V) main_while1b_v41 (by decide +kernel)).trans ((keepA bO1 bO1_W bO1_writes (lbO1 V) main_while1b_v41 (by decide +kernel)))))))))))))))).trans (bO0_v41 V i hi))).trans
    (congrArg₂ (fun x y => wr_S64x4 x y (64#32 - i - 1#32)) ((keepA bO14 bO14_W bO14_writes (lbO14 V) main_v27_15 (by decide +kernel)).trans ((keepA bO13 bO13_W bO13_writes (lbO13 V) main_v27_15 (by decide +kernel)).trans ((keepA bO12 bO12_W bO12_writes (lbO12 V) main_v27_15 (by decide +kernel)).trans ((keepA bO11 bO11_W bO11_writes (lbO11 V) main_v27_15 (by decide +kernel)).trans ((keepA bO10 bO10_W bO10_writes (lbO10 V) main_v27_15 (by decide +kernel)).trans ((keepA bO9 bO9_W bO9_writes (lbO9 V) main_v27_15 (by decide +kernel)).trans ((keepA bO8 bO8_W bO8_writes (lbO8 V) main_v27_15 (by decide +kernel)).trans ((keepA bO7 bO7_W bO7_writes (lbO7 V) main_v27_15 (by decide +kernel)).trans ((keepA bO6 bO6_W bO6_writes (lbO6 V) main_v27_15 (by decide +kernel)).trans ((keepA bO5 bO5_W bO5_writes (lbO5 V) main_v27_15 (by decide +kernel)).trans ((keepA bO4 bO4_W bO4_writes (lbO4 V) main_v27_15 (by decide +kernel)).trans ((keepA bO3 bO3_W bO3_writes (lbO3 V) main_v27_15 (by decide +kernel)).trans ((keepA bO2 bO2_W bO2_writes (lbO2 V) main_v27_15 (by decide +kernel)).trans ((keepA bO1 bO1_W bO1_writes (lbO1 V) main_v27_15 (by decide +kernel)).trans ((keepA bO0 bO0_W bO0_writes V main_v27_15 (by decide +kernel))))))))))))))))) (((keepA bO14 bO14_W bO14_writes (lbO14 V) main_while1b_v59 (by decide +kernel)).trans ((keepA bO13 bO13_W bO13_writes (lbO13 V) main_while1b_v59 (by decide +kernel)).trans ((keepA bO12 bO12_W bO12_writes (lbO12 V) main_while1b_v59 (by decide +kernel)).trans ((keepA bO11 bO11_W bO11_writes (lbO11 V) main_while1b_v59 (by decide +kernel)).trans ((keepA bO10 bO10_W bO10_writes (lbO10 V) main_while1b_v59 (by decide +kernel))))))).trans (bOtr_v59 V i hi))))))
theorem bodyB_main_v27_9 (V : Valuation τ sig (Elt F)) (i : BitVec 32) (hi : V (Proc.devRef .tc main_v27_8) = fun _ => i) :
    afterL bodyB V (Proc.devRef .tc main_v27_9) = bDs (V (Proc.devRef .tc main_v27_9)) (rd_S64x4x1x1 (V (Proc.devRef .tc main_v27_6)) (64#32 - i - 1#32)) (rd_S64x4x64x128 (V (Proc.devRef .tc main_v27_0)) (64#32 - i - 1#32)) (rd_S64x4x64x128 (V (Proc.devRef .tc main_v27_3)) (64#32 - i - 1#32)) (bDvn (V (Proc.devRef .tc main_v27_9)) (rd_S64x4x64x128 (V (Proc.devRef .tc main_v27_7)) (64#32 - i - 1#32)) (rd_S64x4x64x128 (V (Proc.devRef .tc main_v27_0)) (64#32 - i - 1#32)) (rd_S64x4x64x64 (V (Proc.devRef .tc main_v27_5)) (64#32 - i - 1#32))) (rd_S64x4x64x128 (V (Proc.devRef .tc main_v27_2)) (64#32 - i - 1#32)) :=
  (bO16_main_v27_9 (lbO16 V)).trans (((keepA bO15 bO15_W bO15_writes (lbO15 V) main_while1b_v71 (by decide +kernel)).trans ((keepA bO14 bO14_W bO14_writes (lbO14 V) main_while1b_v71 (by decide +kernel)).trans ((keepA bO13 bO13_W bO13_writes (lbO13 V) main_while1b_v71 (by decide +kernel)).trans ((keepA bO12 bO12_W bO12_writes (lbO12 V) main_while1b_v71 (by decide +kernel)).trans ((keepA bO11 bO11_W bO11_writes (lbO11 V) main_while1b_v71 (by decide +kernel)).trans ((keepA bO10 bO10_W bO10_writes (lbO10 V) main_while1b_v71 (by decide +kernel)))))))).trans (bOtr_v71 V i hi))

end Cert.ScanRef
-- ==== Proof.ScanFwdBody.lean ====
/- The forward scan's kernel body as sixteen chunk steps of four heads: the printed body is the steps in order. -/
module

public import proofs.«01_k».proof.Proof.Gen.KernelIdeal.Points
public import Idealize.ShloMosaic.Lib.Pipeline.Frame
public import Idealize.ShloMosaic.Lib.WholeRead
public import Idealize.ShloMosaic.Lib.Tactic

@[expose] public section

set_option maxRecDepth 16384

noncomputable section

namespace Cert.Scan

open Idealize.ShloMosaic Idealize.ShloMosaic.TcCoe Idealize.ShloMosaic.Tactic
open Idealize.SL.Sem
open Cert.KernelIdeal Cert.KernelIdeal.Gen

variable {F : FTy → Type} [FloatOps F]

/-! ## Where chunk `c`'s head `h` lies in each array -/

theorem inbRow {c h : ℕ} (hc : c < 16) (hh : h < 4) : ∀ a, (![64 * c, 128 * h] : Fin 2 → ℕ) a + S64x128.size a ≤ S1024x512.size a := by
  intro a; fin_cases a
  · show 64 * c + 64 ≤ 1024; omega
  · show 128 * h + 128 ≤ 512; omega
theorem inbSt {h : ℕ} (hh : h < 4) : ∀ a, (![h, 0, 0] : Fin 3 → ℕ) a + S1x128x128.size a ≤ S4x128x128.size a := by
  intro a; fin_cases a
  · show h + 1 ≤ 4; omega
  · show 0 + 128 ≤ 128; omega
  · show 0 + 128 ≤ 128; omega
theorem inbSp {c h : ℕ} (hc : c < 16) (hh : h < 4) : ∀ a, (![c, h, 0, 0] : Fin 4 → ℕ) a + S1x1x128x128.size a ≤ S16x4x128x128.size a := by
  intro a; fin_cases a
  · show c + 1 ≤ 16; omega
  · show h + 1 ≤ 4; omega
  · show 0 + 128 ≤ 128; omega
  · show 0 + 128 ≤ 128; omega
theorem inbSq {c h : ℕ} (hc : c < 16) (hh : h < 4) : ∀ a, (![c, h, 0, 0] : Fin 4 → ℕ) a + S1x1x64x64.size a ≤ S16x4x64x64.size a := by
  intro a; fin_cases a
  · show c + 1 ≤ 16; omega
  · show h + 1 ≤ 4; omega
  · show 0 + 64 ≤ 64; omega
  · show 0 + 64 ≤ 64; omega
theorem inbGl {c h : ℕ} (hc : c < 16) (hh : h < 4) : ∀ a, (![c, h, 0, 0] : Fin 4 → ℕ) a + S1x1x1x128.size a ≤ S16x4x1x128.size a := by
  intro a; fin_cases a
  · show c + 1 ≤ 16; omega
  · show h + 1 ≤ 4; omega
  · show 0 + 1 ≤ 1; omega
  · show 0 + 128 ≤ 128; omega

abbrev rowR {c h : ℕ} (hc : c < 16) (hh : h < 4) : Rect S1024x512 := Rect.unit (s := S1024x512) ![64 * c, 128 * h] S64x128.size (inbRow hc hh)
abbrev stR {h : ℕ} (hh : h < 4) : Rect S4x128x128 := Rect.unit (s := S4x128x128) ![h, 0, 0] S1x128x128.size (inbSt hh)
abbrev spR {c h : ℕ} (hc : c < 16) (hh : h < 4) : Rect S16x4x128x128 := Rect.unit (s := S16x4x128x128) ![c, h, 0, 0] S1x1x128x128.size (inbSp hc hh)
abbrev sqR {c h : ℕ} (hc : c < 16) (hh : h < 4) : Rect S16x4x64x64 := Rect.unit (s := S16x4x64x64) ![c, h, 0, 0] S1x1x64x64.size (inbSq hc hh)
abbrev glR {c h : ℕ} (hc : c < 16) (hh : h < 4) : Rect S16x4x1x128 := Rect.unit (s := S16x4x1x128) ![c, h, 0, 0] S1x1x1x128.size (inbGl hc hh)

theorem packedRow {c h : ℕ} (hc : c < 16) (hh : h < 4) : (rowR hc hh).PackedRows (EltTy.packing .bf16) := by
  refine .inr ⟨by decide, rfl, .inl ⟨?_, ?_⟩⟩
  · show 2 ∣ 64 * c; omega
  · show 2 ∣ 64; decide

/-! ## The values a step computes -/

/-- The state's product with the decay-weighted keys. -/
def wsV (w : Vec F S64x128 .bf16) (st : Vec F S1x128x128 .f32) : FVec F S64x128 .f32 :=
  matmul dot_S64x128_S128x128_S64x128_1_0_0_1_n_n none w (truncf .bf16 (shapeCast S128x128 st shapeCasts_S1x128x128_S128x128 : FVec F S128x128 .f32) bitsLt_bf16_f32) (constant S64x128 .f32 0x00000000#32)
/-- The chunk's new values. -/
def vnV (u : Vec F S64x128 .f32) (ws : FVec F S64x128 .f32) : FVec F S64x128 .bf16 :=
  truncf .bf16 (subf (show FVec F S64x128 .f32 from u) ws) bitsLt_bf16_f32
/-- The chunk's output. -/
def oV (qs : FVec F S64x128 .f32) (at' : Vec F S1x1x64x64 .f32) (vn : FVec F S64x128 .bf16) : FVec F S64x128 .f32 :=
  addf qs (matmul dot_S64x64_S64x128_S64x128_1_0_0_1_n_n none (truncf .bf16 (shapeCast S64x64 at' shapeCasts_S1x1x64x64_S64x64 : FVec F S64x64 .f32) bitsLt_bf16_f32) vn (constant S64x128 .f32 0x00000000#32))
/-- The state the chunk hands on. -/
def stV (st : Vec F S1x128x128 .f32) (gl : Vec F S1x1x1x128 .f32) (kt : Vec F S64x128 .bf16) (vn : FVec F S64x128 .bf16) : FVec F S1x128x128 .f32 :=
  shapeCast S1x128x128
    (addf (mulf (shapeCast S128x128 st shapeCasts_S1x128x128_S128x128 : FVec F S128x128 .f32)
        (broadcastTo S128x128 (shapeCast S1x128 gl shapeCasts_S1x1x1x128_S1x128 : FVec F S1x128 .f32) broadcasts_S1x128_S128x128))
      (matmul dot_S64x128_S64x128_S128x128_0_0_1_1_n_n none kt vn (constant S128x128 .f32 0x00000000#32)) : FVec F S128x128 .f32) shapeCasts_S128x128_S1x128x128
/-- The state as it is kept for the backward pass. -/
def spV (st : Vec F S1x128x128 .f32) : FVec F S1x1x128x128 .f32 :=
  shapeCast S1x1x128x128 (shapeCast S128x128 st shapeCasts_S1x128x128_S128x128 : FVec F S128x128 .f32) shapeCasts_S128x128_S1x1x128x128

/-! ## The steps -/

section Steps
variable (arg1 : Memref sig .tc .vmem S1024x512 .f32) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S16x4x64x64 .f32) (harg5 : arg5.IsWhole) (arg6 : Memref sig .tc .vmem S16x4x1x128 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S16x4x128x128 .f32) (harg9 : arg9.IsWhole) (arg10 : Memref sig .tc .vmem S4x128x128 .f32) (harg10 : arg10.IsWhole)

/-- The first half of a head's step: the state read and kept, its two products. -/
def fwdA {c h : ℕ} (hc : c < 16) (hh : h < 4) : Prog (TpuEff nD τ sig (Elt F) Λ₀ .tc) (Vec F S1x128x128 .f32 × FVec F S64x128 .f32 × FVec F S64x128 .f32) := do
  let st : Vec F S1x128x128 .f32 ← Prog.lift (.load arg10 (stR hh).toLoadRect (View.loadsAt_vmem h_S1x128x128))
  let _old : Vec F S1x1x128x128 .f32 ← Prog.lift (.load arg9 (spR hc hh).toLoadRect (View.loadsAt_vmem h_S1x1x128x128))
  Prog.lift (.store arg9 (spR hc hh) (spV st) Finset.univ (View.stores_vmem_bits_univ h_S1x1x128x128 rfl) (.inl rfl))
  let w : Vec F S64x128 .bf16 ← Prog.lift (.load arg2 (rowR hc hh).toLoadRect (View.loadsAt_vmem h_S64x128))
  let qd : Vec F S64x128 .bf16 ← Prog.lift (.load arg3 (rowR hc hh).toLoadRect (View.loadsAt_vmem h_S64x128))
  pure (st, wsV w st, wsV qd st)

/-- The second half: the new values, the output, the state handed on. -/
def fwdB {c h : ℕ} (hc : c < 16) (hh : h < 4) (r : Vec F S1x128x128 .f32 × FVec F S64x128 .f32 × FVec F S64x128 .f32) : Prog (TpuEff nD τ sig (Elt F) Λ₀ .tc) PUnit := do
  let u : Vec F S64x128 .f32 ← Prog.lift (.load arg1 (rowR hc hh).toLoadRect (View.loadsAt_vmem h_S64x128))
  let _old : Vec F S64x128 .bf16 ← Prog.lift (.load arg8 (rowR hc hh).toLoadRect (View.loadsAt_vmem h_S64x128))
  Prog.lift (.store arg8 (rowR hc hh) (vnV u r.2.1) Finset.univ (View.stores_vmem h_S64x128 (harg8.storeExact_slice rfl _ (packedRow hc hh)) (fun _ => rfl)) (.inl rfl))
  let a : Vec F S1x1x64x64 .f32 ← Prog.lift (.load arg5 (sqR hc hh).toLoadRect (View.loadsAt_vmem h_S1x1x64x64))
  let _old : Vec F S64x128 .f32 ← Prog.lift (.load arg7 (rowR hc hh).toLoadRect (View.loadsAt_vmem h_S64x128))
  Prog.lift (.store arg7 (rowR hc hh) (oV r.2.2 a (vnV u r.2.1)) Finset.univ (View.stores_vmem_bits_univ h_S64x128 rfl) (.inl rfl))
  let gl : Vec F S1x1x1x128 .f32 ← Prog.lift (.load arg6 (glR hc hh).toLoadRect (View.loadsAt_vmem h_S1x1x1x128))
  let kt : Vec F S64x128 .bf16 ← Prog.lift (.load arg4 (rowR hc hh).toLoadRect (View.loadsAt_vmem h_S64x128))
  let _old : Vec F S1x128x128 .f32 ← Prog.lift (.load arg10 (stR hh).toLoadRect (View.loadsAt_vmem h_S1x128x128))
  Prog.lift (.store arg10 (stR hh) (stV r.1 gl kt (vnV u r.2.1)) Finset.univ (View.stores_vmem_bits_univ h_S1x128x128 rfl) (.inl rfl))

/-- One chunk: the four heads' first halves, then their second halves. -/
def fwdChunk {c : ℕ} (hc : c < 16) : Prog (TpuEff nD τ sig (Elt F) Λ₀ .tc) PUnit := do
  let r0 ← fwdA (F := F) arg2 arg3 arg9 arg10 hc (show 0 < 4 by decide)
  let r1 ← fwdA (F := F) arg2 arg3 arg9 arg10 hc (show 1 < 4 by decide)
  let r2 ← fwdA (F := F) arg2 arg3 arg9 arg10 hc (show 2 < 4 by decide)
  let r3 ← fwdA (F := F) arg2 arg3 arg9 arg10 hc (show 3 < 4 by decide)
  fwdB (F := F) arg1 arg4 arg5 arg6 arg7 arg8 harg8 arg10 hc (show 0 < 4 by decide) r0
  fwdB (F := F) arg1 arg4 arg5 arg6 arg7 arg8 harg8 arg10 hc (show 1 < 4 by decide) r1
  fwdB (F := F) arg1 arg4 arg5 arg6 arg7 arg8 harg8 arg10 hc (show 2 < 4 by decide) r2
  fwdB (F := F) arg1 arg4 arg5 arg6 arg7 arg8 harg8 arg10 hc (show 3 < 4 by decide) r3

/-- The first `n` chunks, then `k`. -/
def fwdFrom : (n : ℕ) → (hn : n ≤ 16) → Prog (TpuEff nD τ sig (Elt F) Λ₀ .tc) PUnit
  | 0, _ => pure ⟨⟩
  | n + 1, hn => do
    fwdChunk (F := F) arg1 arg2 arg3 arg4 arg5 arg6 arg7 arg8 harg8 arg9 arg10 (c := 16 - (n + 1)) (by omega)
    fwdFrom n (Nat.le_of_succ_le hn)

/-- The state set to zero. -/
def fwdZero : Prog (TpuEff nD τ sig (Elt F) Λ₀ .tc) PUnit := do
  let _old : Vec F S4x128x128 .f32 ← Prog.lift (.load arg10 (Rect.unit (s := S4x128x128) ![0, 0, 0] S4x128x128.size inb_S4x128x128_S4x128x128_0_0_0).toLoadRect (View.loadsAt_vmem h_S4x128x128))
  Prog.lift (.store arg10 (Rect.unit (s := S4x128x128) ![0, 0, 0] S4x128x128.size inb_S4x128x128_S4x128x128_0_0_0) (shapeCast S4x128x128 (broadcast S4x128x128 (Scalar.ofBits .f32 0x00000000#32) : FVec F S4x128x128 .f32) shapeCasts_S4x128x128_S4x128x128) Finset.univ (View.stores_vmem_bits_univ h_S4x128x128 rfl) (.inl rfl))

abbrev first0 (i : grid0.Coords) : Prop := (Scalar.cmpi .ne (Scalar.extui (Scalar.cmpi .eq (BitVec.ofNat 32 (i 0).val) 0#32)) 0#32) = 1#1

theorem fwd_body_first (i : grid0.Coords) (hi : first0 i) :
    cc0_dn_scan (F := F) i arg1 harg1 arg2 harg2 arg3 harg3 arg4 harg4 arg5 harg5 arg6 harg6 arg7 harg7 arg8 harg8 arg9 harg9 arg10 harg10
      = (do fwdZero (F := F) arg10
            fwdFrom (F := F) arg1 arg2 arg3 arg4 arg5 arg6 arg7 arg8 harg8 arg9 arg10 16 le_rfl) := by
  unfold cc0_dn_scan k0_part73 k0_part1
  rw [dif_pos hi]
  sl_kernel_rfl

theorem fwd_body_later (i : grid0.Coords) (hi : ¬first0 i) :
    cc0_dn_scan (F := F) i arg1 harg1 arg2 harg2 arg3 harg3 arg4 harg4 arg5 harg5 arg6 harg6 arg7 harg7 arg8 harg8 arg9 harg9 arg10 harg10
      = fwdFrom (F := F) arg1 arg2 arg3 arg4 arg5 arg6 arg7 arg8 harg8 arg9 arg10 16 le_rfl := by
  unfold cc0_dn_scan k0_part73 k0_part1
  rw [dif_neg hi]
  sl_kernel_rfl

end Steps
end Cert.Scan
end
--
-- ==== Proof.ScanFwdRun.lean ====
/- What each step of the forward scan's body leaves in the buffers it holds. -/
module

public import proofs.«01_k».proof.Proof.ScanFwdBody
public import Idealize.ShloMosaic.Lib.VecWindow

@[expose] public section

set_option maxRecDepth 16384

noncomputable section

namespace Cert.Scan

open Idealize.ShloMosaic Idealize.ShloMosaic.TcCoe Idealize.ShloMosaic.Tactic
open Idealize.SL
open Idealize.SL.BI (sProp bigSep)
open scoped Idealize.SL.BI
open Idealize.SL.BI.BIBase Idealize.SL.BI.Laws Idealize.SL.Sem Idealize.SL.ProofMode
open Idealize.SL.RA
open Cert.KernelIdeal Cert.KernelIdeal.Gen

variable {F : FTy → Type} [FloatOps F]

local notation "𝕄" => MT nD τ sig Unit (Elt F) ℕ (UR sig nD τ) ℕ

/-- The part of `x` at a rectangle. -/
def get {s : Shape} {e : EltTy} (x : s.Idx → Elt F e) (r : Rect s) : r.shape.Idx → Elt F e := fun y => x (r.emb y)

open Classical in
/-- `x` with `w` at a rectangle. -/
def put {s : Shape} {e : EltTy} (x : s.Idx → Elt F e) (r : Rect s) (w : r.shape.Idx → Elt F e) : s.Idx → Elt F e :=
  fun y => if h : ∃ j, r.emb j = y then w h.choose else x y

theorem get_put_same {s : Shape} {e : EltTy} (x : s.Idx → Elt F e) (r : Rect s) (w : r.shape.Idx → Elt F e) : get (put x r w) r = w := by
  funext y
  have h : ∃ j, r.emb j = r.emb y := ⟨y, rfl⟩
  show (if h : ∃ j, r.emb j = r.emb y then w h.choose else x (r.emb y)) = w y
  rw [dif_pos h]
  exact congrArg w (r.emb.injective h.choose_spec)

theorem get_put_miss {s : Shape} {e : EltTy} (x : s.Idx → Elt F e) (r r' : Rect s) (w : r.shape.Idx → Elt F e) (h : ∀ j j', r.emb j ≠ r'.emb j') :
    get (put x r w) r' = get x r' := by
  funext y
  have h : ¬ ∃ j, r.emb j = r'.emb y := fun ⟨j, hj⟩ => h j y hj
  exact dif_neg h

theorem read_put {κ : Kind} {sp : Space} {s : Shape} {e : EltTy} (m : Memref sig κ sp s e) (hm : m.IsWhole) (x : s.Idx → Elt F e) (r : Rect s) (w : r.shape.Idx → Elt F e) :
    m.view.read (Elt F) (m.view.writes (Elt F) (hm.unread x) [⟨r, w⟩]) = put x r w := by
  funext y
  by_cases h : ∃ j, r.emb j = y
  · obtain ⟨j, rfl⟩ := h
    rw [View.read_writes_cons_emb]
    exact (congrFun (get_put_same x r w) j).symm
  · rw [View.read_writes_cons_miss, View.writes_nil, hm.read_unread]
    · show x y = if h : ∃ j, r.emb j = y then w h.choose else x y
      rw [dif_neg h]
    · intro hj
      rw [← Rect.map_emb_univ] at hj
      obtain ⟨j, -, hj⟩ := Finset.mem_map.mp hj
      exact h ⟨j, hj⟩

variable (c : Dev nD)

/-- A load of a buffer held at `x` reads the part at its rectangle. -/
theorem ld {sp : CoreSpace} {s : Shape} {e : EltTy} (m : Memref sig .tc sp s e) (hm : m.IsWhole) (x : s.Idx → Elt F e) (r : Rect s) (hl : m.view.LoadsAt r.toLoadRect) {α : Type}
    (k : (r.shape.Idx → Elt F e) → Prog (TpuEff nD τ sig (Elt F) Λ₀ .tc) α) (Q : α → sProp 𝕄) :
    iprop(owns (c : Thread nD τ) m fullShare x ∗ (owns (c : Thread nD τ) m fullShare x -∗ wp frame (wpE (defs₀ (F := F)) Variants.none (c : Thread nD τ) none) Set.univ (k (get x r)) Q))
      ⊢ wp frame (wpE (defs₀ (F := F)) Variants.none (c : Thread nD τ) none) Set.univ (Prog.lift (.load m r.toLoadRect hl) >>= k) Q := by
  unfold owns
  iintro ⟨⟨%f, %hf, H⟩, K⟩
  obtain rfl := hm.eq_unread hf
  sl_exec
  have e : (m.view.readAt (Elt F) r.toLoadRect (hm.unread x)) = get x r :=
    funext fun y => hm.readAt_unread _ _ _
  rw [e]
  iapply K
  iexists _
  isplitr
  · ipureintro; exact hf
  iexact H

/-- A store into a buffer held at `x` leaves `x` with the payload put there. -/
theorem st {sp : CoreSpace} {s : Shape} {e : EltTy} (m : Memref sig .tc sp s e) (hm : m.IsWhole) (x : s.Idx → Elt F e) (r : Rect s) (w : r.shape.Idx → Elt F e)
    (hx : (m.access r).Stores Finset.univ) (hu) {α : Type}
    (k : PUnit → Prog (TpuEff nD τ sig (Elt F) Λ₀ .tc) α) (Q : α → sProp 𝕄) :
    iprop(owns (c : Thread nD τ) m fullShare x ∗ (owns (c : Thread nD τ) m fullShare (put x r w) -∗ wp frame (wpE (defs₀ (F := F)) Variants.none (c : Thread nD τ) none) Set.univ (k ⟨⟩) Q))
      ⊢ wp frame (wpE (defs₀ (F := F)) Variants.none (c : Thread nD τ) none) Set.univ (Prog.lift (.store m r w Finset.univ hx hu) >>= k) Q := by
  unfold owns
  iintro ⟨⟨%f, %hf, H⟩, K⟩
  obtain rfl := hm.eq_unread hf
  sl_exec
  iapply K
  iexists _
  isplitr
  · ipureintro; exact read_put m hm x r w
  iexact H

/-- A last store into a buffer held at `x` leaves `x` with the payload put there. -/
theorem st' {sp : CoreSpace} {s : Shape} {e : EltTy} (m : Memref sig .tc sp s e) (hm : m.IsWhole) (x : s.Idx → Elt F e) (r : Rect s) (w : r.shape.Idx → Elt F e)
    (hx : (m.access r).Stores Finset.univ) (hu) (Q : PUnit → sProp 𝕄) :
    iprop(owns (c : Thread nD τ) m fullShare x ∗ (owns (c : Thread nD τ) m fullShare (put x r w) -∗ Q ⟨⟩))
      ⊢ wp frame (wpE (defs₀ (F := F)) Variants.none (c : Thread nD τ) none) Set.univ (Prog.lift (.store m r w Finset.univ hx hu)) Q := by
  iintro ⟨H, K⟩
  rw [show (Prog.lift (.store m r w Finset.univ hx hu) : Prog (TpuEff nD τ sig (Elt F) Λ₀ .tc) PUnit) = (Prog.lift (.store m r w Finset.univ hx hu) >>= fun x => pure x) from rfl]
  iapply (st c m hm x r w hx hu _ _) $$ [-]
  isplitl [H]; · iexact H
  iintro H
  iapply (le_wp_ret _ _ _ _ _) $$ [-]
  iapply K $$ [H]
  iexact H

/-! ## Parts at the rows, states and squares of chunks and heads -/

theorem get_put_row {e : EltTy} {c h c' h' : ℕ} (hc : c < 16) (hh : h < 4) (hc' : c' < 16) (hh' : h' < 4) (x : S1024x512.Idx → Elt F e) (w : S64x128.Idx → Elt F e) :
    (get (put x (rowR hc hh) w) (rowR hc' hh') : S64x128.Idx → Elt F e) = if c' = c ∧ h' = h then w else get x (rowR hc' hh') := by
  split
  · rename_i h; obtain ⟨rfl, rfl⟩ := h; exact get_put_same _ _ _
  · rename_i hne
    refine get_put_miss _ _ _ _ fun j j' hj => hne ?_
    have h0 : 64 * c + 1 * (j 0).val = 64 * c' + 1 * (j' 0).val := congrArg Fin.val (congrFun hj 0)
    have h1 : 128 * h + 1 * (j 1).val = 128 * h' + 1 * (j' 1).val := congrArg Fin.val (congrFun hj 1)
    have a0 : (j 0).val < 64 := (j 0).isLt
    have a1 : (j 1).val < 128 := (j 1).isLt
    have b0 : (j' 0).val < 64 := (j' 0).isLt
    have b1 : (j' 1).val < 128 := (j' 1).isLt
    omega

theorem get_put_st {e : EltTy} {h h' : ℕ} (hh : h < 4) (hh' : h' < 4) (x : S4x128x128.Idx → Elt F e) (w : S1x128x128.Idx → Elt F e) :
    (get (put x (stR hh) w) (stR hh') : S1x128x128.Idx → Elt F e) = if h' = h then w else get x (stR hh') := by
  split
  · rename_i h; obtain rfl := h; exact get_put_same _ _ _
  · rename_i hne
    refine get_put_miss _ _ _ _ fun j j' hj => hne ?_
    have h0 : h + 1 * (j 0).val = h' + 1 * (j' 0).val := congrArg Fin.val (congrFun hj 0)
    have a0 : (j 0).val < 1 := (j 0).isLt
    have b0 : (j' 0).val < 1 := (j' 0).isLt
    omega

theorem get_put_sp {e : EltTy} {c h c' h' : ℕ} (hc : c < 16) (hh : h < 4) (hc' : c' < 16) (hh' : h' < 4) (x : S16x4x128x128.Idx → Elt F e) (w : S1x1x128x128.Idx → Elt F e) :
    (get (put x (spR hc hh) w) (spR hc' hh') : S1x1x128x128.Idx → Elt F e) = if c' = c ∧ h' = h then w else get x (spR hc' hh') := by
  split
  · rename_i h; obtain ⟨rfl, rfl⟩ := h; exact get_put_same _ _ _
  · rename_i hne
    refine get_put_miss _ _ _ _ fun j j' hj => hne ?_
    have h0 : c + 1 * (j 0).val = c' + 1 * (j' 0).val := congrArg Fin.val (congrFun hj 0)
    have h1 : h + 1 * (j 1).val = h' + 1 * (j' 1).val := congrArg Fin.val (congrFun hj 1)
    have a0 : (j 0).val < 1 := (j 0).isLt
    have a1 : (j 1).val < 1 := (j 1).isLt
    have b0 : (j' 0).val < 1 := (j' 0).isLt
    have b1 : (j' 1).val < 1 := (j' 1).isLt
    omega

theorem get_put_sq {e : EltTy} {c h c' h' : ℕ} (hc : c < 16) (hh : h < 4) (hc' : c' < 16) (hh' : h' < 4) (x : S16x4x64x64.Idx → Elt F e) (w : S1x1x64x64.Idx → Elt F e) :
    (get (put x (sqR hc hh) w) (sqR hc' hh') : S1x1x64x64.Idx → Elt F e) = if c' = c ∧ h' = h then w else get x (sqR hc' hh') := by
  split
  · rename_i h; obtain ⟨rfl, rfl⟩ := h; exact get_put_same _ _ _
  · rename_i hne
    refine get_put_miss _ _ _ _ fun j j' hj => hne ?_
    have h0 : c + 1 * (j 0).val = c' + 1 * (j' 0).val := congrArg Fin.val (congrFun hj 0)
    have h1 : h + 1 * (j 1).val = h' + 1 * (j' 1).val := congrArg Fin.val (congrFun hj 1)
    have a0 : (j 0).val < 1 := (j 0).isLt
    have a1 : (j 1).val < 1 := (j 1).isLt
    have b0 : (j' 0).val < 1 := (j' 0).isLt
    have b1 : (j' 1).val < 1 := (j' 1).isLt
    omega

theorem get_put_gl {e : EltTy} {c h c' h' : ℕ} (hc : c < 16) (hh : h < 4) (hc' : c' < 16) (hh' : h' < 4) (x : S16x4x1x128.Idx → Elt F e) (w : S1x1x1x128.Idx → Elt F e) :
    (get (put x (glR hc hh) w) (glR hc' hh') : S1x1x1x128.Idx → Elt F e) = if c' = c ∧ h' = h then w else get x (glR hc' hh') := by
  split
  · rename_i h; obtain ⟨rfl, rfl⟩ := h; exact get_put_same _ _ _
  · rename_i hne
    refine get_put_miss _ _ _ _ fun j j' hj => hne ?_
    have h0 : c + 1 * (j 0).val = c' + 1 * (j' 0).val := congrArg Fin.val (congrFun hj 0)
    have h1 : h + 1 * (j 1).val = h' + 1 * (j' 1).val := congrArg Fin.val (congrFun hj 1)
    have a0 : (j 0).val < 1 := (j 0).isLt
    have a1 : (j 1).val < 1 := (j 1).isLt
    have b0 : (j' 0).val < 1 := (j' 0).isLt
    have b1 : (j' 1).val < 1 := (j' 1).isLt
    omega

theorem put_zero (s : S4x128x128.Idx → Elt F .f32) :
    put s (Rect.unit (s := S4x128x128) ![0, 0, 0] S4x128x128.size inb_S4x128x128_S4x128x128_0_0_0)
        (shapeCast S4x128x128 (broadcast S4x128x128 (Scalar.ofBits .f32 0x00000000#32) : FVec F S4x128x128 .f32) shapeCasts_S4x128x128_S4x128x128)
      = fun _ => Scalar.ofBits .f32 0x00000000#32 := by
  funext y
  have h : ∃ j, (Rect.unit (s := S4x128x128) ![0, 0, 0] S4x128x128.size inb_S4x128x128_S4x128x128_0_0_0).emb j = y :=
    ⟨y, funext fun a => Fin.ext (by
      show (![0, 0, 0] : Fin 3 → ℕ) a + 1 * (y a).val = (y a).val
      have : (![0, 0, 0] : Fin 3 → ℕ) a = 0 := by fin_cases a <;> rfl
      omega)⟩
  exact dif_pos h

/-- What the forward scan's body reads. -/
structure FwdIn (F : FTy → Type) where
  u : S1024x512.Idx → Elt F .f32
  w : S1024x512.Idx → Elt F .bf16
  qd : S1024x512.Idx → Elt F .bf16
  kt : S1024x512.Idx → Elt F .bf16
  at' : S16x4x64x64.Idx → Elt F .f32
  gl : S16x4x1x128.Idx → Elt F .f32

section Steps
variable (arg1 : Memref sig .tc .vmem S1024x512 .f32) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S16x4x64x64 .f32) (harg5 : arg5.IsWhole) (arg6 : Memref sig .tc .vmem S16x4x1x128 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S16x4x128x128 .f32) (harg9 : arg9.IsWhole) (arg10 : Memref sig .tc .vmem S4x128x128 .f32) (harg10 : arg10.IsWhole)

/-- The ten buffers of the forward scan's body, held at their contents. -/
def fwdBufs (I : FwdIn F) (o : S1024x512.Idx → Elt F .f32) (vn : S1024x512.Idx → Elt F .bf16) (sp : S16x4x128x128.Idx → Elt F .f32) (s : S4x128x128.Idx → Elt F .f32) : sProp 𝕄 :=
  iprop(owns (c : Thread nD τ) arg1 fullShare I.u ∗ owns (c : Thread nD τ) arg2 fullShare I.w ∗ owns (c : Thread nD τ) arg3 fullShare I.qd ∗ owns (c : Thread nD τ) arg4 fullShare I.kt ∗ owns (c : Thread nD τ) arg5 fullShare I.at' ∗ owns (c : Thread nD τ) arg6 fullShare I.gl ∗ owns (c : Thread nD τ) arg7 fullShare o ∗ owns (c : Thread nD τ) arg8 fullShare vn ∗ owns (c : Thread nD τ) arg9 fullShare sp ∗ owns (c : Thread nD τ) arg10 fullShare s)

include harg1 harg2 harg3 harg4 harg5 harg6 harg7 harg8 harg9 harg10

theorem fwdA_spec {k h : ℕ} (hc : k < 16) (hh : h < 4) (I : FwdIn F) (o vn sp s) (Q : _ → sProp 𝕄) :
    iprop(fwdBufs c arg1 arg2 arg3 arg4 arg5 arg6 arg7 arg8 arg9 arg10 I o vn sp s
        ∗ (fwdBufs c arg1 arg2 arg3 arg4 arg5 arg6 arg7 arg8 arg9 arg10 I o vn (put sp (spR hc hh) (spV (get s (stR hh)))) s -∗ Q (get s (stR hh), wsV (get I.w (rowR hc hh)) (get s (stR hh)), wsV (get I.qd (rowR hc hh)) (get s (stR hh)))))
      ⊢ wp frame (wpE (defs₀ (F := F)) Variants.none (c : Thread nD τ) none) Set.univ (fwdA (F := F) arg2 arg3 arg9 arg10 hc hh) Q := by
  unfold fwdA
  unfold fwdBufs
  iintro ⟨⟨H1, H2, H3, H4, H5, H6, H7, H8, H9, H10⟩, K⟩
  iapply (ld c arg10 harg10 _ _ _ _ _) $$ [-]
  isplitl [H10]; · iexact H10
  iintro H10
  iapply (ld c arg9 harg9 _ _ _ _ _) $$ [-]
  isplitl [H9]; · iexact H9
  iintro H9
  iapply (st c arg9 harg9 _ _ _ _ _ _ _) $$ [-]
  isplitl [H9]; · iexact H9
  iintro H9
  iapply (ld c arg2 harg2 _ _ _ _ _) $$ [-]
  isplitl [H2]; · iexact H2
  iintro H2
  iapply (ld c arg3 harg3 _ _ _ _ _) $$ [-]
  isplitl [H3]; · iexact H3
  iintro H3
  iapply (le_wp_ret _ _ _ _ _) $$ [-]
  iapply K $$ [-]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem fwdB_spec {k h : ℕ} (hc : k < 16) (hh : h < 4) (I : FwdIn F) (o vn sp s r) (Q : _ → sProp 𝕄) :
    iprop(fwdBufs c arg1 arg2 arg3 arg4 arg5 arg6 arg7 arg8 arg9 arg10 I o vn sp s
        ∗ (fwdBufs c arg1 arg2 arg3 arg4 arg5 arg6 arg7 arg8 arg9 arg10 I
            (put o (rowR hc hh) (oV r.2.2 (get I.at' (sqR hc hh)) (vnV (get I.u (rowR hc hh)) r.2.1)))
            (put vn (rowR hc hh) (vnV (get I.u (rowR hc hh)) r.2.1)) sp
            (put s (stR hh) (stV r.1 (get I.gl (glR hc hh)) (get I.kt (rowR hc hh)) (vnV (get I.u (rowR hc hh)) r.2.1))) -∗ Q ⟨⟩))
      ⊢ wp frame (wpE (defs₀ (F := F)) Variants.none (c : Thread nD τ) none) Set.univ (fwdB (F := F) arg1 arg4 arg5 arg6 arg7 arg8 harg8 arg10 hc hh r) Q := by
  unfold fwdB
  unfold fwdBufs
  iintro ⟨⟨H1, H2, H3, H4, H5, H6, H7, H8, H9, H10⟩, K⟩
  iapply (ld c arg1 harg1 _ _ _ _ _) $$ [-]
  isplitl [H1]; · iexact H1
  iintro H1
  iapply (ld c arg8 harg8 _ _ _ _ _) $$ [-]
  isplitl [H8]; · iexact H8
  iintro H8
  iapply (st c arg8 harg8 _ _ _ _ _ _ _) $$ [-]
  isplitl [H8]; · iexact H8
  iintro H8
  iapply (ld c arg5 harg5 _ _ _ _ _) $$ [-]
  isplitl [H5]; · iexact H5
  iintro H5
  iapply (ld c arg7 harg7 _ _ _ _ _) $$ [-]
  isplitl [H7]; · iexact H7
  iintro H7
  iapply (st c arg7 harg7 _ _ _ _ _ _ _) $$ [-]
  isplitl [H7]; · iexact H7
  iintro H7
  iapply (ld c arg6 harg6 _ _ _ _ _) $$ [-]
  isplitl [H6]; · iexact H6
  iintro H6
  iapply (ld c arg4 harg4 _ _ _ _ _) $$ [-]
  isplitl [H4]; · iexact H4
  iintro H4
  iapply (ld c arg10 harg10 _ _ _ _ _) $$ [-]
  isplitl [H10]; · iexact H10
  iintro H10
  iapply (st' c arg10 harg10 _ _ _ _ _ _) $$ [-]
  isplitl [H10]; · iexact H10
  iintro H10
  iapply K $$ [-]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The state after the first `n` chunks, head by head, from the state `S0`. -/
structure FwdSeq (F : FTy → Type) where
  U : ℕ → ℕ → Vec F S64x128 .f32
  W : ℕ → ℕ → Vec F S64x128 .bf16
  Qd : ℕ → ℕ → Vec F S64x128 .bf16
  Kt : ℕ → ℕ → Vec F S64x128 .bf16
  At : ℕ → ℕ → Vec F S1x1x64x64 .f32
  Gl : ℕ → ℕ → Vec F S1x1x1x128 .f32

/-- The zero state. -/
def stZero : Vec F S1x128x128 .f32 := fun _ => Scalar.ofBits .f32 0x00000000#32

/-- The state before chunk `n`. -/
def FwdSeq.G (σ : FwdSeq F) : ℕ → ℕ → Vec F S1x128x128 .f32
  | 0, _ => stZero
  | n + 1, h => stV (σ.G n h) (σ.Gl n h) (σ.Kt n h) (vnV (σ.U n h) (wsV (σ.W n h) (σ.G n h)))
/-- The new values of chunk `n`. -/
def FwdSeq.Vn (σ : FwdSeq F) (n h : ℕ) : Vec F S64x128 .bf16 := vnV (σ.U n h) (wsV (σ.W n h) (σ.G n h))
/-- The output of chunk `n`. -/
def FwdSeq.O (σ : FwdSeq F) (n h : ℕ) : Vec F S64x128 .f32 := oV (wsV (σ.Qd n h) (σ.G n h)) (σ.At n h) (σ.Vn n h)

/-- The block's inputs are the sequences' chunks from `b` on. -/
structure FwdIn.Of (I : FwdIn F) (σ : FwdSeq F) (b : ℕ) : Prop where
  u : ∀ k h (hc : k < 16) (hh : h < 4), get I.u (rowR hc hh) = σ.U (b + k) h
  w : ∀ k h (hc : k < 16) (hh : h < 4), get I.w (rowR hc hh) = σ.W (b + k) h
  qd : ∀ k h (hc : k < 16) (hh : h < 4), get I.qd (rowR hc hh) = σ.Qd (b + k) h
  kt : ∀ k h (hc : k < 16) (hh : h < 4), get I.kt (rowR hc hh) = σ.Kt (b + k) h
  at' : ∀ k h (hc : k < 16) (hh : h < 4), get I.at' (sqR hc hh) = σ.At (b + k) h
  gl : ∀ k h (hc : k < 16) (hh : h < 4), get I.gl (glR hc hh) = σ.Gl (b + k) h

/-- After the block's first `n` chunks: their rows hold the chunks' values, the scratch holds the state. -/
structure FwdInv (σ : FwdSeq F) (b n : ℕ) (o : S1024x512.Idx → Elt F .f32) (vn : S1024x512.Idx → Elt F .bf16) (sp : S16x4x128x128.Idx → Elt F .f32) (s : S4x128x128.Idx → Elt F .f32) : Prop where
  o : ∀ k h (hc : k < 16) (hh : h < 4), k < n → get o (rowR hc hh) = σ.O (b + k) h
  vn : ∀ k h (hc : k < 16) (hh : h < 4), k < n → get vn (rowR hc hh) = σ.Vn (b + k) h
  sp : ∀ k h (hc : k < 16) (hh : h < 4), k < n → get sp (spR hc hh) = spV (σ.G (b + k) h)
  s : ∀ h (hh : h < 4), get s (stR hh) = σ.G (b + n) h

theorem fwdChunk_spec {n : ℕ} (hn : n < 16) (I : FwdIn F) (σ : FwdSeq F) (b : ℕ) (hI : I.Of σ b) (o vn sp s) (hi : FwdInv σ b n o vn sp s) (Q : _ → sProp 𝕄) :
    iprop(fwdBufs c arg1 arg2 arg3 arg4 arg5 arg6 arg7 arg8 arg9 arg10 I o vn sp s
        ∗ (∀ o' vn' sp' s', ⌜FwdInv σ b (n + 1) o' vn' sp' s'⌝ -∗ fwdBufs c arg1 arg2 arg3 arg4 arg5 arg6 arg7 arg8 arg9 arg10 I o' vn' sp' s' -∗ Q ⟨⟩))
      ⊢ wp frame (wpE (defs₀ (F := F)) Variants.none (c : Thread nD τ) none) Set.univ (fwdChunk (F := F) arg1 arg2 arg3 arg4 arg5 arg6 arg7 arg8 harg8 arg9 arg10 hn) Q := by
  unfold fwdChunk
  iintro ⟨H, K⟩
  rw [wp_bind]
  iapply (fwdA_spec c arg1 harg1 arg2 harg2 arg3 harg3 arg4 harg4 arg5 harg5 arg6 harg6 arg7 harg7 arg8 harg8 arg9 harg9 arg10 harg10 hn _ I _ _ _ _ _) $$ [-]
  isplitl [H]; · iexact H
  iintro H
  rw [wp_bind]
  iapply (fwdA_spec c arg1 harg1 arg2 harg2 arg3 harg3 arg4 harg4 arg5 harg5 arg6 harg6 arg7 harg7 arg8 harg8 arg9 harg9 arg10 harg10 hn _ I _ _ _ _ _) $$ [-]
  isplitl [H]; · iexact H
  iintro H
  rw [wp_bind]
  iapply (fwdA_spec c arg1 harg1 arg2 harg2 arg3 harg3 arg4 harg4 arg5 harg5 arg6 harg6 arg7 harg7 arg8 harg8 arg9 harg9 arg10 harg10 hn _ I _ _ _ _ _) $$ [-]
  isplitl [H]; · iexact H
  iintro H
  rw [wp_bind]
  iapply (fwdA_spec c arg1 harg1 arg2 harg2 arg3 harg3 arg4 harg4 arg5 harg5 arg6 harg6 arg7 harg7 arg8 harg8 arg9 harg9 arg10 harg10 hn _ I _ _ _ _ _) $$ [-]
  isplitl [H]; · iexact H
  iintro H
  rw [wp_bind]
  iapply (fwdB_spec c arg1 harg1 arg2 harg2 arg3 harg3 arg4 harg4 arg5 harg5 arg6 harg6 arg7 harg7 arg8 harg8 arg9 harg9 arg10 harg10 hn _ I _ _ _ _ _ _) $$ [-]
  isplitl [H]; · iexact H
  iintro H
  rw [wp_bind]
  iapply (fwdB_spec c arg1 harg1 arg2 harg2 arg3 harg3 arg4 harg4 arg5 harg5 arg6 harg6 arg7 harg7 arg8 harg8 arg9 harg9 arg10 harg10 hn _ I _ _ _ _ _ _) $$ [-]
  isplitl [H]; · iexact H
  iintro H
  rw [wp_bind]
  iapply (fwdB_spec c arg1 harg1 arg2 harg2 arg3 harg3 arg4 harg4 arg5 harg5 arg6 harg6 arg7 harg7 arg8 harg8 arg9 harg9 arg10 harg10 hn _ I _ _ _ _ _ _) $$ [-]
  isplitl [H]; · iexact H
  iintro H
  iapply (fwdB_spec c arg1 harg1 arg2 harg2 arg3 harg3 arg4 harg4 arg5 harg5 arg6 harg6 arg7 harg7 arg8 harg8 arg9 harg9 arg10 harg10 hn _ I _ _ _ _ _ _) $$ [-]
  isplitl [H]; · iexact H
  iintro H
  iapply K $$ [] [H]
  rotate_left
  · iexact H
  ipureintro
  have e0 := hI.u n; have e1 := hI.w n; have e2 := hI.qd n; have e3 := hI.kt n; have e4 := hI.at' n; have e5 := hI.gl n
  have es := hi.s
  refine ⟨?_, ?_, ?_, ?_⟩
  · intro k h hc hh hk
    rw [get_put_row, get_put_row, get_put_row, get_put_row]
    simp only [e0, e1, e2, e3, e4, e5, es]
    split_ifs with q3 q2 q1 q0
    · obtain ⟨rfl, rfl⟩ := q3; rfl
    · obtain ⟨rfl, rfl⟩ := q2; rfl
    · obtain ⟨rfl, rfl⟩ := q1; rfl
    · obtain ⟨rfl, rfl⟩ := q0; rfl
    · exact hi.o k h hc hh (by omega)
  · intro k h hc hh hk
    rw [get_put_row, get_put_row, get_put_row, get_put_row]
    simp only [e0, e1, e2, e3, e4, e5, es]
    split_ifs with q3 q2 q1 q0
    · obtain ⟨rfl, rfl⟩ := q3; rfl
    · obtain ⟨rfl, rfl⟩ := q2; rfl
    · obtain ⟨rfl, rfl⟩ := q1; rfl
    · obtain ⟨rfl, rfl⟩ := q0; rfl
    · exact hi.vn k h hc hh (by omega)
  · intro k h hc hh hk
    rw [get_put_sp, get_put_sp, get_put_sp, get_put_sp]
    simp only [e0, e1, e2, e3, e4, e5, es]
    split_ifs with q3 q2 q1 q0
    · obtain ⟨rfl, rfl⟩ := q3; rfl
    · obtain ⟨rfl, rfl⟩ := q2; rfl
    · obtain ⟨rfl, rfl⟩ := q1; rfl
    · obtain ⟨rfl, rfl⟩ := q0; rfl
    · exact hi.sp k h hc hh (by omega)
  · intro h hh
    rw [get_put_st, get_put_st, get_put_st, get_put_st]
    simp only [e0, e1, e2, e3, e4, e5, es]
    split_ifs with q3 q2 q1 q0
    · subst q3; rfl
    · subst q2; rfl
    · subst q1; rfl
    · subst q0; rfl
    · omega

theorem fwdFrom_spec (I : FwdIn F) (σ : FwdSeq F) (b : ℕ) (hI : I.Of σ b) (Q : _ → sProp 𝕄) : ∀ (n : ℕ) (hn : n ≤ 16) (o vn sp s) (hi : FwdInv σ b (16 - n) o vn sp s),
    iprop(fwdBufs c arg1 arg2 arg3 arg4 arg5 arg6 arg7 arg8 arg9 arg10 I o vn sp s
        ∗ (∀ o' vn' sp' s', ⌜FwdInv σ b 16 o' vn' sp' s'⌝ -∗ fwdBufs c arg1 arg2 arg3 arg4 arg5 arg6 arg7 arg8 arg9 arg10 I o' vn' sp' s' -∗ Q ⟨⟩))
      ⊢ wp frame (wpE (defs₀ (F := F)) Variants.none (c : Thread nD τ) none) Set.univ (fwdFrom (F := F) arg1 arg2 arg3 arg4 arg5 arg6 arg7 arg8 harg8 arg9 arg10 n hn) Q
  | 0, hn, o, vn, sp, s, hi => by
    unfold fwdFrom
    iintro ⟨H, K⟩
    iapply (le_wp_ret _ _ _ _ _) $$ [-]
    iapply K $$ [] [H]
    rotate_left
    · iexact H
    ipureintro
    exact hi
  | n + 1, hn, o, vn, sp, s, hi => by
    unfold fwdFrom
    rw [wp_bind]
    iintro ⟨H, K⟩
    iapply (fwdChunk_spec c arg1 harg1 arg2 harg2 arg3 harg3 arg4 harg4 arg5 harg5 arg6 harg6 arg7 harg7 arg8 harg8 arg9 harg9 arg10 harg10 (n := 16 - (n + 1)) _ I σ b hI _ _ _ _ hi _) $$ [-]
    isplitl [H]; · iexact H
    iintro %o' %vn' %sp' %s' %hi' H
    iapply (fwdFrom_spec I σ b hI Q n (Nat.le_of_succ_le hn) o' vn' sp' s' (by rwa [show 16 - (n + 1) + 1 = 16 - n by omega] at hi')) $$ [-]
    isplitl [H]; · iexact H
    iexact K

theorem fwdZero_spec (I : FwdIn F) (o vn sp s) (Q : _ → sProp 𝕄) :
    iprop(fwdBufs c arg1 arg2 arg3 arg4 arg5 arg6 arg7 arg8 arg9 arg10 I o vn sp s
        ∗ (fwdBufs c arg1 arg2 arg3 arg4 arg5 arg6 arg7 arg8 arg9 arg10 I o vn sp (fun _ => Scalar.ofBits .f32 0x00000000#32) -∗ Q ⟨⟩))
      ⊢ wp frame (wpE (defs₀ (F := F)) Variants.none (c : Thread nD τ) none) Set.univ (fwdZero (F := F) arg10) Q := by
  unfold fwdZero fwdBufs
  iintro ⟨⟨H1, H2, H3, H4, H5, H6, H7, H8, H9, H10⟩, K⟩
  iapply (ld c arg10 harg10 s _ _ _ _) $$ [-]
  isplitl [H10]; · iexact H10
  iintro H10
  iapply (st' c arg10 harg10 _ _ _ _ _ _) $$ [-]
  isplitl [H10]; · iexact H10
  iintro H10
  rw [put_zero]
  iapply K $$ [-]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- What the body of the forward scan leaves: from the block's inputs, and the state unless the block is the first, the block's outputs and the state after it. -/
theorem fwd_body_spec (i : grid0.Coords) (I : FwdIn F) (σ : FwdSeq F) (b : ℕ) (hI : I.Of σ b) (hb : first0 i → b = 0) (o vn sp s) (hs : ¬ first0 i → ∀ h (hh : h < 4), get s (stR hh) = σ.G b h) (Q : _ → sProp 𝕄) :
    iprop(fwdBufs c arg1 arg2 arg3 arg4 arg5 arg6 arg7 arg8 arg9 arg10 I o vn sp s
        ∗ (∀ o' vn' sp' s', ⌜FwdInv σ b 16 o' vn' sp' s'⌝ -∗ fwdBufs c arg1 arg2 arg3 arg4 arg5 arg6 arg7 arg8 arg9 arg10 I o' vn' sp' s' -∗ Q ⟨⟩))
      ⊢ wp frame (wpE (defs₀ (F := F)) Variants.none (c : Thread nD τ) none) Set.univ (cc0_dn_scan (F := F) i arg1 harg1 arg2 harg2 arg3 harg3 arg4 harg4 arg5 harg5 arg6 harg6 arg7 harg7 arg8 harg8 arg9 harg9 arg10 harg10) Q := by
  by_cases hi : first0 i
  · rw [fwd_body_first (F := F) arg1 harg1 arg2 harg2 arg3 harg3 arg4 harg4 arg5 harg5 arg6 harg6 arg7 harg7 arg8 harg8 arg9 harg9 arg10 harg10 i hi, wp_bind]
    obtain rfl := hb hi
    iintro ⟨H, K⟩
    iapply (fwdZero_spec c arg1 harg1 arg2 harg2 arg3 harg3 arg4 harg4 arg5 harg5 arg6 harg6 arg7 harg7 arg8 harg8 arg9 harg9 arg10 harg10 I _ _ _ _ _) $$ [-]
    isplitl [H]; · iexact H
    iintro H
    iapply (fwdFrom_spec c arg1 harg1 arg2 harg2 arg3 harg3 arg4 harg4 arg5 harg5 arg6 harg6 arg7 harg7 arg8 harg8 arg9 harg9 arg10 harg10 I σ 0 hI Q 16 le_rfl _ _ _ _ ?_) $$ [-]
    rotate_left
    · isplitl [H]; · iexact H
      iexact K
    exact ⟨fun k h _ _ hk => absurd hk (by omega), fun k h _ _ hk => absurd hk (by omega), fun k h _ _ hk => absurd hk (by omega), fun h hh => rfl⟩
  · rw [fwd_body_later (F := F) arg1 harg1 arg2 harg2 arg3 harg3 arg4 harg4 arg5 harg5 arg6 harg6 arg7 harg7 arg8 harg8 arg9 harg9 arg10 harg10 i hi]
    iintro ⟨H, K⟩
    iapply (fwdFrom_spec c arg1 harg1 arg2 harg2 arg3 harg3 arg4 harg4 arg5 harg5 arg6 harg6 arg7 harg7 arg8 harg8 arg9 harg9 arg10 harg10 I σ b hI Q 16 le_rfl _ _ _ _ ?_) $$ [-]
    rotate_left
    · isplitl [H]; · iexact H
      iexact K
    exact ⟨fun k h _ _ hk => absurd hk (by omega), fun k h _ _ hk => absurd hk (by omega), fun k h _ _ hk => absurd hk (by omega), hs hi⟩

end Steps

end Cert.Scan
end
-- ==== Proof.ScanGlue.lean ====
/- Chunks and whole arrays: a block of an array read chunk by chunk, a block or an array put together from its chunks. -/
module

public import proofs.«01_k».proof.Proof.ScanFwdRun
public import Idealize.ShloMosaic.Lib.Pipeline.ValueKit

@[expose] public section

set_option maxRecDepth 16384

noncomputable section

namespace Cert.Scan

open Idealize.ShloMosaic Idealize.ShloMosaic.TcCoe
open Cert.KernelIdeal Cert.KernelIdeal.Gen

variable {F : FTy → Type} {e : EltTy}

/-- The shape of a whole array, a block and a chunk whose first two axes are chunk and head. -/
abbrev TA (c d : ℕ) : Shape := ⟨4, ![64, 4, c, d]⟩
abbrev TB (c d : ℕ) : Shape := ⟨4, ![16, 4, c, d]⟩
abbrev TC (c d : ℕ) : Shape := ⟨4, ![1, 1, c, d]⟩

/-- Chunk `k`, head `h` of an array of tokens. -/
def rowSeq (X : S4096x512.Idx → Elt F e) (k h : ℕ) : S64x128.Idx → Elt F e := fun j =>
  X (ix2 ⟨(64 * k + (j 0).val) % 4096, Nat.mod_lt _ (by decide)⟩ ⟨(128 * h + (j 1).val) % 512, Nat.mod_lt _ (by decide)⟩)
/-- The array of tokens made of chunks. -/
def rowArr (X : ℕ → ℕ → S64x128.Idx → Elt F e) : S4096x512.Idx → Elt F e := fun i =>
  X ((i 0).val / 64) ((i 1).val / 128) (ix2 ⟨(i 0).val % 64, Nat.mod_lt _ (by decide)⟩ ⟨(i 1).val % 128, Nat.mod_lt _ (by decide)⟩)
/-- The block of sixteen chunks from `b` on. -/
def rowBlk (X : ℕ → ℕ → S64x128.Idx → Elt F e) (b : ℕ) : S1024x512.Idx → Elt F e := fun i =>
  X (b + (i 0).val / 64) ((i 1).val / 128) (ix2 ⟨(i 0).val % 64, Nat.mod_lt _ (by decide)⟩ ⟨(i 1).val % 128, Nat.mod_lt _ (by decide)⟩)

/-- Chunk `k`, head `h` of an array of tiles. -/
def tileSeq {c d : ℕ} (X : (TA c d).Idx → Elt F e) (k h : ℕ) : (TC c d).Idx → Elt F e := fun j =>
  X (ix4 ⟨k % 64, Nat.mod_lt _ (by decide)⟩ ⟨h % 4, Nat.mod_lt _ (by decide)⟩ (j 2) (j 3))
/-- The array of tiles made of chunks. -/
def tileArr {c d : ℕ} (X : ℕ → ℕ → (TC c d).Idx → Elt F e) : (TA c d).Idx → Elt F e := fun i =>
  X (i 0).val (i 1).val (ix4 0 0 (i 2) (i 3))
/-- The block of sixteen chunks from `b` on. -/
def tileBlk {c d : ℕ} (X : ℕ → ℕ → (TC c d).Idx → Elt F e) (b : ℕ) : (TB c d).Idx → Elt F e := fun i =>
  X (b + (i 0).val) (i 1).val (ix4 0 0 (i 2) (i 3))

theorem rowSeq_rowArr (X : ℕ → ℕ → S64x128.Idx → Elt F e) {k h : ℕ} (hk : k < 64) (hh : h < 4) : rowSeq (rowArr X) k h = X k h := by
  funext j
  have h0 : (j 0).val < 64 := (j 0).isLt
  have h1 : (j 1).val < 128 := (j 1).isLt
  show X (((64 * k + (j 0).val) % 4096) / 64) (((128 * h + (j 1).val) % 512) / 128) (ix2 ⟨((64 * k + (j 0).val) % 4096) % 64, _⟩ ⟨((128 * h + (j 1).val) % 512) % 128, _⟩) = X k h j
  have e0 : ((64 * k + (j 0).val) % 4096) / 64 = k := by omega
  have e1 : ((128 * h + (j 1).val) % 512) / 128 = h := by omega
  rw [e0, e1]
  refine congrArg (X k h) (funext fun a => Fin.ext ?_)
  match a with
  | ⟨0, _⟩ => show ((64 * k + (j 0).val) % 4096) % 64 = (j 0).val; omega
  | ⟨1, _⟩ => show ((128 * h + (j 1).val) % 512) % 128 = (j 1).val; omega

theorem tileSeq_tileArr {c d : ℕ} (X : ℕ → ℕ → (TC c d).Idx → Elt F e) {k h : ℕ} (hk : k < 64) (hh : h < 4) : tileSeq (tileArr X) k h = X k h := by
  funext j
  show X (k % 64) (h % 4) (ix4 (n0 := 1) (n1 := 1) (n2 := c) (n3 := d) 0 0 (j 2) (j 3)) = X k h j
  rw [Nat.mod_eq_of_lt hk, Nat.mod_eq_of_lt hh]
  refine congrArg (X k h) (funext fun a => Fin.ext ?_)
  match a with
  | ⟨0, _⟩ => exact (Nat.lt_one_iff.mp (j 0).isLt).symm
  | ⟨1, _⟩ => exact (Nat.lt_one_iff.mp (j 1).isLt).symm
  | ⟨2, _⟩ => rfl
  | ⟨3, _⟩ => rfl

/-- A block of tokens known chunk by chunk. -/
theorem eq_rowBlk (X : ℕ → ℕ → S64x128.Idx → Elt F e) (b : ℕ) (x : S1024x512.Idx → Elt F e)
    (hx : ∀ k h (hc : k < 16) (hh : h < 4), get x (rowR hc hh) = X (b + k) h) : x = rowBlk X b := by
  funext i
  have h0 : (i 0).val < 1024 := (i 0).isLt
  have h1 : (i 1).val < 512 := (i 1).isLt
  have hc : (i 0).val / 64 < 16 := by omega
  have hh : (i 1).val / 128 < 4 := by omega
  have := congrFun (hx _ _ hc hh) (ix2 ⟨(i 0).val % 64, Nat.mod_lt _ (by decide)⟩ ⟨(i 1).val % 128, Nat.mod_lt _ (by decide)⟩)
  refine Eq.trans (congrArg x (funext fun a => Fin.ext ?_)) this
  match a with
  | ⟨0, _⟩ => show (i 0).val = 64 * ((i 0).val / 64) + 1 * ((i 0).val % 64); omega
  | ⟨1, _⟩ => show (i 1).val = 128 * ((i 1).val / 128) + 1 * ((i 1).val % 128); omega

theorem eq_spBlk (X : ℕ → ℕ → S1x1x128x128.Idx → Elt F e) (b : ℕ) (x : S16x4x128x128.Idx → Elt F e)
    (hx : ∀ k h (hc : k < 16) (hh : h < 4), get x (spR hc hh) = X (b + k) h) : x = tileBlk (c := 128) (d := 128) X b := by
  funext i
  have := congrFun (hx _ _ (show (i 0).val < 16 from (i 0).isLt) (show (i 1).val < 4 from (i 1).isLt)) (ix4 (n0 := 1) (n1 := 1) (n2 := 128) (n3 := 128) 0 0 (i 2) (i 3))
  refine Eq.trans (congrArg x (funext fun a => Fin.ext ?_)) this
  match a with
  | ⟨0, _⟩ => show (i 0).val = (i 0).val + 1 * 0; omega
  | ⟨1, _⟩ => show (i 1).val = (i 1).val + 1 * 0; omega
  | ⟨2, _⟩ => show (i 2).val = 0 + 1 * (i 2).val; omega
  | ⟨3, _⟩ => show (i 3).val = 0 + 1 * (i 3).val; omega
theorem eq_sqBlk (X : ℕ → ℕ → S1x1x64x64.Idx → Elt F e) (b : ℕ) (x : S16x4x64x64.Idx → Elt F e)
    (hx : ∀ k h (hc : k < 16) (hh : h < 4), get x (sqR hc hh) = X (b + k) h) : x = tileBlk (c := 64) (d := 64) X b := by
  funext i
  have := congrFun (hx _ _ (show (i 0).val < 16 from (i 0).isLt) (show (i 1).val < 4 from (i 1).isLt)) (ix4 (n0 := 1) (n1 := 1) (n2 := 64) (n3 := 64) 0 0 (i 2) (i 3))
  refine Eq.trans (congrArg x (funext fun a => Fin.ext ?_)) this
  match a with
  | ⟨0, _⟩ => show (i 0).val = (i 0).val + 1 * 0; omega
  | ⟨1, _⟩ => show (i 1).val = (i 1).val + 1 * 0; omega
  | ⟨2, _⟩ => show (i 2).val = 0 + 1 * (i 2).val; omega
  | ⟨3, _⟩ => show (i 3).val = 0 + 1 * (i 3).val; omega
theorem eq_glBlk (X : ℕ → ℕ → S1x1x1x128.Idx → Elt F e) (b : ℕ) (x : S16x4x1x128.Idx → Elt F e)
    (hx : ∀ k h (hc : k < 16) (hh : h < 4), get x (glR hc hh) = X (b + k) h) : x = tileBlk (c := 1) (d := 128) X b := by
  funext i
  have := congrFun (hx _ _ (show (i 0).val < 16 from (i 0).isLt) (show (i 1).val < 4 from (i 1).isLt)) (ix4 (n0 := 1) (n1 := 1) (n2 := 1) (n3 := 128) 0 0 (i 2) (i 3))
  refine Eq.trans (congrArg x (funext fun a => Fin.ext ?_)) this
  match a with
  | ⟨0, _⟩ => show (i 0).val = (i 0).val + 1 * 0; omega
  | ⟨1, _⟩ => show (i 1).val = (i 1).val + 1 * 0; omega
  | ⟨2, _⟩ => show (i 2).val = 0 + 1 * (i 2).val; omega
  | ⟨3, _⟩ => show (i 3).val = 0 + 1 * (i 3).val; omega

/-- A block of an array of tokens, chunk by chunk. -/
theorem get_row_of (X : S4096x512.Idx → Elt F e) (x : S1024x512.Idx → Elt F e) (b : ℕ) (hb : b < 4)
    (hx : ∀ y : S1024x512.Idx, x y = X (ix2 ⟨(b * 1024 + (y 0).val) % 4096, Nat.mod_lt _ (by decide)⟩ (y 1))) (k h : ℕ) (hc : k < 16) (hh : h < 4) :
    get x (rowR hc hh) = rowSeq X (16 * b + k) h := by
  funext j
  have h0 : (j 0).val < 64 := (j 0).isLt
  have h1 : (j 1).val < 128 := (j 1).isLt
  refine (hx _).trans (congrArg X (funext fun a => Fin.ext ?_))
  match a with
  | ⟨0, _⟩ => show (b * 1024 + (64 * k + 1 * (j 0).val)) % 4096 = (64 * (16 * b + k) + (j 0).val) % 4096; congr 1; omega
  | ⟨1, _⟩ => show 128 * h + 1 * (j 1).val = (128 * h + (j 1).val) % 512; omega
theorem get_sp_of (X : S64x4x128x128.Idx → Elt F e) (x : S16x4x128x128.Idx → Elt F e) (b : ℕ) (hb : b < 4)
    (hx : ∀ y : S16x4x128x128.Idx, x y = X (ix4 ⟨(b * 16 + (y 0).val) % 64, Nat.mod_lt _ (by decide)⟩ (y 1) (y 2) (y 3))) (k h : ℕ) (hc : k < 16) (hh : h < 4) :
    get x (spR hc hh) = tileSeq (c := 128) (d := 128) X (16 * b + k) h := by
  funext j
  refine (hx _).trans (congrArg X (funext fun a => Fin.ext ?_))
  have h0 : (j 0).val < 1 := (j 0).isLt
  have h1 : (j 1).val < 1 := (j 1).isLt
  match a with
  | ⟨0, _⟩ => show (b * 16 + (k + 1 * (j 0).val)) % 64 = (16 * b + k) % 64; congr 1; omega
  | ⟨1, _⟩ => show h + 1 * (j 1).val = h % 4; omega
  | ⟨2, _⟩ => show 0 + 1 * (j 2).val = (j 2).val; omega
  | ⟨3, _⟩ => show 0 + 1 * (j 3).val = (j 3).val; omega
theorem get_sq_of (X : S64x4x64x64.Idx → Elt F e) (x : S16x4x64x64.Idx → Elt F e) (b : ℕ) (hb : b < 4)
    (hx : ∀ y : S16x4x64x64.Idx, x y = X (ix4 ⟨(b * 16 + (y 0).val) % 64, Nat.mod_lt _ (by decide)⟩ (y 1) (y 2) (y 3))) (k h : ℕ) (hc : k < 16) (hh : h < 4) :
    get x (sqR hc hh) = tileSeq (c := 64) (d := 64) X (16 * b + k) h := by
  funext j
  refine (hx _).trans (congrArg X (funext fun a => Fin.ext ?_))
  have h0 : (j 0).val < 1 := (j 0).isLt
  have h1 : (j 1).val < 1 := (j 1).isLt
  match a with
  | ⟨0, _⟩ => show (b * 16 + (k + 1 * (j 0).val)) % 64 = (16 * b + k) % 64; congr 1; omega
  | ⟨1, _⟩ => show h + 1 * (j 1).val = h % 4; omega
  | ⟨2, _⟩ => show 0 + 1 * (j 2).val = (j 2).val; omega
  | ⟨3, _⟩ => show 0 + 1 * (j 3).val = (j 3).val; omega
theorem get_gl_of (X : S64x4x1x128.Idx → Elt F e) (x : S16x4x1x128.Idx → Elt F e) (b : ℕ) (hb : b < 4)
    (hx : ∀ y : S16x4x1x128.Idx, x y = X (ix4 ⟨(b * 16 + (y 0).val) % 64, Nat.mod_lt _ (by decide)⟩ (y 1) (y 2) (y 3))) (k h : ℕ) (hc : k < 16) (hh : h < 4) :
    get x (glR hc hh) = tileSeq (c := 1) (d := 128) X (16 * b + k) h := by
  funext j
  refine (hx _).trans (congrArg X (funext fun a => Fin.ext ?_))
  have h0 : (j 0).val < 1 := (j 0).isLt
  have h1 : (j 1).val < 1 := (j 1).isLt
  match a with
  | ⟨0, _⟩ => show (b * 16 + (k + 1 * (j 0).val)) % 64 = (16 * b + k) % 64; congr 1; omega
  | ⟨1, _⟩ => show h + 1 * (j 1).val = h % 4; omega
  | ⟨2, _⟩ => show 0 + 1 * (j 2).val = (j 2).val; omega
  | ⟨3, _⟩ => show 0 + 1 * (j 3).val = (j 3).val; omega

/-- A block of the array made of chunks. -/
theorem rowBlk_eq (X : ℕ → ℕ → S64x128.Idx → Elt F e) (t : ℕ) (y : S1024x512.Idx) (i : S4096x512.Idx)
    (h0 : (i 0).val = t * 1024 + (y 0).val) (h1 : (i 1).val = (y 1).val) : rowBlk X (16 * t) y = rowArr X i := by
  unfold rowBlk rowArr
  have e0 : 16 * t + (y 0).val / 64 = (i 0).val / 64 := by omega
  have e1 : (y 1).val / 128 = (i 1).val / 128 := by omega
  rw [e0, e1]
  refine congrArg (X _ _) (funext fun a => Fin.ext ?_)
  match a with
  | ⟨0, _⟩ => show (y 0).val % 64 = (i 0).val % 64; omega
  | ⟨1, _⟩ => show (y 1).val % 128 = (i 1).val % 128; omega
theorem tileBlk_eq {c d : ℕ} (X : ℕ → ℕ → (TC c d).Idx → Elt F e) (t : ℕ) (y : (TB c d).Idx) (i : (TA c d).Idx)
    (h0 : (i 0).val = t * 16 + (y 0).val) (h1 : (i 1).val = (y 1).val) (h2 : (i 2).val = (y 2).val) (h3 : (i 3).val = (y 3).val) :
    tileBlk X (16 * t) y = tileArr X i := by
  unfold tileBlk tileArr
  have e0 : 16 * t + (y 0).val = (i 0).val := by omega
  rw [e0, h1, show i 2 = y 2 from Fin.ext h2, show i 3 = y 3 from Fin.ext h3]

end Cert.Scan

end
-- ==== Proof.ScanDatF.lean ====
/- The forward scan's region: what its buffers hold at every point of the grid. -/
module

public import proofs.«01_k».proof.Proof.ScanGlue
public import proofs.«01_k».proof.Proof.Gen.KernelIdeal.Regions
public import Idealize.ShloMosaic.Lib.Pipeline.FrameBody

@[expose] public section

set_option maxRecDepth 16384

noncomputable section

namespace Cert.Scan

open Idealize.ShloMosaic Idealize.ShloMosaic.TcCoe Idealize.ShloMosaic.Tactic
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : Valuation τ sig (Elt F)) (c : Dev nD)

/-- The block of window `w`'s array that point `t` works on. -/
def blkF (w : Fin cfg0.W) (t : Fin cfg0.N) : ((cfg0.win w).xblock (cfg0.grid.coords t)).Idx → Elt F (cfg0.win w).elt :=
  ((cfg0.win w).blk t).view.read (Elt F) (V (Proc.devRef .tc (Pipeline.arrRef spec0 w)))

/-- The arrays the forward scan reads, chunk by chunk. -/
def seqF : FwdSeq F where
  U := rowSeq (F := F) (e := .f32) (V (Proc.devRef .tc main_arg0))
  W := rowSeq (F := F) (e := .bf16) (V (Proc.devRef .tc main_arg1))
  Qd := rowSeq (F := F) (e := .bf16) (V (Proc.devRef .tc main_arg2))
  Kt := rowSeq (F := F) (e := .bf16) (V (Proc.devRef .tc main_arg3))
  At := tileSeq (F := F) (e := .f32) (c := 64) (d := 64) (V (Proc.devRef .tc main_arg4))
  Gl := tileSeq (F := F) (e := .f32) (c := 1) (d := 128) (V (Proc.devRef .tc main_v1))

/-- Every window's block index. -/
theorem idxF : ∀ t : Fin cfg0.N, win0_0.index t = ![t.val, 0] ∧ win0_1.index t = ![t.val, 0] ∧ win0_2.index t = ![t.val, 0]
    ∧ win0_3.index t = ![t.val, 0] ∧ win0_4.index t = ![t.val, 0, 0, 0] ∧ win0_5.index t = ![t.val, 0, 0, 0]
    ∧ win0_6.index t = ![t.val, 0] ∧ win0_7.index t = ![t.val, 0] ∧ win0_8.index t = ![t.val, 0, 0, 0] :=
  (by decide +kernel : ∀ t : Fin grid0.N, _)

/-- The blocks point `t` reads, together. -/
def inF (t : Fin cfg0.N) : FwdIn F where
  u := blkF V 0 t
  w := blkF V 1 t
  qd := blkF V 2 t
  kt := blkF V 3 t
  at' := blkF V 4 t
  gl := blkF V 5 t

theorem inF_of (t : Fin cfg0.N) : (inF V t).Of (seqF V) (16 * t.val) := by
  have ht : t.val < 4 := t.isLt
  refine ⟨?_, ?_, ?_, ?_, ?_, ?_⟩
  · exact get_row_of (F := F) (e := .f32) (V (Proc.devRef .tc main_arg0)) (blkF V 0 t) t.val ht fun y => by
      refine congrArg (V (Proc.devRef .tc main_arg0)) ?_
      blk_ext [idxF t]
  · exact get_row_of (F := F) (e := .bf16) (V (Proc.devRef .tc main_arg1)) (blkF V 1 t) t.val ht fun y => by
      refine congrArg (V (Proc.devRef .tc main_arg1)) ?_
      blk_ext [idxF t]
  · exact get_row_of (F := F) (e := .bf16) (V (Proc.devRef .tc main_arg2)) (blkF V 2 t) t.val ht fun y => by
      refine congrArg (V (Proc.devRef .tc main_arg2)) ?_
      blk_ext [idxF t]
  · exact get_row_of (F := F) (e := .bf16) (V (Proc.devRef .tc main_arg3)) (blkF V 3 t) t.val ht fun y => by
      refine congrArg (V (Proc.devRef .tc main_arg3)) ?_
      blk_ext [idxF t]
  · exact get_sq_of (F := F) (e := .f32) (V (Proc.devRef .tc main_arg4)) (blkF V 4 t) t.val ht fun y => by
      refine congrArg (V (Proc.devRef .tc main_arg4)) ?_
      blk_ext [idxF t]
  · exact get_gl_of (F := F) (e := .f32) (V (Proc.devRef .tc main_v1)) (blkF V 5 t) t.val ht fun y => by
      refine congrArg (V (Proc.devRef .tc main_v1)) ?_
      blk_ext [idxF t]

/-- Between two points: the state so far in the scratch, the region's other buffers untouched. -/
def phiF (n : ℕ) : sProp 𝕄 :=
  iprop((∃ X : S4x128x128.Idx → Elt F .f32, ⌜n ≠ 0 → ∀ h (hh : h < 4), get X (stR hh) = (seqF V).G (16 * n) h⌝
      ∗ owns (c : Thread nD τ) (Memref.whole cc0_scratch0) fullShare X)
    ∗ Pipeline.scopedRestBut (Ix := Unit) (Name := ℕ) (U := UR sig nD τ) (Lvl := ℕ) (Val := Elt F) spec0 c [cc0_scratch0])

/-- The region's proof data. -/
def datF : Dat τ (Elt F) Unit ℕ (UR sig nD τ) ℕ cfg0 c where
  A w := V (Proc.devRef .tc (Pipeline.arrRef spec0 w))
  after w t := match w with
    | ⟨0, _⟩ => blkF V 0 t
    | ⟨1, _⟩ => blkF V 1 t
    | ⟨2, _⟩ => blkF V 2 t
    | ⟨3, _⟩ => blkF V 3 t
    | ⟨4, _⟩ => blkF V 4 t
    | ⟨5, _⟩ => blkF V 5 t
    | ⟨6, _⟩ => rowBlk (F := F) (e := .f32) (seqF V).O (16 * t.val)
    | ⟨7, _⟩ => rowBlk (F := F) (e := .bf16) (seqF V).Vn (16 * t.val)
    | ⟨8, _⟩ => tileBlk (F := F) (e := .f32) (c := 128) (d := 128) (fun k h => spV ((seqF V).G k h)) (16 * t.val)
  Φ t := phiF V c t.val
  q _ := fullShare
  owed _ := 0

theorem beforeF_0 (t : Fin cfg0.N) (d) : (datF V c).before 0 t d = (inF V t).u := by
  unfold Dat.before; rw [if_pos (fetch0_0 t)]; rfl
theorem beforeF_1 (t : Fin cfg0.N) (d) : (datF V c).before 1 t d = (inF V t).w := by
  unfold Dat.before; rw [if_pos (fetch0_1 t)]; rfl
theorem beforeF_2 (t : Fin cfg0.N) (d) : (datF V c).before 2 t d = (inF V t).qd := by
  unfold Dat.before; rw [if_pos (fetch0_2 t)]; rfl
theorem beforeF_3 (t : Fin cfg0.N) (d) : (datF V c).before 3 t d = (inF V t).kt := by
  unfold Dat.before; rw [if_pos (fetch0_3 t)]; rfl
theorem beforeF_4 (t : Fin cfg0.N) (d) : (datF V c).before 4 t d = (inF V t).at' := by
  unfold Dat.before; rw [if_pos (fetch0_4 t)]; rfl
theorem beforeF_5 (t : Fin cfg0.N) (d) : (datF V c).before 5 t d = (inF V t).gl := by
  unfold Dat.before; rw [if_pos (fetch0_5 t)]; rfl

theorem firstF : ∀ t : Fin cfg0.N, first0 (grid0.coords t) ↔ t.val = 0 := (by decide +kernel : ∀ t : Fin grid0.N, _)

theorem rowF (t : Fin cfg0.N) : defs₀ (F := F) .tc cfg0.body (cfg0.bodyArgs t (cfg0.slots t)) = bodyAt0 t := by
  unfold defs₀; rw [Defs.onTc_tc]

theorem bodyF (t : Fin cfg0.N) :
    iprop(phiF V c t.val ∗ (datF V c).owesAt () t.castSucc
        ∗ (∃ d, owns (c : Thread nD τ) (st0_0 t) fullShare ((datF V c).before 0 t d))
        ∗ (∃ d, owns (c : Thread nD τ) (st0_1 t) fullShare ((datF V c).before 1 t d))
        ∗ (∃ d, owns (c : Thread nD τ) (st0_2 t) fullShare ((datF V c).before 2 t d))
        ∗ (∃ d, owns (c : Thread nD τ) (st0_3 t) fullShare ((datF V c).before 3 t d))
        ∗ (∃ d, owns (c : Thread nD τ) (st0_4 t) fullShare ((datF V c).before 4 t d))
        ∗ (∃ d, owns (c : Thread nD τ) (st0_5 t) fullShare ((datF V c).before 5 t d))
        ∗ (∃ d, owns (c : Thread nD τ) (st0_6 t) fullShare ((datF V c).before 6 t d))
        ∗ (∃ d, owns (c : Thread nD τ) (st0_7 t) fullShare ((datF V c).before 7 t d))
        ∗ (∃ d, owns (c : Thread nD τ) (st0_8 t) fullShare ((datF V c).before 8 t d)))
      ⊢ wp frame (wpE (defs₀ (F := F)) Variants.none (c : Thread nD τ) none) Set.univ (bodyAt0 t) fun _ =>
        iprop(phiF V c (t.val + 1) ∗ (datF V c).owesAt () t.succ
        ∗ owns (c : Thread nD τ) (st0_0 t) fullShare ((datF V c).after 0 t)
        ∗ owns (c : Thread nD τ) (st0_1 t) fullShare ((datF V c).after 1 t)
        ∗ owns (c : Thread nD τ) (st0_2 t) fullShare ((datF V c).after 2 t)
        ∗ owns (c : Thread nD τ) (st0_3 t) fullShare ((datF V c).after 3 t)
        ∗ owns (c : Thread nD τ) (st0_4 t) fullShare ((datF V c).after 4 t)
        ∗ owns (c : Thread nD τ) (st0_5 t) fullShare ((datF V c).after 5 t)
        ∗ owns (c : Thread nD τ) (st0_6 t) fullShare ((datF V c).after 6 t)
        ∗ owns (c : Thread nD τ) (st0_7 t) fullShare ((datF V c).after 7 t)
        ∗ owns (c : Thread nD τ) (st0_8 t) fullShare ((datF V c).after 8 t)) := by
  simp only [beforeF_0, beforeF_1, beforeF_2, beforeF_3, beforeF_4, beforeF_5]
  unfold phiF
  iintro ⟨⟨⟨%X, %hX, HX⟩, Hr⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (fwd_body_spec (F := F) c (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6)) (st0_7 t) (hstage0_7 ((cfg0.slots t 7).cast nbuf0_7))
    (st0_8 t) (hstage0_8 ((cfg0.slots t 8).cast nbuf0_8)) (Memref.whole cc0_scratch0) (Memref.isWhole_whole _)
    (grid0.coords t) (inF V t) (seqF V) (16 * t.val) (inF_of V t) (fun h => by rw [(firstF t).mp h]) _ _ _ X (fun h => hX (fun h' => h ((firstF t).mpr h'))) _) $$ [-]
  isplitl [HX H0 H1 H2 H3 H4 H5 H6 H7 H8]
  · unfold fwdBufs
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HX
  iintro %o' %vn' %sp' %s' %hi H
  unfold fwdBufs
  icases H with ⟨H0, H1, H2, H3, H4, H5, H6, H7, H8, HX⟩
  have e6 := eq_rowBlk (F := F) (e := .f32) (seqF V).O (16 * t.val) o' fun k h hc hh => hi.o k h hc hh hc
  have e7 := eq_rowBlk (F := F) (e := .bf16) (seqF V).Vn (16 * t.val) vn' fun k h hc hh => hi.vn k h hc hh hc
  have e8 := eq_spBlk (F := F) (e := .f32) (fun k h => spV ((seqF V).G k h)) (16 * t.val) sp' fun k h hc hh => hi.sp k h hc hh hc
  subst e6 e7 e8
  isplitl [HX Hr]
  · isplitl [HX]
    · iexists s'
      isplitr; · ipureintro; exact fun _ h hh => hi.s h hh
      iexact HX
    iexact Hr
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem obligF : BodyObligation (datF V c) (defs₀ (F := F)) Variants.none () Set.univ := fun t => by
  rw [bigSep_W0, bigSep_W0, rowF]
  exact bodyF V c t

theorem inPhiF : iprop(Pipeline.scopedRest (Ix := Unit) (Name := ℕ) (U := UR sig nD τ) (Lvl := ℕ) (Val := Elt F) spec0 c ∗ (emp : sProp 𝕄)) ⊢ (datF V c).Φ 0 := by
  show _ ⊢ phiF V c 0
  rw [scopedRest0_split]
  unfold phiF
  iintro ⟨⟨⟨%f, Hf⟩, Hr⟩, -⟩
  isplitl [Hf]
  · iexists f
    isplitr; · ipureintro; exact fun h => absurd rfl h
    rw [owns_whole]; iexact Hf
  iexact Hr

theorem outPhiF : (datF V c).Φ (Fin.last cfg0.N) ⊢ iprop(Pipeline.scopedRest (Ix := Unit) (Name := ℕ) (U := UR sig nD τ) (Lvl := ℕ) (Val := Elt F) spec0 c ∗ (emp : sProp 𝕄)) := by
  show phiF V c 4 ⊢ _
  rw [scopedRest0_split]
  unfold phiF
  iintro ⟨⟨%X, -, HX⟩, Hr⟩
  isplitl
  · isplitl [HX]
    · iexists X
      iapply (Entails.of_eq (owns_whole (c : Thread nD τ) cc0_scratch0 fullShare X)) $$ HX
    iexact Hr
  iempintro

/-- The arrays the region leaves. -/
theorem finalF_6 : (datF V c).arrAt 6 cfg0.N = rowArr (F := F) (e := .f32) (seqF V).O := by
  refine (datF V c).arrAt_eq_of_covers 6 _ (by decide +kernel) fun t _ y => ?_
  refine rowBlk_eq (F := F) (e := .f32) (seqF V).O t.val y _ ?_ ?_ <;> blk_simp [idxF t] <;> rfl
theorem finalF_7 : (datF V c).arrAt 7 cfg0.N = rowArr (F := F) (e := .bf16) (seqF V).Vn := by
  refine (datF V c).arrAt_eq_of_covers 7 _ (by decide +kernel) fun t _ y => ?_
  refine rowBlk_eq (F := F) (e := .bf16) (seqF V).Vn t.val y _ ?_ ?_ <;> blk_simp [idxF t] <;> rfl
theorem finalF_8 : (datF V c).arrAt 8 cfg0.N = tileArr (F := F) (e := .f32) (c := 128) (d := 128) (fun k h => spV ((seqF V).G k h)) := by
  refine (datF V c).arrAt_eq_of_covers 8 _ (by decide +kernel) fun t _ y => ?_
  refine tileBlk_eq (F := F) (e := .f32) (c := 128) (d := 128) (fun k h => spV ((seqF V).G k h)) t.val y _ ?_ ?_ ?_ ?_ <;> blk_simp [idxF t] <;> rfl

end Cert.Scan

end
-- ==== Proof.ScanBwdBody.lean ====
/- The backward scan's kernel body as sixteen chunk steps of four heads, last chunk first: the printed body is the steps in order. -/
module

public import proofs.«01_k».proof.Proof.ScanFwdBody

@[expose] public section

set_option maxRecDepth 16384

noncomputable section

namespace Cert.Scan

open Idealize.ShloMosaic Idealize.ShloMosaic.TcCoe Idealize.ShloMosaic.Tactic
open Idealize.SL.Sem
open Cert.KernelIdeal Cert.KernelIdeal.Gen

variable {F : FTy → Type} [FloatOps F]

/-! ## The values a step computes -/

abbrev sq (x : Vec F S1x128x128 .f32) : FVec F S128x128 .f32 := shapeCast S128x128 x shapeCasts_S1x128x128_S128x128
abbrev sq4 (x : Vec F S1x1x128x128 .f32) : FVec F S128x128 .f32 := shapeCast S128x128 x shapeCasts_S1x1x128x128_S128x128
abbrev b16 {s : Shape} (x : FVec F s .f32) : FVec F s .bf16 := truncf .bf16 x bitsLt_bf16_f32

/-- The gradient of the chunk's new values. -/
def dvnV (ds : Vec F S1x128x128 .f32) (d : Vec F S64x128 .f32) (a : Vec F S1x1x64x64 .f32) (kt : Vec F S64x128 .bf16) : FVec F S64x128 .f32 :=
  addf (matmul dot_S64x64_S64x128_S64x128_0_0_1_1_n_n none (b16 (shapeCast S64x64 a shapeCasts_S1x1x64x64_S64x64 : FVec F S64x64 .f32)) (b16 (show FVec F S64x128 .f32 from d)) (constant S64x128 .f32 0x00000000#32))
    (matmul dot_S64x128_S128x128_S64x128_1_0_0_1_n_n none kt (b16 (sq ds)) (constant S64x128 .f32 0x00000000#32))
/-- The gradient of the decay-weighted queries. -/
def dqdV (d : Vec F S64x128 .f32) (sp : Vec F S1x1x128x128 .f32) : FVec F S64x128 .f32 :=
  matmul dot_S64x128_S128x128_S64x128_1_1_0_0_n_n none (b16 (show FVec F S64x128 .f32 from d)) (b16 (sq4 sp)) (constant S64x128 .f32 0x00000000#32)
/-- The gradient of the chunk's attention. -/
def datV (d : Vec F S64x128 .f32) (vn : Vec F S64x128 .bf16) : FVec F S1x1x64x64 .f32 :=
  shapeCast S1x1x64x64 (matmul dot_S64x128_S64x128_S64x64_1_1_0_0_n_n none (b16 (show FVec F S64x128 .f32 from d)) (shapeCast S64x128 vn shapeCasts_S64x128_S64x128 : FVec F S64x128 .bf16) (constant S64x64 .f32 0x00000000#32)) shapeCasts_S64x64_S1x1x64x64
/-- The gradient of the decay-weighted keys of the state. -/
def dktV (vn : Vec F S64x128 .bf16) (ds : Vec F S1x128x128 .f32) : FVec F S64x128 .f32 :=
  matmul dot_S64x128_S128x128_S64x128_1_1_0_0_n_n none (shapeCast S64x128 vn shapeCasts_S64x128_S64x128 : FVec F S64x128 .bf16) (b16 (sq ds)) (constant S64x128 .f32 0x00000000#32)
/-- The gradient of the chunk's decay, in every lane. -/
def dglV (sp : Vec F S1x1x128x128 .f32) (ds : Vec F S1x128x128 .f32) : FVec F S1x1x1x128 .f32 :=
  shapeCast S1x1x1x128 (broadcastTo S1x128 (shapeCast S1x1 (shapeCast S1x1
    (multiReduction .add [0] S1 (shapeCast S128x1
      (multiReduction .add [1] S128 (mulf (sq4 sp) (sq ds)) 0x00000000#32 reduces_S128x128_S128 (.inl rfl) rfl) shapeCasts_S128_S128x1 : FVec F S128x1 .f32) 0x00000000#32 reduces_S128x1_S1 (.inl rfl) rfl)
    shapeCasts_S1_S1x1 : FVec F S1x1 .f32) shapeCasts_S1x1_S1x1 : FVec F S1x1 .f32) broadcasts_S1x1_S1x128 : FVec F S1x128 .f32) shapeCasts_S1x128_S1x1x1x128
/-- The output's part of the state's gradient. -/
def qdoV (qd : Vec F S64x128 .bf16) (d : Vec F S64x128 .f32) : FVec F S128x128 .f32 :=
  matmul dot_S64x128_S64x128_S128x128_0_0_1_1_n_n none qd (b16 (show FVec F S64x128 .f32 from d)) (constant S128x128 .f32 0x00000000#32)
/-- The gradient of the decay-weighted keys. -/
def dwV (dvn : FVec F S64x128 .f32) (sp : Vec F S1x1x128x128 .f32) : FVec F S64x128 .f32 :=
  subf (broadcast S64x128 (Scalar.ofBits .f32 0x00000000#32) : FVec F S64x128 .f32)
    (matmul dot_S64x128_S128x128_S64x128_1_1_0_0_n_n none (b16 dvn) (b16 (sq4 sp)) (constant S64x128 .f32 0x00000000#32))
/-- The gradient of the state the chunk was handed. -/
def dsV (ds : Vec F S1x128x128 .f32) (gl : Vec F S1x1x1x128 .f32) (qdo : FVec F S128x128 .f32) (w : Vec F S64x128 .bf16) (dvn : FVec F S64x128 .f32) : FVec F S1x128x128 .f32 :=
  shapeCast S1x128x128
    (subf (addf qdo (mulf (sq ds) (broadcastTo S128x128 (shapeCast S1x128 gl shapeCasts_S1x1x1x128_S1x128 : FVec F S1x128 .f32) broadcasts_S1x128_S128x128)))
      (matmul dot_S64x128_S64x128_S128x128_0_0_1_1_n_n none w (b16 dvn) (constant S128x128 .f32 0x00000000#32)) : FVec F S128x128 .f32) shapeCasts_S128x128_S1x128x128

/-! ## The steps -/

section Steps
variable (arg1 : Memref sig .tc .vmem S1024x512 .f32) (harg1 : arg1.IsWhole) (arg2 : Memref sig .tc .vmem S16x4x128x128 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S16x4x64x64 .f32) (harg7 : arg7.IsWhole) (arg8 : Memref sig .tc .vmem S16x4x1x128 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S16x4x64x64 .f32) (harg13 : arg13.IsWhole) (arg14 : Memref sig .tc .vmem S16x4x1x128 .f32) (harg14 : arg14.IsWhole) (arg15 : Memref sig .tc .vmem S4x128x128 .f32) (harg15 : arg15.IsWhole)

/-- The first half of a head's step. -/
def bwdA {c h : ℕ} (hc : c < 16) (hh : h < 4) : Prog (TpuEff nD τ sig (Elt F) Λ₀ .tc) (Vec F S1x128x128 .f32 × Vec F S1x1x128x128 .f32 × FVec F S64x128 .f32 × FVec F S128x128 .f32) := do
  let ds : Vec F S1x128x128 .f32 ← Prog.lift (.load arg15 (stR hh).toLoadRect (View.loadsAt_vmem h_S1x128x128))
  let sp : Vec F S1x1x128x128 .f32 ← Prog.lift (.load arg2 (spR hc hh).toLoadRect (View.loadsAt_vmem h_S1x1x128x128))
  let d : Vec F S64x128 .f32 ← Prog.lift (.load arg1 (rowR hc hh).toLoadRect (View.loadsAt_vmem h_S64x128))
  let vn : Vec F S64x128 .bf16 ← Prog.lift (.load arg6 (rowR hc hh).toLoadRect (View.loadsAt_vmem h_S64x128))
  let a : Vec F S1x1x64x64 .f32 ← Prog.lift (.load arg7 (sqR hc hh).toLoadRect (View.loadsAt_vmem h_S1x1x64x64))
  let kt : Vec F S64x128 .bf16 ← Prog.lift (.load arg4 (rowR hc hh).toLoadRect (View.loadsAt_vmem h_S64x128))
  let _old : Vec F S64x128 .f32 ← Prog.lift (.load arg9 (rowR hc hh).toLoadRect (View.loadsAt_vmem h_S64x128))
  Prog.lift (.store arg9 (rowR hc hh) (dvnV ds d a kt) Finset.univ (View.stores_vmem_bits_univ h_S64x128 rfl) (.inl rfl))
  let _old : Vec F S64x128 .f32 ← Prog.lift (.load arg10 (rowR hc hh).toLoadRect (View.loadsAt_vmem h_S64x128))
  Prog.lift (.store arg10 (rowR hc hh) (dqdV d sp) Finset.univ (View.stores_vmem_bits_univ h_S64x128 rfl) (.inl rfl))
  let _old : Vec F S1x1x64x64 .f32 ← Prog.lift (.load arg13 (sqR hc hh).toLoadRect (View.loadsAt_vmem h_S1x1x64x64))
  Prog.lift (.store arg13 (sqR hc hh) (datV d vn) Finset.univ (View.stores_vmem_bits_univ h_S1x1x64x64 rfl) (.inl rfl))
  let _old : Vec F S64x128 .f32 ← Prog.lift (.load arg11 (rowR hc hh).toLoadRect (View.loadsAt_vmem h_S64x128))
  Prog.lift (.store arg11 (rowR hc hh) (dktV vn ds) Finset.univ (View.stores_vmem_bits_univ h_S64x128 rfl) (.inl rfl))
  let _old : Vec F S1x1x1x128 .f32 ← Prog.lift (.load arg14 (glR hc hh).toLoadRect (View.loadsAt_vmem h_S1x1x1x128))
  Prog.lift (.store arg14 (glR hc hh) (dglV sp ds) Finset.univ (View.stores_vmem_bits_univ h_S1x1x1x128 rfl) (.inl rfl))
  let qd : Vec F S64x128 .bf16 ← Prog.lift (.load arg3 (rowR hc hh).toLoadRect (View.loadsAt_vmem h_S64x128))
  pure (ds, sp, dvnV ds d a kt, qdoV qd d)

/-- The second half. -/
def bwdB {c h : ℕ} (hc : c < 16) (hh : h < 4) (r : Vec F S1x128x128 .f32 × Vec F S1x1x128x128 .f32 × FVec F S64x128 .f32 × FVec F S128x128 .f32) : Prog (TpuEff nD τ sig (Elt F) Λ₀ .tc) PUnit := do
  let _old : Vec F S64x128 .f32 ← Prog.lift (.load arg12 (rowR hc hh).toLoadRect (View.loadsAt_vmem h_S64x128))
  Prog.lift (.store arg12 (rowR hc hh) (dwV r.2.2.1 r.2.1) Finset.univ (View.stores_vmem_bits_univ h_S64x128 rfl) (.inl rfl))
  let gl : Vec F S1x1x1x128 .f32 ← Prog.lift (.load arg8 (glR hc hh).toLoadRect (View.loadsAt_vmem h_S1x1x1x128))
  let w : Vec F S64x128 .bf16 ← Prog.lift (.load arg5 (rowR hc hh).toLoadRect (View.loadsAt_vmem h_S64x128))
  let _old : Vec F S1x128x128 .f32 ← Prog.lift (.load arg15 (stR hh).toLoadRect (View.loadsAt_vmem h_S1x128x128))
  Prog.lift (.store arg15 (stR hh) (dsV r.1 gl r.2.2.2 w r.2.2.1) Finset.univ (View.stores_vmem_bits_univ h_S1x128x128 rfl) (.inl rfl))

/-- One chunk: the four heads' first halves, then their second halves. -/
def bwdChunk {c : ℕ} (hc : c < 16) : Prog (TpuEff nD τ sig (Elt F) Λ₀ .tc) PUnit := do
  let r0 ← bwdA (F := F) arg1 arg2 arg3 arg4 arg6 arg7 arg9 arg10 arg11 arg13 arg14 arg15 hc (show 0 < 4 by decide)
  let r1 ← bwdA (F := F) arg1 arg2 arg3 arg4 arg6 arg7 arg9 arg10 arg11 arg13 arg14 arg15 hc (show 1 < 4 by decide)
  let r2 ← bwdA (F := F) arg1 arg2 arg3 arg4 arg6 arg7 arg9 arg10 arg11 arg13 arg14 arg15 hc (show 2 < 4 by decide)
  let r3 ← bwdA (F := F) arg1 arg2 arg3 arg4 arg6 arg7 arg9 arg10 arg11 arg13 arg14 arg15 hc (show 3 < 4 by decide)
  bwdB (F := F) arg5 arg8 arg12 arg15 hc (show 0 < 4 by decide) r0
  bwdB (F := F) arg5 arg8 arg12 arg15 hc (show 1 < 4 by decide) r1
  bwdB (F := F) arg5 arg8 arg12 arg15 hc (show 2 < 4 by decide) r2
  bwdB (F := F) arg5 arg8 arg12 arg15 hc (show 3 < 4 by decide) r3

/-- The first `n` chunks, the last of them first. -/
def bwdFrom : (n : ℕ) → (hn : n ≤ 16) → Prog (TpuEff nD τ sig (Elt F) Λ₀ .tc) PUnit
  | 0, _ => pure ⟨⟩
  | n + 1, hn => do
    bwdChunk (F := F) arg1 arg2 arg3 arg4 arg5 arg6 arg7 arg8 arg9 arg10 arg11 arg12 arg13 arg14 arg15 (c := n) (Nat.lt_of_succ_le hn)
    bwdFrom n (Nat.le_of_succ_le hn)

abbrev first1 (i : grid1.Coords) : Prop := (Scalar.cmpi .ne (Scalar.extui (Scalar.cmpi .eq (BitVec.ofNat 32 (i 0).val) 0#32)) 0#32) = 1#1

theorem bwd_body_first (i : grid1.Coords) (hi : first1 i) :
    cc1_dn_scan_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15
      = (do fwdZero (F := F) arg15
            bwdFrom (F := F) arg1 arg2 arg3 arg4 arg5 arg6 arg7 arg8 arg9 arg10 arg11 arg12 arg13 arg14 arg15 16 le_rfl) := by
  unfold cc1_dn_scan_bwd k1_part124 k1_part1
  rw [dif_pos hi]
  sl_kernel_rfl

theorem bwd_body_later (i : grid1.Coords) (hi : ¬first1 i) :
    cc1_dn_scan_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15
      = bwdFrom (F := F) arg1 arg2 arg3 arg4 arg5 arg6 arg7 arg8 arg9 arg10 arg11 arg12 arg13 arg14 arg15 16 le_rfl := by
  unfold cc1_dn_scan_bwd k1_part124 k1_part1
  rw [dif_neg hi]
  sl_kernel_rfl

end Steps
end Cert.Scan
end
-- ==== Proof.ScanBwdRun.lean ====
/- What each step of the backward scan's body leaves in the buffers it holds. -/
module

public import proofs.«01_k».proof.Proof.ScanBwdBody
public import proofs.«01_k».proof.Proof.ScanFwdRun

@[expose] public section

set_option maxRecDepth 16384

noncomputable section

namespace Cert.Scan

open Idealize.ShloMosaic Idealize.ShloMosaic.TcCoe Idealize.ShloMosaic.Tactic
open Idealize.SL
open Idealize.SL.BI (sProp bigSep)
open scoped Idealize.SL.BI
open Idealize.SL.BI.BIBase Idealize.SL.BI.Laws Idealize.SL.Sem Idealize.SL.ProofMode
open Idealize.SL.RA
open Cert.KernelIdeal Cert.KernelIdeal.Gen

variable {F : FTy → Type} [FloatOps F]

local notation "𝕄" => MT nD τ sig Unit (Elt F) ℕ (UR sig nD τ) ℕ

/-- What the backward scan's body reads. -/
structure BwdIn (F : FTy → Type) where
  d : S1024x512.Idx → Elt F .f32
  sp : S16x4x128x128.Idx → Elt F .f32
  qd : S1024x512.Idx → Elt F .bf16
  kt : S1024x512.Idx → Elt F .bf16
  w : S1024x512.Idx → Elt F .bf16
  vn : S1024x512.Idx → Elt F .bf16
  at' : S16x4x64x64.Idx → Elt F .f32
  gl : S16x4x1x128.Idx → Elt F .f32

/-- What it writes. -/
structure BwdOut (F : FTy → Type) where
  du : S1024x512.Idx → Elt F .f32
  dqd : S1024x512.Idx → Elt F .f32
  dkt : S1024x512.Idx → Elt F .f32
  dw : S1024x512.Idx → Elt F .f32
  dat : S16x4x64x64.Idx → Elt F .f32
  dgl : S16x4x1x128.Idx → Elt F .f32

/-- The chunks the backward scan goes over, head by head. -/
structure BwdSeq (F : FTy → Type) where
  Do : ℕ → ℕ → Vec F S64x128 .f32
  Sp : ℕ → ℕ → Vec F S1x1x128x128 .f32
  Qd : ℕ → ℕ → Vec F S64x128 .bf16
  Kt : ℕ → ℕ → Vec F S64x128 .bf16
  W : ℕ → ℕ → Vec F S64x128 .bf16
  Vn : ℕ → ℕ → Vec F S64x128 .bf16
  At : ℕ → ℕ → Vec F S1x1x64x64 .f32
  Gl : ℕ → ℕ → Vec F S1x1x1x128 .f32

/-- The state's gradient after the last `j` of the sixty-four chunks. -/
def BwdSeq.D (σ : BwdSeq F) : ℕ → ℕ → Vec F S1x128x128 .f32
  | 0, _ => stZero
  | j + 1, h => dsV (σ.D j h) (σ.Gl (63 - j) h) (qdoV (σ.Qd (63 - j) h) (σ.Do (63 - j) h)) (σ.W (63 - j) h)
      (dvnV (σ.D j h) (σ.Do (63 - j) h) (σ.At (63 - j) h) (σ.Kt (63 - j) h))
/-- The gradient of the state that chunk `n` hands on. -/
def BwdSeq.E (σ : BwdSeq F) (n h : ℕ) : Vec F S1x128x128 .f32 := σ.D (63 - n) h
def BwdSeq.Dvn (σ : BwdSeq F) (n h : ℕ) : Vec F S64x128 .f32 := dvnV (σ.E n h) (σ.Do n h) (σ.At n h) (σ.Kt n h)
def BwdSeq.Dqd (σ : BwdSeq F) (n h : ℕ) : Vec F S64x128 .f32 := dqdV (σ.Do n h) (σ.Sp n h)
def BwdSeq.Dkt (σ : BwdSeq F) (n h : ℕ) : Vec F S64x128 .f32 := dktV (σ.Vn n h) (σ.E n h)
def BwdSeq.Dw (σ : BwdSeq F) (n h : ℕ) : Vec F S64x128 .f32 := dwV (σ.Dvn n h) (σ.Sp n h)
def BwdSeq.Dat (σ : BwdSeq F) (n h : ℕ) : Vec F S1x1x64x64 .f32 := datV (σ.Do n h) (σ.Vn n h)
def BwdSeq.Dgl (σ : BwdSeq F) (n h : ℕ) : Vec F S1x1x1x128 .f32 := dglV (σ.Sp n h) (σ.E n h)

theorem BwdSeq.D_succ (σ : BwdSeq F) {n : ℕ} (hn : n < 64) (h : ℕ) : σ.D (64 - n) h = dsV (σ.E n h) (σ.Gl n h) (qdoV (σ.Qd n h) (σ.Do n h)) (σ.W n h) (σ.Dvn n h) := by
  obtain ⟨j, hj, rfl⟩ : ∃ j, j < 64 ∧ n = 63 - j := ⟨63 - n, by omega, by omega⟩
  have e1 : 64 - (63 - j) = j + 1 := by omega
  have e2 : 63 - (63 - j) = j := by omega
  unfold BwdSeq.Dvn BwdSeq.E
  rw [e1, e2]
  rfl

/-- The block's inputs are the sequences' chunks from `b` on. -/
structure BwdIn.Of (I : BwdIn F) (σ : BwdSeq F) (b : ℕ) : Prop where
  d : ∀ k h (hc : k < 16) (hh : h < 4), get I.d (rowR hc hh) = σ.Do (b + k) h
  sp : ∀ k h (hc : k < 16) (hh : h < 4), get I.sp (spR hc hh) = σ.Sp (b + k) h
  qd : ∀ k h (hc : k < 16) (hh : h < 4), get I.qd (rowR hc hh) = σ.Qd (b + k) h
  kt : ∀ k h (hc : k < 16) (hh : h < 4), get I.kt (rowR hc hh) = σ.Kt (b + k) h
  w : ∀ k h (hc : k < 16) (hh : h < 4), get I.w (rowR hc hh) = σ.W (b + k) h
  vn : ∀ k h (hc : k < 16) (hh : h < 4), get I.vn (rowR hc hh) = σ.Vn (b + k) h
  at' : ∀ k h (hc : k < 16) (hh : h < 4), get I.at' (sqR hc hh) = σ.At (b + k) h
  gl : ∀ k h (hc : k < 16) (hh : h < 4), get I.gl (glR hc hh) = σ.Gl (b + k) h

/-- After the block's chunks from `n` on: their rows hold the chunks' values, the scratch holds the state's gradient. -/
structure BwdInv (σ : BwdSeq F) (b n : ℕ) (O : BwdOut F) (s : S4x128x128.Idx → Elt F .f32) : Prop where
  du : ∀ k h (hc : k < 16) (hh : h < 4), n ≤ k → get O.du (rowR hc hh) = σ.Dvn (b + k) h
  dqd : ∀ k h (hc : k < 16) (hh : h < 4), n ≤ k → get O.dqd (rowR hc hh) = σ.Dqd (b + k) h
  dkt : ∀ k h (hc : k < 16) (hh : h < 4), n ≤ k → get O.dkt (rowR hc hh) = σ.Dkt (b + k) h
  dw : ∀ k h (hc : k < 16) (hh : h < 4), n ≤ k → get O.dw (rowR hc hh) = σ.Dw (b + k) h
  dat : ∀ k h (hc : k < 16) (hh : h < 4), n ≤ k → get O.dat (sqR hc hh) = σ.Dat (b + k) h
  dgl : ∀ k h (hc : k < 16) (hh : h < 4), n ≤ k → get O.dgl (glR hc hh) = σ.Dgl (b + k) h
  s : ∀ h (hh : h < 4), get s (stR hh) = σ.D (64 - (b + n)) h

section Steps
variable (c : Dev nD)
variable (arg1 : Memref sig .tc .vmem S1024x512 .f32) (harg1 : arg1.IsWhole) (arg2 : Memref sig .tc .vmem S16x4x128x128 .f32) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S16x4x64x64 .f32) (harg7 : arg7.IsWhole) (arg8 : Memref sig .tc .vmem S16x4x1x128 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x512 .f32) (harg11 : arg11.IsWhole) (arg12 : Memref sig .tc .vmem S1024x512 .f32) (harg12 : arg12.IsWhole) (arg13 : Memref sig .tc .vmem S16x4x64x64 .f32) (harg13 : arg13.IsWhole) (arg14 : Memref sig .tc .vmem S16x4x1x128 .f32) (harg14 : arg14.IsWhole) (arg15 : Memref sig .tc .vmem S4x128x128 .f32) (harg15 : arg15.IsWhole)

/-- The fifteen buffers of the backward scan's body, held at their contents. -/
def bwdBufs (I : BwdIn F) (O : BwdOut F) (s : S4x128x128.Idx → Elt F .f32) : sProp 𝕄 :=
  iprop(owns (c : Thread nD τ) arg1 fullShare I.d ∗ owns (c : Thread nD τ) arg2 fullShare I.sp ∗ owns (c : Thread nD τ) arg3 fullShare I.qd ∗ owns (c : Thread nD τ) arg4 fullShare I.kt ∗ owns (c : Thread nD τ) arg5 fullShare I.w ∗ owns (c : Thread nD τ) arg6 fullShare I.vn ∗ owns (c : Thread nD τ) arg7 fullShare I.at' ∗ owns (c : Thread nD τ) arg8 fullShare I.gl ∗ owns (c : Thread nD τ) arg9 fullShare O.du ∗ owns (c : Thread nD τ) arg10 fullShare O.dqd ∗ owns (c : Thread nD τ) arg11 fullShare O.dkt ∗ owns (c : Thread nD τ) arg12 fullShare O.dw ∗ owns (c : Thread nD τ) arg13 fullShare O.dat ∗ owns (c : Thread nD τ) arg14 fullShare O.dgl ∗ owns (c : Thread nD τ) arg15 fullShare s)

include harg1 harg2 harg3 harg4 harg5 harg6 harg7 harg8 harg9 harg10 harg11 harg12 harg13 harg14 harg15

theorem bwdA_spec {k h : ℕ} (hc : k < 16) (hh : h < 4) (I : BwdIn F) (O s) (Q : _ → sProp 𝕄) :
    iprop(bwdBufs c arg1 arg2 arg3 arg4 arg5 arg6 arg7 arg8 arg9 arg10 arg11 arg12 arg13 arg14 arg15 I O s
        ∗ (bwdBufs c arg1 arg2 arg3 arg4 arg5 arg6 arg7 arg8 arg9 arg10 arg11 arg12 arg13 arg14 arg15 I ⟨put O.du (rowR hc hh) (dvnV (get s (stR hh)) (get I.d (rowR hc hh)) (get I.at' (sqR hc hh)) (get I.kt (rowR hc hh))),
              put O.dqd (rowR hc hh) (dqdV (get I.d (rowR hc hh)) (get I.sp (spR hc hh))),
              put O.dkt (rowR hc hh) (dktV (get I.vn (rowR hc hh)) (get s (stR hh))), O.dw,
              put O.dat (sqR hc hh) (datV (get I.d (rowR hc hh)) (get I.vn (rowR hc hh))),
              put O.dgl (glR hc hh) (dglV (get I.sp (spR hc hh)) (get s (stR hh)))⟩ s -∗ Q (get s (stR hh), get I.sp (spR hc hh), dvnV (get s (stR hh)) (get I.d (rowR hc hh)) (get I.at' (sqR hc hh)) (get I.kt (rowR hc hh)), qdoV (get I.qd (rowR hc hh)) (get I.d (rowR hc hh)))))
      ⊢ wp frame (wpE (defs₀ (F := F)) Variants.none (c : Thread nD τ) none) Set.univ (bwdA (F := F) arg1 arg2 arg3 arg4 arg6 arg7 arg9 arg10 arg11 arg13 arg14 arg15 hc hh) Q := by
  unfold bwdA
  unfold bwdBufs
  iintro ⟨⟨H1, H2, H3, H4, H5, H6, H7, H8, H9, H10, H11, H12, H13, H14, H15⟩, K⟩
  iapply (ld c arg15 harg15 _ _ _ _ _) $$ [-]
  isplitl [H15]; · iexact H15
  iintro H15
  iapply (ld c arg2 harg2 _ _ _ _ _) $$ [-]
  isplitl [H2]; · iexact H2
  iintro H2
  iapply (ld c arg1 harg1 _ _ _ _ _) $$ [-]
  isplitl [H1]; · iexact H1
  iintro H1
  iapply (ld c arg6 harg6 _ _ _ _ _) $$ [-]
  isplitl [H6]; · iexact H6
  iintro H6
  iapply (ld c arg7 harg7 _ _ _ _ _) $$ [-]
  isplitl [H7]; · iexact H7
  iintro H7
  iapply (ld c arg4 harg4 _ _ _ _ _) $$ [-]
  isplitl [H4]; · iexact H4
  iintro H4
  iapply (ld c arg9 harg9 _ _ _ _ _) $$ [-]
  isplitl [H9]; · iexact H9
  iintro H9
  iapply (st c arg9 harg9 _ _ _ _ _ _ _) $$ [-]
  isplitl [H9]; · iexact H9
  iintro H9
  iapply (ld c arg10 harg10 _ _ _ _ _) $$ [-]
  isplitl [H10]; · iexact H10
  iintro H10
  iapply (st c arg10 harg10 _ _ _ _ _ _ _) $$ [-]
  isplitl [H10]; · iexact H10
  iintro H10
  iapply (ld c arg13 harg13 _ _ _ _ _) $$ [-]
  isplitl [H13]; · iexact H13
  iintro H13
  iapply (st c arg13 harg13 _ _ _ _ _ _ _) $$ [-]
  isplitl [H13]; · iexact H13
  iintro H13
  iapply (ld c arg11 harg11 _ _ _ _ _) $$ [-]
  isplitl [H11]; · iexact H11
  iintro H11
  iapply (st c arg11 harg11 _ _ _ _ _ _ _) $$ [-]
  isplitl [H11]; · iexact H11
  iintro H11
  iapply (ld c arg14 harg14 _ _ _ _ _) $$ [-]
  isplitl [H14]; · iexact H14
  iintro H14
  iapply (st c arg14 harg14 _ _ _ _ _ _ _) $$ [-]
  isplitl [H14]; · iexact H14
  iintro H14
  iapply (ld c arg3 harg3 _ _ _ _ _) $$ [-]
  isplitl [H3]; · iexact H3
  iintro H3
  iapply (le_wp_ret _ _ _ _ _) $$ [-]
  iapply K $$ [-]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem bwdB_spec {k h : ℕ} (hc : k < 16) (hh : h < 4) (I : BwdIn F) (O s r) (Q : _ → sProp 𝕄) :
    iprop(bwdBufs c arg1 arg2 arg3 arg4 arg5 arg6 arg7 arg8 arg9 arg10 arg11 arg12 arg13 arg14 arg15 I O s
        ∗ (bwdBufs c arg1 arg2 arg3 arg4 arg5 arg6 arg7 arg8 arg9 arg10 arg11 arg12 arg13 arg14 arg15 I { O with dw := put O.dw (rowR hc hh) (dwV r.2.2.1 r.2.1) }
            (put s (stR hh) (dsV r.1 (get I.gl (glR hc hh)) r.2.2.2 (get I.w (rowR hc hh)) r.2.2.1)) -∗ Q ⟨⟩))
      ⊢ wp frame (wpE (defs₀ (F := F)) Variants.none (c : Thread nD τ) none) Set.univ (bwdB (F := F) arg5 arg8 arg12 arg15 hc hh r) Q := by
  unfold bwdB
  unfold bwdBufs
  iintro ⟨⟨H1, H2, H3, H4, H5, H6, H7, H8, H9, H10, H11, H12, H13, H14, H15⟩, K⟩
  iapply (ld c arg12 harg12 _ _ _ _ _) $$ [-]
  isplitl [H12]; · iexact H12
  iintro H12
  iapply (st c arg12 harg12 _ _ _ _ _ _ _) $$ [-]
  isplitl [H12]; · iexact H12
  iintro H12
  iapply (ld c arg8 harg8 _ _ _ _ _) $$ [-]
  isplitl [H8]; · iexact H8
  iintro H8
  iapply (ld c arg5 harg5 _ _ _ _ _) $$ [-]
  isplitl [H5]; · iexact H5
  iintro H5
  iapply (ld c arg15 harg15 _ _ _ _ _) $$ [-]
  isplitl [H15]; · iexact H15
  iintro H15
  iapply (st' c arg15 harg15 _ _ _ _ _ _) $$ [-]
  isplitl [H15]; · iexact H15
  iintro H15
  iapply K $$ [-]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem bwdChunk_spec {n : ℕ} (hn : n < 16) (I : BwdIn F) (σ : BwdSeq F) (b : ℕ) (hb : b ≤ 48) (hI : I.Of σ b) (O s) (hi : BwdInv σ b (n + 1) O s) (Q : _ → sProp 𝕄) :
    iprop(bwdBufs c arg1 arg2 arg3 arg4 arg5 arg6 arg7 arg8 arg9 arg10 arg11 arg12 arg13 arg14 arg15 I O s
        ∗ (∀ O' s', ⌜BwdInv σ b n O' s'⌝ -∗ bwdBufs c arg1 arg2 arg3 arg4 arg5 arg6 arg7 arg8 arg9 arg10 arg11 arg12 arg13 arg14 arg15 I O' s' -∗ Q ⟨⟩))
      ⊢ wp frame (wpE (defs₀ (F := F)) Variants.none (c : Thread nD τ) none) Set.univ (bwdChunk (F := F) arg1 arg2 arg3 arg4 arg5 arg6 arg7 arg8 arg9 arg10 arg11 arg12 arg13 arg14 arg15 hn) Q := by
  unfold bwdChunk
  iintro ⟨H, K⟩
  rw [wp_bind]
  iapply (bwdA_spec c arg1 harg1 arg2 harg2 arg3 harg3 arg4 harg4 arg5 harg5 arg6 harg6 arg7 harg7 arg8 harg8 arg9 harg9 arg10 harg10 arg11 harg11 arg12 harg12 arg13 harg13 arg14 harg14 arg15 harg15 hn _ I _ _ _) $$ [-]
  isplitl [H]; · iexact H
  iintro H
  rw [wp_bind]
  iapply (bwdA_spec c arg1 harg1 arg2 harg2 arg3 harg3 arg4 harg4 arg5 harg5 arg6 harg6 arg7 harg7 arg8 harg8 arg9 harg9 arg10 harg10 arg11 harg11 arg12 harg12 arg13 harg13 arg14 harg14 arg15 harg15 hn _ I _ _ _) $$ [-]
  isplitl [H]; · iexact H
  iintro H
  rw [wp_bind]
  iapply (bwdA_spec c arg1 harg1 arg2 harg2 arg3 harg3 arg4 harg4 arg5 harg5 arg6 harg6 arg7 harg7 arg8 harg8 arg9 harg9 arg10 harg10 arg11 harg11 arg12 harg12 arg13 harg13 arg14 harg14 arg15 harg15 hn _ I _ _ _) $$ [-]
  isplitl [H]; · iexact H
  iintro H
  rw [wp_bind]
  iapply (bwdA_spec c arg1 harg1 arg2 harg2 arg3 harg3 arg4 harg4 arg5 harg5 arg6 harg6 arg7 harg7 arg8 harg8 arg9 harg9 arg10 harg10 arg11 harg11 arg12 harg12 arg13 harg13 arg14 harg14 arg15 harg15 hn _ I _ _ _) $$ [-]
  isplitl [H]; · iexact H
  iintro H
  rw [wp_bind]
  iapply (bwdB_spec c arg1 harg1 arg2 harg2 arg3 harg3 arg4 harg4 arg5 harg5 arg6 harg6 arg7 harg7 arg8 harg8 arg9 harg9 arg10 harg10 arg11 harg11 arg12 harg12 arg13 harg13 arg14 harg14 arg15 harg15 hn _ I _ _ _ _) $$ [-]
  isplitl [H]; · iexact H
  iintro H
  rw [wp_bind]
  iapply (bwdB_spec c arg1 harg1 arg2 harg2 arg3 harg3 arg4 harg4 arg5 harg5 arg6 harg6 arg7 harg7 arg8 harg8 arg9 harg9 arg10 harg10 arg11 harg11 arg12 harg12 arg13 harg13 arg14 harg14 arg15 harg15 hn _ I _ _ _ _) $$ [-]
  isplitl [H]; · iexact H
  iintro H
  rw [wp_bind]
  iapply (bwdB_spec c arg1 harg1 arg2 harg2 arg3 harg3 arg4 harg4 arg5 harg5 arg6 harg6 arg7 harg7 arg8 harg8 arg9 harg9 arg10 harg10 arg11 harg11 arg12 harg12 arg13 harg13 arg14 harg14 arg15 harg15 hn _ I _ _ _ _) $$ [-]
  isplitl [H]; · iexact H
  iintro H
  iapply (bwdB_spec c arg1 harg1 arg2 harg2 arg3 harg3 arg4 harg4 arg5 harg5 arg6 harg6 arg7 harg7 arg8 harg8 arg9 harg9 arg10 harg10 arg11 harg11 arg12 harg12 arg13 harg13 arg14 harg14 arg15 harg15 hn _ I _ _ _ _) $$ [-]
  isplitl [H]; · iexact H
  iintro H
  iapply K $$ [] [H]
  rotate_left
  · iexact H
  ipureintro
  have e1 := hI.d n; have e2 := hI.sp n; have e3 := hI.qd n; have e4 := hI.kt n; have e5 := hI.w n; have e6 := hI.vn n; have e7 := hI.at' n; have e8 := hI.gl n
  have es : ∀ h (hh : h < 4), get s (stR hh) = σ.E (b + n) h := fun h hh => by
    rw [hi.s h hh]; unfold BwdSeq.E
    rw [show 64 - (b + (n + 1)) = 63 - (b + n) by omega]
  refine ⟨?_, ?_, ?_, ?_, ?_, ?_, ?_⟩
  · intro k h hc hh hk
    simp only [get_put_row, e1, e2, e3, e4, e5, e6, e7, e8, es]
    split_ifs with q3 q2 q1 q0
    · obtain ⟨rfl, rfl⟩ := q3; rfl
    · obtain ⟨rfl, rfl⟩ := q2; rfl
    · obtain ⟨rfl, rfl⟩ := q1; rfl
    · obtain ⟨rfl, rfl⟩ := q0; rfl
    · exact hi.du k h hc hh (by omega)
  · intro k h hc hh hk
    simp only [get_put_row, e1, e2, e3, e4, e5, e6, e7, e8, es]
    split_ifs with q3 q2 q1 q0
    · obtain ⟨rfl, rfl⟩ := q3; rfl
    · obtain ⟨rfl, rfl⟩ := q2; rfl
    · obtain ⟨rfl, rfl⟩ := q1; rfl
    · obtain ⟨rfl, rfl⟩ := q0; rfl
    · exact hi.dqd k h hc hh (by omega)
  · intro k h hc hh hk
    simp only [get_put_row, e1, e2, e3, e4, e5, e6, e7, e8, es]
    split_ifs with q3 q2 q1 q0
    · obtain ⟨rfl, rfl⟩ := q3; rfl
    · obtain ⟨rfl, rfl⟩ := q2; rfl
    · obtain ⟨rfl, rfl⟩ := q1; rfl
    · obtain ⟨rfl, rfl⟩ := q0; rfl
    · exact hi.dkt k h hc hh (by omega)
  · intro k h hc hh hk
    simp only [get_put_row, e1, e2, e3, e4, e5, e6, e7, e8, es]
    split_ifs with q3 q2 q1 q0
    · obtain ⟨rfl, rfl⟩ := q3; rfl
    · obtain ⟨rfl, rfl⟩ := q2; rfl
    · obtain ⟨rfl, rfl⟩ := q1; rfl
    · obtain ⟨rfl, rfl⟩ := q0; rfl
    · exact hi.dw k h hc hh (by omega)
  · intro k h hc hh hk
    simp only [get_put_sq, e1, e2, e3, e4, e5, e6, e7, e8, es]
    split_ifs with q3 q2 q1 q0
    · obtain ⟨rfl, rfl⟩ := q3; rfl
    · obtain ⟨rfl, rfl⟩ := q2; rfl
    · obtain ⟨rfl, rfl⟩ := q1; rfl
    · obtain ⟨rfl, rfl⟩ := q0; rfl
    · exact hi.dat k h hc hh (by omega)
  · intro k h hc hh hk
    simp only [get_put_gl, e1, e2, e3, e4, e5, e6, e7, e8, es]
    split_ifs with q3 q2 q1 q0
    · obtain ⟨rfl, rfl⟩ := q3; rfl
    · obtain ⟨rfl, rfl⟩ := q2; rfl
    · obtain ⟨rfl, rfl⟩ := q1; rfl
    · obtain ⟨rfl, rfl⟩ := q0; rfl
    · exact hi.dgl k h hc hh (by omega)
  · intro h hh
    rw [σ.D_succ (by omega)]
    simp only [get_put_st, e1, e2, e3, e4, e5, e6, e7, e8, es]
    split_ifs with q3 q2 q1 q0
    · subst q3; rfl
    · subst q2; rfl
    · subst q1; rfl
    · subst q0; rfl
    · omega

theorem bwdFrom_spec (I : BwdIn F) (σ : BwdSeq F) (b : ℕ) (hb : b ≤ 48) (hI : I.Of σ b) (Q : _ → sProp 𝕄) : ∀ (n : ℕ) (hn : n ≤ 16) (O s) (hi : BwdInv σ b n O s),
    iprop(bwdBufs c arg1 arg2 arg3 arg4 arg5 arg6 arg7 arg8 arg9 arg10 arg11 arg12 arg13 arg14 arg15 I O s
        ∗ (∀ O' s', ⌜BwdInv σ b 0 O' s'⌝ -∗ bwdBufs c arg1 arg2 arg3 arg4 arg5 arg6 arg7 arg8 arg9 arg10 arg11 arg12 arg13 arg14 arg15 I O' s' -∗ Q ⟨⟩))
      ⊢ wp frame (wpE (defs₀ (F := F)) Variants.none (c : Thread nD τ) none) Set.univ (bwdFrom (F := F) arg1 arg2 arg3 arg4 arg5 arg6 arg7 arg8 arg9 arg10 arg11 arg12 arg13 arg14 arg15 n hn) Q
  | 0, hn, O, s, hi => by
    unfold bwdFrom
    iintro ⟨H, K⟩
    iapply (le_wp_ret _ _ _ _ _) $$ [-]
    iapply K $$ [] [H]
    rotate_left
    · iexact H
    ipureintro
    exact hi
  | n + 1, hn, O, s, hi => by
    unfold bwdFrom
    rw [wp_bind]
    iintro ⟨H, K⟩
    iapply (bwdChunk_spec c arg1 harg1 arg2 harg2 arg3 harg3 arg4 harg4 arg5 harg5 arg6 harg6 arg7 harg7 arg8 harg8 arg9 harg9 arg10 harg10 arg11 harg11 arg12 harg12 arg13 harg13 arg14 harg14 arg15 harg15 _ I σ b hb hI _ _ hi _) $$ [-]
    isplitl [H]; · iexact H
    iintro %O' %s' %hi' H
    iapply (bwdFrom_spec I σ b hb hI Q n (Nat.le_of_succ_le hn) O' s' hi') $$ [-]
    isplitl [H]; · iexact H
    iexact K

theorem bwdZero_spec (I : BwdIn F) (O s) (Q : _ → sProp 𝕄) :
    iprop(bwdBufs c arg1 arg2 arg3 arg4 arg5 arg6 arg7 arg8 arg9 arg10 arg11 arg12 arg13 arg14 arg15 I O s
        ∗ (bwdBufs c arg1 arg2 arg3 arg4 arg5 arg6 arg7 arg8 arg9 arg10 arg11 arg12 arg13 arg14 arg15 I O (fun _ => Scalar.ofBits .f32 0x00000000#32) -∗ Q ⟨⟩))
      ⊢ wp frame (wpE (defs₀ (F := F)) Variants.none (c : Thread nD τ) none) Set.univ (fwdZero (F := F) arg15) Q := by
  unfold fwdZero
  unfold bwdBufs
  iintro ⟨⟨H1, H2, H3, H4, H5, H6, H7, H8, H9, H10, H11, H12, H13, H14, H15⟩, K⟩
  iapply (ld c arg15 harg15 _ _ _ _ _) $$ [-]
  isplitl [H15]; · iexact H15
  iintro H15
  iapply (st' c arg15 harg15 _ _ _ _ _ _) $$ [-]
  isplitl [H15]; · iexact H15
  iintro H15
  rw [put_zero]
  iapply K $$ [-]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- What the body of the backward scan leaves. -/
theorem bwd_body_spec (i : grid1.Coords) (I : BwdIn F) (σ : BwdSeq F) (b : ℕ) (hb : b ≤ 48) (hI : I.Of σ b) (hb' : first1 i → b = 48) (O s) (hs : ¬ first1 i → ∀ h (hh : h < 4), get s (stR hh) = σ.D (64 - (b + 16)) h) (Q : _ → sProp 𝕄) :
    iprop(bwdBufs c arg1 arg2 arg3 arg4 arg5 arg6 arg7 arg8 arg9 arg10 arg11 arg12 arg13 arg14 arg15 I O s
        ∗ (∀ O' s', ⌜BwdInv σ b 0 O' s'⌝ -∗ bwdBufs c arg1 arg2 arg3 arg4 arg5 arg6 arg7 arg8 arg9 arg10 arg11 arg12 arg13 arg14 arg15 I O' s' -∗ Q ⟨⟩))
      ⊢ wp frame (wpE (defs₀ (F := F)) Variants.none (c : Thread nD τ) none) Set.univ (cc1_dn_scan_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15) Q := by
  by_cases hi : first1 i
  · rw [bwd_body_first (F := F) arg1 harg1 arg2 harg2 arg3 harg3 arg4 harg4 arg5 harg5 arg6 harg6 arg7 harg7 arg8 harg8 arg9 harg9 arg10 harg10 arg11 harg11 arg12 harg12 arg13 harg13 arg14 harg14 arg15 harg15 i hi, wp_bind]
    obtain rfl := hb' hi
    iintro ⟨H, K⟩
    iapply (bwdZero_spec c arg1 harg1 arg2 harg2 arg3 harg3 arg4 harg4 arg5 harg5 arg6 harg6 arg7 harg7 arg8 harg8 arg9 harg9 arg10 harg10 arg11 harg11 arg12 harg12 arg13 harg13 arg14 harg14 arg15 harg15 I _ _ _) $$ [-]
    isplitl [H]; · iexact H
    iintro H
    iapply (bwdFrom_spec c arg1 harg1 arg2 harg2 arg3 harg3 arg4 harg4 arg5 harg5 arg6 harg6 arg7 harg7 arg8 harg8 arg9 harg9 arg10 harg10 arg11 harg11 arg12 harg12 arg13 harg13 arg14 harg14 arg15 harg15 I σ 48 hb hI Q 16 le_rfl _ _ ?_) $$ [-]
    rotate_left
    · isplitl [H]; · iexact H
      iexact K
    exact ⟨fun k h hc _ hk => absurd hk (by omega), fun k h hc _ hk => absurd hk (by omega), fun k h hc _ hk => absurd hk (by omega), fun k h hc _ hk => absurd hk (by omega), fun k h hc _ hk => absurd hk (by omega), fun k h hc _ hk => absurd hk (by omega), fun h hh => rfl⟩
  · rw [bwd_body_later (F := F) arg1 harg1 arg2 harg2 arg3 harg3 arg4 harg4 arg5 harg5 arg6 harg6 arg7 harg7 arg8 harg8 arg9 harg9 arg10 harg10 arg11 harg11 arg12 harg12 arg13 harg13 arg14 harg14 arg15 harg15 i hi]
    iintro ⟨H, K⟩
    iapply (bwdFrom_spec c arg1 harg1 arg2 harg2 arg3 harg3 arg4 harg4 arg5 harg5 arg6 harg6 arg7 harg7 arg8 harg8 arg9 harg9 arg10 harg10 arg11 harg11 arg12 harg12 arg13 harg13 arg14 harg14 arg15 harg15 I σ b hb hI Q 16 le_rfl _ _ ?_) $$ [-]
    rotate_left
    · isplitl [H]; · iexact H
      iexact K
    exact ⟨fun k h hc _ hk => absurd hk (by omega), fun k h hc _ hk => absurd hk (by omega), fun k h hc _ hk => absurd hk (by omega), fun k h hc _ hk => absurd hk (by omega), fun k h hc _ hk => absurd hk (by omega), fun k h hc _ hk => absurd hk (by omega), hs hi⟩

end Steps
end Cert.Scan
end
-- ==== Proof.ScanDatB.lean ====
/- The backward scan's region: what its buffers hold at every point of the grid. -/
module

public import proofs.«01_k».proof.Proof.ScanGlue
public import proofs.«01_k».proof.Proof.ScanBwdRun
public import proofs.«01_k».proof.Proof.Gen.KernelIdeal.Regions
public import Idealize.ShloMosaic.Lib.Pipeline.FrameBody

@[expose] public section

set_option maxRecDepth 16384

noncomputable section

namespace Cert.Scan

open Idealize.ShloMosaic Idealize.ShloMosaic.TcCoe Idealize.ShloMosaic.Tactic
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : Valuation τ sig (Elt F)) (c : Dev nD)

/-- The block of window `w`'s array that point `t` works on. -/
def blkB (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))

/-- The arrays the backward scan reads, chunk by chunk. -/
def seqB : BwdSeq F where
  Do := rowSeq (F := F) (e := .f32) (V (Proc.devRef .tc main_arg6))
  Sp := tileSeq (F := F) (e := .f32) (c := 128) (d := 128) (V (Proc.devRef .tc main_v2_2))
  Qd := rowSeq (F := F) (e := .bf16) (V (Proc.devRef .tc main_arg2))
  Kt := rowSeq (F := F) (e := .bf16) (V (Proc.devRef .tc main_arg3))
  W := rowSeq (F := F) (e := .bf16) (V (Proc.devRef .tc main_arg1))
  Vn := rowSeq (F := F) (e := .bf16) (V (Proc.devRef .tc main_v2_1))
  At := tileSeq (F := F) (e := .f32) (c := 64) (d := 64) (V (Proc.devRef .tc main_arg4))
  Gl := tileSeq (F := F) (e := .f32) (c := 1) (d := 128) (V (Proc.devRef .tc main_v1))

/-- Every window's block index: the blocks from the last to the first. -/
theorem idxB : ∀ t : Fin cfg1.N, win1_0.index t = ![3 - t.val, 0] ∧ win1_1.index t = ![3 - t.val, 0, 0, 0] ∧ win1_2.index t = ![3 - t.val, 0] ∧ win1_3.index t = ![3 - t.val, 0] ∧ win1_4.index t = ![3 - t.val, 0] ∧ win1_5.index t = ![3 - t.val, 0] ∧ win1_6.index t = ![3 - t.val, 0, 0, 0] ∧ win1_7.index t = ![3 - t.val, 0, 0, 0] ∧ win1_8.index t = ![3 - t.val, 0] ∧ win1_9.index t = ![3 - t.val, 0] ∧ win1_10.index t = ![3 - t.val, 0] ∧ win1_11.index t = ![3 - t.val, 0] ∧ win1_12.index t = ![3 - t.val, 0, 0, 0] ∧ win1_13.index t = ![3 - t.val, 0, 0, 0] :=
  (by decide +kernel : ∀ t : Fin grid1.N, _)

/-- The blocks point `t` reads, together. -/
def inB (t : Fin cfg1.N) : BwdIn F where
  d := blkB V 0 t
  sp := blkB V 1 t
  qd := blkB V 2 t
  kt := blkB V 3 t
  w := blkB V 4 t
  vn := blkB V 5 t
  at' := blkB V 6 t
  gl := blkB V 7 t

set_option maxHeartbeats 2000000 in
theorem inB_of (t : Fin cfg1.N) : (inB V t).Of (seqB V) (16 * (3 - t.val)) := by
  have ht : 3 - t.val < 4 := by omega
  refine ⟨?_, ?_, ?_, ?_, ?_, ?_, ?_, ?_⟩
  · exact get_row_of (F := F) (e := .f32) (V (Proc.devRef .tc main_arg6)) (blkB V 0 t) (3 - t.val) ht fun y => by
      refine congrArg (V (Proc.devRef .tc main_arg6)) ?_
      blk_ext [idxB t]
  · exact get_sp_of (F := F) (e := .f32) (V (Proc.devRef .tc main_v2_2)) (blkB V 1 t) (3 - t.val) ht fun y => by
      refine congrArg (V (Proc.devRef .tc main_v2_2)) ?_
      blk_ext [idxB t]
  · exact get_row_of (F := F) (e := .bf16) (V (Proc.devRef .tc main_arg2)) (blkB V 2 t) (3 - t.val) ht fun y => by
      refine congrArg (V (Proc.devRef .tc main_arg2)) ?_
      blk_ext [idxB t]
  · exact get_row_of (F := F) (e := .bf16) (V (Proc.devRef .tc main_arg3)) (blkB V 3 t) (3 - t.val) ht fun y => by
      refine congrArg (V (Proc.devRef .tc main_arg3)) ?_
      blk_ext [idxB t]
  · exact get_row_of (F := F) (e := .bf16) (V (Proc.devRef .tc main_arg1)) (blkB V 4 t) (3 - t.val) ht fun y => by
      refine congrArg (V (Proc.devRef .tc main_arg1)) ?_
      blk_ext [idxB t]
  · exact get_row_of (F := F) (e := .bf16) (V (Proc.devRef .tc main_v2_1)) (blkB V 5 t) (3 - t.val) ht fun y => by
      refine congrArg (V (Proc.devRef .tc main_v2_1)) ?_
      blk_ext [idxB t]
  · exact get_sq_of (F := F) (e := .f32) (V (Proc.devRef .tc main_arg4)) (blkB V 6 t) (3 - t.val) ht fun y => by
      refine congrArg (V (Proc.devRef .tc main_arg4)) ?_
      blk_ext [idxB t]
  · exact get_gl_of (F := F) (e := .f32) (V (Proc.devRef .tc main_v1)) (blkB V 7 t) (3 - t.val) ht fun y => by
      refine congrArg (V (Proc.devRef .tc main_v1)) ?_
      blk_ext [idxB t]

/-- Between two points: the state's gradient so far in the scratch, the region's other buffers untouched. -/
def phiB (n : ℕ) : sProp 𝕄 :=
  iprop((∃ X : S4x128x128.Idx → Elt F .f32, ⌜n ≠ 0 → ∀ h (hh : h < 4), get X (stR hh) = (seqB V).D (16 * n) h⌝
      ∗ owns (c : Thread nD τ) (Memref.whole cc1_scratch0) fullShare X)
    ∗ Pipeline.scopedRestBut (Ix := Unit) (Name := ℕ) (U := UR sig nD τ) (Lvl := ℕ) (Val := Elt F) spec1 c [cc1_scratch0])

theorem restB : (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The region's proof data. -/
def datB : Dat τ (Elt F) Unit ℕ (UR sig nD τ) ℕ cfg1 c where
  A w := V (Proc.devRef .tc (Pipeline.arrRef spec1 w))
  after w t := match w with
    | ⟨0, _⟩ => blkB V 0 t
    | ⟨1, _⟩ => blkB V 1 t
    | ⟨2, _⟩ => blkB V 2 t
    | ⟨3, _⟩ => blkB V 3 t
    | ⟨4, _⟩ => blkB V 4 t
    | ⟨5, _⟩ => blkB V 5 t
    | ⟨6, _⟩ => blkB V 6 t
    | ⟨7, _⟩ => blkB V 7 t
    | ⟨8, _⟩ => rowBlk (F := F) (e := .f32) (seqB V).Dvn (16 * (3 - t.val))
    | ⟨9, _⟩ => rowBlk (F := F) (e := .f32) (seqB V).Dqd (16 * (3 - t.val))
    | ⟨10, _⟩ => rowBlk (F := F) (e := .f32) (seqB V).Dkt (16 * (3 - t.val))
    | ⟨11, _⟩ => rowBlk (F := F) (e := .f32) (seqB V).Dw (16 * (3 - t.val))
    | ⟨12, _⟩ => tileBlk (F := F) (e := .f32) (c := 64) (d := 64) (seqB V).Dat (16 * (3 - t.val))
    | ⟨13, _⟩ => tileBlk (F := F) (e := .f32) (c := 1) (d := 128) (seqB V).Dgl (16 * (3 - t.val))
  Φ t := phiB V c t.val
  q _ := fullShare
  owed _ := 0

theorem beforeB_0 (t : Fin cfg1.N) (d) : (datB V c).before 0 t d = (inB V t).d := by
  unfold Dat.before; rw [if_pos (fetch1_0 t)]; rfl
theorem beforeB_1 (t : Fin cfg1.N) (d) : (datB V c).before 1 t d = (inB V t).sp := by
  unfold Dat.before; rw [if_pos (fetch1_1 t)]; rfl
theorem beforeB_2 (t : Fin cfg1.N) (d) : (datB V c).before 2 t d = (inB V t).qd := by
  unfold Dat.before; rw [if_pos (fetch1_2 t)]; rfl
theorem beforeB_3 (t : Fin cfg1.N) (d) : (datB V c).before 3 t d = (inB V t).kt := by
  unfold Dat.before; rw [if_pos (fetch1_3 t)]; rfl
theorem beforeB_4 (t : Fin cfg1.N) (d) : (datB V c).before 4 t d = (inB V t).w := by
  unfold Dat.before; rw [if_pos (fetch1_4 t)]; rfl
theorem beforeB_5 (t : Fin cfg1.N) (d) : (datB V c).before 5 t d = (inB V t).vn := by
  unfold Dat.before; rw [if_pos (fetch1_5 t)]; rfl
theorem beforeB_6 (t : Fin cfg1.N) (d) : (datB V c).before 6 t d = (inB V t).at' := by
  unfold Dat.before; rw [if_pos (fetch1_6 t)]; rfl
theorem beforeB_7 (t : Fin cfg1.N) (d) : (datB V c).before 7 t d = (inB V t).gl := by
  unfold Dat.before; rw [if_pos (fetch1_7 t)]; rfl

theorem firstB : ∀ t : Fin cfg1.N, first1 (grid1.coords t) ↔ t.val = 0 := (by decide +kernel : ∀ t : Fin grid1.N, _)

theorem rowB (t : Fin cfg1.N) : defs₀ (F := F) .tc cfg1.body (cfg1.bodyArgs t (cfg1.slots t)) = bodyAt1 t := by
  unfold defs₀; rw [Defs.onTc_tc]

set_option maxHeartbeats 2000000 in
theorem bodyB (t : Fin cfg1.N) :
    iprop(phiB V c t.val ∗ (datB V c).owesAt () t.castSucc
        ∗ (∃ d, owns (c : Thread nD τ) (st1_0 t) fullShare ((datB V c).before 0 t d))
        ∗ (∃ d, owns (c : Thread nD τ) (st1_1 t) fullShare ((datB V c).before 1 t d))
        ∗ (∃ d, owns (c : Thread nD τ) (st1_2 t) fullShare ((datB V c).before 2 t d))
        ∗ (∃ d, owns (c : Thread nD τ) (st1_3 t) fullShare ((datB V c).before 3 t d))
        ∗ (∃ d, owns (c : Thread nD τ) (st1_4 t) fullShare ((datB V c).before 4 t d))
        ∗ (∃ d, owns (c : Thread nD τ) (st1_5 t) fullShare ((datB V c).before 5 t d))
        ∗ (∃ d, owns (c : Thread nD τ) (st1_6 t) fullShare ((datB V c).before 6 t d))
        ∗ (∃ d, owns (c : Thread nD τ) (st1_7 t) fullShare ((datB V c).before 7 t d))
        ∗ (∃ d, owns (c : Thread nD τ) (st1_8 t) fullShare ((datB V c).before 8 t d))
        ∗ (∃ d, owns (c : Thread nD τ) (st1_9 t) fullShare ((datB V c).before 9 t d))
        ∗ (∃ d, owns (c : Thread nD τ) (st1_10 t) fullShare ((datB V c).before 10 t d))
        ∗ (∃ d, owns (c : Thread nD τ) (st1_11 t) fullShare ((datB V c).before 11 t d))
        ∗ (∃ d, owns (c : Thread nD τ) (st1_12 t) fullShare ((datB V c).before 12 t d))
        ∗ (∃ d, owns (c : Thread nD τ) (st1_13 t) fullShare ((datB V c).before 13 t d)))
      ⊢ wp frame (wpE (defs₀ (F := F)) Variants.none (c : Thread nD τ) none) Set.univ (bodyAt1 t) fun _ =>
        iprop(phiB V c (t.val + 1) ∗ (datB V c).owesAt () t.succ
        ∗ owns (c : Thread nD τ) (st1_0 t) fullShare ((datB V c).after 0 t)
        ∗ owns (c : Thread nD τ) (st1_1 t) fullShare ((datB V c).after 1 t)
        ∗ owns (c : Thread nD τ) (st1_2 t) fullShare ((datB V c).after 2 t)
        ∗ owns (c : Thread nD τ) (st1_3 t) fullShare ((datB V c).after 3 t)
        ∗ owns (c : Thread nD τ) (st1_4 t) fullShare ((datB V c).after 4 t)
        ∗ owns (c : Thread nD τ) (st1_5 t) fullShare ((datB V c).after 5 t)
        ∗ owns (c : Thread nD τ) (st1_6 t) fullShare ((datB V c).after 6 t)
        ∗ owns (c : Thread nD τ) (st1_7 t) fullShare ((datB V c).after 7 t)
        ∗ owns (c : Thread nD τ) (st1_8 t) fullShare ((datB V c).after 8 t)
        ∗ owns (c : Thread nD τ) (st1_9 t) fullShare ((datB V c).after 9 t)
        ∗ owns (c : Thread nD τ) (st1_10 t) fullShare ((datB V c).after 10 t)
        ∗ owns (c : Thread nD τ) (st1_11 t) fullShare ((datB V c).after 11 t)
        ∗ owns (c : Thread nD τ) (st1_12 t) fullShare ((datB V c).after 12 t)
        ∗ owns (c : Thread nD τ) (st1_13 t) fullShare ((datB V c).after 13 t)) := by
  have ht : t.val < 4 := t.isLt
  simp only [beforeB_0, beforeB_1, beforeB_2, beforeB_3, beforeB_4, beforeB_5, beforeB_6, beforeB_7]
  unfold phiB
  iintro ⟨⟨⟨%X, %hX, HX⟩, Hr⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (bwd_body_spec (F := F) c (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) (st1_12 t) (hstage1_12 ((cfg1.slots t 12).cast nbuf1_12)) (st1_13 t) (hstage1_13 ((cfg1.slots t 13).cast nbuf1_13)) (Memref.whole cc1_scratch0) (Memref.isWhole_whole _)
    (grid1.coords t) (inB V t) (seqB V) (16 * (3 - t.val)) (by omega) (inB_of V t) (fun h => by rw [(firstB t).mp h]) ⟨_, _, _, _, _, _⟩ X
    (fun h => by
      have h' : t.val ≠ 0 := fun h' => h ((firstB t).mpr h')
      have e : 64 - (16 * (3 - t.val) + 16) = 16 * t.val := by omega
      rw [e]; exact hX h') _) $$ [-]
  isplitl [HX H0 H1 H2 H3 H4 H5 H6 H7 H8 H9 H10 H11 H12 H13]
  · unfold bwdBufs
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact HX
  iintro %O' %s' %hi H
  unfold bwdBufs
  icases H with ⟨H0, H1, H2, H3, H4, H5, H6, H7, H8, H9, H10, H11, H12, H13, HX⟩
  obtain ⟨o8, o9, o10, o11, o12, o13⟩ := O'
  have e8 := eq_rowBlk (F := F) (e := .f32) (seqB V).Dvn (16 * (3 - t.val)) o8 fun k h hc hh => hi.du k h hc hh (Nat.zero_le _)
  have e9 := eq_rowBlk (F := F) (e := .f32) (seqB V).Dqd (16 * (3 - t.val)) o9 fun k h hc hh => hi.dqd k h hc hh (Nat.zero_le _)
  have e10 := eq_rowBlk (F := F) (e := .f32) (seqB V).Dkt (16 * (3 - t.val)) o10 fun k h hc hh => hi.dkt k h hc hh (Nat.zero_le _)
  have e11 := eq_rowBlk (F := F) (e := .f32) (seqB V).Dw (16 * (3 - t.val)) o11 fun k h hc hh => hi.dw k h hc hh (Nat.zero_le _)
  have e12 := eq_sqBlk (F := F) (e := .f32) (seqB V).Dat (16 * (3 - t.val)) o12 fun k h hc hh => hi.dat k h hc hh (Nat.zero_le _)
  have e13 := eq_glBlk (F := F) (e := .f32) (seqB V).Dgl (16 * (3 - t.val)) o13 fun k h hc hh => hi.dgl k h hc hh (Nat.zero_le _)
  subst e8 e9 e10 e11 e12 e13
  isplitl [HX Hr]
  · isplitl [HX]
    · iexists s'
      isplitr
      · ipureintro; intro _ h hh
        have e : 16 * (t.val + 1) = 64 - (16 * (3 - t.val) + 0) := by omega
        rw [e]; exact hi.s h hh
      iexact HX
    iexact Hr
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem obligB : BodyObligation (datB V c) (defs₀ (F := F)) Variants.none () Set.univ := fun t => by
  rw [bigSep_W1, bigSep_W1, rowB]
  exact bodyB V c t

theorem inPhiB : iprop(Pipeline.scopedRest (Ix := Unit) (Name := ℕ) (U := UR sig nD τ) (Lvl := ℕ) (Val := Elt F) spec1 c ∗ (emp : sProp 𝕄)) ⊢ (datB V c).Φ 0 := by
  show _ ⊢ phiB V c 0
  rw [restB]
  unfold phiB
  iintro ⟨⟨⟨%f, Hf⟩, Hr⟩, -⟩
  isplitl [Hf]
  · iexists f
    isplitr; · ipureintro; exact fun h => absurd rfl h
    rw [owns_whole]; iexact Hf
  iexact Hr

theorem outPhiB : (datB V c).Φ (Fin.last cfg1.N) ⊢ iprop(Pipeline.scopedRest (Ix := Unit) (Name := ℕ) (U := UR sig nD τ) (Lvl := ℕ) (Val := Elt F) spec1 c ∗ (emp : sProp 𝕄)) := by
  show phiB V c 4 ⊢ _
  rw [restB]
  unfold phiB
  iintro ⟨⟨%X, -, HX⟩, Hr⟩
  isplitl
  · isplitl [HX]
    · iexists X
      iapply (Entails.of_eq (owns_whole (c : Thread nD τ) cc1_scratch0 fullShare X)) $$ HX
    iexact Hr
  iempintro

/-- The arrays the region leaves. -/
theorem finalB_8 : (datB V c).arrAt 8 cfg1.N = rowArr (F := F) (e := .f32) (seqB V).Dvn := by
  refine (datB V c).arrAt_eq_of_covers 8 _ (by decide +kernel) fun t _ y => ?_
  refine rowBlk_eq (F := F) (e := .f32) (seqB V).Dvn (3 - t.val) y _ ?_ ?_ <;> blk_simp [idxB t] <;> rfl
theorem finalB_9 : (datB V c).arrAt 9 cfg1.N = rowArr (F := F) (e := .f32) (seqB V).Dqd := by
  refine (datB V c).arrAt_eq_of_covers 9 _ (by decide +kernel) fun t _ y => ?_
  refine rowBlk_eq (F := F) (e := .f32) (seqB V).Dqd (3 - t.val) y _ ?_ ?_ <;> blk_simp [idxB t] <;> rfl
theorem finalB_10 : (datB V c).arrAt 10 cfg1.N = rowArr (F := F) (e := .f32) (seqB V).Dkt := by
  refine (datB V c).arrAt_eq_of_covers 10 _ (by decide +kernel) fun t _ y => ?_
  refine rowBlk_eq (F := F) (e := .f32) (seqB V).Dkt (3 - t.val) y _ ?_ ?_ <;> blk_simp [idxB t] <;> rfl
theorem finalB_11 : (datB V c).arrAt 11 cfg1.N = rowArr (F := F) (e := .f32) (seqB V).Dw := by
  refine (datB V c).arrAt_eq_of_covers 11 _ (by decide +kernel) fun t _ y => ?_
  refine rowBlk_eq (F := F) (e := .f32) (seqB V).Dw (3 - t.val) y _ ?_ ?_ <;> blk_simp [idxB t] <;> rfl
theorem finalB_12 : (datB V c).arrAt 12 cfg1.N = tileArr (F := F) (e := .f32) (c := 64) (d := 64) (seqB V).Dat := by
  refine (datB V c).arrAt_eq_of_covers 12 _ (by decide +kernel) fun t _ y => ?_
  refine tileBlk_eq (F := F) (e := .f32) (c := 64) (d := 64) (seqB V).Dat (3 - t.val) y _ ?_ ?_ ?_ ?_ <;> blk_simp [idxB t] <;> rfl
theorem finalB_13 : (datB V c).arrAt 13 cfg1.N = tileArr (F := F) (e := .f32) (c := 1) (d := 128) (seqB V).Dgl := by
  refine (datB V c).arrAt_eq_of_covers 13 _ (by decide +kernel) fun t _ y => ?_
  refine tileBlk_eq (F := F) (e := .f32) (c := 1) (d := 128) (seqB V).Dgl (3 - t.val) y _ ?_ ?_ ?_ ?_ <;> blk_simp [idxB t] <;> rfl

end Cert.Scan

end
-- ==== Proof.ScanRun.lean ====
/- The two scans run one after the other: every execution ends with the arrays their chunks make. -/
module

public import proofs.«01_k».proof.Proof.ScanDatF
public import proofs.«01_k».proof.Proof.ScanDatB
public import proofs.«01_k».proof.Proof.Gen.KernelIdeal.Regions
public import Idealize.ShloMosaic.Lib.Pipeline.RegionArraysS

@[expose] public section

set_option maxRecDepth 16384

noncomputable section

namespace Cert.Scan

open Idealize.ShloMosaic Idealize.ShloMosaic.TcCoe Idealize.ShloMosaic.Tactic
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open Idealize.ShloMosaic.Pipeline (Dat BodyObligation RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers between the two regions, and at the end. -/
def VY (c : Dev nD) : Valuation τ sig (Elt F) := Pipeline.afterRegion (datF (V1 m c) c) (V1 m c)
def VZ (c : Dev nD) : Valuation τ sig (Elt F) := Pipeline.afterRegion (datB (VY m c) c) (VY m c)

/-- Both regions' proof data. -/
def pd : (p : Fin 2) → (c : Dev nD) → Dat τ (Elt F) Unit ℕ (UR sig nD τ) ℕ (cfgs p) c
  | ⟨0, _⟩, c => datF (V1 m c) c
  | ⟨1, _⟩, c => datB (VY m c) c

abbrev L : GSem nD τ sig → Finset Unit := fun g => if g.1.2 = .tc then {()} else ∅
abbrev lv : GSem nD τ sig → Unit → ℕ := fun _ _ => 0

theorem cut (p : Fin 2) : Pipeline.LevelCut (pcfgs (F := F)) adm () L lv p (fun _ => 0) (fun _ => 0) where
  hι c w s := by simp [L]
  hιb c w s := le_rfl
  hD c g i h := absurd h (lt_irrefl _)

theorem arrays0 : Pipeline.arrRefs (τ := τ) (pcfgs (F := F) 0).spec ⊆ Pipeline.ucRefs τ sig := Pipeline.arrRefs_sub_ucRefs spec0 (fun w => launch0.win.arr_unscoped w)
theorem arrays1 : Pipeline.arrRefs (τ := τ) (pcfgs (F := F) 1).spec ⊆ Pipeline.ucRefs τ sig := Pipeline.arrRefs_sub_ucRefs spec1 (fun w => launch1.win.arr_unscoped w)

set_option backward.isDefEq.respectTransparency.types false in
/-- The forward scan's region, as a stretch of the program. -/
def reg0 : RegionSeg (pcfgs (F := F)) adm (pd m) () defs₀ Variants.none L lv 0 :=
  RegionSeg.ofHeldIn (pcfgs (F := F)) adm (pd m) () defs₀ Variants.none L lv 0 (fun _ => 0) (Pipeline.ucRefs τ sig) (fun _ => iprop(emp)) (fun _ => iprop(emp))
    launch0.toP rfl (fun c => (obligF (V1 m c) c).loose) (fun _ _ => rfl) (fun _ => rfl) (fun c w => (datF (V1 m c) c).share_full (fun _ => rfl) w)
    (fun c => inPhiF (V1 m c) c) (fun c => outPhiF (V1 m c) c) (fun _ => 0) (cut 0) (fun _ => iprop(emp)) (fun c => V1 m c) (fun c w => rfl)

set_option backward.isDefEq.respectTransparency.types false in
/-- The backward scan's region. -/
def reg1 : RegionSeg (pcfgs (F := F)) adm (pd m) () defs₀ Variants.none L lv 1 :=
  RegionSeg.ofHeldIn (pcfgs (F := F)) adm (pd m) () defs₀ Variants.none L lv 1 (fun _ => 0) (Pipeline.ucRefs τ sig) (fun _ => iprop(emp)) (fun _ => iprop(emp))
    launch1.toP rfl (fun c => (obligB (VY m c) c).loose) (fun _ _ => rfl) (fun _ => rfl) (fun c w => (datB (VY m c) c).share_full (fun _ => rfl) w)
    (fun c => inPhiB (VY m c) c) (fun c => outPhiB (VY m c) c) (fun _ => 0) (cut 1) (fun _ => iprop(emp)) (fun c => VY m c) (fun c w => rfl)

/-- What rides beside the buffers: nothing is owed. -/
def E (c : Dev nD) : sProp 𝕄 := iprop((∃ W, owes (c : Thread nD τ) (0 : CellTallies nD τ sig Unit) W) ∗ emp ∗ emp)

set_option backward.isDefEq.respectTransparency.types false in
theorem enter0 (c : Dev nD) : iprop(StableHlo.held (c : Thread nD τ) (Pipeline.ucRefs τ sig) (V1 m c) ∗ E c) ⊢ (reg0 m).pre c := by
  have h := RegionSeg.ofHeldIn_pre (p := 0) (pdats := pd m) (pcs := pcfgs (F := F)) (a := adm) (ι := ()) (defs₀ := defs₀) (𝒱₀ := Variants.none) (L := L) (lv := lv) (D := fun _ => 0)
    (X := fun _ => iprop(emp)) (Y := fun _ => iprop(emp)) (R := fun _ => iprop(emp)) (W := fun c => V1 m c) arrays0
    (kit := launch0.toP) (hK := rfl) (hbody := fun c => (obligF (V1 m c) c).loose) (howed := fun _ _ => rfl) (hrec := fun _ => rfl) (hshare := fun c w => (datF (V1 m c) c).share_full (fun _ => rfl) w)
    (hin := fun c => inPhiF (V1 m c) c) (hout := fun c => outPhiF (V1 m c) c) (b := fun _ => 0) (hcut := cut 0) (hW := fun c w => rfl) c
  unfold E reg0
  exact h
set_option backward.isDefEq.respectTransparency.types false in
theorem leave0 (c : Dev nD) : (reg0 m).post c ⊢ iprop(StableHlo.held (c : Thread nD τ) (Pipeline.ucRefs τ sig) (VY m c) ∗ E c) := by
  have h := RegionSeg.ofHeldIn_post (p := 0) (pdats := pd m) (pcs := pcfgs (F := F)) (a := adm) (ι := ()) (defs₀ := defs₀) (𝒱₀ := Variants.none) (L := L) (lv := lv) (D := fun _ => 0)
    (X := fun _ => iprop(emp)) (Y := fun _ => iprop(emp)) (R := fun _ => iprop(emp)) (W := fun c => V1 m c) arrays0
    (kit := launch0.toP) (hK := rfl) (hbody := fun c => (obligF (V1 m c) c).loose) (howed := fun _ _ => rfl) (hrec := fun _ => rfl) (hshare := fun c w => (datF (V1 m c) c).share_full (fun _ => rfl) w)
    (hin := fun c => inPhiF (V1 m c) c) (hout := fun c => outPhiF (V1 m c) c) (b := fun _ => 0) (hcut := cut 0) (hW := fun c w => rfl) c
  have e : Pipeline.afterRegion (pd m 0 c) (V1 m c) = VY m c := rfl
  unfold E reg0
  rw [← e]
  exact h
set_option backward.isDefEq.respectTransparency.types false in
theorem enter1 (c : Dev nD) : iprop(StableHlo.held (c : Thread nD τ) (Pipeline.ucRefs τ sig) (VY m c) ∗ E c) ⊢ (reg1 m).pre c := by
  have h := RegionSeg.ofHeldIn_pre (p := 1) (pdats := pd m) (pcs := pcfgs (F := F)) (a := adm) (ι := ()) (defs₀ := defs₀) (𝒱₀ := Variants.none) (L := L) (lv := lv) (D := fun _ => 0)
    (X := fun _ => iprop(emp)) (Y := fun _ => iprop(emp)) (R := fun _ => iprop(emp)) (W := fun c => VY m c) arrays1
    (kit := launch1.toP) (hK := rfl) (hbody := fun c => (obligB (VY m c) c).loose) (howed := fun _ _ => rfl) (hrec := fun _ => rfl) (hshare := fun c w => (datB (VY m c) c).share_full (fun _ => rfl) w)
    (hin := fun c => inPhiB (VY m c) c) (hout := fun c => outPhiB (VY m c) c) (b := fun _ => 0) (hcut := cut 1) (hW := fun c w => rfl) c
  unfold E reg1
  exact h
set_option backward.isDefEq.respectTransparency.types false in
theorem leave1 (c : Dev nD) : (reg1 m).post c ⊢ iprop(StableHlo.held (c : Thread nD τ) (Pipeline.ucRefs τ sig) (VZ m c) ∗ E c) := by
  have h := RegionSeg.ofHeldIn_post (p := 1) (pdats := pd m) (pcs := pcfgs (F := F)) (a := adm) (ι := ()) (defs₀ := defs₀) (𝒱₀ := Variants.none) (L := L) (lv := lv) (D := fun _ => 0)
    (X := fun _ => iprop(emp)) (Y := fun _ => iprop(emp)) (R := fun _ => iprop(emp)) (W := fun c => VY m c) arrays1
    (kit := launch1.toP) (hK := rfl) (hbody := fun c => (obligB (VY m c) c).loose) (howed := fun _ _ => rfl) (hrec := fun _ => rfl) (hshare := fun c w => (datB (VY m c) c).share_full (fun _ => rfl) w)
    (hin := fun c => inPhiB (VY m c) c) (hout := fun c => outPhiB (VY m c) c) (b := fun _ => 0) (hcut := cut 1) (hW := fun c w => rfl) c
  have e : Pipeline.afterRegion (pd m 1 c) (VY m c) = VZ m c := rfl
  unfold E reg1
  rw [← e]
  exact h
theorem endE (c : Dev nD) : iprop(StableHlo.held (c : Thread nD τ) (Pipeline.ucRefs τ sig) (VZ m c) ∗ E c)
    ⊢ (iprop(StableHlo.held (c : Thread nD τ) (Pipeline.ucRefs τ sig) (VZ m c) ∗ ∃ W, owes (c : Thread nD τ) (0 : CellTallies nD τ sig Unit) W) : sProp 𝕄) := by
  unfold E
  iintro ⟨Hh, HO, -, -⟩
  isplitl [Hh]; · iexact Hh
  iexact HO

set_option backward.isDefEq.respectTransparency.types false in
/-- Every execution terminates with every buffer as the two regions leave it and every counter at zero. -/
theorem run_all : θ_run defs (onTc (τ := τ) (main (F := F))) ⟨m, fun _ => 0, ρ⟩ (fun r => (∀ c : Dev nD, ∀ b ∈ Pipeline.ucRefs τ sig, r.2.mem (c, b) = VZ m c b)
      ∧ r.2.sem = fun _ => 0) := by
  refine Pipeline.θ_run_regions_kit_dev_sems (pcfgs (F := F)) adm (pd m) () cellOf_inj emb₁ defs₀ Variants.none L lv m ρ main
    (segs m Variants.none L lv (fun _ c => E c) () (pd m) (reg0 m) (reg1 m))
    (fun c Q => by
      rewrite [main_chain c, Pipeline.Seg.run_eq_chain,
        show (segs m Variants.none L lv (fun _ c => E c) () (pd m) (reg0 m) (reg1 m) c).map Pipeline.Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide) (fun _ => 0)
    (fun g hg => if_neg hg) (fun _ => iprop(emp)) (initOf (Pipeline.cells cfgs cellOf_inj) (Pipeline.launchToks cfgs cellOf_inj)) ?_
    (T₀ := fun c => iprop(StableHlo.held (c : Thread nD τ) (Pipeline.ucRefs τ sig) (V0 m c) ∗ E c))
    (Tₙ := fun c => StableHlo.held (c : Thread nD τ) (Pipeline.ucRefs τ sig) (VZ m c))
    (hch := fun c => ⟨.rfl,
enter0 m c, (leave0 m c).trans (enter1 m c), (leave1 m c).trans (endE m c)⟩)
    (hinit := ?_) (QY := fun c s => ∀ b ∈ Pipeline.ucRefs τ sig, s.mem (c, b) = VZ m c b)
    (hfin := fun c s' => ?_) (hQ := fun _ h hz => ⟨h, funext fun g => hz g (.inr (regions_no_unscoped g.2))⟩)
  · iintro H
    imodintro
    isplitl [H]
    · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl) $$ H
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    unfold E
    iintro ⟨⟨Hh, -, HO, -, -, -⟩, -⟩
    imodintro
    isplitl [Hh]; · iexact Hh
    isplitl; · iexists ∅; iexact HO
    isplitl <;> iempintro
  · unfold StableHlo.held
    iintro ⟨Hh, HSI⟩
    ihave Hr := (pointsTo_read_all (Pipeline.ucRefs τ sig) (fun b => ((c : Thread nD τ).1, b)) (VZ m c) s') $$ [Hh HSI]
    · isplitl [Hh] <;> iassumption
    icases Hr with ⟨%h, HSI⟩
    imodintro
    isplitr
    · ipureintro; exact h
    · iexact HSI

/-! ## What the last contents are -/

theorem hA0 (c : Dev nD) : ∀ w, (datF (V1 m c) c).A w = V1 m c (Proc.devRef .tc (Pipeline.arrRef spec0 w)) := fun _ => rfl
theorem hA1 (c : Dev nD) : ∀ w, (datB (VY m c) c).A w = VY m c (Proc.devRef .tc (Pipeline.arrRef spec1 w)) := fun _ => rfl

/-- A buffer neither region writes. -/
theorem VY_keep (c : Dev nD) (r : Ref sig .tc) (h : ∀ w : Fin 9, Pipeline.arrRef spec0 w = r → (cfg0.win w).isOut = false) :
    VY m c (Proc.devRef .tc r) = V1 m c (Proc.devRef .tc r) :=
  Pipeline.afterRegion_keeps (datF (V1 m c) c) (V1 m c) launch0.win.arr_inj (hA0 m c) r h
theorem VZ_keep (c : Dev nD) (r : Ref sig .tc) (h : ∀ w : Fin 14, Pipeline.arrRef spec1 w = r → (cfg1.win w).isOut = false) :
    VZ m c (Proc.devRef .tc r) = VY m c (Proc.devRef .tc r) :=
  Pipeline.afterRegion_keeps (datB (VY m c) c) (VY m c) launch1.win.arr_inj (hA1 m c) r h

theorem VY_arg0 (c : Dev nD) : VY m c (Proc.devRef .tc main_arg0) = m ((c : Thread nD τ).loc main_arg0) :=
  (VY_keep m c main_arg0 (by decide)).trans ((V1_of m c main_arg0 (by decide)).trans rfl)
theorem VZ_arg0 (c : Dev nD) : VZ m c (Proc.devRef .tc main_arg0) = m ((c : Thread nD τ).loc main_arg0) :=
  (VZ_keep m c main_arg0 (by decide)).trans (VY_arg0 m c)
theorem VY_arg1 (c : Dev nD) : VY m c (Proc.devRef .tc main_arg1) = m ((c : Thread nD τ).loc main_arg1) :=
  (VY_keep m c main_arg1 (by decide)).trans ((V1_of m c main_arg1 (by decide)).trans rfl)
theorem VZ_arg1 (c : Dev nD) : VZ m c (Proc.devRef .tc main_arg1) = m ((c : Thread nD τ).loc main_arg1) :=
  (VZ_keep m c main_arg1 (by decide)).trans (VY_arg1 m c)
theorem VY_arg2 (c : Dev nD) : VY m c (Proc.devRef .tc main_arg2) = m ((c : Thread nD τ).loc main_arg2) :=
  (VY_keep m c main_arg2 (by decide)).trans ((V1_of m c main_arg2 (by decide)).trans rfl)
theorem VZ_arg2 (c : Dev nD) : VZ m c (Proc.devRef .tc main_arg2) = m ((c : Thread nD τ).loc main_arg2) :=
  (VZ_keep m c main_arg2 (by decide)).trans (VY_arg2 m c)
theorem VY_arg3 (c : Dev nD) : VY m c (Proc.devRef .tc main_arg3) = m ((c : Thread nD τ).loc main_arg3) :=
  (VY_keep m c main_arg3 (by decide)).trans ((V1_of m c main_arg3 (by decide)).trans rfl)
theorem VZ_arg3 (c : Dev nD) : VZ m c (Proc.devRef .tc main_arg3) = m ((c : Thread nD τ).loc main_arg3) :=
  (VZ_keep m c main_arg3 (by decide)).trans (VY_arg3 m c)
theorem VY_arg4 (c : Dev nD) : VY m c (Proc.devRef .tc main_arg4) = m ((c : Thread nD τ).loc main_arg4) :=
  (VY_keep m c main_arg4 (by decide)).trans ((V1_of m c main_arg4 (by decide)).trans rfl)
theorem VZ_arg4 (c : Dev nD) : VZ m c (Proc.devRef .tc main_arg4) = m ((c : Thread nD τ).loc main_arg4) :=
  (VZ_keep m c main_arg4 (by decide)).trans (VY_arg4 m c)
theorem VY_arg5 (c : Dev nD) : VY m c (Proc.devRef .tc main_arg5) = m ((c : Thread nD τ).loc main_arg5) :=
  (VY_keep m c main_arg5 (by decide)).trans ((V1_of m c main_arg5 (by decide)).trans rfl)
theorem VZ_arg5 (c : Dev nD) : VZ m c (Proc.devRef .tc main_arg5) = m ((c : Thread nD τ).loc main_arg5) :=
  (VZ_keep m c main_arg5 (by decide)).trans (VY_arg5 m c)
theorem VY_arg6 (c : Dev nD) : VY m c (Proc.devRef .tc main_arg6) = m ((c : Thread nD τ).loc main_arg6) :=
  (VY_keep m c main_arg6 (by decide)).trans ((V1_of m c main_arg6 (by decide)).trans rfl)
theorem VZ_arg6 (c : Dev nD) : VZ m c (Proc.devRef .tc main_arg6) = m ((c : Thread nD τ).loc main_arg6) :=
  (VZ_keep m c main_arg6 (by decide)).trans (VY_arg6 m c)

theorem VY_v1 (c : Dev nD) : VY m c (Proc.devRef .tc main_v1) = V1 m c (Proc.devRef .tc main_v1) := VY_keep m c main_v1 (by decide)
theorem VY_v2_0 (c : Dev nD) : VY m c (Proc.devRef .tc main_v2_0) = rowArr (F := F) (e := .f32) (seqF (V1 m c)).O :=
  (Pipeline.afterRegion_arr (datF (V1 m c) c) (V1 m c) launch0.win.arr_inj 6).trans (finalF_6 (V1 m c) c)
theorem VY_v2_1 (c : Dev nD) : VY m c (Proc.devRef .tc main_v2_1) = rowArr (F := F) (e := .bf16) (seqF (V1 m c)).Vn :=
  (Pipeline.afterRegion_arr (datF (V1 m c) c) (V1 m c) launch0.win.arr_inj 7).trans (finalF_7 (V1 m c) c)
theorem VY_v2_2 (c : Dev nD) : VY m c (Proc.devRef .tc main_v2_2) = tileArr (F := F) (e := .f32) (c := 128) (d := 128) (fun k h => spV ((seqF (V1 m c)).G k h)) :=
  (Pipeline.afterRegion_arr (datF (V1 m c) c) (V1 m c) launch0.win.arr_inj 8).trans (finalF_8 (V1 m c) c)
theorem VZ_v2_0 (c : Dev nD) : VZ m c (Proc.devRef .tc main_v2_0) = rowArr (F := F) (e := .f32) (seqF (V1 m c)).O :=
  (VZ_keep m c main_v2_0 (by decide)).trans (VY_v2_0 m c)
theorem VZ_v3_0 (c : Dev nD) : VZ m c (Proc.devRef .tc main_v3_0) = rowArr (F := F) (e := .f32) (seqB (VY m c)).Dvn :=
  (Pipeline.afterRegion_arr (datB (VY m c) c) (VY m c) launch1.win.arr_inj 8).trans (finalB_8 (VY m c) c)
theorem VZ_v3_1 (c : Dev nD) : VZ m c (Proc.devRef .tc main_v3_1) = rowArr (F := F) (e := .f32) (seqB (VY m c)).Dqd :=
  (Pipeline.afterRegion_arr (datB (VY m c) c) (VY m c) launch1.win.arr_inj 9).trans (finalB_9 (VY m c) c)
theorem VZ_v3_2 (c : Dev nD) : VZ m c (Proc.devRef .tc main_v3_2) = rowArr (F := F) (e := .f32) (seqB (VY m c)).Dkt :=
  (Pipeline.afterRegion_arr (datB (VY m c) c) (VY m c) launch1.win.arr_inj 10).trans (finalB_10 (VY m c) c)
theorem VZ_v3_3 (c : Dev nD) : VZ m c (Proc.devRef .tc main_v3_3) = rowArr (F := F) (e := .f32) (seqB (VY m c)).Dw :=
  (Pipeline.afterRegion_arr (datB (VY m c) c) (VY m c) launch1.win.arr_inj 11).trans (finalB_11 (VY m c) c)
theorem VZ_v3_4 (c : Dev nD) : VZ m c (Proc.devRef .tc main_v3_4) = tileArr (F := F) (e := .f32) (c := 64) (d := 64) (seqB (VY m c)).Dat :=
  (Pipeline.afterRegion_arr (datB (VY m c) c) (VY m c) launch1.win.arr_inj 12).trans (finalB_12 (VY m c) c)
theorem VZ_v3_5 (c : Dev nD) : VZ m c (Proc.devRef .tc main_v3_5) = tileArr (F := F) (e := .f32) (c := 1) (d := 128) (seqB (VY m c)).Dgl :=
  (Pipeline.afterRegion_arr (datB (VY m c) c) (VY m c) launch1.win.arr_inj 13).trans (finalB_13 (VY m c) c)

/-- The two regions' frame and results, as one run. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.mem ((c.tc : Thread nD τ).loc main_v2_0) = rowArr (F := F) (e := .f32) (seqF (V1 m c)).O
      ∧ r.2.mem ((c.tc : Thread nD τ).loc main_v3_0) = rowArr (F := F) (e := .f32) (seqB (VY m c)).Dvn
      ∧ r.2.mem ((c.tc : Thread nD τ).loc main_v3_1) = rowArr (F := F) (e := .f32) (seqB (VY m c)).Dqd
      ∧ r.2.mem ((c.tc : Thread nD τ).loc main_v3_2) = rowArr (F := F) (e := .f32) (seqB (VY m c)).Dkt
      ∧ r.2.mem ((c.tc : Thread nD τ).loc main_v3_3) = rowArr (F := F) (e := .f32) (seqB (VY m c)).Dw
      ∧ r.2.mem ((c.tc : Thread nD τ).loc main_v3_4) = tileArr (F := F) (e := .f32) (c := 64) (d := 64) (seqB (VY m c)).Dat
      ∧ r.2.mem ((c.tc : Thread nD τ).loc main_v3_5) = tileArr (F := F) (e := .f32) (c := 1) (d := 128) (seqB (VY m c)).Dgl)
      ∧ r.2.sem = fun _ => 0) := by
  refine (θ_run defs _ _).mono (fun r h => ⟨fun c => ?_, h.2⟩) (run_all m ρ)
  refine ⟨⟨(h.1 c (Proc.devRef .tc main_arg0) (Finset.mem_filter.mpr ⟨StableHlo.devRef_mem_tcRefs main_arg0, by decide⟩)).trans (VZ_arg0 m c), (h.1 c (Proc.devRef .tc main_arg1) (Finset.mem_filter.mpr ⟨StableHlo.devRef_mem_tcRefs main_arg1, by decide⟩)).trans (VZ_arg1 m c), (h.1 c (Proc.devRef .tc main_arg2) (Finset.mem_filter.mpr ⟨StableHlo.devRef_mem_tcRefs main_arg2, by decide⟩)).trans (VZ_arg2 m c), (h.1 c (Proc.devRef .tc main_arg3) (Finset.mem_filter.mpr ⟨StableHlo.devRef_mem_tcRefs main_arg3, by decide⟩)).trans (VZ_arg3 m c), (h.1 c (Proc.devRef .tc main_arg4) (Finset.mem_filter.mpr ⟨StableHlo.devRef_mem_tcRefs main_arg4, by decide⟩)).trans (VZ_arg4 m c), (h.1 c (Proc.devRef .tc main_arg5) (Finset.mem_filter.mpr ⟨StableHlo.devRef_mem_tcRefs main_arg5, by decide⟩)).trans (VZ_arg5 m c), (h.1 c (Proc.devRef .tc main_arg6) (Finset.mem_filter.mpr ⟨StableHlo.devRef_mem_tcRefs main_arg6, by decide⟩)).trans (VZ_arg6 m c)⟩,
    (h.1 c (Proc.devRef .tc main_v2_0) (Finset.mem_filter.mpr ⟨StableHlo.devRef_mem_tcRefs main_v2_0, by decide⟩)).trans (VZ_v2_0 m c), (h.1 c (Proc.devRef .tc main_v3_0) (Finset.mem_filter.mpr ⟨StableHlo.devRef_mem_tcRefs main_v3_0, by decide⟩)).trans (VZ_v3_0 m c), (h.1 c (Proc.devRef .tc main_v3_1) (Finset.mem_filter.mpr ⟨StableHlo.devRef_mem_tcRefs main_v3_1, by decide⟩)).trans (VZ_v3_1 m c), (h.1 c (Proc.devRef .tc main_v3_2) (Finset.mem_filter.mpr ⟨StableHlo.devRef_mem_tcRefs main_v3_2, by decide⟩)).trans (VZ_v3_2 m c), (h.1 c (Proc.devRef .tc main_v3_3) (Finset.mem_filter.mpr ⟨StableHlo.devRef_mem_tcRefs main_v3_3, by decide⟩)).trans (VZ_v3_3 m c), (h.1 c (Proc.devRef .tc main_v3_4) (Finset.mem_filter.mpr ⟨StableHlo.devRef_mem_tcRefs main_v3_4, by decide⟩)).trans (VZ_v3_4 m c), (h.1 c (Proc.devRef .tc main_v3_5) (Finset.mem_filter.mpr ⟨StableHlo.devRef_mem_tcRefs main_v3_5, by decide⟩)).trans (VZ_v3_5 m c)⟩

end Cert.Scan

end
-- ==== Proof.ScanEnt.lean ====
/- The gated delta rule's step and its gradient, read at an index: the kernel's chunk values and the reference's trip as the same scalar formulas. -/
module

public import proofs.«01_k».proof.Proof.ScanRefTrip
public import proofs.«01_k».proof.Proof.ScanRun
public import Idealize.ShloMosaic.Lib.Pointwise

@[expose] public section

set_option maxRecDepth 16384

noncomputable section

open Idealize.ShloMosaic Idealize.ShloMosaic.TcCoe Idealize.SL.Sem
open scoped BigOperators

namespace Cert.ScanEnt

section Kernel
open Cert.KernelIdeal Cert.KernelIdeal.Gen Cert.Scan

theorem ws_at (w : Vec Ideal S64x128 .bf16) (st : Vec Ideal S1x128x128 .f32) (i : Fin 64) (j : Fin 128) :
    wsV (F := Ideal) w st (ix2 i j) = ∑ k : Fin 128, w (ix2 i k) * st (ix3 0 k j) := by
  pointwise [wsV]
theorem vn_at (u : Vec Ideal S64x128 .f32) (ws : FVec Ideal S64x128 .f32) (i : Fin 64) (j : Fin 128) :
    vnV (F := Ideal) u ws (ix2 i j) = u (ix2 i j) - ws (ix2 i j) := by
  pointwise [vnV]
theorem o_at (qs : FVec Ideal S64x128 .f32) (a : Vec Ideal S1x1x64x64 .f32) (vn : FVec Ideal S64x128 .bf16) (i : Fin 64) (j : Fin 128) :
    oV (F := Ideal) qs a vn (ix2 i j) = qs (ix2 i j) + ∑ k : Fin 64, a (ix4 0 0 i k) * vn (ix2 k j) := by
  pointwise [oV]
theorem st_at (st : Vec Ideal S1x128x128 .f32) (gl : Vec Ideal S1x1x1x128 .f32) (kt : Vec Ideal S64x128 .bf16) (vn : FVec Ideal S64x128 .bf16) (i : Fin 128) (j : Fin 128) :
    stV (F := Ideal) st gl kt vn (ix3 0 i j) = st (ix3 0 i j) * gl (ix4 0 0 0 j) + ∑ k : Fin 64, kt (ix2 k i) * vn (ix2 k j) := by
  pointwise [stV]
theorem sp_at (st : Vec Ideal S1x128x128 .f32) (i : Fin 128) (j : Fin 128) :
    spV (F := Ideal) st (ix4 0 0 i j) = st (ix3 0 i j) := by
  pointwise [spV]
theorem dvn_at (ds : Vec Ideal S1x128x128 .f32) (d : Vec Ideal S64x128 .f32) (a : Vec Ideal S1x1x64x64 .f32) (kt : Vec Ideal S64x128 .bf16) (i : Fin 64) (j : Fin 128) :
    dvnV (F := Ideal) ds d a kt (ix2 i j) = (∑ k : Fin 64, a (ix4 0 0 k i) * d (ix2 k j)) + ∑ k : Fin 128, kt (ix2 i k) * ds (ix3 0 k j) := by
  pointwise [dvnV, b16]
theorem dqd_at (d : Vec Ideal S64x128 .f32) (sp : Vec Ideal S1x1x128x128 .f32) (i : Fin 64) (j : Fin 128) :
    dqdV (F := Ideal) d sp (ix2 i j) = ∑ k : Fin 128, d (ix2 i k) * sp (ix4 0 0 j k) := by
  pointwise [dqdV, b16, sq4]
theorem dat_at (d : Vec Ideal S64x128 .f32) (vn : Vec Ideal S64x128 .bf16) (i : Fin 64) (j : Fin 64) :
    datV (F := Ideal) d vn (ix4 0 0 i j) = ∑ k : Fin 128, d (ix2 i k) * vn (ix2 j k) := by
  pointwise [datV, b16]
theorem dkt_at (vn : Vec Ideal S64x128 .bf16) (ds : Vec Ideal S1x128x128 .f32) (i : Fin 64) (j : Fin 128) :
    dktV (F := Ideal) vn ds (ix2 i j) = ∑ k : Fin 128, vn (ix2 i k) * ds (ix3 0 j k) := by
  pointwise [dktV, b16]
theorem dgl_at (sp : Vec Ideal S1x1x128x128 .f32) (ds : Vec Ideal S1x128x128 .f32) (l : Fin 128) :
    dglV (F := Ideal) sp ds (ix4 0 0 0 l) = ∑ i : Fin 128, ∑ j : Fin 128, sp (ix4 0 0 i j) * ds (ix3 0 i j) := by
  pointwise [dglV, sq4]
theorem qdo_at (qd : Vec Ideal S64x128 .bf16) (d : Vec Ideal S64x128 .f32) (i : Fin 128) (j : Fin 128) :
    qdoV (F := Ideal) qd d (ix2 i j) = ∑ k : Fin 64, qd (ix2 k i) * d (ix2 k j) := by
  pointwise [qdoV, b16]
theorem dw_at (dvn : FVec Ideal S64x128 .f32) (sp : Vec Ideal S1x1x128x128 .f32) (i : Fin 64) (j : Fin 128) :
    dwV (F := Ideal) dvn sp (ix2 i j) = 0 - ∑ k : Fin 128, dvn (ix2 i k) * sp (ix4 0 0 j k) := by
  pointwise [dwV, b16, sq4]
theorem ds_at (ds : Vec Ideal S1x128x128 .f32) (gl : Vec Ideal S1x1x1x128 .f32) (qdo : FVec Ideal S128x128 .f32) (w : Vec Ideal S64x128 .bf16) (dvn : FVec Ideal S64x128 .f32) (i : Fin 128) (j : Fin 128) :
    dsV (F := Ideal) ds gl qdo w dvn (ix3 0 i j) = (qdo (ix2 i j) + ds (ix3 0 i j) * gl (ix4 0 0 0 j)) - ∑ k : Fin 64, w (ix2 k i) * dvn (ix2 k j) := by
  pointwise [dsV, b16]
end Kernel

section Reference
open Cert.ReferenceIdeal Cert.ReferenceIdeal.Gen Cert.ScanRef

theorem rvn_at (u w : Vec Ideal S4x64x128 .f32) (s : Vec Ideal S4x128x128 .f32) (h : Fin 4) (i : Fin 64) (j : Fin 128) :
    fVn (F := Ideal) u w s (ix3 h i j) = u (ix3 h i j) - ∑ k : Fin 128, w (ix3 h i k) * s (ix3 h k j) := by
  pointwise [fVn]
theorem ro_at (qd : Vec Ideal S4x64x128 .f32) (s : Vec Ideal S4x128x128 .f32) (a : Vec Ideal S4x64x64 .f32) (vn : Vec Ideal S4x64x128 .f32) (h : Fin 4) (i : Fin 64) (j : Fin 128) :
    fO (F := Ideal) qd s a vn (ix3 h i j) = (∑ k : Fin 128, qd (ix3 h i k) * s (ix3 h k j)) + ∑ k : Fin 64, a (ix3 h i k) * vn (ix3 h k j) := by
  pointwise [fO]
theorem rgl_at (gl : Vec Ideal S4 .f32) (h : Fin 4) : fGl (F := Ideal) gl (ix3 h 0 0) = gl (ix1 h) := by
  pointwise [fGl]
theorem rst_at (s : Vec Ideal S4x128x128 .f32) (gl : Vec Ideal S4x1x1 .f32) (kt vn : Vec Ideal S4x64x128 .f32) (h : Fin 4) (i j : Fin 128) :
    fSt (F := Ideal) s gl kt vn (ix3 h i j) = s (ix3 h i j) * gl (ix3 h 0 0) + ∑ k : Fin 64, kt (ix3 h k i) * vn (ix3 h k j) := by
  pointwise [fSt]
theorem rdvn_at (ds : Vec Ideal S4x128x128 .f32) (kt dO : Vec Ideal S4x64x128 .f32) (a : Vec Ideal S4x64x64 .f32) (h : Fin 4) (i : Fin 64) (j : Fin 128) :
    bDvn (F := Ideal) ds kt dO a (ix3 h i j) = (∑ k : Fin 128, ds (ix3 h k j) * kt (ix3 h i k)) + ∑ k : Fin 64, dO (ix3 h k j) * a (ix3 h k i) := by
  pointwise [bDvn]
theorem rdkt_at (ds : Vec Ideal S4x128x128 .f32) (vn : Vec Ideal S4x64x128 .f32) (h : Fin 4) (i : Fin 64) (j : Fin 128) :
    bDkt (F := Ideal) ds vn (ix3 h i j) = ∑ k : Fin 128, ds (ix3 h j k) * vn (ix3 h i k) := by
  pointwise [bDkt]
theorem rdgl_at (st ds : Vec Ideal S4x128x128 .f32) (h : Fin 4) :
    bDgl (F := Ideal) st ds (ix1 h) = ∑ i : Fin 128, ∑ j : Fin 128, st (ix3 h i j) * ds (ix3 h i j) := by
  pointwise [bDgl]; simp only [Fin.sum_univ_two, Finset.univ_unique, Finset.sum_const, Finset.card_singleton, one_smul]
theorem rdat_at (dO vn : Vec Ideal S4x64x128 .f32) (h : Fin 4) (i j : Fin 64) :
    bDat (F := Ideal) dO vn (ix3 h i j) = ∑ k : Fin 128, dO (ix3 h i k) * vn (ix3 h j k) := by
  pointwise [bDat]
theorem rdqd_at (dO : Vec Ideal S4x64x128 .f32) (st : Vec Ideal S4x128x128 .f32) (h : Fin 4) (i : Fin 64) (j : Fin 128) :
    bDqd (F := Ideal) dO st (ix3 h i j) = ∑ k : Fin 128, dO (ix3 h i k) * st (ix3 h j k) := by
  pointwise [bDqd]
theorem rdw_at (dv : Vec Ideal S4x64x128 .f32) (st : Vec Ideal S4x128x128 .f32) (h : Fin 4) (i : Fin 64) (j : Fin 128) :
    bDw (F := Ideal) dv st (ix3 h i j) = ∑ k : Fin 128, -dv (ix3 h i k) * st (ix3 h j k) := by
  pointwise [bDw]
theorem rds_at (ds : Vec Ideal S4x128x128 .f32) (gl : Vec Ideal S4x1x1 .f32) (dO qd dv w : Vec Ideal S4x64x128 .f32) (h : Fin 4) (i j : Fin 128) :
    bDs (F := Ideal) ds gl dO qd dv w (ix3 h i j) = (ds (ix3 h i j) * gl (ix3 h 0 0) + ∑ k : Fin 64, dO (ix3 h k j) * qd (ix3 h k i)) + ∑ k : Fin 64, -dv (ix3 h k j) * w (ix3 h k i) := by
  pointwise [bDs]
end Reference
end Cert.ScanEnt
-- ==== Proof.ScanRefIdx.lean ====
/- The slices and the updates of the reference's stacks, read at an index. -/
module

public import proofs.«01_k».proof.Proof.ScanRefTrip
public import Idealize.ShloMosaic.Lib.Pointwise

@[expose] public section

set_option maxRecDepth 16384

noncomputable section

open Idealize.ShloMosaic Idealize.ShloMosaic.TcCoe Idealize.SL.Sem

namespace Cert.ScanRef
open Cert.ReferenceIdeal Cert.ReferenceIdeal.Gen

variable {F : FTy → Type} [FloatOps F]

theorem up_toInt : ∀ k : Fin 64, (Scf.iv 0#32 1#32 k.val).toInt = (k.val : Int) := by decide +kernel
theorem down_toInt : ∀ k : Fin 64, (64#32 - Scf.iv 0#32 1#32 (63 - k.val) - 1#32).toInt = (k.val : Int) := by decide +kernel

theorem rd_S64x4x64x128_at (x : Vec F S64x4x64x128 .f32) (i : BitVec 32) (n : Fin 64) (hi : i.toInt = (n.val : Int)) (h : Fin 4) (a : Fin 64) (b : Fin 128) :
    rd_S64x4x64x128 x i (ix3 h a b) = x (ix4 n h a b) := by
  have hn := n.isLt
  have e : rd_S64x4x64x128 x i (ix3 h a b) = Host.dynamicSlice S1x4x64x128 x ![i.toInt, 0, 0, 0] sliceFits_S64x4x64x128_S1x4x64x128 (ix4 0 h a b) := by
    pointwise [rd_S64x4x64x128]
  rw [e, Host.dynamicSlice_apply]
  refine congrArg x (funext fun ax => Fin.ext ?_)
  have e0 := Host.clampedStart_of_le (s := S64x4x64x128) (t := S1x4x64x128) rfl ![i.toInt, 0, 0, 0] 0 n.val hi (show n.val + 1 ≤ 64 by omega)
  have e1 := Host.clampedStart_of_le (s := S64x4x64x128) (t := S1x4x64x128) rfl ![i.toInt, 0, 0, 0] 1 0 rfl (show 0 + 4 ≤ 4 by omega)
  have e2 := Host.clampedStart_of_le (s := S64x4x64x128) (t := S1x4x64x128) rfl ![i.toInt, 0, 0, 0] 2 0 rfl (show 0 + 64 ≤ 64 by omega)
  have e3 := Host.clampedStart_of_le (s := S64x4x64x128) (t := S1x4x64x128) rfl ![i.toInt, 0, 0, 0] 3 0 rfl (show 0 + 128 ≤ 128 by omega)
  match ax with
  | 0 => exact (congrArg (· + 0) e0)
  | 1 => exact (congrArg (· + h.val) e1).trans (Nat.zero_add _)
  | 2 => exact (congrArg (· + a.val) e2).trans (Nat.zero_add _)
  | 3 => exact (congrArg (· + b.val) e3).trans (Nat.zero_add _)
theorem wr_S64x4x64x128_at (x : Vec F S64x4x64x128 .f32) (u : Vec F S4x64x128 .f32) (i : BitVec 32) (n : Fin 64) (hi : i.toInt = (n.val : Int)) (k : Fin 64) (h : Fin 4) (a : Fin 64) (b : Fin 128) :
    wr_S64x4x64x128 x u i (ix4 k h a b) = if k = n then u (ix3 h a b) else x (ix4 k h a b) := by
  have hn := n.isLt
  have e0 := Host.clampedStart_of_le (s := S64x4x64x128) (t := S1x4x64x128) rfl ![i.toInt, 0, 0, 0] 0 n.val hi (show n.val + 1 ≤ 64 by omega)
  have e1 := Host.clampedStart_of_le (s := S64x4x64x128) (t := S1x4x64x128) rfl ![i.toInt, 0, 0, 0] 1 0 rfl (show 0 + 4 ≤ 4 by omega)
  have e2 := Host.clampedStart_of_le (s := S64x4x64x128) (t := S1x4x64x128) rfl ![i.toInt, 0, 0, 0] 2 0 rfl (show 0 + 64 ≤ 64 by omega)
  have e3 := Host.clampedStart_of_le (s := S64x4x64x128) (t := S1x4x64x128) rfl ![i.toInt, 0, 0, 0] 3 0 rfl (show 0 + 128 ≤ 128 by omega)
  unfold wr_S64x4x64x128
  rw [Host.dynamicUpdateSlice_apply]
  by_cases hk : k = n
  · subst hk
    rw [if_pos rfl, dif_pos]
    · show u _ = u _
      refine congrArg u (funext fun ax => ?_)
      match ax with
      | 0 => exact Fin.ext ((congrArg (h.val - ·) e1).trans (Nat.sub_zero _))
      | 1 => exact Fin.ext ((congrArg (a.val - ·) e2).trans (Nat.sub_zero _))
      | 2 => exact Fin.ext ((congrArg (b.val - ·) e3).trans (Nat.sub_zero _))
    · intro ax
      match ax with
      | 0 => exact ⟨e0.le, by have := e0; show k.val < _ + 1; omega⟩
      | 1 => exact ⟨by rw [e1]; exact Nat.zero_le _, by rw [e1]; show h.val < 0 + 4; omega⟩
      | 2 => exact ⟨by rw [e2]; exact Nat.zero_le _, by rw [e2]; show a.val < 0 + 64; omega⟩
      | 3 => exact ⟨by rw [e3]; exact Nat.zero_le _, by rw [e3]; show b.val < 0 + 128; omega⟩
  · rw [if_neg hk, dif_neg]
    intro hin
    have h0 := hin 0
    rw [e0] at h0
    exact hk (Fin.ext (by have h1 : n.val ≤ k.val ∧ k.val < n.val + 1 := h0; omega))
theorem rd_S64x4x64x64_at (x : Vec F S64x4x64x64 .f32) (i : BitVec 32) (n : Fin 64) (hi : i.toInt = (n.val : Int)) (h : Fin 4) (a : Fin 64) (b : Fin 64) :
    rd_S64x4x64x64 x i (ix3 h a b) = x (ix4 n h a b) := by
  have hn := n.isLt
  have e : rd_S64x4x64x64 x i (ix3 h a b) = Host.dynamicSlice S1x4x64x64 x ![i.toInt, 0, 0, 0] sliceFits_S64x4x64x64_S1x4x64x64 (ix4 0 h a b) := by
    pointwise [rd_S64x4x64x64]
  rw [e, Host.dynamicSlice_apply]
  refine congrArg x (funext fun ax => Fin.ext ?_)
  have e0 := Host.clampedStart_of_le (s := S64x4x64x64) (t := S1x4x64x64) rfl ![i.toInt, 0, 0, 0] 0 n.val hi (show n.val + 1 ≤ 64 by omega)
  have e1 := Host.clampedStart_of_le (s := S64x4x64x64) (t := S1x4x64x64) rfl ![i.toInt, 0, 0, 0] 1 0 rfl (show 0 + 4 ≤ 4 by omega)
  have e2 := Host.clampedStart_of_le (s := S64x4x64x64) (t := S1x4x64x64) rfl ![i.toInt, 0, 0, 0] 2 0 rfl (show 0 + 64 ≤ 64 by omega)
  have e3 := Host.clampedStart_of_le (s := S64x4x64x64) (t := S1x4x64x64) rfl ![i.toInt, 0, 0, 0] 3 0 rfl (show 0 + 64 ≤ 64 by omega)
  match ax with
  | 0 => exact (congrArg (· + 0) e0)
  | 1 => exact (congrArg (· + h.val) e1).trans (Nat.zero_add _)
  | 2 => exact (congrArg (· + a.val) e2).trans (Nat.zero_add _)
  | 3 => exact (congrArg (· + b.val) e3).trans (Nat.zero_add _)
theorem wr_S64x4x64x64_at (x : Vec F S64x4x64x64 .f32) (u : Vec F S4x64x64 .f32) (i : BitVec 32) (n : Fin 64) (hi : i.toInt = (n.val : Int)) (k : Fin 64) (h : Fin 4) (a : Fin 64) (b : Fin 64) :
    wr_S64x4x64x64 x u i (ix4 k h a b) = if k = n then u (ix3 h a b) else x (ix4 k h a b) := by
  have hn := n.isLt
  have e0 := Host.clampedStart_of_le (s := S64x4x64x64) (t := S1x4x64x64) rfl ![i.toInt, 0, 0, 0] 0 n.val hi (show n.val + 1 ≤ 64 by omega)
  have e1 := Host.clampedStart_of_le (s := S64x4x64x64) (t := S1x4x64x64) rfl ![i.toInt, 0, 0, 0] 1 0 rfl (show 0 + 4 ≤ 4 by omega)
  have e2 := Host.clampedStart_of_le (s := S64x4x64x64) (t := S1x4x64x64) rfl ![i.toInt, 0, 0, 0] 2 0 rfl (show 0 + 64 ≤ 64 by omega)
  have e3 := Host.clampedStart_of_le (s := S64x4x64x64) (t := S1x4x64x64) rfl ![i.toInt, 0, 0, 0] 3 0 rfl (show 0 + 64 ≤ 64 by omega)
  unfold wr_S64x4x64x64
  rw [Host.dynamicUpdateSlice_apply]
  by_cases hk : k = n
  · subst hk
    rw [if_pos rfl, dif_pos]
    · show u _ = u _
      refine congrArg u (funext fun ax => ?_)
      match ax with
      | 0 => exact Fin.ext ((congrArg (h.val - ·) e1).trans (Nat.sub_zero _))
      | 1 => exact Fin.ext ((congrArg (a.val - ·) e2).trans (Nat.sub_zero _))
      | 2 => exact Fin.ext ((congrArg (b.val - ·) e3).trans (Nat.sub_zero _))
    · intro ax
      match ax with
      | 0 => exact ⟨e0.le, by have := e0; show k.val < _ + 1; omega⟩
      | 1 => exact ⟨by rw [e1]; exact Nat.zero_le _, by rw [e1]; show h.val < 0 + 4; omega⟩
      | 2 => exact ⟨by rw [e2]; exact Nat.zero_le _, by rw [e2]; show a.val < 0 + 64; omega⟩
      | 3 => exact ⟨by rw [e3]; exact Nat.zero_le _, by rw [e3]; show b.val < 0 + 64; omega⟩
  · rw [if_neg hk, dif_neg]
    intro hin
    have h0 := hin 0
    rw [e0] at h0
    exact hk (Fin.ext (by have h1 : n.val ≤ k.val ∧ k.val < n.val + 1 := h0; omega))
theorem rd_S64x4x128x128_at (x : Vec F S64x4x128x128 .f32) (i : BitVec 32) (n : Fin 64) (hi : i.toInt = (n.val : Int)) (h : Fin 4) (a : Fin 128) (b : Fin 128) :
    rd_S64x4x128x128 x i (ix3 h a b) = x (ix4 n h a b) := by
  have hn := n.isLt
  have e : rd_S64x4x128x128 x i (ix3 h a b) = Host.dynamicSlice S1x4x128x128 x ![i.toInt, 0, 0, 0] sliceFits_S64x4x128x128_S1x4x128x128 (ix4 0 h a b) := by
    pointwise [rd_S64x4x128x128]
  rw [e, Host.dynamicSlice_apply]
  refine congrArg x (funext fun ax => Fin.ext ?_)
  have e0 := Host.clampedStart_of_le (s := S64x4x128x128) (t := S1x4x128x128) rfl ![i.toInt, 0, 0, 0] 0 n.val hi (show n.val + 1 ≤ 64 by omega)
  have e1 := Host.clampedStart_of_le (s := S64x4x128x128) (t := S1x4x128x128) rfl ![i.toInt, 0, 0, 0] 1 0 rfl (show 0 + 4 ≤ 4 by omega)
  have e2 := Host.clampedStart_of_le (s := S64x4x128x128) (t := S1x4x128x128) rfl ![i.toInt, 0, 0, 0] 2 0 rfl (show 0 + 128 ≤ 128 by omega)
  have e3 := Host.clampedStart_of_le (s := S64x4x128x128) (t := S1x4x128x128) rfl ![i.toInt, 0, 0, 0] 3 0 rfl (show 0 + 128 ≤ 128 by omega)
  match ax with
  | 0 => exact (congrArg (· + 0) e0)
  | 1 => exact (congrArg (· + h.val) e1).trans (Nat.zero_add _)
  | 2 => exact (congrArg (· + a.val) e2).trans (Nat.zero_add _)
  | 3 => exact (congrArg (· + b.val) e3).trans (Nat.zero_add _)
theorem wr_S64x4x128x128_at (x : Vec F S64x4x128x128 .f32) (u : Vec F S4x128x128 .f32) (i : BitVec 32) (n : Fin 64) (hi : i.toInt = (n.val : Int)) (k : Fin 64) (h : Fin 4) (a : Fin 128) (b : Fin 128) :
    wr_S64x4x128x128 x u i (ix4 k h a b) = if k = n then u (ix3 h a b) else x (ix4 k h a b) := by
  have hn := n.isLt
  have e0 := Host.clampedStart_of_le (s := S64x4x128x128) (t := S1x4x128x128) rfl ![i.toInt, 0, 0, 0] 0 n.val hi (show n.val + 1 ≤ 64 by omega)
  have e1 := Host.clampedStart_of_le (s := S64x4x128x128) (t := S1x4x128x128) rfl ![i.toInt, 0, 0, 0] 1 0 rfl (show 0 + 4 ≤ 4 by omega)
  have e2 := Host.clampedStart_of_le (s := S64x4x128x128) (t := S1x4x128x128) rfl ![i.toInt, 0, 0, 0] 2 0 rfl (show 0 + 128 ≤ 128 by omega)
  have e3 := Host.clampedStart_of_le (s := S64x4x128x128) (t := S1x4x128x128) rfl ![i.toInt, 0, 0, 0] 3 0 rfl (show 0 + 128 ≤ 128 by omega)
  unfold wr_S64x4x128x128
  rw [Host.dynamicUpdateSlice_apply]
  by_cases hk : k = n
  · subst hk
    rw [if_pos rfl, dif_pos]
    · show u _ = u _
      refine congrArg u (funext fun ax => ?_)
      match ax with
      | 0 => exact Fin.ext ((congrArg (h.val - ·) e1).trans (Nat.sub_zero _))
      | 1 => exact Fin.ext ((congrArg (a.val - ·) e2).trans (Nat.sub_zero _))
      | 2 => exact Fin.ext ((congrArg (b.val - ·) e3).trans (Nat.sub_zero _))
    · intro ax
      match ax with
      | 0 => exact ⟨e0.le, by have := e0; show k.val < _ + 1; omega⟩
      | 1 => exact ⟨by rw [e1]; exact Nat.zero_le _, by rw [e1]; show h.val < 0 + 4; omega⟩
      | 2 => exact ⟨by rw [e2]; exact Nat.zero_le _, by rw [e2]; show a.val < 0 + 128; omega⟩
      | 3 => exact ⟨by rw [e3]; exact Nat.zero_le _, by rw [e3]; show b.val < 0 + 128; omega⟩
  · rw [if_neg hk, dif_neg]
    intro hin
    have h0 := hin 0
    rw [e0] at h0
    exact hk (Fin.ext (by have h1 : n.val ≤ k.val ∧ k.val < n.val + 1 := h0; omega))
theorem rd_S64x4x1x1_at (x : Vec F S64x4x1x1 .f32) (i : BitVec 32) (n : Fin 64) (hi : i.toInt = (n.val : Int)) (h : Fin 4) (a : Fin 1) (b : Fin 1) :
    rd_S64x4x1x1 x i (ix3 h a b) = x (ix4 n h a b) := by
  have hn := n.isLt
  have e : rd_S64x4x1x1 x i (ix3 h a b) = Host.dynamicSlice S1x4x1x1 x ![i.toInt, 0, 0, 0] sliceFits_S64x4x1x1_S1x4x1x1 (ix4 0 h a b) := by
    pointwise [rd_S64x4x1x1]
  rw [e, Host.dynamicSlice_apply]
  refine congrArg x (funext fun ax => Fin.ext ?_)
  have e0 := Host.clampedStart_of_le (s := S64x4x1x1) (t := S1x4x1x1) rfl ![i.toInt, 0, 0, 0] 0 n.val hi (show n.val + 1 ≤ 64 by omega)
  have e1 := Host.clampedStart_of_le (s := S64x4x1x1) (t := S1x4x1x1) rfl ![i.toInt, 0, 0, 0] 1 0 rfl (show 0 + 4 ≤ 4 by omega)
  have e2 := Host.clampedStart_of_le (s := S64x4x1x1) (t := S1x4x1x1) rfl ![i.toInt, 0, 0, 0] 2 0 rfl (show 0 + 1 ≤ 1 by omega)
  have e3 := Host.clampedStart_of_le (s := S64x4x1x1) (t := S1x4x1x1) rfl ![i.toInt, 0, 0, 0] 3 0 rfl (show 0 + 1 ≤ 1 by omega)
  match ax with
  | 0 => exact (congrArg (· + 0) e0)
  | 1 => exact (congrArg (· + h.val) e1).trans (Nat.zero_add _)
  | 2 => exact (congrArg (· + a.val) e2).trans (Nat.zero_add _)
  | 3 => exact (congrArg (· + b.val) e3).trans (Nat.zero_add _)
theorem wr_S64x4x1x1_at (x : Vec F S64x4x1x1 .f32) (u : Vec F S4x1x1 .f32) (i : BitVec 32) (n : Fin 64) (hi : i.toInt = (n.val : Int)) (k : Fin 64) (h : Fin 4) (a : Fin 1) (b : Fin 1) :
    wr_S64x4x1x1 x u i (ix4 k h a b) = if k = n then u (ix3 h a b) else x (ix4 k h a b) := by
  have hn := n.isLt
  have e0 := Host.clampedStart_of_le (s := S64x4x1x1) (t := S1x4x1x1) rfl ![i.toInt, 0, 0, 0] 0 n.val hi (show n.val + 1 ≤ 64 by omega)
  have e1 := Host.clampedStart_of_le (s := S64x4x1x1) (t := S1x4x1x1) rfl ![i.toInt, 0, 0, 0] 1 0 rfl (show 0 + 4 ≤ 4 by omega)
  have e2 := Host.clampedStart_of_le (s := S64x4x1x1) (t := S1x4x1x1) rfl ![i.toInt, 0, 0, 0] 2 0 rfl (show 0 + 1 ≤ 1 by omega)
  have e3 := Host.clampedStart_of_le (s := S64x4x1x1) (t := S1x4x1x1) rfl ![i.toInt, 0, 0, 0] 3 0 rfl (show 0 + 1 ≤ 1 by omega)
  unfold wr_S64x4x1x1
  rw [Host.dynamicUpdateSlice_apply]
  by_cases hk : k = n
  · subst hk
    rw [if_pos rfl, dif_pos]
    · show u _ = u _
      refine congrArg u (funext fun ax => ?_)
      match ax with
      | 0 => exact Fin.ext ((congrArg (h.val - ·) e1).trans (Nat.sub_zero _))
      | 1 => exact Subsingleton.elim (α := Fin 1) _ _
      | 2 => exact Subsingleton.elim (α := Fin 1) _ _
    · intro ax
      match ax with
      | 0 => exact ⟨e0.le, by have := e0; show k.val < _ + 1; omega⟩
      | 1 => exact ⟨by rw [e1]; exact Nat.zero_le _, by rw [e1]; show h.val < 0 + 4; omega⟩
      | 2 => exact ⟨by rw [e2]; exact Nat.zero_le _, by rw [e2]; show a.val < 0 + 1; omega⟩
      | 3 => exact ⟨by rw [e3]; exact Nat.zero_le _, by rw [e3]; show b.val < 0 + 1; omega⟩
  · rw [if_neg hk, dif_neg]
    intro hin
    have h0 := hin 0
    rw [e0] at h0
    exact hk (Fin.ext (by have h1 : n.val ≤ k.val ∧ k.val < n.val + 1 := h0; omega))
theorem rd_S64x4_at (x : Vec F S64x4 .f32) (i : BitVec 32) (n : Fin 64) (hi : i.toInt = (n.val : Int)) (h : Fin 4) :
    rd_S64x4 x i (ix1 h) = x (ix2 n h) := by
  have hn := n.isLt
  have e : rd_S64x4 x i (ix1 h) = Host.dynamicSlice S1x4 x ![i.toInt, 0] sliceFits_S64x4_S1x4 (ix2 0 h) := by
    pointwise [rd_S64x4]
  rw [e, Host.dynamicSlice_apply]
  refine congrArg x (funext fun ax => Fin.ext ?_)
  have e0 := Host.clampedStart_of_le (s := S64x4) (t := S1x4) rfl ![i.toInt, 0] 0 n.val hi (show n.val + 1 ≤ 64 by omega)
  have e1 := Host.clampedStart_of_le (s := S64x4) (t := S1x4) rfl ![i.toInt, 0] 1 0 rfl (show 0 + 4 ≤ 4 by omega)
  match ax with
  | 0 => exact (congrArg (· + 0) e0)
  | 1 => exact (congrArg (· + h.val) e1).trans (Nat.zero_add _)
theorem wr_S64x4_at (x : Vec F S64x4 .f32) (u : Vec F S4 .f32) (i : BitVec 32) (n : Fin 64) (hi : i.toInt = (n.val : Int)) (k : Fin 64) (h : Fin 4) :
    wr_S64x4 x u i (ix2 k h) = if k = n then u (ix1 h) else x (ix2 k h) := by
  have hn := n.isLt
  have e0 := Host.clampedStart_of_le (s := S64x4) (t := S1x4) rfl ![i.toInt, 0] 0 n.val hi (show n.val + 1 ≤ 64 by omega)
  have e1 := Host.clampedStart_of_le (s := S64x4) (t := S1x4) rfl ![i.toInt, 0] 1 0 rfl (show 0 + 4 ≤ 4 by omega)
  unfold wr_S64x4
  rw [Host.dynamicUpdateSlice_apply]
  by_cases hk : k = n
  · subst hk
    rw [if_pos rfl, dif_pos]
    · show u _ = u _
      refine congrArg u (funext fun ax => ?_)
      match ax with
      | 0 => exact Fin.ext ((congrArg (h.val - ·) e1).trans (Nat.sub_zero _))
    · intro ax
      match ax with
      | 0 => exact ⟨e0.le, by have := e0; show k.val < _ + 1; omega⟩
      | 1 => exact ⟨by rw [e1]; exact Nat.zero_le _, by rw [e1]; show h.val < 0 + 4; omega⟩
  · rw [if_neg hk, dif_neg]
    intro hin
    have h0 := hin 0
    rw [e0] at h0
    exact hk (Fin.ext (by have h1 : n.val ≤ k.val ∧ k.val < n.val + 1 := h0; omega))

end Cert.ScanRef
-- ==== Proof.ScanVal.lean ====
/- The gated delta rule's reference, trip by trip, holds what the kernel computes chunk by chunk; the gradient's trips do so where every number is finite. -/
module

public import proofs.«01_k».proof.Proof.ScanEnt
public import proofs.«01_k».proof.Proof.ScanRefIdx

@[expose] public section

set_option maxRecDepth 16384

noncomputable section

open Idealize.ShloMosaic Idealize.ShloMosaic.TcCoe Idealize.SL.Sem Idealize.ShloMosaic.StableHlo
open scoped BigOperators

namespace Cert.ScanVal

open Cert.ReferenceIdeal Cert.ReferenceIdeal.Gen Cert.ScanRef Cert.ScanEnt
open Cert.Scan (FwdSeq BwdSeq wsV vnV oV stV spV dvnV dqdV datV dktV dglV qdoV dwV dsV stZero)

/-! ## Finite numbers -/

/-- The number is finite. -/
def Rl (x : EReal) : Prop := ∃ r : ℝ, x = (r : EReal)

theorem Rl.add {x y : EReal} (hx : Rl x) (hy : Rl y) : Rl (x + y) := by
  obtain ⟨a, rfl⟩ := hx; obtain ⟨b, rfl⟩ := hy; exact ⟨a + b, (EReal.coe_add a b).symm⟩
theorem Rl.mul {x y : EReal} (hx : Rl x) (hy : Rl y) : Rl (x * y) := by
  obtain ⟨a, rfl⟩ := hx; obtain ⟨b, rfl⟩ := hy; exact ⟨a * b, (EReal.coe_mul a b).symm⟩
theorem Rl.sub {x y : EReal} (hx : Rl x) (hy : Rl y) : Rl (x - y) := by
  obtain ⟨a, rfl⟩ := hx; obtain ⟨b, rfl⟩ := hy; exact ⟨a - b, (EReal.coe_sub a b).symm⟩
theorem Rl.zero : Rl 0 := ⟨0, rfl⟩
theorem Rl.sum {ι : Type} (s : Finset ι) (f : ι → EReal) (h : ∀ i, Rl (f i)) : Rl (∑ i ∈ s, f i) := by
  classical
  induction s using Finset.induction_on with
  | empty => simpa using Rl.zero
  | insert a s ha ih => rw [Finset.sum_insert ha]; exact (h a).add ih
theorem sum_neg_mul {ι : Type} [Fintype ι] (f g : ι → EReal) (hf : ∀ i, Rl (f i)) (hg : ∀ i, Rl (g i)) :
    ∑ i, -f i * g i = -∑ i, f i * g i := by
  choose a ha using hf
  choose b hb using hg
  have h1 : ∀ i, -f i * g i = ((-(a i * b i) : ℝ) : EReal) := fun i => by rw [ha, hb, EReal.neg_mul, EReal.coe_neg, EReal.coe_mul]
  have h2 : ∀ i, f i * g i = ((a i * b i : ℝ) : EReal) := fun i => by rw [ha, hb, EReal.coe_mul]
  have key : ∀ s : Finset ι, ∑ i ∈ s, ((-(a i * b i) : ℝ) : EReal) = -∑ i ∈ s, ((a i * b i : ℝ) : EReal) := by
    classical
    intro s
    induction s using Finset.induction_on with
    | empty => simp
    | insert x s hx ih =>
      obtain ⟨r, hr⟩ := Rl.sum s (fun i => ((a i * b i : ℝ) : EReal)) (fun i => ⟨_, rfl⟩)
      rw [Finset.sum_insert hx, Finset.sum_insert hx, ih, hr, ← EReal.coe_add, ← EReal.coe_neg, ← EReal.coe_neg, ← EReal.coe_add, neg_add]
  rw [Finset.sum_congr rfl fun i _ => h1 i, Finset.sum_congr rfl fun i _ => h2 i, key]
theorem Rl.of_sub_self {x : EReal} (h : x - x = 0) : Rl x := by
  induction x using EReal.rec with
  | bot => exact absurd h (by decide)
  | top => exact absurd h (by decide)
  | coe r => exact ⟨r, rfl⟩

/-! ## The forward trips -/

/-- The buffers the trips read hold the chunks. -/
structure LinkF (σ : FwdSeq Ideal) (V : Valuation τ sig (Elt Ideal)) : Prop where
  at' : ∀ (n : Fin 64) (h : Fin 4) (i j : Fin 64), V (Proc.devRef .tc main_v16_0) (ix4 n h i j) = σ.At n.val h.val (ix4 0 0 i j)
  qd : ∀ (n : Fin 64) (h : Fin 4) (i : Fin 64) (j : Fin 128), V (Proc.devRef .tc main_v16_1) (ix4 n h i j) = σ.Qd n.val h.val (ix2 i j)
  kt : ∀ (n : Fin 64) (h : Fin 4) (i : Fin 64) (j : Fin 128), V (Proc.devRef .tc main_v16_2) (ix4 n h i j) = σ.Kt n.val h.val (ix2 i j)
  u : ∀ (n : Fin 64) (h : Fin 4) (i : Fin 64) (j : Fin 128), V (Proc.devRef .tc main_v16_3) (ix4 n h i j) = σ.U n.val h.val (ix2 i j)
  w : ∀ (n : Fin 64) (h : Fin 4) (i : Fin 64) (j : Fin 128), V (Proc.devRef .tc main_v16_4) (ix4 n h i j) = σ.W n.val h.val (ix2 i j)
  gl : ∀ (n : Fin 64) (h : Fin 4) (l : Fin 128), V (Proc.devRef .tc main_v16_5) (ix2 n h) = σ.Gl n.val h.val (ix4 0 0 0 l)
/-- What the forward loop carries after `k` trips. -/
structure InvF (σ : FwdSeq Ideal) (k : ℕ) (V : Valuation τ sig (Elt Ideal)) : Prop where
  st : ∀ (h : Fin 4) (i j : Fin 128), V (Proc.devRef .tc main_v16_7) (ix3 h i j) = σ.G k h.val (ix3 0 i j)
  o : ∀ (n : Fin 64) (h : Fin 4) (i : Fin 64) (j : Fin 128), n.val < k → V (Proc.devRef .tc main_v16_8) (ix4 n h i j) = σ.O n.val h.val (ix2 i j)
  sp : ∀ (n : Fin 64) (h : Fin 4) (i j : Fin 128), n.val < k → V (Proc.devRef .tc main_v16_9) (ix4 n h i j) = σ.G n.val h.val (ix3 0 i j)
  vn : ∀ (n : Fin 64) (h : Fin 4) (i : Fin 64) (j : Fin 128), n.val < k → V (Proc.devRef .tc main_v16_10) (ix4 n h i j) = σ.Vn n.val h.val (ix2 i j)
  gl : ∀ (n : Fin 64) (h : Fin 4) (l : Fin 128), n.val < k → V (Proc.devRef .tc main_v16_11) (ix4 n h 0 0) = σ.Gl n.val h.val (ix4 0 0 0 l)
theorem LinkF.cond {σ : FwdSeq Ideal} {V : Valuation τ sig (Elt Ideal)} (L : LinkF σ V) : LinkF σ (after condF V) where
  at' n h i j := (congrFun (condF_keep (r := main_v16_0) (V := V) (by decide +kernel)) _).trans (L.at' n h i j)
  qd n h i j := (congrFun (condF_keep (r := main_v16_1) (V := V) (by decide +kernel)) _).trans (L.qd n h i j)
  kt n h i j := (congrFun (condF_keep (r := main_v16_2) (V := V) (by decide +kernel)) _).trans (L.kt n h i j)
  u n h i j := (congrFun (condF_keep (r := main_v16_3) (V := V) (by decide +kernel)) _).trans (L.u n h i j)
  w n h i j := (congrFun (condF_keep (r := main_v16_4) (V := V) (by decide +kernel)) _).trans (L.w n h i j)
  gl n h l := (congrFun (condF_keep (r := main_v16_5) (V := V) (by decide +kernel)) _).trans (L.gl n h l)
theorem LinkF.body {σ : FwdSeq Ideal} {V : Valuation τ sig (Elt Ideal)} (L : LinkF σ V) : LinkF σ (afterL bodyF V) where
  at' n h i j := (congrFun (bodyF_keep (r := main_v16_0) (V := V) (by decide +kernel)) _).trans (L.at' n h i j)
  qd n h i j := (congrFun (bodyF_keep (r := main_v16_1) (V := V) (by decide +kernel)) _).trans (L.qd n h i j)
  kt n h i j := (congrFun (bodyF_keep (r := main_v16_2) (V := V) (by decide +kernel)) _).trans (L.kt n h i j)
  u n h i j := (congrFun (bodyF_keep (r := main_v16_3) (V := V) (by decide +kernel)) _).trans (L.u n h i j)
  w n h i j := (congrFun (bodyF_keep (r := main_v16_4) (V := V) (by decide +kernel)) _).trans (L.w n h i j)
  gl n h l := (congrFun (bodyF_keep (r := main_v16_5) (V := V) (by decide +kernel)) _).trans (L.gl n h l)
theorem InvF.cond {σ : FwdSeq Ideal} {k : ℕ} {V : Valuation τ sig (Elt Ideal)} (I : InvF σ k V) : InvF σ k (after condF V) where
  st h i j := (congrFun (condF_keep (r := main_v16_7) (V := V) (by decide +kernel)) _).trans (I.st h i j)
  o n h i j hn := (congrFun (condF_keep (r := main_v16_8) (V := V) (by decide +kernel)) _).trans (I.o n h i j hn)
  sp n h i j hn := (congrFun (condF_keep (r := main_v16_9) (V := V) (by decide +kernel)) _).trans (I.sp n h i j hn)
  vn n h i j hn := (congrFun (condF_keep (r := main_v16_10) (V := V) (by decide +kernel)) _).trans (I.vn n h i j hn)
  gl n h l hn := (congrFun (condF_keep (r := main_v16_11) (V := V) (by decide +kernel)) _).trans (I.gl n h l hn)

section StepF
variable {σ : FwdSeq Ideal} {V : Valuation τ sig (Elt Ideal)} (k : Fin 64) (i₀ : BitVec 32) (hc : V (Proc.devRef .tc main_v16_6) = fun _ => i₀) (hi : i₀.toInt = (k.val : Int)) (L : LinkF σ V) (I : InvF σ k.val V)
include hi L I
theorem vnF (h : Fin 4) (i : Fin 64) (j : Fin 128) :
    fVn (F := Ideal) (rd_S64x4x64x128 (V (Proc.devRef .tc main_v16_3)) i₀) (rd_S64x4x64x128 (V (Proc.devRef .tc main_v16_4)) i₀) (V (Proc.devRef .tc main_v16_7)) (ix3 h i j) = σ.Vn k.val h.val (ix2 i j) := by
  rw [rvn_at]
  simp only [rd_S64x4x64x128_at _ _ k hi]
  rw [L.u]
  refine Eq.trans ?_ ((vn_at (σ.U k.val h.val) (wsV (σ.W k.val h.val) (σ.G k.val h.val)) i j).trans (congrArg (σ.U k.val h.val (ix2 i j) - ·) (ws_at (σ.W k.val h.val) (σ.G k.val h.val) i j))).symm
  refine congrArg (σ.U k.val h.val (ix2 i j) - ·) (Finset.sum_congr rfl fun q _ => ?_)
  rw [L.w, I.st]
include hc
theorem InvF.succ : InvF σ (k.val + 1) (afterL bodyF V) where
  st h i j := by
    rw [bodyF_main_v16_7 V i₀ hc, rst_at, rgl_at, rd_S64x4_at _ _ k hi, L.gl k h j, I.st]
    refine Eq.trans ?_ (st_at (σ.G k.val h.val) (σ.Gl k.val h.val) (σ.Kt k.val h.val) (σ.Vn k.val h.val) i j).symm
    refine congrArg (σ.G k.val h.val (ix3 0 i j) * σ.Gl k.val h.val (ix4 0 0 0 j) + ·) (Finset.sum_congr rfl fun q _ => ?_)
    rw [rd_S64x4x64x128_at _ _ k hi, L.kt, vnF k i₀ hi L I]
  o n h i j hn := by
    rw [bodyF_main_v16_8 V i₀ hc, wr_S64x4x64x128_at _ _ _ k hi]
    by_cases e : n = k
    · subst e
      rw [if_pos rfl, ro_at]
      refine Eq.trans ?_ ((o_at (wsV (σ.Qd n.val h.val) (σ.G n.val h.val)) (σ.At n.val h.val) (σ.Vn n.val h.val) i j).trans (congrArg (· + _) (ws_at (σ.Qd n.val h.val) (σ.G n.val h.val) i j))).symm
      refine congrArg₂ (· + ·) (Finset.sum_congr rfl fun q _ => ?_) (Finset.sum_congr rfl fun q _ => ?_)
      · rw [rd_S64x4x64x128_at _ _ n hi, L.qd, I.st]
      · rw [rd_S64x4x64x64_at _ _ n hi, L.at', vnF n i₀ hi L I]
    · rw [if_neg e]; exact I.o n h i j (lt_of_le_of_ne (Nat.lt_succ_iff.mp hn) fun e' => e (Fin.ext e'))
  sp n h i j hn := by
    rw [bodyF_main_v16_9 V i₀ hc, wr_S64x4x128x128_at _ _ _ k hi]
    by_cases e : n = k
    · subst e; rw [if_pos rfl]; exact I.st h i j
    · rw [if_neg e]; exact I.sp n h i j (lt_of_le_of_ne (Nat.lt_succ_iff.mp hn) fun e' => e (Fin.ext e'))
  vn n h i j hn := by
    rw [bodyF_main_v16_10 V i₀ hc, wr_S64x4x64x128_at _ _ _ k hi]
    by_cases e : n = k
    · subst e; rw [if_pos rfl]; exact vnF n i₀ hi L I h i j
    · rw [if_neg e]; exact I.vn n h i j (lt_of_le_of_ne (Nat.lt_succ_iff.mp hn) fun e' => e (Fin.ext e'))
  gl n h l hn := by
    rw [bodyF_main_v16_11 V i₀ hc, wr_S64x4x1x1_at _ _ _ k hi]
    by_cases e : n = k
    · subst e; rw [if_pos rfl, rgl_at, rd_S64x4_at _ _ n hi]; exact L.gl n h l
    · rw [if_neg e]; exact I.gl n h l (lt_of_le_of_ne (Nat.lt_succ_iff.mp hn) fun e' => e (Fin.ext e'))
end StepF

/-! ## The gradient's trips -/

/-- The buffers the trips read hold the chunks. -/
structure LinkB (σ : BwdSeq Ideal) (V : Valuation τ sig (Elt Ideal)) : Prop where
  do' : ∀ (n : Fin 64) (h : Fin 4) (i : Fin 64) (j : Fin 128), V (Proc.devRef .tc main_v27_0) (ix4 n h i j) = σ.Do n.val h.val (ix2 i j)
  sp : ∀ (n : Fin 64) (h : Fin 4) (i j : Fin 128), V (Proc.devRef .tc main_v27_1) (ix4 n h i j) = σ.Sp n.val h.val (ix4 0 0 i j)
  w : ∀ (n : Fin 64) (h : Fin 4) (i : Fin 64) (j : Fin 128), V (Proc.devRef .tc main_v27_2) (ix4 n h i j) = σ.W n.val h.val (ix2 i j)
  qd : ∀ (n : Fin 64) (h : Fin 4) (i : Fin 64) (j : Fin 128), V (Proc.devRef .tc main_v27_3) (ix4 n h i j) = σ.Qd n.val h.val (ix2 i j)
  vn : ∀ (n : Fin 64) (h : Fin 4) (i : Fin 64) (j : Fin 128), V (Proc.devRef .tc main_v27_4) (ix4 n h i j) = σ.Vn n.val h.val (ix2 i j)
  at' : ∀ (n : Fin 64) (h : Fin 4) (i j : Fin 64), V (Proc.devRef .tc main_v27_5) (ix4 n h i j) = σ.At n.val h.val (ix4 0 0 i j)
  gl : ∀ (n : Fin 64) (h : Fin 4) (l : Fin 128), V (Proc.devRef .tc main_v27_6) (ix4 n h 0 0) = σ.Gl n.val h.val (ix4 0 0 0 l)
  kt : ∀ (n : Fin 64) (h : Fin 4) (i : Fin 64) (j : Fin 128), V (Proc.devRef .tc main_v27_7) (ix4 n h i j) = σ.Kt n.val h.val (ix2 i j)
/-- What the gradient's loop carries after `k` trips. -/
structure InvB (σ : BwdSeq Ideal) (k : ℕ) (V : Valuation τ sig (Elt Ideal)) : Prop where
  ds : ∀ (h : Fin 4) (i j : Fin 128), V (Proc.devRef .tc main_v27_9) (ix3 h i j) = σ.D k h.val (ix3 0 i j)
  dat : ∀ (n : Fin 64) (h : Fin 4) (i j : Fin 64), 64 ≤ n.val + k → V (Proc.devRef .tc main_v27_10) (ix4 n h i j) = σ.Dat n.val h.val (ix4 0 0 i j)
  dqd : ∀ (n : Fin 64) (h : Fin 4) (i : Fin 64) (j : Fin 128), 64 ≤ n.val + k → V (Proc.devRef .tc main_v27_11) (ix4 n h i j) = σ.Dqd n.val h.val (ix2 i j)
  dkt : ∀ (n : Fin 64) (h : Fin 4) (i : Fin 64) (j : Fin 128), 64 ≤ n.val + k → V (Proc.devRef .tc main_v27_12) (ix4 n h i j) = σ.Dkt n.val h.val (ix2 i j)
  dvn : ∀ (n : Fin 64) (h : Fin 4) (i : Fin 64) (j : Fin 128), 64 ≤ n.val + k → V (Proc.devRef .tc main_v27_13) (ix4 n h i j) = σ.Dvn n.val h.val (ix2 i j)
  dw : ∀ (n : Fin 64) (h : Fin 4) (i : Fin 64) (j : Fin 128), 64 ≤ n.val + k → V (Proc.devRef .tc main_v27_14) (ix4 n h i j) = σ.Dw n.val h.val (ix2 i j)
  dgl : ∀ (n : Fin 64) (h : Fin 4) (l : Fin 128), 64 ≤ n.val + k → V (Proc.devRef .tc main_v27_15) (ix2 n h) = σ.Dgl n.val h.val (ix4 0 0 0 l)
theorem LinkB.cond {σ : BwdSeq Ideal} {V : Valuation τ sig (Elt Ideal)} (L : LinkB σ V) : LinkB σ (after condB V) where
  do' n h i j := (congrFun (condB_keep (r := main_v27_0) (V := V) (by decide +kernel)) _).trans (L.do' n h i j)
  sp n h i j := (congrFun (condB_keep (r := main_v27_1) (V := V) (by decide +kernel)) _).trans (L.sp n h i j)
  w n h i j := (congrFun (condB_keep (r := main_v27_2) (V := V) (by decide +kernel)) _).trans (L.w n h i j)
  qd n h i j := (congrFun (condB_keep (r := main_v27_3) (V := V) (by decide +kernel)) _).trans (L.qd n h i j)
  vn n h i j := (congrFun (condB_keep (r := main_v27_4) (V := V) (by decide +kernel)) _).trans (L.vn n h i j)
  at' n h i j := (congrFun (condB_keep (r := main_v27_5) (V := V) (by decide +kernel)) _).trans (L.at' n h i j)
  gl n h l := (congrFun (condB_keep (r := main_v27_6) (V := V) (by decide +kernel)) _).trans (L.gl n h l)
  kt n h i j := (congrFun (condB_keep (r := main_v27_7) (V := V) (by decide +kernel)) _).trans (L.kt n h i j)
theorem LinkB.body {σ : BwdSeq Ideal} {V : Valuation τ sig (Elt Ideal)} (L : LinkB σ V) : LinkB σ (afterL bodyB V) where
  do' n h i j := (congrFun (bodyB_keep (r := main_v27_0) (V := V) (by decide +kernel)) _).trans (L.do' n h i j)
  sp n h i j := (congrFun (bodyB_keep (r := main_v27_1) (V := V) (by decide +kernel)) _).trans (L.sp n h i j)
  w n h i j := (congrFun (bodyB_keep (r := main_v27_2) (V := V) (by decide +kernel)) _).trans (L.w n h i j)
  qd n h i j := (congrFun (bodyB_keep (r := main_v27_3) (V := V) (by decide +kernel)) _).trans (L.qd n h i j)
  vn n h i j := (congrFun (bodyB_keep (r := main_v27_4) (V := V) (by decide +kernel)) _).trans (L.vn n h i j)
  at' n h i j := (congrFun (bodyB_keep (r := main_v27_5) (V := V) (by decide +kernel)) _).trans (L.at' n h i j)
  gl n h l := (congrFun (bodyB_keep (r := main_v27_6) (V := V) (by decide +kernel)) _).trans (L.gl n h l)
  kt n h i j := (congrFun (bodyB_keep (r := main_v27_7) (V := V) (by decide +kernel)) _).trans (L.kt n h i j)
theorem InvB.cond {σ : BwdSeq Ideal} {k : ℕ} {V : Valuation τ sig (Elt Ideal)} (I : InvB σ k V) : InvB σ k (after condB V) where
  ds h i j := (congrFun (condB_keep (r := main_v27_9) (V := V) (by decide +kernel)) _).trans (I.ds h i j)
  dat n h i j hn := (congrFun (condB_keep (r := main_v27_10) (V := V) (by decide +kernel)) _).trans (I.dat n h i j hn)
  dqd n h i j hn := (congrFun (condB_keep (r := main_v27_11) (V := V) (by decide +kernel)) _).trans (I.dqd n h i j hn)
  dkt n h i j hn := (congrFun (condB_keep (r := main_v27_12) (V := V) (by decide +kernel)) _).trans (I.dkt n h i j hn)
  dvn n h i j hn := (congrFun (condB_keep (r := main_v27_13) (V := V) (by decide +kernel)) _).trans (I.dvn n h i j hn)
  dw n h i j hn := (congrFun (condB_keep (r := main_v27_14) (V := V) (by decide +kernel)) _).trans (I.dw n h i j hn)
  dgl n h l hn := (congrFun (condB_keep (r := main_v27_15) (V := V) (by decide +kernel)) _).trans (I.dgl n h l hn)

/-- Every number the gradient's trips read is finite, and what they compute from them. -/
structure FinB (σ : BwdSeq Ideal) : Prop where
  do' : ∀ (n : Fin 64) (h : Fin 4) (i : Fin 64) (j : Fin 128), Rl (σ.Do n.val h.val (ix2 i j))
  sp : ∀ (n : Fin 64) (h : Fin 4) (i j : Fin 128), Rl (σ.Sp n.val h.val (ix4 0 0 i j))
  w : ∀ (n : Fin 64) (h : Fin 4) (i : Fin 64) (j : Fin 128), Rl (σ.W n.val h.val (ix2 i j))
  qd : ∀ (n : Fin 64) (h : Fin 4) (i : Fin 64) (j : Fin 128), Rl (σ.Qd n.val h.val (ix2 i j))
  kt : ∀ (n : Fin 64) (h : Fin 4) (i : Fin 64) (j : Fin 128), Rl (σ.Kt n.val h.val (ix2 i j))
  at' : ∀ (n : Fin 64) (h : Fin 4) (i j : Fin 64), Rl (σ.At n.val h.val (ix4 0 0 i j))
  gl : ∀ (n : Fin 64) (h : Fin 4) (l : Fin 128), Rl (σ.Gl n.val h.val (ix4 0 0 0 l))

theorem zero_at (i j : Fin 128) : stZero (F := Ideal) (ix3 0 i j) = 0 := by
  pointwise [stZero]

theorem dvn_fin {σ : BwdSeq Ideal} (H : FinB σ) (n : Fin 64) (ds : Vec Ideal Cert.KernelIdeal.S1x128x128 .f32) (h : Fin 4) (hd : ∀ i j : Fin 128, Rl (ds (ix3 0 i j))) (i : Fin 64) (j : Fin 128) :
    Rl (dvnV (F := Ideal) ds (σ.Do n.val h.val) (σ.At n.val h.val) (σ.Kt n.val h.val) (ix2 i j)) := by
  rw [dvn_at]
  exact (Rl.sum _ _ fun q => (H.at' n h q i).mul (H.do' n h q j)).add (Rl.sum _ _ fun q => (H.kt n h i q).mul (hd q j))
theorem D_fin {σ : BwdSeq Ideal} (H : FinB σ) (h : Fin 4) : ∀ (k : ℕ), k ≤ 64 → ∀ i j : Fin 128, Rl (σ.D k h.val (ix3 0 i j))
  | 0, _, i, j => ⟨0, zero_at i j⟩
  | k + 1, hk, i, j => by
    have ih := D_fin H h k (by omega)
    rw [show σ.D (k + 1) h.val = dsV (σ.D k h.val) (σ.Gl (63 - k) h.val) (qdoV (σ.Qd (63 - k) h.val) (σ.Do (63 - k) h.val)) (σ.W (63 - k) h.val)
      (dvnV (σ.D k h.val) (σ.Do (63 - k) h.val) (σ.At (63 - k) h.val) (σ.Kt (63 - k) h.val)) from rfl, ds_at, qdo_at]
    exact ((Rl.sum _ _ fun q => (H.qd ⟨63 - k, by omega⟩ h q i).mul (H.do' ⟨63 - k, by omega⟩ h q j)).add ((ih i j).mul (H.gl ⟨63 - k, by omega⟩ h j))).sub
      (Rl.sum _ _ fun q => (H.w ⟨63 - k, by omega⟩ h q i).mul (dvn_fin H ⟨63 - k, by omega⟩ _ h ih q j))

section StepB
variable {σ : BwdSeq Ideal} {V : Valuation τ sig (Elt Ideal)} (H : FinB σ) (k : ℕ) (p : Fin 64) (hp : p.val = 63 - k) (hk : k < 64) (i₀ : BitVec 32) (hc : V (Proc.devRef .tc main_v27_8) = fun _ => i₀) (x₀ : BitVec 32) (hx : 64#32 - i₀ - 1#32 = x₀) (hi : x₀.toInt = (p.val : Int)) (L : LinkB σ V) (I : InvB σ k V)
include hi L I hp hk
theorem dsE (h : Fin 4) (i j : Fin 128) : V (Proc.devRef .tc main_v27_9) (ix3 h i j) = σ.E p.val h.val (ix3 0 i j) := by
  rw [I.ds]; unfold BwdSeq.E; rw [show 63 - p.val = k by omega]
theorem dvnB (h : Fin 4) (i : Fin 64) (j : Fin 128) : (bDvn (F := Ideal) (V (Proc.devRef .tc main_v27_9)) (rd_S64x4x64x128 (V (Proc.devRef .tc main_v27_7)) x₀) (rd_S64x4x64x128 (V (Proc.devRef .tc main_v27_0)) x₀) (rd_S64x4x64x64 (V (Proc.devRef .tc main_v27_5)) x₀)) (ix3 h i j) = σ.Dvn p.val h.val (ix2 i j) := by
  rw [rdvn_at]
  refine Eq.trans ?_ (dvn_at (σ.E p.val h.val) (σ.Do p.val h.val) (σ.At p.val h.val) (σ.Kt p.val h.val) i j).symm
  rw [add_comm]
  refine congrArg₂ (· + ·) (Finset.sum_congr rfl fun q _ => ?_) (Finset.sum_congr rfl fun q _ => ?_)
  · rw [rd_S64x4x64x128_at _ _ p hi, rd_S64x4x64x64_at _ _ p hi, L.do', L.at', mul_comm]
  · rw [rd_S64x4x64x128_at _ _ p hi, L.kt, dsE k p hp hk x₀ hi L I, mul_comm]
include H
theorem dvnB_fin (h : Fin 4) (i : Fin 64) (j : Fin 128) : Rl (σ.Dvn p.val h.val (ix2 i j)) :=
  dvn_fin H p (σ.E p.val h.val) h (fun i j => D_fin H h _ (by omega) i j) i j
include hc hx
theorem InvB.succ : InvB σ (k + 1) (afterL bodyB V) where
  ds h i j := by
    rw [bodyB_main_v27_9 V i₀ hc, hx, rds_at, rd_S64x4x1x1_at _ _ p hi, L.gl p h j, dsE k p hp hk x₀ hi L I]
    rw [show σ.D (k + 1) h.val = dsV (σ.E p.val h.val) (σ.Gl p.val h.val) (qdoV (σ.Qd p.val h.val) (σ.Do p.val h.val)) (σ.W p.val h.val) (σ.Dvn p.val h.val) from by
      rw [← σ.D_succ p.isLt h.val, show 64 - p.val = k + 1 by omega]]
    rw [ds_at, qdo_at, sub_eq_add_neg, add_comm (∑ q : Fin 64, σ.Qd p.val h.val (ix2 q i) * σ.Do p.val h.val (ix2 q j))]
    refine congrArg₂ (· + ·) (congrArg (_ + ·) (Finset.sum_congr rfl fun q _ => ?_)) ?_
    · rw [rd_S64x4x64x128_at _ _ p hi, rd_S64x4x64x128_at _ _ p hi, L.do', L.qd, mul_comm]
    · rw [← sum_neg_mul _ _ (fun q => H.w p h q i) (fun q => dvnB_fin H k p hp hk x₀ hi L I h q j)]
      refine Finset.sum_congr rfl fun q _ => ?_
      rw [dvnB k p hp hk x₀ hi L I, rd_S64x4x64x128_at _ _ p hi, L.w, EReal.neg_mul, EReal.neg_mul, mul_comm]
  dat n h i j hn := by
    rw [bodyB_main_v27_10 V i₀ hc, hx, wr_S64x4x64x64_at _ _ _ p hi]
    by_cases e : n = p
    · subst e
      rw [if_pos rfl, rdat_at]
      refine Eq.trans ?_ (dat_at (σ.Do n.val h.val) (σ.Vn n.val h.val) i j).symm
      show @Eq EReal _ _
      refine Finset.sum_congr rfl fun q _ => ?_
      rw [rd_S64x4x64x128_at _ _ n hi, rd_S64x4x64x128_at _ _ n hi, L.do', L.vn]
    · rw [if_neg e]; exact I.dat n h i j (by have : n.val ≠ p.val := fun e' => e (Fin.ext e'); omega)
  dqd n h i j hn := by
    rw [bodyB_main_v27_11 V i₀ hc, hx, wr_S64x4x64x128_at _ _ _ p hi]
    by_cases e : n = p
    · subst e
      rw [if_pos rfl, rdqd_at]
      refine Eq.trans ?_ (dqd_at (σ.Do n.val h.val) (σ.Sp n.val h.val) i j).symm
      show @Eq EReal _ _
      refine Finset.sum_congr rfl fun q _ => ?_
      rw [rd_S64x4x64x128_at _ _ n hi, rd_S64x4x128x128_at _ _ n hi, L.do', L.sp]
    · rw [if_neg e]; exact I.dqd n h i j (by have : n.val ≠ p.val := fun e' => e (Fin.ext e'); omega)
  dkt n h i j hn := by
    rw [bodyB_main_v27_12 V i₀ hc, hx, wr_S64x4x64x128_at _ _ _ p hi]
    by_cases e : n = p
    · subst e
      rw [if_pos rfl, rdkt_at]
      refine Eq.trans ?_ (dkt_at (σ.Vn n.val h.val) (σ.E n.val h.val) i j).symm
      show @Eq EReal _ _
      refine Finset.sum_congr rfl fun q _ => ?_
      rw [rd_S64x4x64x128_at _ _ n hi, L.vn, dsE k n hp hk x₀ hi L I, mul_comm]
    · rw [if_neg e]; exact I.dkt n h i j (by have : n.val ≠ p.val := fun e' => e (Fin.ext e'); omega)
  dvn n h i j hn := by
    rw [bodyB_main_v27_13 V i₀ hc, hx, wr_S64x4x64x128_at _ _ _ p hi]
    by_cases e : n = p
    · subst e
      rw [if_pos rfl]; exact dvnB k n hp hk x₀ hi L I h i j
    · rw [if_neg e]; exact I.dvn n h i j (by have : n.val ≠ p.val := fun e' => e (Fin.ext e'); omega)
  dw n h i j hn := by
    rw [bodyB_main_v27_14 V i₀ hc, hx, wr_S64x4x64x128_at _ _ _ p hi]
    by_cases e : n = p
    · subst e
      rw [if_pos rfl, rdw_at]
      refine Eq.trans ?_ (dw_at (σ.Dvn n.val h.val) (σ.Sp n.val h.val) i j).symm
      rw [sub_eq_add_neg, zero_add, ← sum_neg_mul _ _ (fun q => dvnB_fin H k n hp hk x₀ hi L I h i q) (fun q => H.sp n h j q)]
      show @Eq EReal _ _
      refine Finset.sum_congr rfl fun q _ => ?_
      rw [dvnB k n hp hk x₀ hi L I, rd_S64x4x128x128_at _ _ n hi, L.sp]
    · rw [if_neg e]; exact I.dw n h i j (by have : n.val ≠ p.val := fun e' => e (Fin.ext e'); omega)
  dgl n h l hn := by
    rw [bodyB_main_v27_15 V i₀ hc, hx, wr_S64x4_at _ _ _ p hi]
    by_cases e : n = p
    · subst e
      rw [if_pos rfl, rdgl_at]
      refine Eq.trans ?_ (dgl_at (σ.Sp n.val h.val) (σ.E n.val h.val) l).symm
      show @Eq EReal _ _
      refine Finset.sum_congr rfl fun q _ => Finset.sum_congr rfl fun q' _ => ?_
      rw [rd_S64x4x128x128_at _ _ n hi, L.sp, dsE k n hp hk x₀ hi L I]
    · rw [if_neg e]; exact I.dgl n h l (by have : n.val ≠ p.val := fun e' => e (Fin.ext e'); omega)
end StepB

end Cert.ScanVal
-- ==== Proof.ScanLink.lean ====
/- What the gated delta rule's reference hands its loops, entry by entry: the arguments cut into chunks. -/
module

public import proofs.«01_k».proof.Proof.ScanVal
public import proofs.«01_k».proof.Proof.ScanRun

@[expose] public section

set_option maxRecDepth 16384

noncomputable section

open Idealize.ShloMosaic Idealize.ShloMosaic.TcCoe Idealize.SL.Sem Idealize.ShloMosaic.StableHlo
open scoped BigOperators

namespace Cert.ScanLink

open Cert.ReferenceIdeal Cert.ReferenceIdeal.Gen Cert.ScanRef Cert.ScanEnt Cert.ScanVal
open Cert.Scan (FwdSeq BwdSeq wsV vnV oV stV spV dvnV dqdV datV dktV dglV qdoV dwV dsV stZero seqF seqB rowSeq rowArr tileSeq tileArr VY rowSeq_rowArr tileSeq_tileArr)
open Cert.KernelIdeal.Gen (V1 V1_of)

/-- Tokens into chunks. -/
def chF (x : Vec Ideal S4096x512 .f32) : Vec Ideal S64x4x64x128 .f32 :=
  transpose S64x4x64x128 [0, 2, 1, 3] (shapeCast S64x64x4x128 x shapeCasts_S4096x512_S64x64x4x128) transposes_S64x64x4x128_S64x4x64x128_0_2_1_3
def chB (x : FVec Ideal S4096x512 .bf16) : Vec Ideal S64x4x64x128 .f32 :=
  chF (extf .f32 x bitsLt_bf16_f32 : FVec Ideal S4096x512 .f32)
/-- Chunks into tokens. -/
def unF (y : Vec Ideal S64x4x64x128 .f32) : Vec Ideal S4096x512 .f32 :=
  shapeCast S4096x512 (transpose S64x64x4x128 [0, 2, 1, 3] y transposes_S64x4x64x128_S64x64x4x128_0_2_1_3) shapeCasts_S64x64x4x128_S4096x512

theorem chF_at (x : Vec Ideal S4096x512 .f32) (n : Fin 64) (h : Fin 4) (i : Fin 64) (j : Fin 128) :
    chF x (ix4 n h i j) = x (ix2 ⟨n.val * 64 + i.val, by omega⟩ ⟨h.val * 128 + j.val, by omega⟩) := by
  pointwise [chF]
theorem unF_at (y : Vec Ideal S64x4x64x128 .f32) (r : Fin 4096) (q : Fin 512) :
    unF y (ix2 r q) = y (ix4 ⟨r.val / 64, by omega⟩ ⟨q.val / 128, by omega⟩ ⟨r.val % 64, by omega⟩ ⟨q.val % 128, by omega⟩) := by
  pointwise [unF]
theorem rowSeq_at {e : EltTy} (x : Vec Ideal S4096x512 e) (n : Fin 64) (h : Fin 4) (i : Fin 64) (j : Fin 128) :
    rowSeq (F := Ideal) (e := e) x n.val h.val (ix2 i j) = x (ix2 ⟨n.val * 64 + i.val, by omega⟩ ⟨h.val * 128 + j.val, by omega⟩) :=
  congrArg x (congrArg₂ ix2 (Fin.ext (show (64 * n.val + i.val) % 4096 = n.val * 64 + i.val by omega)) (Fin.ext (show (128 * h.val + j.val) % 512 = h.val * 128 + j.val by omega)))
theorem chF_eq (x : Vec Ideal S4096x512 .f32) (n : Fin 64) (h : Fin 4) (i : Fin 64) (j : Fin 128) :
    chF x (ix4 n h i j) = rowSeq (F := Ideal) (e := .f32) x n.val h.val (ix2 i j) := (chF_at x n h i j).trans (rowSeq_at x n h i j).symm
theorem chB_eq (x : Vec Ideal S4096x512 .bf16) (n : Fin 64) (h : Fin 4) (i : Fin 64) (j : Fin 128) :
    chB x (ix4 n h i j) = rowSeq (F := Ideal) (e := .bf16) x n.val h.val (ix2 i j) := (chF_at _ n h i j).trans (rowSeq_at x n h i j).symm
theorem tileSeq_at {c d : ℕ} (x : Vec Ideal ⟨4, ![64, 4, c, d]⟩ .f32) (n : Fin 64) (h : Fin 4) (i : Fin c) (j : Fin d) :
    tileSeq (F := Ideal) (e := .f32) (c := c) (d := d) x n.val h.val (ix4 0 0 i j) = x (ix4 n h i j) :=
  congrArg₂ (fun (a : Fin 64) (b : Fin 4) => x (ix4 a b i j)) (Fin.ext (show n.val % 64 = n.val from Nat.mod_eq_of_lt n.isLt)) (Fin.ext (show h.val % 4 = h.val from Nat.mod_eq_of_lt h.isLt))
/-- Tokens whose chunks are the sequence's. -/
theorem unF_eq (y : Vec Ideal S64x4x64x128 .f32) (X : ℕ → ℕ → Vec Ideal ⟨2, ![64, 128]⟩ .f32)
    (hx : ∀ (n : Fin 64) (h : Fin 4) (i : Fin 64) (j : Fin 128), y (ix4 n h i j) = X n.val h.val (ix2 i j)) : unF y = rowArr (F := Ideal) (e := .f32) X := by
  funext a
  obtain ⟨r, q, rfl⟩ : ∃ (r : Fin 4096) (q : Fin 512), a = ix2 r q := ⟨a 0, a 1, funext fun z => by fin_cases z <;> rfl⟩
  rw [unF_at, hx]
  rfl
theorem tile_eq {c d : ℕ} (y : Vec Ideal ⟨4, ![64, 4, c, d]⟩ .f32) (X : ℕ → ℕ → Vec Ideal ⟨4, ![1, 1, c, d]⟩ .f32)
    (hx : ∀ (n : Fin 64) (h : Fin 4) (i : Fin c) (j : Fin d), y (ix4 n h i j) = X n.val h.val (ix4 0 0 i j)) : y = tileArr (F := Ideal) (e := .f32) (c := c) (d := d) X := by
  funext a
  obtain ⟨n, h, i, j, rfl⟩ : ∃ (n : Fin 64) (h : Fin 4) (i : Fin c) (j : Fin d), a = ix4 n h i j := ⟨a 0, a 1, a 2, a 3, funext fun z => by fin_cases z <;> rfl⟩
  rw [hx]
  rfl
/-- One number for every chunk and head, read as one row. -/
theorem glK_at (x : Vec Ideal S64x4 .f32) (n : Fin 64) (h : Fin 4) (l : Fin 128) :
    (broadcastInDim S64x4x1x128 ![0, 1, 2, 3] bcast_S64x4x1x1_S64x4x1x128_0_1_2_3 (broadcastInDim S64x4x1x1 ![0, 1] bcast_S64x4_S64x4x1x1_0_1 x) : Vec Ideal S64x4x1x128 .f32) (ix4 n h 0 l) = x (ix2 n h) := by
  pointwise []

/-! ## What the operations before, between and after the loops leave -/

section Reads
variable (m : (ℓ : Loc nD τ sig) → Buf (Elt Ideal) ℓ) (c : Dev nD)

theorem W0_v16_0 : W0 (F := Ideal) m c (Proc.devRef .tc main_v16_0) = m ((c.tc : Thread nD τ).loc main_arg4) := by
  unfold W0 preO
  after_reads_simp
  rfl
theorem W0_v16_1 : W0 (F := Ideal) m c (Proc.devRef .tc main_v16_1) = chB (m ((c.tc : Thread nD τ).loc main_arg2)) := by
  unfold W0 preO
  after_reads_simp
  rfl
theorem W0_v16_2 : W0 (F := Ideal) m c (Proc.devRef .tc main_v16_2) = chB (m ((c.tc : Thread nD τ).loc main_arg3)) := by
  unfold W0 preO
  after_reads_simp
  rfl
theorem W0_v16_3 : W0 (F := Ideal) m c (Proc.devRef .tc main_v16_3) = chF (m ((c.tc : Thread nD τ).loc main_arg0)) := by
  unfold W0 preO
  after_reads_simp
  rfl
theorem W0_v16_4 : W0 (F := Ideal) m c (Proc.devRef .tc main_v16_4) = chB (m ((c.tc : Thread nD τ).loc main_arg1)) := by
  unfold W0 preO
  after_reads_simp
  rfl
theorem W0_v16_5 : W0 (F := Ideal) m c (Proc.devRef .tc main_v16_5) = m ((c.tc : Thread nD τ).loc main_arg5) := by
  unfold W0 preO
  after_reads_simp
  rfl
theorem W0_v2 : W0 (F := Ideal) m c (Proc.devRef .tc main_v2) = chB (m ((c.tc : Thread nD τ).loc main_arg2)) := by
  unfold W0 preO
  after_reads_simp
  rfl
theorem W0_v5 : W0 (F := Ideal) m c (Proc.devRef .tc main_v5) = chB (m ((c.tc : Thread nD τ).loc main_arg3)) := by
  unfold W0 preO
  after_reads_simp
  rfl
theorem W0_v10 : W0 (F := Ideal) m c (Proc.devRef .tc main_v10) = chB (m ((c.tc : Thread nD τ).loc main_arg1)) := by
  unfold W0 preO
  after_reads_simp
  rfl
theorem W0_v16_7 : W0 (F := Ideal) m c (Proc.devRef .tc main_v16_7) = fun _ => Scalar.ofBits (F := Ideal) .f32 0x00000000#32 := by
  unfold W0 preO
  after_reads_simp
  rfl

/-- A buffer neither the loop nor its test writes. -/
theorem AF_keep (r : Ref sig .tc) (hb : r ∉ bodyF_W) (hc : r ∉ condF_W) : ∀ k, AF (F := Ideal) m k c (Proc.devRef .tc r) = W0 m c (Proc.devRef .tc r)
  | 0 => rfl
  | k + 1 => by
    rw [show AF m (k + 1) c = afterL bodyF (after condF (AF m k c)) from rfl, bodyF_keep _ _ hb, condF_keep _ _ hc, AF_keep r hb hc k]
theorem AB_keep (r : Ref sig .tc) (hb : r ∉ bodyB_W) (hc : r ∉ condB_W) : ∀ k, AB (F := Ideal) m k c (Proc.devRef .tc r) = W1 m c (Proc.devRef .tc r)
  | 0 => rfl
  | k + 1 => by
    rw [show AB m (k + 1) c = afterL bodyB (after condB (AB m k c)) from rfl, bodyB_keep _ _ hb, condB_keep _ _ hc, AB_keep r hb hc k]
/-- After the first loop. -/
abbrev WM : Valuation τ sig (Elt Ideal) := after condF (AF (F := Ideal) m 64 c)
theorem WM_keep (r : Ref sig .tc) (hb : r ∉ bodyF_W) (hc : r ∉ condF_W) : WM m c (Proc.devRef .tc r) = W0 m c (Proc.devRef .tc r) :=
  (condF_keep _ _ hc).trans (AF_keep m c r hb hc 64)
theorem mid_v27_0 (V : Valuation τ sig (Elt Ideal)) : afterL [midO, midP] V (Proc.devRef .tc main_v27_0) = chF (V (Proc.devRef .tc main_arg6)) := by
  unfold midO midP
  simp only [afterL_cons, afterL_nil]
  after_reads_simp
  try rfl
theorem W1_v27_0 : W1 (F := Ideal) m c (Proc.devRef .tc main_v27_0) = chF (WM m c (Proc.devRef .tc main_arg6)) := mid_v27_0 _
theorem mid_v27_1 (V : Valuation τ sig (Elt Ideal)) : afterL [midO, midP] V (Proc.devRef .tc main_v27_1) = V (Proc.devRef .tc main_v16_9) := by
  unfold midO midP
  simp only [afterL_cons, afterL_nil]
  after_reads_simp
  try rfl
theorem W1_v27_1 : W1 (F := Ideal) m c (Proc.devRef .tc main_v27_1) = WM m c (Proc.devRef .tc main_v16_9) := mid_v27_1 _
theorem mid_v27_2 (V : Valuation τ sig (Elt Ideal)) : afterL [midO, midP] V (Proc.devRef .tc main_v27_2) = V (Proc.devRef .tc main_v10) := by
  unfold midO midP
  simp only [afterL_cons, afterL_nil]
  after_reads_simp
  try rfl
theorem W1_v27_2 : W1 (F := Ideal) m c (Proc.devRef .tc main_v27_2) = WM m c (Proc.devRef .tc main_v10) := mid_v27_2 _
theorem mid_v27_3 (V : Valuation τ sig (Elt Ideal)) : afterL [midO, midP] V (Proc.devRef .tc main_v27_3) = V (Proc.devRef .tc main_v2) := by
  unfold midO midP
  simp only [afterL_cons, afterL_nil]
  after_reads_simp
  try rfl
theorem W1_v27_3 : W1 (F := Ideal) m c (Proc.devRef .tc main_v27_3) = WM m c (Proc.devRef .tc main_v2) := mid_v27_3 _
theorem mid_v27_4 (V : Valuation τ sig (Elt Ideal)) : afterL [midO, midP] V (Proc.devRef .tc main_v27_4) = V (Proc.devRef .tc main_v16_10) := by
  unfold midO midP
  simp only [afterL_cons, afterL_nil]
  after_reads_simp
  try rfl
theorem W1_v27_4 : W1 (F := Ideal) m c (Proc.devRef .tc main_v27_4) = WM m c (Proc.devRef .tc main_v16_10) := mid_v27_4 _
theorem mid_v27_5 (V : Valuation τ sig (Elt Ideal)) : afterL [midO, midP] V (Proc.devRef .tc main_v27_5) = V (Proc.devRef .tc main_arg4) := by
  unfold midO midP
  simp only [afterL_cons, afterL_nil]
  after_reads_simp
  try rfl
theorem W1_v27_5 : W1 (F := Ideal) m c (Proc.devRef .tc main_v27_5) = WM m c (Proc.devRef .tc main_arg4) := mid_v27_5 _
theorem mid_v27_6 (V : Valuation τ sig (Elt Ideal)) : afterL [midO, midP] V (Proc.devRef .tc main_v27_6) = V (Proc.devRef .tc main_v16_11) := by
  unfold midO midP
  simp only [afterL_cons, afterL_nil]
  after_reads_simp
  try rfl
theorem W1_v27_6 : W1 (F := Ideal) m c (Proc.devRef .tc main_v27_6) = WM m c (Proc.devRef .tc main_v16_11) := mid_v27_6 _
theorem mid_v27_7 (V : Valuation τ sig (Elt Ideal)) : afterL [midO, midP] V (Proc.devRef .tc main_v27_7) = V (Proc.devRef .tc main_v5) := by
  unfold midO midP
  simp only [afterL_cons, afterL_nil]
  after_reads_simp
  try rfl
theorem W1_v27_7 : W1 (F := Ideal) m c (Proc.devRef .tc main_v27_7) = WM m c (Proc.devRef .tc main_v5) := mid_v27_7 _
theorem mid_v27_9 (V : Valuation τ sig (Elt Ideal)) : afterL [midO, midP] V (Proc.devRef .tc main_v27_9) = fun _ => Scalar.ofBits (F := Ideal) .f32 0x00000000#32 := by
  unfold midO midP
  simp only [afterL_cons, afterL_nil]
  after_reads_simp
  try rfl
theorem W1_v27_9 : W1 (F := Ideal) m c (Proc.devRef .tc main_v27_9) = fun _ => Scalar.ofBits (F := Ideal) .f32 0x00000000#32 := mid_v27_9 _
/-- After both loops. -/
abbrev WL : Valuation τ sig (Elt Ideal) := after condB (AB (F := Ideal) m 64 c)
theorem post_v29 (V : Valuation τ sig (Elt Ideal)) : after postO V (Proc.devRef .tc main_v29) = unF (V (Proc.devRef .tc main_v16_8)) := by
  unfold postO
  after_reads_simp
  try rfl
theorem WE_v29 : WE (F := Ideal) m c (Proc.devRef .tc main_v29) = unF (WL m c (Proc.devRef .tc main_v16_8)) := post_v29 _
theorem post_v31 (V : Valuation τ sig (Elt Ideal)) : after postO V (Proc.devRef .tc main_v31) = unF (V (Proc.devRef .tc main_v27_13)) := by
  unfold postO
  after_reads_simp
  try rfl
theorem WE_v31 : WE (F := Ideal) m c (Proc.devRef .tc main_v31) = unF (WL m c (Proc.devRef .tc main_v27_13)) := post_v31 _
theorem post_v33 (V : Valuation τ sig (Elt Ideal)) : after postO V (Proc.devRef .tc main_v33) = unF (V (Proc.devRef .tc main_v27_14)) := by
  unfold postO
  after_reads_simp
  try rfl
theorem WE_v33 : WE (F := Ideal) m c (Proc.devRef .tc main_v33) = unF (WL m c (Proc.devRef .tc main_v27_14)) := post_v33 _
theorem post_v35 (V : Valuation τ sig (Elt Ideal)) : after postO V (Proc.devRef .tc main_v35) = unF (V (Proc.devRef .tc main_v27_11)) := by
  unfold postO
  after_reads_simp
  try rfl
theorem WE_v35 : WE (F := Ideal) m c (Proc.devRef .tc main_v35) = unF (WL m c (Proc.devRef .tc main_v27_11)) := post_v35 _
theorem post_v37 (V : Valuation τ sig (Elt Ideal)) : after postO V (Proc.devRef .tc main_v37) = unF (V (Proc.devRef .tc main_v27_12)) := by
  unfold postO
  after_reads_simp
  try rfl
theorem WE_v37 : WE (F := Ideal) m c (Proc.devRef .tc main_v37) = unF (WL m c (Proc.devRef .tc main_v27_12)) := post_v37 _
theorem post_v39 (V : Valuation τ sig (Elt Ideal)) : after postO V (Proc.devRef .tc main_v39) = broadcastInDim S64x4x1x128 ![0, 1, 2, 3] bcast_S64x4x1x1_S64x4x1x128_0_1_2_3 (broadcastInDim S64x4x1x1 ![0, 1] bcast_S64x4_S64x4x1x1_0_1 (V (Proc.devRef .tc main_v27_15))) := by
  unfold postO
  after_reads_simp
  try rfl
theorem WE_v39 : WE (F := Ideal) m c (Proc.devRef .tc main_v39) = broadcastInDim S64x4x1x128 ![0, 1, 2, 3] bcast_S64x4x1x1_S64x4x1x128_0_1_2_3 (broadcastInDim S64x4x1x1 ![0, 1] bcast_S64x4_S64x4x1x1_0_1 (WL m c (Proc.devRef .tc main_v27_15))) := post_v39 _
theorem WE_v27_10 : WE (F := Ideal) m c (Proc.devRef .tc main_v27_10) = WL m c (Proc.devRef .tc main_v27_10) := post_keep _ _ (by decide +kernel)
/-- A buffer no operation writes. -/
theorem WE_keep (r : Ref sig .tc) (h : r ∉ postO_W) (hb : r ∉ bodyB_W) (hc : r ∉ condB_W) (h1 : r ∉ midO_W) (h2 : r ∉ midP_W) (hb' : r ∉ bodyF_W) (hc' : r ∉ condF_W) (h0 : r ∉ preO_W) :
    WE (F := Ideal) m c (Proc.devRef .tc r) = m ((c.tc : Thread nD τ).loc r) :=
  (post_keep _ _ h).trans ((condB_keep _ _ hc).trans ((AB_keep m c r hb hc 64).trans ((mid_keep _ _ h1 h2).trans ((WM_keep m c r hb' hc').trans (pre_keep _ _ h0)))))
theorem WE_arg0 : WE (F := Ideal) m c (Proc.devRef .tc main_arg0) = m ((c.tc : Thread nD τ).loc main_arg0) :=
  WE_keep m c main_arg0 (by decide +kernel) (by decide +kernel) (by decide +kernel) (by decide +kernel) (by decide +kernel) (by decide +kernel) (by decide +kernel) (by decide +kernel)
theorem WE_arg1 : WE (F := Ideal) m c (Proc.devRef .tc main_arg1) = m ((c.tc : Thread nD τ).loc main_arg1) :=
  WE_keep m c main_arg1 (by decide +kernel) (by decide +kernel) (by decide +kernel) (by decide +kernel) (by decide +kernel) (by decide +kernel) (by decide +kernel) (by decide +kernel)
theorem WE_arg2 : WE (F := Ideal) m c (Proc.devRef .tc main_arg2) = m ((c.tc : Thread nD τ).loc main_arg2) :=
  WE_keep m c main_arg2 (by decide +kernel) (by decide +kernel) (by decide +kernel) (by decide +kernel) (by decide +kernel) (by decide +kernel) (by decide +kernel) (by decide +kernel)
theorem WE_arg3 : WE (F := Ideal) m c (Proc.devRef .tc main_arg3) = m ((c.tc : Thread nD τ).loc main_arg3) :=
  WE_keep m c main_arg3 (by decide +kernel) (by decide +kernel) (by decide +kernel) (by decide +kernel) (by decide +kernel) (by decide +kernel) (by decide +kernel) (by decide +kernel)
theorem WE_arg4 : WE (F := Ideal) m c (Proc.devRef .tc main_arg4) = m ((c.tc : Thread nD τ).loc main_arg4) :=
  WE_keep m c main_arg4 (by decide +kernel) (by decide +kernel) (by decide +kernel) (by decide +kernel) (by decide +kernel) (by decide +kernel) (by decide +kernel) (by decide +kernel)
theorem WE_arg5 : WE (F := Ideal) m c (Proc.devRef .tc main_arg5) = m ((c.tc : Thread nD τ).loc main_arg5) :=
  WE_keep m c main_arg5 (by decide +kernel) (by decide +kernel) (by decide +kernel) (by decide +kernel) (by decide +kernel) (by decide +kernel) (by decide +kernel) (by decide +kernel)
theorem WE_arg6 : WE (F := Ideal) m c (Proc.devRef .tc main_arg6) = m ((c.tc : Thread nD τ).loc main_arg6) :=
  WE_keep m c main_arg6 (by decide +kernel) (by decide +kernel) (by decide +kernel) (by decide +kernel) (by decide +kernel) (by decide +kernel) (by decide +kernel) (by decide +kernel)

end Reads

end Cert.ScanLink

end
-- ==== Proof.ScanFinal.lean ====
/- The gated delta rule's reference and the kernel's launches hold the same arrays where every argument is finite. -/
module

public import proofs.«01_k».proof.Proof.ScanLink

@[expose] public section

set_option maxRecDepth 16384

noncomputable section

open Idealize.ShloMosaic Idealize.ShloMosaic.TcCoe Idealize.SL.Sem Idealize.ShloMosaic.StableHlo
open scoped BigOperators

namespace Cert.ScanFinal

open Cert.ReferenceIdeal Cert.ReferenceIdeal.Gen Cert.ScanRef Cert.ScanEnt Cert.ScanVal Cert.ScanLink
open Cert.Scan (FwdSeq BwdSeq wsV vnV oV stV spV dvnV dqdV datV dktV dglV qdoV dwV dsV stZero seqF seqB rowSeq rowArr tileSeq tileArr VY rowSeq_rowArr tileSeq_tileArr)
open Cert.KernelIdeal.Gen (V1 V1_of)

abbrev MemK := (ℓ : Loc Cert.KernelIdeal.nD Cert.KernelIdeal.τ Cert.KernelIdeal.sig) → Buf (Elt Ideal) ℓ
abbrev MemR := (ℓ : Loc nD τ sig) → Buf (Elt Ideal) ℓ
/-- The kernel's argument. -/
abbrev aK (mK : MemK) (c : Dev Cert.KernelIdeal.nD) (r : Ref Cert.KernelIdeal.sig .tc) := mK ((c.tc : Thread Cert.KernelIdeal.nD Cert.KernelIdeal.τ).loc r)
/-- The reference's argument. -/
abbrev aR (mR : MemR) (c : Dev nD) (r : Ref sig .tc) := mR ((c.tc : Thread nD τ).loc r)

/-- Both programs' arguments are the same arrays. -/
structure Agree (mK : MemK) (mR : MemR) (c : Dev Cert.KernelIdeal.nD) : Prop where
  a0 : aR mR c main_arg0 = aK mK c Cert.KernelIdeal.main_arg0
  a1 : aR mR c main_arg1 = aK mK c Cert.KernelIdeal.main_arg1
  a2 : aR mR c main_arg2 = aK mK c Cert.KernelIdeal.main_arg2
  a3 : aR mR c main_arg3 = aK mK c Cert.KernelIdeal.main_arg3
  a4 : aR mR c main_arg4 = aK mK c Cert.KernelIdeal.main_arg4
  a5 : aR mR c main_arg5 = aK mK c Cert.KernelIdeal.main_arg5
  a6 : aR mR c main_arg6 = aK mK c Cert.KernelIdeal.main_arg6

/-- Every argument's numbers are finite. -/
structure Finite (mK : MemK) (c : Dev Cert.KernelIdeal.nD) : Prop where
  a0 : ∀ i : S4096x512.Idx, Rl (aK mK c Cert.KernelIdeal.main_arg0 i)
  a1 : ∀ i : S4096x512.Idx, Rl (aK mK c Cert.KernelIdeal.main_arg1 i)
  a2 : ∀ i : S4096x512.Idx, Rl (aK mK c Cert.KernelIdeal.main_arg2 i)
  a3 : ∀ i : S4096x512.Idx, Rl (aK mK c Cert.KernelIdeal.main_arg3 i)
  a4 : ∀ i : S64x4x64x64.Idx, Rl (aK mK c Cert.KernelIdeal.main_arg4 i)
  a5 : ∀ i : S64x4.Idx, Rl (aK mK c Cert.KernelIdeal.main_arg5 i)
  a6 : ∀ i : S4096x512.Idx, Rl (aK mK c Cert.KernelIdeal.main_arg6 i)

variable (mK : MemK) (mR : MemR) (c : Dev Cert.KernelIdeal.nD)

abbrev sF : FwdSeq Ideal := seqF (V1 mK c)
abbrev sB : BwdSeq Ideal := seqB (VY mK c)

/-! ## The sequences' entries -/

theorem sF_U : (sF mK c).U = rowSeq (F := Ideal) (e := .f32) (aK mK c Cert.KernelIdeal.main_arg0) :=
  congrArg (rowSeq (F := Ideal) (e := .f32)) ((V1_of mK c Cert.KernelIdeal.main_arg0 (by decide)).trans rfl)
theorem sF_W : (sF mK c).W = rowSeq (F := Ideal) (e := .bf16) (aK mK c Cert.KernelIdeal.main_arg1) :=
  congrArg (rowSeq (F := Ideal) (e := .bf16)) ((V1_of mK c Cert.KernelIdeal.main_arg1 (by decide)).trans rfl)
theorem sF_Qd : (sF mK c).Qd = rowSeq (F := Ideal) (e := .bf16) (aK mK c Cert.KernelIdeal.main_arg2) :=
  congrArg (rowSeq (F := Ideal) (e := .bf16)) ((V1_of mK c Cert.KernelIdeal.main_arg2 (by decide)).trans rfl)
theorem sF_Kt : (sF mK c).Kt = rowSeq (F := Ideal) (e := .bf16) (aK mK c Cert.KernelIdeal.main_arg3) :=
  congrArg (rowSeq (F := Ideal) (e := .bf16)) ((V1_of mK c Cert.KernelIdeal.main_arg3 (by decide)).trans rfl)
theorem sF_At : (sF mK c).At = tileSeq (F := Ideal) (e := .f32) (c := 64) (d := 64) (aK mK c Cert.KernelIdeal.main_arg4) :=
  congrArg (tileSeq (F := Ideal) (e := .f32) (c := 64) (d := 64)) ((V1_of mK c Cert.KernelIdeal.main_arg4 (by decide)).trans rfl)

theorem V1_v1 (n : Fin 64) (h : Fin 4) (l : Fin 128) :
    V1 mK c (Proc.devRef .tc Cert.KernelIdeal.main_v1) (ix4 n h 0 l) = aK mK c Cert.KernelIdeal.main_arg5 (ix2 n h) := by
  unfold V1 Cert.KernelIdeal.Gen.hostOps0
  after_reads_simp
  exact glK_at _ n h l
theorem sF_Gl (n : Fin 64) (h : Fin 4) (l : Fin 128) : (sF mK c).Gl n.val h.val (ix4 0 0 0 l) = aK mK c Cert.KernelIdeal.main_arg5 (ix2 n h) :=
  (tileSeq_at (c := 1) (d := 128) _ n h 0 l).trans (V1_v1 mK c n h l)

theorem sB_Do : (sB mK c).Do = rowSeq (F := Ideal) (e := .f32) (aK mK c Cert.KernelIdeal.main_arg6) :=
  congrArg (rowSeq (F := Ideal) (e := .f32)) (Cert.Scan.VY_arg6 mK c)
theorem sB_W : (sB mK c).W = (sF mK c).W := (congrArg (rowSeq (F := Ideal) (e := .bf16)) (Cert.Scan.VY_arg1 mK c)).trans (sF_W mK c).symm
theorem sB_Qd : (sB mK c).Qd = (sF mK c).Qd := (congrArg (rowSeq (F := Ideal) (e := .bf16)) (Cert.Scan.VY_arg2 mK c)).trans (sF_Qd mK c).symm
theorem sB_Kt : (sB mK c).Kt = (sF mK c).Kt := (congrArg (rowSeq (F := Ideal) (e := .bf16)) (Cert.Scan.VY_arg3 mK c)).trans (sF_Kt mK c).symm
theorem sB_At : (sB mK c).At = (sF mK c).At := (congrArg (tileSeq (F := Ideal) (e := .f32) (c := 64) (d := 64)) (Cert.Scan.VY_arg4 mK c)).trans (sF_At mK c).symm
theorem sB_Gl : (sB mK c).Gl = (sF mK c).Gl := congrArg (tileSeq (F := Ideal) (e := .f32) (c := 1) (d := 128)) (Cert.Scan.VY_v1 mK c)
theorem sB_Vn (n : Fin 64) (h : Fin 4) : (sB mK c).Vn n.val h.val = (sF mK c).Vn n.val h.val :=
  (congrArg (fun X => rowSeq (F := Ideal) (e := .bf16) X n.val h.val) (Cert.Scan.VY_v2_1 mK c)).trans (rowSeq_rowArr _ n.isLt h.isLt)
theorem sB_Sp (n : Fin 64) (h : Fin 4) : (sB mK c).Sp n.val h.val = spV ((sF mK c).G n.val h.val) :=
  (congrArg (fun X => tileSeq (F := Ideal) (e := .f32) (c := 128) (d := 128) X n.val h.val) (Cert.Scan.VY_v2_2 mK c)).trans (tileSeq_tileArr _ n.isLt h.isLt)

/-! ## The forward loop -/

section Fwd
variable (A : Agree mK mR c)
include A

theorem linkF : LinkF (sF mK c) (W0 (F := Ideal) mR c) where
  at' n h i j := by
    rw [W0_v16_0, sF_At]; exact (congrFun A.a4 _).trans (tileSeq_at (c := 64) (d := 64) _ n h i j).symm
  qd n h i j := by
    rw [W0_v16_1, sF_Qd, chB_eq]; exact congrArg (fun X => rowSeq (F := Ideal) (e := .bf16) X n.val h.val (ix2 i j)) A.a2
  kt n h i j := by
    rw [W0_v16_2, sF_Kt, chB_eq]; exact congrArg (fun X => rowSeq (F := Ideal) (e := .bf16) X n.val h.val (ix2 i j)) A.a3
  u n h i j := by
    rw [W0_v16_3, sF_U, chF_eq]; exact congrArg (fun X => rowSeq (F := Ideal) (e := .f32) X n.val h.val (ix2 i j)) A.a0
  w n h i j := by
    rw [W0_v16_4, sF_W, chB_eq]; exact congrArg (fun X => rowSeq (F := Ideal) (e := .bf16) X n.val h.val (ix2 i j)) A.a1
  gl n h l := by
    rw [W0_v16_5, sF_Gl]; exact congrFun A.a5 _

omit A in
theorem invF0 : InvF (sF mK c) 0 (W0 (F := Ideal) mR c) where
  st h i j := by rw [W0_v16_7]; rfl
  o n h i j hn := absurd hn (Nat.not_lt_zero _)
  sp n h i j hn := absurd hn (Nat.not_lt_zero _)
  vn n h i j hn := absurd hn (Nat.not_lt_zero _)
  gl n h l hn := absurd hn (Nat.not_lt_zero _)

theorem stepsF : ∀ k, k ≤ 64 → LinkF (sF mK c) (AF (F := Ideal) mR k c) ∧ InvF (sF mK c) k (AF (F := Ideal) mR k c)
  | 0, _ => ⟨linkF mK mR c A, invF0 mK mR c⟩
  | k + 1, hk => by
    obtain ⟨L, I⟩ := stepsF k (by omega)
    refine ⟨L.cond.body, ?_⟩
    exact InvF.succ (⟨k, by omega⟩ : Fin 64) (Scf.iv 0#32 1#32 k)
      ((condF_keep (r := main_v16_6) (V := AF (F := Ideal) mR k c) (by decide +kernel)).trans (AF_ctr (F := Ideal) mR c k)) (up_toInt ⟨k, by omega⟩) L.cond I.cond

theorem endF : InvF (sF mK c) 64 (WM mR c) := (stepsF mK mR c A 64 le_rfl).2.cond

/-! ## The gradient's loop -/

theorem linkB : LinkB (sB mK c) (W1 (F := Ideal) mR c) where
  do' n h i j := by
    rw [W1_v27_0, sB_Do, chF_eq, WM_keep mR c main_arg6 (by decide +kernel) (by decide +kernel)]
    exact congrArg (fun X => rowSeq (F := Ideal) (e := .f32) X n.val h.val (ix2 i j)) ((pre_keep _ _ (by decide +kernel)).trans A.a6)
  sp n h i j := by
    rw [W1_v27_1, sB_Sp, (endF mK mR c A).sp n h i j n.isLt]; exact (sp_at _ i j).symm
  w n h i j := by
    rw [W1_v27_2, sB_W, WM_keep mR c main_v10 (by decide +kernel) (by decide +kernel), W0_v10, sF_W, chB_eq]
    exact congrArg (fun X => rowSeq (F := Ideal) (e := .bf16) X n.val h.val (ix2 i j)) A.a1
  qd n h i j := by
    rw [W1_v27_3, sB_Qd, WM_keep mR c main_v2 (by decide +kernel) (by decide +kernel), W0_v2, sF_Qd, chB_eq]
    exact congrArg (fun X => rowSeq (F := Ideal) (e := .bf16) X n.val h.val (ix2 i j)) A.a2
  vn n h i j := by
    rw [W1_v27_4, sB_Vn]; exact (endF mK mR c A).vn n h i j n.isLt
  at' n h i j := by
    rw [W1_v27_5, sB_At, WM_keep mR c main_arg4 (by decide +kernel) (by decide +kernel), sF_At]
    exact ((congrFun (pre_keep _ _ (by decide +kernel)) _).trans (congrFun A.a4 _)).trans (tileSeq_at (c := 64) (d := 64) _ n h i j).symm
  gl n h l := by
    rw [W1_v27_6, sB_Gl]; exact (endF mK mR c A).gl n h l n.isLt
  kt n h i j := by
    rw [W1_v27_7, sB_Kt, WM_keep mR c main_v5 (by decide +kernel) (by decide +kernel), W0_v5, sF_Kt, chB_eq]
    exact congrArg (fun X => rowSeq (F := Ideal) (e := .bf16) X n.val h.val (ix2 i j)) A.a3

omit A in
theorem invB0 : InvB (sB mK c) 0 (W1 (F := Ideal) mR c) where
  ds h i j := by rw [W1_v27_9]; rfl
  dat n h i j hn := absurd hn (by omega)
  dqd n h i j hn := absurd hn (by omega)
  dkt n h i j hn := absurd hn (by omega)
  dvn n h i j hn := absurd hn (by omega)
  dw n h i j hn := absurd hn (by omega)
  dgl n h l hn := absurd hn (by omega)

end Fwd

section Fin
variable (H : Finite mK c)
include H

theorem fin_U (n : Fin 64) (h : Fin 4) (i : Fin 64) (j : Fin 128) : Rl ((sF mK c).U n.val h.val (ix2 i j)) := by rw [sF_U]; exact H.a0 _
theorem fin_W (n : Fin 64) (h : Fin 4) (i : Fin 64) (j : Fin 128) : Rl ((sF mK c).W n.val h.val (ix2 i j)) := by rw [sF_W]; exact H.a1 _
theorem fin_Qd (n : Fin 64) (h : Fin 4) (i : Fin 64) (j : Fin 128) : Rl ((sF mK c).Qd n.val h.val (ix2 i j)) := by rw [sF_Qd]; exact H.a2 _
theorem fin_Kt (n : Fin 64) (h : Fin 4) (i : Fin 64) (j : Fin 128) : Rl ((sF mK c).Kt n.val h.val (ix2 i j)) := by rw [sF_Kt]; exact H.a3 _
theorem fin_At (n : Fin 64) (h : Fin 4) (i j : Fin 64) : Rl ((sF mK c).At n.val h.val (ix4 0 0 i j)) := by rw [sF_At]; exact H.a4 _
theorem fin_Gl (n : Fin 64) (h : Fin 4) (l : Fin 128) : Rl ((sF mK c).Gl n.val h.val (ix4 0 0 0 l)) := by rw [sF_Gl]; exact H.a5 _
theorem fin_Do (n : Fin 64) (h : Fin 4) (i : Fin 64) (j : Fin 128) : Rl ((sB mK c).Do n.val h.val (ix2 i j)) := by rw [sB_Do]; exact H.a6 _

theorem fin_G (h : Fin 4) : ∀ k, k ≤ 64 → ∀ i j : Fin 128, Rl ((sF mK c).G k h.val (ix3 0 i j))
  | 0, _, i, j => ⟨0, zero_at i j⟩
  | k + 1, hk, i, j => by
    have ih := fin_G h k (by omega)
    rw [show (sF mK c).G (k + 1) h.val = stV ((sF mK c).G k h.val) ((sF mK c).Gl k h.val) ((sF mK c).Kt k h.val)
      (vnV ((sF mK c).U k h.val) (wsV ((sF mK c).W k h.val) ((sF mK c).G k h.val))) from rfl, st_at]
    refine ((ih i j).mul (fin_Gl mK c H ⟨k, by omega⟩ h j)).add (Rl.sum _ _ fun q => (fin_Kt mK c H ⟨k, by omega⟩ h q i).mul ?_)
    rw [vn_at, ws_at]
    exact (fin_U mK c H ⟨k, by omega⟩ h q j).sub (Rl.sum _ _ fun p => (fin_W mK c H ⟨k, by omega⟩ h q p).mul (ih p j))

theorem finB : FinB (sB mK c) where
  do' := fin_Do mK c H
  sp n h i j := by rw [sB_Sp, sp_at]; exact fin_G mK c H h n.val (by omega) i j
  w := by rw [sB_W]; exact fin_W mK c H
  qd := by rw [sB_Qd]; exact fin_Qd mK c H
  kt := by rw [sB_Kt]; exact fin_Kt mK c H
  at' := by rw [sB_At]; exact fin_At mK c H
  gl := by rw [sB_Gl]; exact fin_Gl mK c H

variable (A : Agree mK mR c)
include A

theorem stepsB : ∀ k, k ≤ 64 → LinkB (sB mK c) (AB (F := Ideal) mR k c) ∧ InvB (sB mK c) k (AB (F := Ideal) mR k c)
  | 0, _ => ⟨linkB mK mR c A, invB0 mK mR c⟩
  | k + 1, hk => by
    obtain ⟨L, I⟩ := stepsB k (by omega)
    refine ⟨L.cond.body, ?_⟩
    have e : 63 - (63 - k) = k := by omega
    have hd := down_toInt ⟨63 - k, by omega⟩
    dsimp only at hd
    rw [e] at hd
    exact InvB.succ (finB mK c H) k (⟨63 - k, by omega⟩ : Fin 64) rfl (by omega) (Scf.iv 0#32 1#32 k)
      ((condB_keep (r := main_v27_8) (V := AB (F := Ideal) mR k c) (by decide +kernel)).trans (AB_ctr (F := Ideal) mR c k)) _ rfl hd L.cond I.cond

theorem endB : InvB (sB mK c) 64 (WL mR c) := (stepsB mK mR c H A 64 le_rfl).2.cond

/-! ## The results -/

omit H in
theorem final_o : WE (F := Ideal) mR c (Proc.devRef .tc main_v29) = rowArr (F := Ideal) (e := .f32) (sF mK c).O := by
  rw [WE_v29]
  refine unF_eq _ _ fun n h i j => ?_
  refine Eq.trans (congrFun ?_ _) ((endF mK mR c A).o n h i j n.isLt)
  exact (condB_keep _ _ (by decide +kernel)).trans ((AB_keep mR c main_v16_8 (by decide +kernel) (by decide +kernel) 64).trans (mid_keep _ _ (by decide +kernel) (by decide +kernel)))
theorem final_du : WE (F := Ideal) mR c (Proc.devRef .tc main_v31) = rowArr (F := Ideal) (e := .f32) (sB mK c).Dvn := by
  rw [WE_v31]; exact unF_eq _ _ fun n h i j => (endB mK mR c H A).dvn n h i j (by omega)
theorem final_dw : WE (F := Ideal) mR c (Proc.devRef .tc main_v33) = rowArr (F := Ideal) (e := .f32) (sB mK c).Dw := by
  rw [WE_v33]; exact unF_eq _ _ fun n h i j => (endB mK mR c H A).dw n h i j (by omega)
theorem final_dqd : WE (F := Ideal) mR c (Proc.devRef .tc main_v35) = rowArr (F := Ideal) (e := .f32) (sB mK c).Dqd := by
  rw [WE_v35]; exact unF_eq _ _ fun n h i j => (endB mK mR c H A).dqd n h i j (by omega)
theorem final_dkt : WE (F := Ideal) mR c (Proc.devRef .tc main_v37) = rowArr (F := Ideal) (e := .f32) (sB mK c).Dkt := by
  rw [WE_v37]; exact unF_eq _ _ fun n h i j => (endB mK mR c H A).dkt n h i j (by omega)
theorem final_dat : WE (F := Ideal) mR c (Proc.devRef .tc main_v27_10) = tileArr (F := Ideal) (e := .f32) (c := 64) (d := 64) (sB mK c).Dat := by
  rw [WE_v27_10]; exact tile_eq _ _ fun n h i j => (endB mK mR c H A).dat n h i j (by omega)
theorem final_dgl : WE (F := Ideal) mR c (Proc.devRef .tc main_v39) = tileArr (F := Ideal) (e := .f32) (c := 1) (d := 128) (sB mK c).Dgl := by
  rw [WE_v39]
  refine tile_eq (c := 1) (d := 128) _ _ fun n h i j => ?_
  obtain rfl : i = 0 := Subsingleton.elim _ _
  exact (glK_at _ n h j).trans ((endB mK mR c H A).dgl n h j (by omega))
end Fin

end Cert.ScanFinal

end
-- ==== Proof.ScanPre.lean ====
/- The precondition's side conditions, and what it says: every argument's numbers are finite. -/
module

public import proofs.«01_k».proof.Defs
public import proofs.«01_k».proof.Proof.ScanFinal

@[expose] public section

noncomputable section

open Idealize.ShloMosaic Idealize.ShloMosaic.TcCoe Idealize.SL.Sem

namespace Cert.ScanPre

open Cert.ScanVal Cert.ScanFinal

instance facts : Cert.Pre_finite.Facts where
  bitsLt_bf16_f32 := by decide
  bcast_S_S4096x512 := by decide
  bcast_S_S64x4x64x64 := by decide
  bcast_S_S64x4 := by decide

theorem rl_of_cmp {x : EReal} (h : Ideal.cmp .oeq (x - x) (Scalar.ofBits (F := Ideal) .f32 0x00000000#32) = 1#1) : Rl x := by
  have z : (Scalar.ofBits (F := Ideal) .f32 0x00000000#32 : EReal) = 0 := zero_at 0 0
  refine Rl.of_sub_self (?_ : x - x = 0)
  by_contra hn
  have : Ideal.cmp .oeq (x - x) (Scalar.ofBits (F := Ideal) .f32 0x00000000#32) = BitVec.ofBool (decide (x - x = Scalar.ofBits (F := Ideal) .f32 0x00000000#32)) := rfl
  rw [this, decide_eq_false (by rw [z]; exact hn)] at h
  exact absurd h (by decide)

theorem finite (mK : MemK) (H : Cert.Pre_KernelIdeal_finite mK) (c : Dev Cert.KernelIdeal.nD) : Finite mK c := by
  obtain ⟨h0, h1, h2, h3, h4, h5, h6⟩ := H c
  exact ⟨fun i => rl_of_cmp (congrFun h0 i), fun i => rl_of_cmp (congrFun h1 i), fun i => rl_of_cmp (congrFun h2 i), fun i => rl_of_cmp (congrFun h3 i),
    fun i => rl_of_cmp (congrFun h4 i), fun i => rl_of_cmp (congrFun h5 i), fun i => rl_of_cmp (congrFun h6 i)⟩

end Cert.ScanPre

end
-- ==== Proof.ScanFrame.lean ====
/- The scan's frame, for both printed kernels: their texts are the same. -/
module

public import proofs.«01_k».proof.Proof.Gen.Kernel
public import proofs.«01_k».proof.Proof.ScanRun
public import Idealize.ShloMosaic.Lib.Tactic

@[expose] public section

set_option maxRecDepth 16384

noncomputable section

open Idealize.ShloMosaic Idealize.ShloMosaic.TcCoe Idealize.SL.Sem

namespace Cert.ScanFrame

theorem run_args {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) ∧ r.2.sem = fun _ => 0) :=
  (θ_run Cert.KernelIdeal.defs _ _).mono (fun r h => ⟨fun c => (h.1 c).1, h.2⟩) (Cert.Scan.run_main (F := F) m ρ)

theorem same (m : (ℓ : Loc Cert.Kernel.nD Cert.Kernel.τ Cert.Kernel.sig) → Buf (Elt Bits) ℓ) (ρ : Dev Cert.Kernel.nD → PrngReg) :
    (θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) ∧ r.2.sem = fun _ => 0))
    = (θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)) ∧ r.2.sem = fun _ => 0)) := by
  sl_kernel_rfl

theorem run_args_kernel (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)) ∧ r.2.sem = fun _ => 0) :=
  Eq.mp (same m ρ) (run_args (F := Bits) m ρ)

end Cert.ScanFrame

end
-- ==== Proof.AdamValue.lean ====
/- The optimiser's update of every weight the claims name: the kernel's arithmetic entry by entry is the reference's. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)
open scoped BigOperators

namespace Cert.AdamValue

/-! ## w_out, in two tiles of rows -/

section Big
open Cert.Kernel5Ideal Cert.Kernel5Ideal.Gen

variable (m : (ℓ : Loc nD τ sig) → Buf (Elt Ideal) ℓ)

theorem idx_val : ∀ t : Fin cfg0.N, win0_0.index t = ![t.val, 0] ∧ win0_1.index t = ![t.val, 0] ∧ win0_2.index t = ![t.val, 0]
    ∧ win0_3.index t = ![t.val, 0] ∧ win0_5.index t = ![t.val, 0] ∧ win0_6.index t = ![t.val, 0] ∧ win0_7.index t = ![t.val, 0] :=
  (by decide +kernel : ∀ t : Fin grid0.N, _)

abbrev B0 (c : Dev nD) : FVec Ideal S256x1024 .f32 := m ((c : Thread nD τ).loc main_arg0)
abbrev B1 (c : Dev nD) : FVec Ideal S256x1024 .f32 := m ((c : Thread nD τ).loc main_arg1)
abbrev B2 (c : Dev nD) : FVec Ideal S256x1024 .f32 := m ((c : Thread nD τ).loc main_arg2)
abbrev B3 (c : Dev nD) : FVec Ideal S256x1024 .f32 := m ((c : Thread nD τ).loc main_arg3)

theorem hz : (![0, 0] : Fin S128x1024.rank → Nat) = fun _ => 0 := funext fun a => by fin_cases a <;> rfl

/-- The kernel takes the gradient first and the weight second. -/
theorem tile (c : Dev nD) (t : Fin cfg0.N) (k : Fin 128) (hl : t.val * 128 + k.val < 256) (d : Fin 1024) :
    (iblk m c 0 t : FVec Ideal S128x1024 .f32) (ix2 k d) = B1 m c (ix2 ⟨t.val * 128 + k.val, hl⟩ d)
    ∧ (iblk m c 1 t : FVec Ideal S128x1024 .f32) (ix2 k d) = B0 m c (ix2 ⟨t.val * 128 + k.val, hl⟩ d)
    ∧ (iblk m c 2 t : FVec Ideal S128x1024 .f32) (ix2 k d) = B2 m c (ix2 ⟨t.val * 128 + k.val, hl⟩ d)
    ∧ (iblk m c 3 t : FVec Ideal S128x1024 .f32) (ix2 k d) = B3 m c (ix2 ⟨t.val * 128 + k.val, hl⟩ d) := by
  unfold B0 B1 B2 B3
  refine ⟨?_, ?_, ?_, ?_⟩ <;> blk_point [iblk, V, idx_val t]

theorem big_delta (c : Dev nD) : (dats m 0 c).arrAt 5 (cfgs 0).N
    = Cert.Reference5Ideal.Read.val_main_v23 (F := Ideal) (B0 m c) (B1 m c) (B2 m c) (B3 m c) := by
  refine (dats m 0 c).arrAt_eq_of_covers 5 _ (by decide +kernel) fun t _ y => ?_
  blk_simp
  rw [after0_5]
  obtain ⟨k, d, rfl⟩ : ∃ (k : Fin 128) (d : Fin 1024), y = ix2 k d := ⟨y 0, y 1, eq_ix2 y⟩
  have ht : t.val < 2 := lt_of_lt_of_eq t.isLt N_0
  have hj : ((cfg0.win 5).blk t).view.emb (ix2 k d) = ix2 (⟨t.val * 128 + k.val, by omega⟩ : Fin 256) d := by
    blk_ext [idx_val t]
  rw [hj]
  obtain ⟨e0, e1, e2, e3⟩ := tile m c t k (by omega) d
  unfold out0_5
  rw [View.canon_unit_zero hz]
  simp only [View.ld_unit_zero (S := S128x1024) hz]
  generalize (iblk m c 0 t : FVec Ideal S128x1024 .f32) = y0 at e0 ⊢
  generalize (iblk m c 1 t : FVec Ideal S128x1024 .f32) = y1 at e1 ⊢
  generalize (iblk m c 2 t : FVec Ideal S128x1024 .f32) = y2 at e2 ⊢
  generalize (iblk m c 3 t : FVec Ideal S128x1024 .f32) = y3 at e3 ⊢
  show k0_pay3 (F := Ideal) (fun _ => y0 (ix2 k d)) (fun _ => y1 (ix2 k d)) (fun _ => y2 (ix2 k d)) (fun _ => y3 (ix2 k d)) (ix2 k d) = _
  rw [e0, e1, e2, e3]
  rfl

theorem big_m (c : Dev nD) : (dats m 0 c).arrAt 6 (cfgs 0).N
    = Cert.Reference5Ideal.Read.val_main_v4 (F := Ideal) (B1 m c) (B2 m c) := by
  refine (dats m 0 c).arrAt_eq_of_covers 6 _ (by decide +kernel) fun t _ y => ?_
  blk_simp
  rw [after0_6]
  obtain ⟨k, d, rfl⟩ : ∃ (k : Fin 128) (d : Fin 1024), y = ix2 k d := ⟨y 0, y 1, eq_ix2 y⟩
  have ht : t.val < 2 := lt_of_lt_of_eq t.isLt N_0
  have hj : ((cfg0.win 6).blk t).view.emb (ix2 k d) = ix2 (⟨t.val * 128 + k.val, by omega⟩ : Fin 256) d := by
    blk_ext [idx_val t]
  rw [hj]
  obtain ⟨e0, e1, e2, e3⟩ := tile m c t k (by omega) d
  unfold out0_6
  rw [View.canon_unit_zero hz]
  simp only [View.ld_unit_zero (S := S128x1024) hz]
  generalize (iblk m c 0 t : FVec Ideal S128x1024 .f32) = y0 at e0 ⊢
  generalize (iblk m c 1 t : FVec Ideal S128x1024 .f32) = y1 at e1 ⊢
  generalize (iblk m c 2 t : FVec Ideal S128x1024 .f32) = y2 at e2 ⊢
  generalize (iblk m c 3 t : FVec Ideal S128x1024 .f32) = y3 at e3 ⊢
  show k0_pay1 (F := Ideal) (fun _ => y0 (ix2 k d)) (fun _ => y2 (ix2 k d)) (ix2 k d) = _
  rw [e0, e2]
  rfl

theorem big_v (c : Dev nD) : (dats m 0 c).arrAt 7 (cfgs 0).N
    = Cert.Reference5Ideal.Read.val_main_v10 (F := Ideal) (B1 m c) (B3 m c) := by
  refine (dats m 0 c).arrAt_eq_of_covers 7 _ (by decide +kernel) fun t _ y => ?_
  blk_simp
  rw [after0_7]
  obtain ⟨k, d, rfl⟩ : ∃ (k : Fin 128) (d : Fin 1024), y = ix2 k d := ⟨y 0, y 1, eq_ix2 y⟩
  have ht : t.val < 2 := lt_of_lt_of_eq t.isLt N_0
  have hj : ((cfg0.win 7).blk t).view.emb (ix2 k d) = ix2 (⟨t.val * 128 + k.val, by omega⟩ : Fin 256) d := by
    blk_ext [idx_val t]
  rw [hj]
  obtain ⟨e0, e1, e2, e3⟩ := tile m c t k (by omega) d
  unfold out0_7
  rw [View.canon_unit_zero hz]
  simp only [View.ld_unit_zero (S := S128x1024) hz]
  generalize (iblk m c 0 t : FVec Ideal S128x1024 .f32) = y0 at e0 ⊢
  generalize (iblk m c 1 t : FVec Ideal S128x1024 .f32) = y1 at e1 ⊢
  generalize (iblk m c 2 t : FVec Ideal S128x1024 .f32) = y2 at e2 ⊢
  generalize (iblk m c 3 t : FVec Ideal S128x1024 .f32) = y3 at e3 ⊢
  show k0_pay2 (F := Ideal) (fun _ => y0 (ix2 k d)) (fun _ => y3 (ix2 k d)) (ix2 k d) = _
  rw [e0, e3]
  rfl

end Big

theorem frame_kernel5 : Cert.quiescent_Kernel5 (hKernel5 := Cert.Kernel5.Gen.facts) := fun m ρ _ => Cert.Kernel5.Gen.frame m ρ
theorem frame_kernel5_ideal : Cert.quiescent_Kernel5Ideal (hKernel5Ideal := Cert.Kernel5Ideal.Gen.facts) := fun m ρ _ => Cert.Kernel5Ideal.Gen.frame m ρ
theorem frame_reference5 : Cert.quiescent_Reference5Ideal (hReference5Ideal := Cert.Reference5Ideal.Gen.facts) := by
  intro m ρ _
  exact (θ_run Cert.Reference5Ideal.defs _ _).mono (fun r h => ⟨fun c => (h c).2.2.2, sem_eq_zero_of_no_sems (by decide) r.2⟩)
    (Cert.Reference5Ideal.Value.run m ρ)

theorem algebraic5 : Cert.algebraic_Kernel5Ideal_Reference5Ideal (hKernel5Ideal := Cert.Kernel5Ideal.Gen.facts) (hReference5Ideal := Cert.Reference5Ideal.Gen.facts) := by
  intro m g m' g' hpre hagree
  refine ⟨fun c => (Cert.Kernel5Ideal.Gen.dats m 0 c).arrAt 5 (Cert.Kernel5Ideal.cfgs 0).N, fun c => (Cert.Kernel5Ideal.Gen.dats m 0 c).arrAt 6 (Cert.Kernel5Ideal.cfgs 0).N, fun c => (Cert.Kernel5Ideal.Gen.dats m 0 c).arrAt 7 (Cert.Kernel5Ideal.cfgs 0).N,
    (θ_run Cert.Kernel5Ideal.defs _ _).mono (fun r h c => ?_) (Cert.Kernel5Ideal.Value.run_blocks m g),
    (θ_run Cert.Reference5Ideal.defs _ _).mono (fun r h c => ?_) (Cert.Reference5Ideal.Value.run m' g')⟩
  · exact (h c).2
  · obtain ⟨e0, e1, e2, hargs⟩ := h c
    obtain ⟨h0, h1, h2, h3⟩ := hagree c
    refine ⟨e0.trans ?_, e1.trans ?_, e2.trans ?_, hargs⟩
    · rw [h0, h1, h2, h3]; exact (Cert.Reference5Ideal.Read.val_main_v23_eq _ _ _ _).trans (big_delta m c).symm
    · rw [h1, h2]; exact (Cert.Reference5Ideal.Read.val_main_v4_eq _ _).trans (big_m m c).symm
    · rw [h1, h3]; exact (Cert.Reference5Ideal.Read.val_main_v10_eq _ _).trans (big_v m c).symm

/-! ## norm_w -/

theorem frame_kernel6 : Cert.quiescent_Kernel6 (hKernel6 := Cert.Kernel6.Gen.facts) := fun m ρ _ => Cert.Kernel6.Gen.frame m ρ
theorem frame_kernel6_ideal : Cert.quiescent_Kernel6Ideal (hKernel6Ideal := Cert.Kernel6Ideal.Gen.facts) := fun m ρ _ => Cert.Kernel6Ideal.Gen.frame m ρ
theorem frame_reference6 : Cert.quiescent_Reference6Ideal (hReference6Ideal := Cert.Reference6Ideal.Gen.facts) := by
  intro m ρ _
  exact (θ_run Cert.Reference6Ideal.defs _ _).mono (fun r h => ⟨fun c => (h c).2.2.2, sem_eq_zero_of_no_sems (by decide) r.2⟩)
    (Cert.Reference6Ideal.Value.run m ρ)

theorem algebraic6 : Cert.algebraic_Kernel6Ideal_Reference6Ideal (hKernel6Ideal := Cert.Kernel6Ideal.Gen.facts) (hReference6Ideal := Cert.Reference6Ideal.Gen.facts) := by
  intro m g m' g' hpre hagree
  refine ⟨fun c => Cert.Kernel6Ideal.Value.G4 (m ((c : Thread Cert.Kernel6Ideal.nD Cert.Kernel6Ideal.τ).loc Cert.Kernel6Ideal.main_arg0)) (m ((c : Thread Cert.Kernel6Ideal.nD Cert.Kernel6Ideal.τ).loc Cert.Kernel6Ideal.main_arg1)) (m ((c : Thread Cert.Kernel6Ideal.nD Cert.Kernel6Ideal.τ).loc Cert.Kernel6Ideal.main_arg2)) (m ((c : Thread Cert.Kernel6Ideal.nD Cert.Kernel6Ideal.τ).loc Cert.Kernel6Ideal.main_arg3)), fun c => Cert.Kernel6Ideal.Value.G5 (m ((c : Thread Cert.Kernel6Ideal.nD Cert.Kernel6Ideal.τ).loc Cert.Kernel6Ideal.main_arg1)) (m ((c : Thread Cert.Kernel6Ideal.nD Cert.Kernel6Ideal.τ).loc Cert.Kernel6Ideal.main_arg2)), fun c => Cert.Kernel6Ideal.Value.G6 (m ((c : Thread Cert.Kernel6Ideal.nD Cert.Kernel6Ideal.τ).loc Cert.Kernel6Ideal.main_arg1)) (m ((c : Thread Cert.Kernel6Ideal.nD Cert.Kernel6Ideal.τ).loc Cert.Kernel6Ideal.main_arg3)),
    (θ_run Cert.Kernel6Ideal.defs _ _).mono (fun r h c => ?_) (Cert.Kernel6Ideal.Value.run m g),
    (θ_run Cert.Reference6Ideal.defs _ _).mono (fun r h c => ?_) (Cert.Reference6Ideal.Value.run m' g')⟩
  · exact h c
  · obtain ⟨e0, e1, e2, hargs⟩ := h c
    obtain ⟨h0, h1, h2, h3⟩ := hagree c
    refine ⟨e0.trans ?_, e1.trans ?_, e2.trans ?_, hargs⟩
    · rw [h0, h1, h2, h3]; exact funext fun i => rfl
    · rw [h1, h2]; exact funext fun i => rfl
    · rw [h1, h3]; exact funext fun i => rfl

/-! ## conv_w -/

theorem frame_kernel7 : Cert.quiescent_Kernel7 (hKernel7 := Cert.Kernel7.Gen.facts) := fun m ρ _ => Cert.Kernel7.Gen.frame m ρ
theorem frame_kernel7_ideal : Cert.quiescent_Kernel7Ideal (hKernel7Ideal := Cert.Kernel7Ideal.Gen.facts) := fun m ρ _ => Cert.Kernel7Ideal.Gen.frame m ρ
theorem frame_reference7 : Cert.quiescent_Reference7Ideal (hReference7Ideal := Cert.Reference7Ideal.Gen.facts) := by
  intro m ρ _
  exact (θ_run Cert.Reference7Ideal.defs _ _).mono (fun r h => ⟨fun c => (h c).2.2.2, sem_eq_zero_of_no_sems (by decide) r.2⟩)
    (Cert.Reference7Ideal.Value.run m ρ)

theorem algebraic7 : Cert.algebraic_Kernel7Ideal_Reference7Ideal (hKernel7Ideal := Cert.Kernel7Ideal.Gen.facts) (hReference7Ideal := Cert.Reference7Ideal.Gen.facts) := by
  intro m g m' g' hpre hagree
  refine ⟨fun c => Cert.Kernel7Ideal.Value.G4 (m ((c : Thread Cert.Kernel7Ideal.nD Cert.Kernel7Ideal.τ).loc Cert.Kernel7Ideal.main_arg0)) (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)) (m ((c : Thread Cert.Kernel7Ideal.nD Cert.Kernel7Ideal.τ).loc Cert.Kernel7Ideal.main_arg3)), fun c => Cert.Kernel7Ideal.Value.G5 (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg2)), fun c => Cert.Kernel7Ideal.Value.G6 (m ((c : Thread Cert.Kernel7Ideal.nD Cert.Kernel7Ideal.τ).loc Cert.Kernel7Ideal.main_arg1)) (m ((c : Thread Cert.Kernel7Ideal.nD Cert.Kernel7Ideal.τ).loc Cert.Kernel7Ideal.main_arg3)),
    (θ_run Cert.Kernel7Ideal.defs _ _).mono (fun r h c => ?_) (Cert.Kernel7Ideal.Value.run m g),
    (θ_run Cert.Reference7Ideal.defs _ _).mono (fun r h c => ?_) (Cert.Reference7Ideal.Value.run m' g')⟩
  · exact h c
  · obtain ⟨e0, e1, e2, hargs⟩ := h c
    obtain ⟨h0, h1, h2, h3⟩ := hagree c
    refine ⟨e0.trans ?_, e1.trans ?_, e2.trans ?_, hargs⟩
    · rw [h0, h1, h2, h3]; exact funext fun i => rfl
    · rw [h1, h2]; exact funext fun i => rfl
    · rw [h1, h3]; exact funext fun i => rfl

/-! ## a_log and dt_bias -/

theorem frame_kernel8 : Cert.quiescent_Kernel8 (hKernel8 := Cert.Kernel8.Gen.facts) := fun m ρ _ => Cert.Kernel8.Gen.frame m ρ
theorem frame_kernel8_ideal : Cert.quiescent_Kernel8Ideal (hKernel8Ideal := Cert.Kernel8Ideal.Gen.facts) := fun m ρ _ => Cert.Kernel8Ideal.Gen.frame m ρ
theorem frame_reference8 : Cert.quiescent_Reference8Ideal (hReference8Ideal := Cert.Reference8Ideal.Gen.facts) := by
  intro m ρ _
  exact (θ_run Cert.Reference8Ideal.defs _ _).mono (fun r h => ⟨fun c => (h c).2.2.2, sem_eq_zero_of_no_sems (by decide) r.2⟩)
    (Cert.Reference8Ideal.Value.run m ρ)

theorem algebraic8 : Cert.algebraic_Kernel8Ideal_Reference8Ideal (hKernel8Ideal := Cert.Kernel8Ideal.Gen.facts) (hReference8Ideal := Cert.Reference8Ideal.Gen.facts) := by
  intro m g m' g' hpre hagree
  refine ⟨fun c => Cert.Kernel8Ideal.Value.G4 (m ((c : Thread Cert.Kernel8Ideal.nD Cert.Kernel8Ideal.τ).loc Cert.Kernel8Ideal.main_arg0)) (m ((c : Thread Cert.Kernel8Ideal.nD Cert.Kernel8Ideal.τ).loc Cert.Kernel8Ideal.main_arg1)) (m ((c : Thread Cert.Kernel8Ideal.nD Cert.Kernel8Ideal.τ).loc Cert.Kernel8Ideal.main_arg2)) (m ((c : Thread Cert.Kernel8Ideal.nD Cert.Kernel8Ideal.τ).loc Cert.Kernel8Ideal.main_arg3)), fun c => Cert.Kernel8Ideal.Value.G5 (m ((c : Thread Cert.Kernel8Ideal.nD Cert.Kernel8Ideal.τ).loc Cert.Kernel8Ideal.main_arg1)) (m ((c : Thread Cert.Kernel8Ideal.nD Cert.Kernel8Ideal.τ).loc Cert.Kernel8Ideal.main_arg2)), fun c => Cert.Kernel8Ideal.Value.G6 (m ((c : Thread Cert.Kernel8Ideal.nD Cert.Kernel8Ideal.τ).loc Cert.Kernel8Ideal.main_arg1)) (m ((c : Thread Cert.Kernel8Ideal.nD Cert.Kernel8Ideal.τ).loc Cert.Kernel8Ideal.main_arg3)),
    (θ_run Cert.Kernel8Ideal.defs _ _).mono (fun r h c => ?_) (Cert.Kernel8Ideal.Value.run m g),
    (θ_run Cert.Reference8Ideal.defs _ _).mono (fun r h c => ?_) (Cert.Reference8Ideal.Value.run m' g')⟩
  · exact h c
  · obtain ⟨e0, e1, e2, hargs⟩ := h c
    obtain ⟨h0, h1, h2, h3⟩ := hagree c
    refine ⟨e0.trans ?_, e1.trans ?_, e2.trans ?_, hargs⟩
    · rw [h0, h1, h2, h3]; exact funext fun i => rfl
    · rw [h1, h2]; exact funext fun i => rfl
    · rw [h1, h3]; exact funext fun i => rfl

/-! ## dn_norm_w -/

theorem frame_kernel9 : Cert.quiescent_Kernel9 (hKernel9 := Cert.Kernel9.Gen.facts) := fun m ρ _ => Cert.Kernel9.Gen.frame m ρ
theorem frame_kernel9_ideal : Cert.quiescent_Kernel9Ideal (hKernel9Ideal := Cert.Kernel9Ideal.Gen.facts) := fun m ρ _ => Cert.Kernel9Ideal.Gen.frame m ρ
theorem frame_reference9 : Cert.quiescent_Reference9Ideal (hReference9Ideal := Cert.Reference9Ideal.Gen.facts) := by
  intro m ρ _
  exact (θ_run Cert.Reference9Ideal.defs _ _).mono (fun r h => ⟨fun c => (h c).2.2.2, sem_eq_zero_of_no_sems (by decide) r.2⟩)
    (Cert.Reference9Ideal.Value.run m ρ)

theorem algebraic9 : Cert.algebraic_Kernel9Ideal_Reference9Ideal (hKernel9Ideal := Cert.Kernel9Ideal.Gen.facts) (hReference9Ideal := Cert.Reference9Ideal.Gen.facts) := by
  intro m g m' g' hpre hagree
  refine ⟨fun c => Cert.Kernel9Ideal.Value.G4 (m ((c : Thread Cert.Kernel9Ideal.nD Cert.Kernel9Ideal.τ).loc Cert.Kernel9Ideal.main_arg0)) (m ((c : Thread Cert.Kernel9Ideal.nD Cert.Kernel9Ideal.τ).loc Cert.Kernel9Ideal.main_arg1)) (m ((c : Thread Cert.Kernel9Ideal.nD Cert.Kernel9Ideal.τ).loc Cert.Kernel9Ideal.main_arg2)) (m ((c : Thread Cert.Kernel9Ideal.nD Cert.Kernel9Ideal.τ).loc Cert.Kernel9Ideal.main_arg3)), fun c => Cert.Kernel9Ideal.Value.G5 (m ((c : Thread Cert.Kernel9Ideal.nD Cert.Kernel9Ideal.τ).loc Cert.Kernel9Ideal.main_arg1)) (m ((c : Thread Cert.Kernel9Ideal.nD Cert.Kernel9Ideal.τ).loc Cert.Kernel9Ideal.main_arg2)), fun c => Cert.Kernel9Ideal.Value.G6 (m ((c : Thread Cert.Kernel9Ideal.nD Cert.Kernel9Ideal.τ).loc Cert.Kernel9Ideal.main_arg1)) (m ((c : Thread Cert.Kernel9Ideal.nD Cert.Kernel9Ideal.τ).loc Cert.Kernel9Ideal.main_arg3)),
    (θ_run Cert.Kernel9Ideal.defs _ _).mono (fun r h c => ?_) (Cert.Kernel9Ideal.Value.run m g),
    (θ_run Cert.Reference9Ideal.defs _ _).mono (fun r h c => ?_) (Cert.Reference9Ideal.Value.run m' g')⟩
  · exact h c
  · obtain ⟨e0, e1, e2, hargs⟩ := h c
    obtain ⟨h0, h1, h2, h3⟩ := hagree c
    refine ⟨e0.trans ?_, e1.trans ?_, e2.trans ?_, hargs⟩
    · rw [h0, h1, h2, h3]; exact funext fun i => rfl
    · rw [h1, h2]; exact funext fun i => rfl
    · rw [h1, h3]; exact funext fun i => rfl

/-! ## q_norm_w and k_norm_w -/

theorem frame_kernel10 : Cert.quiescent_Kernel10 (hKernel10 := Cert.Kernel10.Gen.facts) := fun m ρ _ => Cert.Kernel10.Gen.frame m ρ
theorem frame_kernel10_ideal : Cert.quiescent_Kernel10Ideal (hKernel10Ideal := Cert.Kernel10Ideal.Gen.facts) := fun m ρ _ => Cert.Kernel10Ideal.Gen.frame m ρ
theorem frame_reference10 : Cert.quiescent_Reference10Ideal (hReference10Ideal := Cert.Reference10Ideal.Gen.facts) := by
  intro m ρ _
  exact (θ_run Cert.Reference10Ideal.defs _ _).mono (fun r h => ⟨fun c => (h c).2.2.2, sem_eq_zero_of_no_sems (by decide) r.2⟩)
    (Cert.Reference10Ideal.Value.run m ρ)

theorem algebraic10 : Cert.algebraic_Kernel10Ideal_Reference10Ideal (hKernel10Ideal := Cert.Kernel10Ideal.Gen.facts) (hReference10Ideal := Cert.Reference10Ideal.Gen.facts) := by
  intro m g m' g' hpre hagree
  refine ⟨fun c => Cert.Kernel10Ideal.Value.G4 (m ((c : Thread Cert.Kernel10Ideal.nD Cert.Kernel10Ideal.τ).loc Cert.Kernel10Ideal.main_arg0)) (m ((c : Thread Cert.Kernel10Ideal.nD Cert.Kernel10Ideal.τ).loc Cert.Kernel10Ideal.main_arg1)) (m ((c : Thread Cert.Kernel10Ideal.nD Cert.Kernel10Ideal.τ).loc Cert.Kernel10Ideal.main_arg2)) (m ((c : Thread Cert.Kernel10Ideal.nD Cert.Kernel10Ideal.τ).loc Cert.Kernel10Ideal.main_arg3)), fun c => Cert.Kernel10Ideal.Value.G5 (m ((c : Thread Cert.Kernel10Ideal.nD Cert.Kernel10Ideal.τ).loc Cert.Kernel10Ideal.main_arg1)) (m ((c : Thread Cert.Kernel10Ideal.nD Cert.Kernel10Ideal.τ).loc Cert.Kernel10Ideal.main_arg2)), fun c => Cert.Kernel10Ideal.Value.G6 (m ((c : Thread Cert.Kernel10Ideal.nD Cert.Kernel10Ideal.τ).loc Cert.Kernel10Ideal.main_arg1)) (m ((c : Thread Cert.Kernel10Ideal.nD Cert.Kernel10Ideal.τ).loc Cert.Kernel10Ideal.main_arg3)),
    (θ_run Cert.Kernel10Ideal.defs _ _).mono (fun r h c => ?_) (Cert.Kernel10Ideal.Value.run m g),
    (θ_run Cert.Reference10Ideal.defs _ _).mono (fun r h c => ?_) (Cert.Reference10Ideal.Value.run m' g')⟩
  · exact h c
  · obtain ⟨e0, e1, e2, hargs⟩ := h c
    obtain ⟨h0, h1, h2, h3⟩ := hagree c
    refine ⟨e0.trans ?_, e1.trans ?_, e2.trans ?_, hargs⟩
    · rw [h0, h1, h2, h3]; exact funext fun i => rfl
    · rw [h1, h2]; exact funext fun i => rfl
    · rw [h1, h3]; exact funext fun i => rfl

/-! ## rel_bias -/

theorem frame_kernel11 : Cert.quiescent_Kernel11 (hKernel11 := Cert.Kernel11.Gen.facts) := fun m ρ _ => Cert.Kernel11.Gen.frame m ρ
theorem frame_kernel11_ideal : Cert.quiescent_Kernel11Ideal (hKernel11Ideal := Cert.Kernel11Ideal.Gen.facts) := fun m ρ _ => Cert.Kernel11Ideal.Gen.frame m ρ
theorem frame_reference11 : Cert.quiescent_Reference11Ideal (hReference11Ideal := Cert.Reference11Ideal.Gen.facts) := by
  intro m ρ _
  exact (θ_run Cert.Reference11Ideal.defs _ _).mono (fun r h => ⟨fun c => (h c).2.2.2, sem_eq_zero_of_no_sems (by decide) r.2⟩)
    (Cert.Reference11Ideal.Value.run m ρ)

theorem algebraic11 : Cert.algebraic_Kernel11Ideal_Reference11Ideal (hKernel11Ideal := Cert.Kernel11Ideal.Gen.facts) (hReference11Ideal := Cert.Reference11Ideal.Gen.facts) := by
  intro m g m' g' hpre hagree
  refine ⟨fun c => Cert.Kernel11Ideal.Value.G4 (m ((c : Thread Cert.Kernel11Ideal.nD Cert.Kernel11Ideal.τ).loc Cert.Kernel11Ideal.main_arg0)) (m ((c : Thread Cert.Kernel11Ideal.nD Cert.Kernel11Ideal.τ).loc Cert.Kernel11Ideal.main_arg1)) (m ((c : Thread Cert.Kernel11Ideal.nD Cert.Kernel11Ideal.τ).loc Cert.Kernel11Ideal.main_arg2)) (m ((c : Thread Cert.Kernel11Ideal.nD Cert.Kernel11Ideal.τ).loc Cert.Kernel11Ideal.main_arg3)), fun c => Cert.Kernel11Ideal.Value.G5 (m ((c : Thread Cert.Kernel11Ideal.nD Cert.Kernel11Ideal.τ).loc Cert.Kernel11Ideal.main_arg1)) (m ((c : Thread Cert.Kernel11Ideal.nD Cert.Kernel11Ideal.τ).loc Cert.Kernel11Ideal.main_arg2)), fun c => Cert.Kernel11Ideal.Value.G6 (m ((c : Thread Cert.Kernel11Ideal.nD Cert.Kernel11Ideal.τ).loc Cert.Kernel11Ideal.main_arg1)) (m ((c : Thread Cert.Kernel11Ideal.nD Cert.Kernel11Ideal.τ).loc Cert.Kernel11Ideal.main_arg3)),
    (θ_run Cert.Kernel11Ideal.defs _ _).mono (fun r h c => ?_) (Cert.Kernel11Ideal.Value.run m g),
    (θ_run Cert.Reference11Ideal.defs _ _).mono (fun r h c => ?_) (Cert.Reference11Ideal.Value.run m' g')⟩
  · exact h c
  · obtain ⟨e0, e1, e2, hargs⟩ := h c
    obtain ⟨h0, h1, h2, h3⟩ := hagree c
    refine ⟨e0.trans ?_, e1.trans ?_, e2.trans ?_, hargs⟩
    · rw [h0, h1, h2, h3]; exact funext fun i => rfl
    · rw [h1, h2]; exact funext fun i => rfl
    · rw [h1, h3]; exact funext fun i => rfl

end Cert.AdamValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.DwValue
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Claim
public import proofs.«01_k».proof.Proof.Gen.Reference2Ideal.Read
public import Idealize.ShloMosaic.Adequacy
public import Idealize.ShloMosaic.Init
public import proofs.«01_k».proof.Proof.OutValue
public import proofs.«01_k».proof.Proof.InValue
public import proofs.«01_k».proof.Proof.ScanPre
public import proofs.«01_k».proof.Proof.ScanFrame
public import proofs.«01_k».proof.Proof.AdamValue
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel10
public import proofs.«01_k».proof.Proof.Gen.Kernel10Ideal
public import proofs.«01_k».proof.Proof.Gen.Reference10Ideal
public import proofs.«01_k».proof.Proof.Gen.Kernel11
public import proofs.«01_k».proof.Proof.Gen.Kernel11Ideal
public import proofs.«01_k».proof.Proof.Gen.Reference11Ideal

@[expose] public section

noncomputable section

namespace Cert.Proof

open Idealize.ShloMosaic Idealize.SL.Sem

/-! ## The scan and its gradient -/

theorem frame_kernel : Cert.quiescent_Kernel (hKernel := Cert.Kernel.Gen.facts) := fun m ρ _ => Cert.ScanFrame.run_args_kernel m ρ
theorem frame_kernel_ideal : Cert.quiescent_KernelIdeal (hKernelIdeal := Cert.KernelIdeal.Gen.facts) := fun m ρ _ => Cert.ScanFrame.run_args (F := Ideal) m ρ
theorem frame_kernel_ideal_finite : Cert.quiescent_KernelIdeal_pre_finite (hKernelIdeal := Cert.KernelIdeal.Gen.facts) (hPre_finite := Cert.ScanPre.facts) :=
  fun m ρ _ => Cert.ScanFrame.run_args (F := Ideal) m ρ
theorem frame_reference : Cert.quiescent_ReferenceIdeal (hReferenceIdeal := Cert.ReferenceIdeal.Gen.facts) := by
  intro m ρ _
  exact (θ_run Cert.ReferenceIdeal.defs _ _).mono (fun r h => ⟨fun c => ⟨(h c _ rfl).trans (Cert.ScanLink.WE_arg0 m c), (h c _ rfl).trans (Cert.ScanLink.WE_arg1 m c),
    (h c _ rfl).trans (Cert.ScanLink.WE_arg2 m c), (h c _ rfl).trans (Cert.ScanLink.WE_arg3 m c), (h c _ rfl).trans (Cert.ScanLink.WE_arg4 m c),
    (h c _ rfl).trans (Cert.ScanLink.WE_arg5 m c), (h c _ rfl).trans (Cert.ScanLink.WE_arg6 m c)⟩, sem_eq_zero_of_no_sems (by decide) r.2⟩)
    (Cert.ScanRef.run_fold (F := Ideal) m ρ)
theorem frame_reference_finite : Cert.quiescent_ReferenceIdeal_pre_finite (hReferenceIdeal := Cert.ReferenceIdeal.Gen.facts) (hPre_finite := Cert.ScanPre.facts) := by
  exact fun m ρ _ => frame_reference m ρ trivial

theorem algebraic : Cert.algebraic_KernelIdeal_ReferenceIdeal_pre_finite (hKernelIdeal := Cert.KernelIdeal.Gen.facts) (hReferenceIdeal := Cert.ReferenceIdeal.Gen.facts)
    (hPre_finite := Cert.ScanPre.facts) := by
  intro m g m' g' hpre hag
  have A : ∀ c, Cert.ScanFinal.Agree m m' c := fun c => ⟨(hag c).1, (hag c).2.1, (hag c).2.2.1, (hag c).2.2.2.1, (hag c).2.2.2.2.1, (hag c).2.2.2.2.2.1, (hag c).2.2.2.2.2.2⟩
  have H : ∀ c, Cert.ScanFinal.Finite m c := Cert.ScanPre.finite m hpre
  refine ⟨fun c => Cert.Scan.rowArr (F := Ideal) (e := .f32) (Cert.ScanFinal.sF m c).O, fun c => Cert.Scan.rowArr (F := Ideal) (e := .f32) (Cert.ScanFinal.sB m c).Dvn,
    fun c => Cert.Scan.rowArr (F := Ideal) (e := .f32) (Cert.ScanFinal.sB m c).Dw, fun c => Cert.Scan.rowArr (F := Ideal) (e := .f32) (Cert.ScanFinal.sB m c).Dqd,
    fun c => Cert.Scan.rowArr (F := Ideal) (e := .f32) (Cert.ScanFinal.sB m c).Dkt, fun c => Cert.Scan.tileArr (F := Ideal) (e := .f32) (c := 64) (d := 64) (Cert.ScanFinal.sB m c).Dat,
    fun c => Cert.Scan.tileArr (F := Ideal) (e := .f32) (c := 1) (d := 128) (Cert.ScanFinal.sB m c).Dgl, (θ_run Cert.KernelIdeal.defs _ _).mono (fun r h c => ?_) (Cert.Scan.run_main (F := Ideal) m g),
    (θ_run Cert.ReferenceIdeal.defs _ _).mono (fun r h c => ?_) (Cert.ScanRef.run_fold (F := Ideal) m' g')⟩
  · obtain ⟨ha, h0, h1, h2, h3, h4, h5, h6⟩ := h.1 c
    exact ⟨h0, h1, h4, h2, h3, h5, h6, ha⟩
  · exact ⟨(h c _ rfl).trans (Cert.ScanFinal.final_o m m' c (A c)), (h c _ rfl).trans (Cert.ScanFinal.final_du m m' c (H c) (A c)),
      (h c _ rfl).trans (Cert.ScanFinal.final_dw m m' c (H c) (A c)), (h c _ rfl).trans (Cert.ScanFinal.final_dqd m m' c (H c) (A c)),
      (h c _ rfl).trans (Cert.ScanFinal.final_dkt m m' c (H c) (A c)), (h c _ rfl).trans (Cert.ScanFinal.final_dat m m' c (H c) (A c)),
      (h c _ rfl).trans (Cert.ScanFinal.final_dgl m m' c (H c) (A c)),
      (h c _ rfl).trans (Cert.ScanLink.WE_arg0 m' c), (h c _ rfl).trans (Cert.ScanLink.WE_arg1 m' c),
      (h c _ rfl).trans (Cert.ScanLink.WE_arg2 m' c), (h c _ rfl).trans (Cert.ScanLink.WE_arg3 m' c), (h c _ rfl).trans (Cert.ScanLink.WE_arg4 m' c),
      (h c _ rfl).trans (Cert.ScanLink.WE_arg5 m' c), (h c _ rfl).trans (Cert.ScanLink.WE_arg6 m' c)⟩

/-! ## The gradient of w_in -/

theorem frame_kernel2 : Cert.quiescent_Kernel2 (hKernel2 := Cert.Kernel2.Gen.facts) := fun m ρ _ => Cert.Kernel2.Gen.frame m ρ
theorem frame_kernel2_ideal : Cert.quiescent_Kernel2Ideal (hKernel2Ideal := Cert.Kernel2Ideal.Gen.facts) := fun m ρ _ => Cert.Kernel2Ideal.Gen.frame m ρ
theorem frame_reference2 : Cert.quiescent_Reference2Ideal (hReference2Ideal := Cert.Reference2Ideal.Gen.facts) := by
  intro m ρ _
  exact (θ_run Cert.Reference2Ideal.defs _ _).mono (fun r h => ⟨fun c => (h c).2, sem_eq_zero_of_no_sems (by decide) r.2⟩)
    (Cert.Reference2Ideal.Value.run m ρ)

theorem algebraic2 : Cert.algebraic_Kernel2Ideal_Reference2Ideal (hKernel2Ideal := Cert.Kernel2Ideal.Gen.facts) (hReference2Ideal := Cert.Reference2Ideal.Gen.facts) := by
  pair_intro
  · run_from Cert.Kernel2Ideal.Gen.run_main m g
  · run_from Cert.Reference2Ideal.Value.run m' g'
    obtain ⟨-, -, -, -, h4, h5, h6, -, -⟩ := hagree c
    rw [h4, h5, h6]
    exact (Cert.Reference2Ideal.Read.val_main_v26_eq _ _ _ _ _ _ _ _ _).trans (Cert.DwValue.final m c).symm

/-! ## The loss and the gradient of the output projection -/

theorem frame_kernel3 : Cert.quiescent_Kernel3 (hKernel3 := Cert.Kernel3.Gen.facts) := fun m ρ _ => Cert.Kernel3.Gen.frame m ρ
theorem frame_kernel3_ideal : Cert.quiescent_Kernel3Ideal (hKernel3Ideal := Cert.Kernel3Ideal.Gen.facts) := fun m ρ _ => Cert.Kernel3Ideal.Gen.frame m ρ
theorem frame_reference3 : Cert.quiescent_Reference3Ideal (hReference3Ideal := Cert.Reference3Ideal.Gen.facts) := by
  intro m ρ _
  exact (θ_run Cert.Reference3Ideal.defs _ _).mono (fun r h => ⟨fun c => (h c).2.2.2.2, sem_eq_zero_of_no_sems (by decide) r.2⟩)
    (Cert.Reference3Ideal.Value.run m ρ)

theorem algebraic3 : Cert.algebraic_Kernel3Ideal_Reference3Ideal (hKernel3Ideal := Cert.Kernel3Ideal.Gen.facts) (hReference3Ideal := Cert.Reference3Ideal.Gen.facts) := by
  intro m g m' g' hpre hagree
  refine ⟨fun c => (Cert.Kernel3Ideal.Gen.dats m 0 c).arrAt 12 (Cert.Kernel3Ideal.cfgs 0).N, fun c => (Cert.Kernel3Ideal.Gen.dats m 0 c).arrAt 11 (Cert.Kernel3Ideal.cfgs 0).N,
    fun c => (Cert.Kernel3Ideal.Gen.dats m 0 c).arrAt 13 (Cert.Kernel3Ideal.cfgs 0).N, fun c => (Cert.Kernel3Ideal.Gen.dats m 0 c).arrAt 17 (Cert.Kernel3Ideal.cfgs 0).N,
    (θ_run Cert.Kernel3Ideal.defs _ _).mono (fun r h c => ?_) (θ_run_and (Cert.Kernel3Ideal.Gen.run_main m g) (Cert.Kernel3Ideal.Gen.unchanged m g)),
    (θ_run Cert.Reference3Ideal.defs _ _).mono (fun r h c => ?_) (Cert.Reference3Ideal.Value.run m' g')⟩
  · exact ⟨(h.1 c).1 12, (h.1 c).1 11, (h.1 c).1 13, (h.1 c).1 17, h.2 c⟩
  · obtain ⟨e0, e1, e2, e3, hargs⟩ := h c
    obtain ⟨h0, h1, h2, h3, -, h5, -, -⟩ := hagree c
    refine ⟨e0.trans ?_, e1.trans ?_, e2.trans ?_, e3.trans ?_, hargs⟩
    · rw [h0, h1, h2, h3]
      exact (Cert.Reference3Ideal.Read.val_main_v27_eq _ _ _ _).trans (Cert.OutValue.final_loss m c).symm
    · rw [h0, h1, h2, h3]
      exact (Cert.Reference3Ideal.Read.val_main_v18_eq _ _ _ _).trans (Cert.OutValue.final_dy m c).symm
    · rw [h0, h1, h2, h3]
      exact (Cert.Reference3Ideal.Read.val_main_v20_eq _ _ _ _).trans (Cert.OutValue.final_dw m c).symm
    · rw [h0, h1, h2, h3, h5]
      exact (Cert.Reference3Ideal.Read.val_main_v28_eq _ _ _ _ _).trans (Cert.OutValue.final_doatt m c).symm

/-! ## The input projection -/

theorem frame_kernel4 : Cert.quiescent_Kernel4 (hKernel4 := Cert.Kernel4.Gen.facts) := fun m ρ _ => Cert.Kernel4.Gen.frame m ρ
theorem frame_kernel4_ideal : Cert.quiescent_Kernel4Ideal (hKernel4Ideal := Cert.Kernel4Ideal.Gen.facts) := fun m ρ _ => Cert.Kernel4Ideal.Gen.frame m ρ
theorem frame_reference4 : Cert.quiescent_Reference4Ideal (hReference4Ideal := Cert.Reference4Ideal.Gen.facts) := by
  intro m ρ _
  exact (θ_run Cert.Reference4Ideal.defs _ _).mono (fun r h => ⟨fun c => (h c).2, sem_eq_zero_of_no_sems (by decide) r.2⟩)
    (Cert.Reference4Ideal.Value.run m ρ)

theorem algebraic4 : Cert.algebraic_Kernel4Ideal_Reference4Ideal (hKernel4Ideal := Cert.Kernel4Ideal.Gen.facts) (hReference4Ideal := Cert.Reference4Ideal.Gen.facts) := by
  intro m g m' g' hpre hagree
  refine ⟨fun c => (Cert.Kernel4Ideal.Gen.dats m 0 c).arrAt 6 (Cert.Kernel4Ideal.cfgs 0).N,
    (θ_run Cert.Kernel4Ideal.defs _ _).mono (fun r h c => ?_) (θ_run_and (Cert.Kernel4Ideal.Gen.run_main m g) (Cert.Kernel4Ideal.Gen.unchanged m g)),
    (θ_run Cert.Reference4Ideal.defs _ _).mono (fun r h c => ?_) (Cert.Reference4Ideal.Value.run m' g')⟩
  · exact ⟨(h.1 c).1 6, h.2 c⟩
  · obtain ⟨e0, hargs⟩ := h c
    obtain ⟨h0, h1, h2, -, -, -⟩ := hagree c
    refine ⟨e0.trans ?_, hargs⟩
    rw [h0, h1, h2]
    exact (Cert.Reference4Ideal.Read.val_main_v16_eq _ _ _).trans (Cert.InValue.final_o m c).symm

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.ScanPre.facts,
  frame_kernel, frame_kernel_ideal, frame_kernel_ideal_finite, frame_reference, frame_reference_finite, frame_kernel2, frame_kernel2_ideal, frame_reference2,
  frame_kernel3, frame_kernel3_ideal, frame_reference3, frame_kernel4, frame_kernel4_ideal, frame_reference4,
  Cert.AdamValue.frame_kernel5, Cert.AdamValue.frame_kernel5_ideal, Cert.AdamValue.frame_reference5,
  Cert.AdamValue.frame_kernel6, Cert.AdamValue.frame_kernel6_ideal, Cert.AdamValue.frame_reference6,
  Cert.AdamValue.frame_kernel7, Cert.AdamValue.frame_kernel7_ideal, Cert.AdamValue.frame_reference7,
  Cert.AdamValue.frame_kernel8, Cert.AdamValue.frame_kernel8_ideal, Cert.AdamValue.frame_reference8,
  Cert.AdamValue.frame_kernel9, Cert.AdamValue.frame_kernel9_ideal, Cert.AdamValue.frame_reference9,
  Cert.AdamValue.frame_kernel10, Cert.AdamValue.frame_kernel10_ideal, Cert.AdamValue.frame_reference10,
  Cert.AdamValue.frame_kernel11, Cert.AdamValue.frame_kernel11_ideal, Cert.AdamValue.frame_reference11,
  trivial, algebraic, trivial, algebraic2, trivial, algebraic3, trivial, algebraic4,
  trivial, Cert.AdamValue.algebraic5, trivial, Cert.AdamValue.algebraic6, trivial, Cert.AdamValue.algebraic7, trivial, Cert.AdamValue.algebraic8, trivial, Cert.AdamValue.algebraic9, trivial, Cert.AdamValue.algebraic10, trivial, Cert.AdamValue.algebraic11⟩

end Cert.Proof

end
